-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinKernelIdeal_finite_inputs [hPre_finite_inputs : Cert.Pre_finite_inputs.Facts] (m : (ℓ : Loc Cert.WinKernelIdeal.nD Cert.WinKernelIdeal.τ Cert.WinKernelIdeal.sig) → Buf (Elt Ideal) ℓ) : Prop :=
  ∀ c : Dev Cert.WinKernelIdeal.nD,
    (Cert.Pre_finite_inputs.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))) = (fun _ => 1#1)

def Pre_WinReferenceIdeal (m : (ℓ : Loc Cert.WinReferenceIdeal.nD Cert.WinReferenceIdeal.τ Cert.WinReferenceIdeal.sig) → Buf (Elt Ideal) ℓ) : Prop :=
  True

def Pre_WinReferenceIdeal_finite_inputs [hPre_finite_inputs : Cert.Pre_finite_inputs.Facts] (m : (ℓ : Loc Cert.WinReferenceIdeal.nD Cert.WinReferenceIdeal.τ Cert.WinReferenceIdeal.sig) → Buf (Elt Ideal) ℓ) : Prop :=
  ∀ c : Dev Cert.WinReferenceIdeal.nD,
    (Cert.Pre_finite_inputs.fn (F := Ideal) (m ((c.tc : Thread Cert.WinReferenceIdeal.nD Cert.WinReferenceIdeal.τ).loc Cert.WinReferenceIdeal.main_arg0)) (m ((c.tc : Thread Cert.WinReferenceIdeal.nD Cert.WinReferenceIdeal.τ).loc Cert.WinReferenceIdeal.main_arg1)) (m ((c.tc : Thread Cert.WinReferenceIdeal.nD Cert.WinReferenceIdeal.τ).loc Cert.WinReferenceIdeal.main_arg2)) (m ((c.tc : Thread Cert.WinReferenceIdeal.nD Cert.WinReferenceIdeal.τ).loc Cert.WinReferenceIdeal.main_arg3)) (m ((c.tc : Thread Cert.WinReferenceIdeal.nD Cert.WinReferenceIdeal.τ).loc Cert.WinReferenceIdeal.main_arg4)) (m ((c.tc : Thread Cert.WinReferenceIdeal.nD Cert.WinReferenceIdeal.τ).loc Cert.WinReferenceIdeal.main_arg5)) (m ((c.tc : Thread Cert.WinReferenceIdeal.nD Cert.WinReferenceIdeal.τ).loc Cert.WinReferenceIdeal.main_arg6)) (m ((c.tc : Thread Cert.WinReferenceIdeal.nD Cert.WinReferenceIdeal.τ).loc Cert.WinReferenceIdeal.main_arg7)) (m ((c.tc : Thread Cert.WinReferenceIdeal.nD Cert.WinReferenceIdeal.τ).loc Cert.WinReferenceIdeal.main_arg8)) (m ((c.tc : Thread Cert.WinReferenceIdeal.nD Cert.WinReferenceIdeal.τ).loc Cert.WinReferenceIdeal.main_arg9)) (m ((c.tc : Thread Cert.WinReferenceIdeal.nD Cert.WinReferenceIdeal.τ).loc Cert.WinReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13)
      ∧ r.2.mem ((c.tc : Thread Cert.MixKernel.nD Cert.MixKernel.τ).loc Cert.MixKernel.main_arg14) = m ((c.tc : Thread Cert.MixKernel.nD Cert.MixKernel.τ).loc Cert.MixKernel.main_arg14))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4)
      ∧ r.2.mem ((c.tc : Thread Cert.WinKernel.nD Cert.WinKernel.τ).loc Cert.WinKernel.main_arg5) = m ((c.tc : Thread Cert.WinKernel.nD Cert.WinKernel.τ).loc Cert.WinKernel.main_arg5)
      ∧ r.2.mem ((c.tc : Thread Cert.WinKernel.nD Cert.WinKernel.τ).loc Cert.WinKernel.main_arg6) = m ((c.tc : Thread Cert.WinKernel.nD Cert.WinKernel.τ).loc Cert.WinKernel.main_arg6)
      ∧ r.2.mem ((c.tc : Thread Cert.WinKernel.nD Cert.WinKernel.τ).loc Cert.WinKernel.main_arg7) = m ((c.tc : Thread Cert.WinKernel.nD Cert.WinKernel.τ).loc Cert.WinKernel.main_arg7)
      ∧ r.2.mem ((c.tc : Thread Cert.WinKernel.nD Cert.WinKernel.τ).loc Cert.WinKernel.main_arg8) = m ((c.tc : Thread Cert.WinKernel.nD Cert.WinKernel.τ).loc Cert.WinKernel.main_arg8)
      ∧ r.2.mem ((c.tc : Thread Cert.WinKernel.nD Cert.WinKernel.τ).loc Cert.WinKernel.main_arg9) = m ((c.tc : Thread Cert.WinKernel.nD Cert.WinKernel.τ).loc Cert.WinKernel.main_arg9)
      ∧ r.2.mem ((c.tc : Thread Cert.WinKernel.nD Cert.WinKernel.τ).loc Cert.WinKernel.main_arg10) = m ((c.tc : Thread Cert.WinKernel.nD Cert.WinKernel.τ).loc Cert.WinKernel.main_arg10))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
      ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
      ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7)
      ∧ r.2.mem ((c.tc : Thread Cert.WinKernelIdeal.nD Cert.WinKernelIdeal.τ).loc Cert.WinKernelIdeal.main_arg8) = m ((c.tc : Thread Cert.WinKernelIdeal.nD Cert.WinKernelIdeal.τ).loc Cert.WinKernelIdeal.main_arg8)
      ∧ r.2.mem ((c.tc : Thread Cert.WinKernelIdeal.nD Cert.WinKernelIdeal.τ).loc Cert.WinKernelIdeal.main_arg9) = m ((c.tc : Thread Cert.WinKernelIdeal.nD Cert.WinKernelIdeal.τ).loc Cert.WinKernelIdeal.main_arg9)
      ∧ r.2.mem ((c.tc : Thread Cert.WinKernelIdeal.nD Cert.WinKernelIdeal.τ).loc Cert.WinKernelIdeal.main_arg10) = m ((c.tc : Thread Cert.WinKernelIdeal.nD Cert.WinKernelIdeal.τ).loc Cert.WinKernelIdeal.main_arg10))
      ∧ r.2.sem = fun _ => 0)

def quiescent_WinKernelIdeal_pre_finite_inputs [hWinKernelIdeal : Cert.WinKernelIdeal.Facts] [hPre_finite_inputs : Cert.Pre_finite_inputs.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal_finite_inputs m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
      ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
      ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7)
      ∧ r.2.mem ((c.tc : Thread Cert.WinKernelIdeal.nD Cert.WinKernelIdeal.τ).loc Cert.WinKernelIdeal.main_arg8) = m ((c.tc : Thread Cert.WinKernelIdeal.nD Cert.WinKernelIdeal.τ).loc Cert.WinKernelIdeal.main_arg8)
      ∧ r.2.mem ((c.tc : Thread Cert.WinKernelIdeal.nD Cert.WinKernelIdeal.τ).loc Cert.WinKernelIdeal.main_arg9) = m ((c.tc : Thread Cert.WinKernelIdeal.nD Cert.WinKernelIdeal.τ).loc Cert.WinKernelIdeal.main_arg9)
      ∧ r.2.mem ((c.tc : Thread Cert.WinKernelIdeal.nD Cert.WinKernelIdeal.τ).loc Cert.WinKernelIdeal.main_arg10) = m ((c.tc : Thread Cert.WinKernelIdeal.nD Cert.WinKernelIdeal.τ).loc Cert.WinKernelIdeal.main_arg10))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5)
      ∧ r.2.mem ((c.tc : Thread Cert.WinReferenceIdeal.nD Cert.WinReferenceIdeal.τ).loc Cert.WinReferenceIdeal.main_arg6) = m ((c.tc : Thread Cert.WinReferenceIdeal.nD Cert.WinReferenceIdeal.τ).loc Cert.WinReferenceIdeal.main_arg6)
      ∧ r.2.mem ((c.tc : Thread Cert.WinReferenceIdeal.nD Cert.WinReferenceIdeal.τ).loc Cert.WinReferenceIdeal.main_arg7) = m ((c.tc : Thread Cert.WinReferenceIdeal.nD Cert.WinReferenceIdeal.τ).loc Cert.WinReferenceIdeal.main_arg7)
      ∧ r.2.mem ((c.tc : Thread Cert.WinReferenceIdeal.nD Cert.WinReferenceIdeal.τ).loc Cert.WinReferenceIdeal.main_arg8) = m ((c.tc : Thread Cert.WinReferenceIdeal.nD Cert.WinReferenceIdeal.τ).loc Cert.WinReferenceIdeal.main_arg8)
      ∧ r.2.mem ((c.tc : Thread Cert.WinReferenceIdeal.nD Cert.WinReferenceIdeal.τ).loc Cert.WinReferenceIdeal.main_arg9) = m ((c.tc : Thread Cert.WinReferenceIdeal.nD Cert.WinReferenceIdeal.τ).loc Cert.WinReferenceIdeal.main_arg9)
      ∧ r.2.mem ((c.tc : Thread Cert.WinReferenceIdeal.nD Cert.WinReferenceIdeal.τ).loc Cert.WinReferenceIdeal.main_arg10) = m ((c.tc : Thread Cert.WinReferenceIdeal.nD Cert.WinReferenceIdeal.τ).loc Cert.WinReferenceIdeal.main_arg10))
      ∧ r.2.sem = fun _ => 0)

def quiescent_WinReferenceIdeal_pre_finite_inputs [hWinReferenceIdeal : Cert.WinReferenceIdeal.Facts] [hPre_finite_inputs : Cert.Pre_finite_inputs.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal_finite_inputs m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5)
      ∧ r.2.mem ((c.tc : Thread Cert.WinReferenceIdeal.nD Cert.WinReferenceIdeal.τ).loc Cert.WinReferenceIdeal.main_arg6) = m ((c.tc : Thread Cert.WinReferenceIdeal.nD Cert.WinReferenceIdeal.τ).loc Cert.WinReferenceIdeal.main_arg6)
      ∧ r.2.mem ((c.tc : Thread Cert.WinReferenceIdeal.nD Cert.WinReferenceIdeal.τ).loc Cert.WinReferenceIdeal.main_arg7) = m ((c.tc : Thread Cert.WinReferenceIdeal.nD Cert.WinReferenceIdeal.τ).loc Cert.WinReferenceIdeal.main_arg7)
      ∧ r.2.mem ((c.tc : Thread Cert.WinReferenceIdeal.nD Cert.WinReferenceIdeal.τ).loc Cert.WinReferenceIdeal.main_arg8) = m ((c.tc : Thread Cert.WinReferenceIdeal.nD Cert.WinReferenceIdeal.τ).loc Cert.WinReferenceIdeal.main_arg8)
      ∧ r.2.mem ((c.tc : Thread Cert.WinReferenceIdeal.nD Cert.WinReferenceIdeal.τ).loc Cert.WinReferenceIdeal.main_arg9) = m ((c.tc : Thread Cert.WinReferenceIdeal.nD Cert.WinReferenceIdeal.τ).loc Cert.WinReferenceIdeal.main_arg9)
      ∧ r.2.mem ((c.tc : Thread Cert.WinReferenceIdeal.nD Cert.WinReferenceIdeal.τ).loc Cert.WinReferenceIdeal.main_arg10) = m ((c.tc : Thread Cert.WinReferenceIdeal.nD Cert.WinReferenceIdeal.τ).loc Cert.WinReferenceIdeal.main_arg10))
      ∧ r.2.sem = fun _ => 0)

def preserves_Kernel_KernelIdeal : Prop :=
  True

def algebraic_KernelIdeal_ReferenceIdeal_on_value_lanes_pre_finite_qk [hKernelIdeal : Cert.KernelIdeal.Facts] [hReferenceIdeal : Cert.ReferenceIdeal.Facts] [hPre_finite_qk : Cert.Pre_finite_qk.Facts] [hOn_value_lanes : Cert.On_value_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 512]⟩ : Shape).Idx, (Cert.On_value_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v23) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 512]⟩ : Shape).Idx, (Cert.On_value_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v20) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)
      ∧ m' ((c.tc : Thread Cert.MixReferenceIdeal.nD Cert.MixReferenceIdeal.τ).loc Cert.MixReferenceIdeal.main_arg14) = m ((c.tc : Thread Cert.MixKernelIdeal.nD Cert.MixKernelIdeal.τ).loc Cert.MixKernelIdeal.main_arg14)) →
    ∃ (v0 : (c : Dev Cert.MixKernelIdeal.nD) → Buf (Elt Ideal) ((c.tc : Thread Cert.MixKernelIdeal.nD Cert.MixKernelIdeal.τ).loc Cert.MixKernelIdeal.main_v37)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v37) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
          ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v57) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v8)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v8) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v76) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_WinKernel_WinKernelIdeal : Prop :=
  True

def algebraic_WinKernelIdeal_WinReferenceIdeal_on_projected_lanes_pre_finite_inputs [hWinKernelIdeal : Cert.WinKernelIdeal.Facts] [hWinReferenceIdeal : Cert.WinReferenceIdeal.Facts] [hPre_finite_inputs : Cert.Pre_finite_inputs.Facts] [hOn_projected_lanes : Cert.On_projected_lanes.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal_finite_inputs m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)
      ∧ m' ((c.tc : Thread Cert.WinReferenceIdeal.nD Cert.WinReferenceIdeal.τ).loc Cert.WinReferenceIdeal.main_arg4) = m ((c.tc : Thread Cert.WinKernelIdeal.nD Cert.WinKernelIdeal.τ).loc Cert.WinKernelIdeal.main_arg4)
      ∧ m' ((c.tc : Thread Cert.WinReferenceIdeal.nD Cert.WinReferenceIdeal.τ).loc Cert.WinReferenceIdeal.main_arg5) = m ((c.tc : Thread Cert.WinKernelIdeal.nD Cert.WinKernelIdeal.τ).loc Cert.WinKernelIdeal.main_arg5)
      ∧ m' ((c.tc : Thread Cert.WinReferenceIdeal.nD Cert.WinReferenceIdeal.τ).loc Cert.WinReferenceIdeal.main_arg6) = m ((c.tc : Thread Cert.WinKernelIdeal.nD Cert.WinKernelIdeal.τ).loc Cert.WinKernelIdeal.main_arg6)
      ∧ m' ((c.tc : Thread Cert.WinReferenceIdeal.nD Cert.WinReferenceIdeal.τ).loc Cert.WinReferenceIdeal.main_arg7) = m ((c.tc : Thread Cert.WinKernelIdeal.nD Cert.WinKernelIdeal.τ).loc Cert.WinKernelIdeal.main_arg7)
      ∧ m' ((c.tc : Thread Cert.WinReferenceIdeal.nD Cert.WinReferenceIdeal.τ).loc Cert.WinReferenceIdeal.main_arg8) = m ((c.tc : Thread Cert.WinKernelIdeal.nD Cert.WinKernelIdeal.τ).loc Cert.WinKernelIdeal.main_arg8)
      ∧ m' ((c.tc : Thread Cert.WinReferenceIdeal.nD Cert.WinReferenceIdeal.τ).loc Cert.WinReferenceIdeal.main_arg9) = m ((c.tc : Thread Cert.WinKernelIdeal.nD Cert.WinKernelIdeal.τ).loc Cert.WinKernelIdeal.main_arg9)
      ∧ m' ((c.tc : Thread Cert.WinReferenceIdeal.nD Cert.WinReferenceIdeal.τ).loc Cert.WinReferenceIdeal.main_arg10) = m ((c.tc : Thread Cert.WinKernelIdeal.nD Cert.WinKernelIdeal.τ).loc Cert.WinKernelIdeal.main_arg10)) →
    ∃ (v0 : (c : Dev Cert.WinKernelIdeal.nD) → Buf (Elt Ideal) ((c.tc : Thread Cert.WinKernelIdeal.nD Cert.WinKernelIdeal.τ).loc Cert.WinKernelIdeal.main_v66_0)) (v1 : (c : Dev Cert.WinKernelIdeal.nD) → Buf (Elt Ideal) ((c.tc : Thread Cert.WinKernelIdeal.nD Cert.WinKernelIdeal.τ).loc Cert.WinKernelIdeal.main_v66_1)) (v2 : (c : Dev Cert.WinKernelIdeal.nD) → Buf (Elt Ideal) ((c.tc : Thread Cert.WinKernelIdeal.nD Cert.WinKernelIdeal.τ).loc Cert.WinKernelIdeal.main_v66_2)) (v3 : (c : Dev Cert.WinKernelIdeal.nD) → Buf (Elt Ideal) ((c.tc : Thread Cert.WinKernelIdeal.nD Cert.WinKernelIdeal.τ).loc Cert.WinKernelIdeal.main_v66_3)) (v4 : (c : Dev Cert.WinKernelIdeal.nD) → Buf (Elt Ideal) ((c.tc : Thread Cert.WinKernelIdeal.nD Cert.WinKernelIdeal.τ).loc Cert.WinKernelIdeal.main_v66_4)) (v5 : (c : Dev Cert.WinKernelIdeal.nD) → Buf (Elt Ideal) ((c.tc : Thread Cert.WinKernelIdeal.nD Cert.WinKernelIdeal.τ).loc Cert.WinKernelIdeal.main_v66_5)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).1 i = 1#1 → r.2.mem ((c.tc : Thread Cert.WinKernelIdeal.nD Cert.WinKernelIdeal.τ).loc Cert.WinKernelIdeal.main_v66_0) i = v0 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.1 i = 1#1 → r.2.mem ((c.tc : Thread Cert.WinKernelIdeal.nD Cert.WinKernelIdeal.τ).loc Cert.WinKernelIdeal.main_v66_1) i = v1 c i)
          ∧ (∀ i : (⟨2, ![16896, 1024]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.1 i = 1#1 → r.2.mem ((c.tc : Thread Cert.WinKernelIdeal.nD Cert.WinKernelIdeal.τ).loc Cert.WinKernelIdeal.main_v66_2) i = v2 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.1 i = 1#1 → r.2.mem ((c.tc : Thread Cert.WinKernelIdeal.nD Cert.WinKernelIdeal.τ).loc Cert.WinKernelIdeal.main_v66_3) i = v3 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.2.1 i = 1#1 → r.2.mem ((c.tc : Thread Cert.WinKernelIdeal.nD Cert.WinKernelIdeal.τ).loc Cert.WinKernelIdeal.main_v66_4) i = v4 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.2.2 i = 1#1 → r.2.mem ((c.tc : Thread Cert.WinKernelIdeal.nD Cert.WinKernelIdeal.τ).loc Cert.WinKernelIdeal.main_v66_5) i = v5 c i)
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
          ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5)
          ∧ r.2.mem ((c.tc : Thread Cert.WinKernelIdeal.nD Cert.WinKernelIdeal.τ).loc Cert.WinKernelIdeal.main_arg6) = m ((c.tc : Thread Cert.WinKernelIdeal.nD Cert.WinKernelIdeal.τ).loc Cert.WinKernelIdeal.main_arg6)
          ∧ r.2.mem ((c.tc : Thread Cert.WinKernelIdeal.nD Cert.WinKernelIdeal.τ).loc Cert.WinKernelIdeal.main_arg7) = m ((c.tc : Thread Cert.WinKernelIdeal.nD Cert.WinKernelIdeal.τ).loc Cert.WinKernelIdeal.main_arg7)
          ∧ r.2.mem ((c.tc : Thread Cert.WinKernelIdeal.nD Cert.WinKernelIdeal.τ).loc Cert.WinKernelIdeal.main_arg8) = m ((c.tc : Thread Cert.WinKernelIdeal.nD Cert.WinKernelIdeal.τ).loc Cert.WinKernelIdeal.main_arg8)
          ∧ r.2.mem ((c.tc : Thread Cert.WinKernelIdeal.nD Cert.WinKernelIdeal.τ).loc Cert.WinKernelIdeal.main_arg9) = m ((c.tc : Thread Cert.WinKernelIdeal.nD Cert.WinKernelIdeal.τ).loc Cert.WinKernelIdeal.main_arg9)
          ∧ r.2.mem ((c.tc : Thread Cert.WinKernelIdeal.nD Cert.WinKernelIdeal.τ).loc Cert.WinKernelIdeal.main_arg10) = m ((c.tc : Thread Cert.WinKernelIdeal.nD Cert.WinKernelIdeal.τ).loc Cert.WinKernelIdeal.main_arg10))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).1 i = 1#1 → r.2.mem ((c.tc : Thread Cert.WinReferenceIdeal.nD Cert.WinReferenceIdeal.τ).loc Cert.WinReferenceIdeal.main_v194) i = v0 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.1 i = 1#1 → r.2.mem ((c.tc : Thread Cert.WinReferenceIdeal.nD Cert.WinReferenceIdeal.τ).loc Cert.WinReferenceIdeal.main_v196) i = v1 c i)
          ∧ (∀ i : (⟨2, ![16896, 1024]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.1 i = 1#1 → r.2.mem ((c.tc : Thread Cert.WinReferenceIdeal.nD Cert.WinReferenceIdeal.τ).loc Cert.WinReferenceIdeal.main_v198) i = v2 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.1 i = 1#1 → r.2.mem ((c.tc : Thread Cert.WinReferenceIdeal.nD Cert.WinReferenceIdeal.τ).loc Cert.WinReferenceIdeal.main_v202) i = v3 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.2.1 i = 1#1 → r.2.mem ((c.tc : Thread Cert.WinReferenceIdeal.nD Cert.WinReferenceIdeal.τ).loc Cert.WinReferenceIdeal.main_v206) i = v4 c i)
          ∧ (∀ i : (⟨2, ![16896, 512]⟩ : Shape).Idx, (Cert.On_projected_lanes.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)) (m ((c.tc : Thread Cert.WinKernelIdeal.nD Cert.WinKernelIdeal.τ).loc Cert.WinKernelIdeal.main_arg3)) (m ((c.tc : Thread Cert.WinKernelIdeal.nD Cert.WinKernelIdeal.τ).loc Cert.WinKernelIdeal.main_arg4)) (m ((c.tc : Thread Cert.WinKernelIdeal.nD Cert.WinKernelIdeal.τ).loc Cert.WinKernelIdeal.main_arg5)) (m ((c.tc : Thread Cert.WinKernelIdeal.nD Cert.WinKernelIdeal.τ).loc Cert.WinKernelIdeal.main_arg6)) (m ((c.tc : Thread Cert.WinKernelIdeal.nD Cert.WinKernelIdeal.τ).loc Cert.WinKernelIdeal.main_arg7)) (m ((c.tc : Thread Cert.WinKernelIdeal.nD Cert.WinKernelIdeal.τ).loc Cert.WinKernelIdeal.main_arg8)) (m ((c.tc : Thread Cert.WinKernelIdeal.nD Cert.WinKernelIdeal.τ).loc Cert.WinKernelIdeal.main_arg9)) (m ((c.tc : Thread Cert.WinKernelIdeal.nD Cert.WinKernelIdeal.τ).loc Cert.WinKernelIdeal.main_arg10))).2.2.2.2.2 i = 1#1 → r.2.mem ((c.tc : Thread Cert.WinReferenceIdeal.nD Cert.WinReferenceIdeal.τ).loc Cert.WinReferenceIdeal.main_v210) i = v5 c i)
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4)
          ∧ r.2.mem ((c.tc : Thread Cert.WinReferenceIdeal.nD Cert.WinReferenceIdeal.τ).loc Cert.WinReferenceIdeal.main_arg5) = m' ((c.tc : Thread Cert.WinReferenceIdeal.nD Cert.WinReferenceIdeal.τ).loc Cert.WinReferenceIdeal.main_arg5)
          ∧ r.2.mem ((c.tc : Thread Cert.WinReferenceIdeal.nD Cert.WinReferenceIdeal.τ).loc Cert.WinReferenceIdeal.main_arg6) = m' ((c.tc : Thread Cert.WinReferenceIdeal.nD Cert.WinReferenceIdeal.τ).loc Cert.WinReferenceIdeal.main_arg6)
          ∧ r.2.mem ((c.tc : Thread Cert.WinReferenceIdeal.nD Cert.WinReferenceIdeal.τ).loc Cert.WinReferenceIdeal.main_arg7) = m' ((c.tc : Thread Cert.WinReferenceIdeal.nD Cert.WinReferenceIdeal.τ).loc Cert.WinReferenceIdeal.main_arg7)
          ∧ r.2.mem ((c.tc : Thread Cert.WinReferenceIdeal.nD Cert.WinReferenceIdeal.τ).loc Cert.WinReferenceIdeal.main_arg8) = m' ((c.tc : Thread Cert.WinReferenceIdeal.nD Cert.WinReferenceIdeal.τ).loc Cert.WinReferenceIdeal.main_arg8)
          ∧ r.2.mem ((c.tc : Thread Cert.WinReferenceIdeal.nD Cert.WinReferenceIdeal.τ).loc Cert.WinReferenceIdeal.main_arg9) = m' ((c.tc : Thread Cert.WinReferenceIdeal.nD Cert.WinReferenceIdeal.τ).loc Cert.WinReferenceIdeal.main_arg9)
          ∧ r.2.mem ((c.tc : Thread Cert.WinReferenceIdeal.nD Cert.WinReferenceIdeal.τ).loc Cert.WinReferenceIdeal.main_arg10) = m' ((c.tc : Thread Cert.WinReferenceIdeal.nD Cert.WinReferenceIdeal.τ).loc Cert.WinReferenceIdeal.main_arg10))

def Claim : Prop :=
  ∃ (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hFfnKernel : Cert.FfnKernel.Facts) (hFfnKernelIdeal : Cert.FfnKernelIdeal.Facts) (hFfnReferenceIdeal : Cert.FfnReferenceIdeal.Facts) (hWinKernel : Cert.WinKernel.Facts) (hWinKernelIdeal : Cert.WinKernelIdeal.Facts) (hWinReferenceIdeal : Cert.WinReferenceIdeal.Facts) (hPre_finite_qk : Cert.Pre_finite_qk.Facts) (hPre_finite_inputs : Cert.Pre_finite_inputs.Facts) (hOn_value_lanes : Cert.On_value_lanes.Facts) (hOn_projected_lanes : Cert.On_projected_lanes.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_WinKernel (hWinKernel := hWinKernel)
    ∧ quiescent_WinKernelIdeal (hWinKernelIdeal := hWinKernelIdeal)
    ∧ quiescent_WinKernelIdeal_pre_finite_inputs (hWinKernelIdeal := hWinKernelIdeal) (hPre_finite_inputs := hPre_finite_inputs)
    ∧ quiescent_WinReferenceIdeal (hWinReferenceIdeal := hWinReferenceIdeal)
    ∧ quiescent_WinReferenceIdeal_pre_finite_inputs (hWinReferenceIdeal := hWinReferenceIdeal) (hPre_finite_inputs := hPre_finite_inputs)
    ∧ preserves_Kernel_KernelIdeal
    ∧ algebraic_KernelIdeal_ReferenceIdeal_on_value_lanes_pre_finite_qk (hKernelIdeal := hKernelIdeal) (hReferenceIdeal := hReferenceIdeal) (hPre_finite_qk := hPre_finite_qk) (hOn_value_lanes := hOn_value_lanes)
    ∧ preserves_MixKernel_MixKernelIdeal
    ∧ algebraic_MixKernelIdeal_MixReferenceIdeal (hMixKernelIdeal := hMixKernelIdeal) (hMixReferenceIdeal := hMixReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_WinKernel_WinKernelIdeal
    ∧ algebraic_WinKernelIdeal_WinReferenceIdeal_on_projected_lanes_pre_finite_inputs (hWinKernelIdeal := hWinKernelIdeal) (hWinReferenceIdeal := hWinReferenceIdeal) (hPre_finite_inputs := hPre_finite_inputs) (hOn_projected_lanes := hOn_projected_lanes)
-- ==== On_projected_lanes.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x2464 : Shape := ⟨3, ![2, 1024, 2464]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S8192x32 : Shape := ⟨2, ![8192, 32]⟩
abbrev S_ : Shape := ⟨0, ![]⟩
abbrev S16896x512 : Shape := ⟨2, ![16896, 512]⟩
abbrev S16896x1024 : Shape := ⟨2, ![16896, 1024]⟩

class Facts : Prop where
  bcast_S_S16896x512 : S_.BroadcastsInDim S16896x512 (![] : Fin 0 → Fin S16896x512.rank)
  bcast_S_S16896x1024 : S_.BroadcastsInDim S16896x1024 (![] : Fin 0 → Fin S16896x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16896x512 32) (arg1 : IVec S_ 32) : IVec S16896x512 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16896x512 32 := broadcastInDim S16896x512 ![] bcast_S_S16896x512 v2
  let v4 : IVec S16896x512 32 := Host.remsi arg0 v3
  let c_1 : IVec S_ 32 := constantI S_ 32 0#32
  let v5 : IVec S16896x512 32 := broadcastInDim S16896x512 ![] bcast_S_S16896x512 c_1
  let v6 : IVec S16896x512 1 := cmpi .ne v4 v5
  let c_2 : IVec S_ 32 := constantI S_ 32 0#32
  let v7 : IVec S16896x512 32 := broadcastInDim S16896x512 ![] bcast_S_S16896x512 c_2
  let v8 : IVec S16896x512 1 := cmpi .slt v4 v7
  let c_3 : IVec S_ 32 := constantI S_ 32 0#32
  let v9 : IVec S_ 1 := cmpi .slt v2 c_3
  let v10 : IVec S16896x512 1 := broadcastInDim S16896x512 ![] bcast_S_S16896x512 v9
  let v11 : IVec S16896x512 1 := cmpi .ne v8 v10
  let v12 : IVec S16896x512 1 := andi v11 v6
  let v13 : IVec S16896x512 32 := broadcastInDim S16896x512 ![] bcast_S_S16896x512 v2
  let v14 : IVec S16896x512 32 := addi v4 v13
  let v15 : IVec S16896x512 32 := select v12 v14 v4
  v15

def fn {F : FTy → Type} [FloatOps F] (main_arg0 : FVec F S2x8192x1024 .f32) (main_arg1 : FVec F S2x256x1024 .f32) (main_arg2 : FVec F S2x9x1024 .f32) (main_arg3 : FVec F S9x1024 .f32) (main_arg4 : FVec F S2x1024x2464 .f32) (main_arg5 : FVec F S2x256 .f32) (main_arg6 : FVec F S2x256x384 .f32) (main_arg7 : FVec F S2x128 .f32) (main_arg8 : FVec F S2x128x512 .f32) (main_arg9 : FVec F S8192x32 .f32) (main_arg10 : FVec F S8192x32 .f32) : IVec S16896x512 1 × IVec S16896x512 1 × IVec S16896x1024 1 × IVec S16896x512 1 × IVec S16896x512 1 × IVec S16896x512 1 :=
  let main_c : IVec S_ 1 := constantI S_ 1 1#1
  let main_v0 : IVec S16896x512 1 := broadcastInDim S16896x512 ![] bcast_S_S16896x512 main_c
  let main_c_0 : IVec S_ 1 := constantI S_ 1 1#1
  let main_v1 : IVec S16896x1024 1 := broadcastInDim S16896x1024 ![] bcast_S_S16896x1024 main_c_0
  let main_v2 : IVec S16896x512 32 := iotaInDim S16896x512 32 1
  let main_c_1 : IVec S_ 32 := constantI S_ 32 128#32
  let main_v3 : IVec S16896x512 32 := fn_remainder (F := F) main_v2 main_c_1
  let main_c_2 : IVec S_ 32 := constantI S_ 32 64#32
  let main_v4 : IVec S16896x512 32 := broadcastInDim S16896x512 ![] bcast_S_S16896x512 main_c_2
  let main_v5 : IVec S16896x512 1 := cmpi .slt main_v3 main_v4
  (main_v0, main_v0, main_v1, main_v0, main_v0, main_v5)
-- ==== On_value_lanes.lean ====
abbrev S2x8192x4x96 : Shape := ⟨4, ![2, 8192, 4, 96]⟩
abbrev S2x256x4x96 : Shape := ⟨4, ![2, 256, 4, 96]⟩
abbrev S2x8448x4x96 : Shape := ⟨4, ![2, 8448, 4, 96]⟩
abbrev S2x8448x4x64 : Shape := ⟨4, ![2, 8448, 4, 64]⟩
abbrev S16384x512 : Shape := ⟨2, ![16384, 512]⟩
abbrev S_ : Shape := ⟨0, ![]⟩

class Facts : Prop where
  bcast_S_S16384x512 : S_.BroadcastsInDim S16384x512 (![] : Fin 0 → Fin S16384x512.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16384x512 32) (arg1 : IVec S_ 32) : IVec S16384x512 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16384x512 32 := broadcastInDim S16384x512 ![] bcast_S_S16384x512 v2
  let v4 : IVec S16384x512 32 := Host.remsi arg0 v3
  let c_1 : IVec S_ 32 := constantI S_ 32 0#32
  let v5 : IVec S16384x512 32 := broadcastInDim S16384x512 ![] bcast_S_S16384x512 c_1
  let v6 : IVec S16384x512 1 := cmpi .ne v4 v5
  let c_2 : IVec S_ 32 := constantI S_ 32 0#32
  let v7 : IVec S16384x512 32 := broadcastInDim S16384x512 ![] bcast_S_S16384x512 c_2
  let v8 : IVec S16384x512 1 := cmpi .slt v4 v7
  let c_3 : IVec S_ 32 := constantI S_ 32 0#32
  let v9 : IVec S_ 1 := cmpi .slt v2 c_3
  let v10 : IVec S16384x512 1 := broadcastInDim S16384x512 ![] bcast_S_S16384x512 v9
  let v11 : IVec S16384x512 1 := cmpi .ne v8 v10
  let v12 : IVec S16384x512 1 := andi v11 v6
  let v13 : IVec S16384x512 32 := broadcastInDim S16384x512 ![] bcast_S_S16384x512 v2
  let v14 : IVec S16384x512 32 := addi v4 v13
  let v15 : IVec S16384x512 32 := select v12 v14 v4
  v15

def fn {F : FTy → Type} [FloatOps F] (main_arg0 : FVec F S2x8192x4x96 .f32) (main_arg1 : FVec F S2x256x4x96 .f32) (main_arg2 : FVec F S2x8448x4x96 .f32) (main_arg3 : FVec F S2x8448x4x64 .f32) : IVec S16384x512 1 :=
  let main_v0 : IVec S16384x512 32 := iotaInDim S16384x512 32 1
  let main_c : IVec S_ 32 := constantI S_ 32 128#32
  let main_v1 : IVec S16384x512 32 := fn_remainder (F := F) main_v0 main_c
  let main_c_0 : IVec S_ 32 := constantI S_ 32 64#32
  let main_v2 : IVec S16384x512 32 := broadcastInDim S16384x512 ![] bcast_S_S16384x512 main_c_0
  let main_v3 : IVec S16384x512 1 := cmpi .slt main_v1 main_v2
  main_v3
-- ==== Pre_finite_inputs.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x2464 : Shape := ⟨3, ![2, 1024, 2464]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S8192x32 : Shape := ⟨2, ![8192, 32]⟩
abbrev S_ : Shape := ⟨0, ![]⟩

class Facts : Prop where
  bcast_S_S2x9x1024 : S_.BroadcastsInDim S2x9x1024 (![] : Fin 0 → Fin S2x9x1024.rank)
  reducesTo_S2x9x1024_S_d0_1_2 : S2x9x1024.ReducesTo [0, 1, 2] S_
  h_S_ : 0 < S_.numel
  bcast_S_S2x1024x2464 : S_.BroadcastsInDim S2x1024x2464 (![] : Fin 0 → Fin S2x1024x2464.rank)
  reducesTo_S2x1024x2464_S_d0_1_2 : S2x1024x2464.ReducesTo [0, 1, 2] S_
  bcast_S_S2x256 : S_.BroadcastsInDim S2x256 (![] : Fin 0 → Fin S2x256.rank)
  reducesTo_S2x256_S_d0_1 : S2x256.ReducesTo [0, 1] S_
  bcast_S_S2x256x384 : S_.BroadcastsInDim S2x256x384 (![] : Fin 0 → Fin S2x256x384.rank)
  reducesTo_S2x256x384_S_d0_1_2 : S2x256x384.ReducesTo [0, 1, 2] S_

variable [Facts]

def fn_part1 {F : FTy → Type} [FloatOps F] (main_v13 : IVec S_ 1) (main_v16 : IVec S2x256x384 1) : IVec S_ 1 :=
  let main_c_5 : IVec S_ 1 := constantI S_ 1 1#1
  let main_v17 : IVec S_ 1 := (fun x v => Host.reduce IntOp.andi x v reducesTo_S2x256x384_S_d0_1_2 h_S_) main_v16 main_c_5
  let main_v18 : IVec S_ 1 := andi main_v13 main_v17
  main_v18

def fn {F : FTy → Type} [FloatOps F] (main_arg0 : FVec F S2x8192x1024 .f32) (main_arg1 : FVec F S2x256x1024 .f32) (main_arg2 : FVec F S2x9x1024 .f32) (main_arg3 : FVec F S9x1024 .f32) (main_arg4 : FVec F S2x1024x2464 .f32) (main_arg5 : FVec F S2x256 .f32) (main_arg6 : FVec F S2x256x384 .f32) (main_arg7 : FVec F S2x128 .f32) (main_arg8 : FVec F S2x128x512 .f32) (main_arg9 : FVec F S8192x32 .f32) (main_arg10 : FVec F S8192x32 .f32) : IVec S_ 1 :=
  let main_v0 : FVec F S2x9x1024 .f32 := Host.absf main_arg2
  let main_cst : FVec F S_ .f32 := constant S_ .f32 0x7F800000#32
  let main_v1 : FVec F S2x9x1024 .f32 := broadcastInDim S2x9x1024 ![] bcast_S_S2x9x1024 main_cst
  let main_v2 : IVec S2x9x1024 1 := cmpf .olt main_v0 main_v1
  let main_c : IVec S_ 1 := constantI S_ 1 1#1
  let main_v3 : IVec S_ 1 := (fun x v => Host.reduce IntOp.andi x v reducesTo_S2x9x1024_S_d0_1_2 h_S_) main_v2 main_c
  let main_v4 : FVec F S2x1024x2464 .f32 := Host.absf main_arg4
  let main_cst_0 : FVec F S_ .f32 := constant S_ .f32 0x7F800000#32
  let main_v5 : FVec F S2x1024x2464 .f32 := broadcastInDim S2x1024x2464 ![] bcast_S_S2x1024x2464 main_cst_0
  let main_v6 : IVec S2x1024x2464 1 := cmpf .olt main_v4 main_v5
  let main_c_1 : IVec S_ 1 := constantI S_ 1 1#1
  let main_v7 : IVec S_ 1 := (fun x v => Host.reduce IntOp.andi x v reducesTo_S2x1024x2464_S_d0_1_2 h_S_) main_v6 main_c_1
  let main_v8 : IVec S_ 1 := andi main_v3 main_v7
  let main_v9 : FVec F S2x256 .f32 := Host.absf main_arg5
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x384 .f32 := Host.absf main_arg6
  let main_cst_4 : FVec F S_ .f32 := constant S_ .f32 0x7F800000#32
  let main_v15 : FVec F S2x256x384 .f32 := broadcastInDim S2x256x384 ![] bcast_S_S2x256x384 main_cst_4
  let main_v16 : IVec S2x256x384 1 := cmpf .olt main_v14 main_v15
  fn_part1 (F := F) main_v13 main_v16
-- ==== Pre_finite_qk.lean ====
abbrev S2x8192x4x96 : Shape := ⟨4, ![2, 8192, 4, 96]⟩
abbrev S2x256x4x96 : Shape := ⟨4, ![2, 256, 4, 96]⟩
abbrev S2x8448x4x96 : Shape := ⟨4, ![2, 8448, 4, 96]⟩
abbrev S2x8448x4x64 : Shape := ⟨4, ![2, 8448, 4, 64]⟩
abbrev S_ : Shape := ⟨0, ![]⟩

class Facts : Prop where
  bcast_S_S2x8192x4x96 : S_.BroadcastsInDim S2x8192x4x96 (![] : Fin 0 → Fin S2x8192x4x96.rank)
  reducesTo_S2x8192x4x96_S_d0_1_2_3 : S2x8192x4x96.ReducesTo [0, 1, 2, 3] S_
  h_S_ : 0 < S_.numel
  bcast_S_S2x8448x4x96 : S_.BroadcastsInDim S2x8448x4x96 (![] : Fin 0 → Fin S2x8448x4x96.rank)
  reducesTo_S2x8448x4x96_S_d0_1_2_3 : S2x8448x4x96.ReducesTo [0, 1, 2, 3] S_

variable [Facts]

def fn {F : FTy → Type} [FloatOps F] (main_arg0 : FVec F S2x8192x4x96 .f32) (main_arg1 : FVec F S2x256x4x96 .f32) (main_arg2 : FVec F S2x8448x4x96 .f32) (main_arg3 : FVec F S2x8448x4x64 .f32) : IVec S_ 1 :=
  let main_v0 : FVec F S2x8192x4x96 .f32 := Host.absf main_arg0
  let main_cst : FVec F S_ .f32 := constant S_ .f32 0x7F800000#32
  let main_v1 : FVec F S2x8192x4x96 .f32 := broadcastInDim S2x8192x4x96 ![] bcast_S_S2x8192x4x96 main_cst
  let main_v2 : IVec S2x8192x4x96 1 := cmpf .olt main_v0 main_v1
  let main_c : IVec S_ 1 := constantI S_ 1 1#1
  let main_v3 : IVec S_ 1 := (fun x v => Host.reduce IntOp.andi x v reducesTo_S2x8192x4x96_S_d0_1_2_3 h_S_) main_v2 main_c
  let main_v4 : FVec F S2x8448x4x96 .f32 := Host.absf main_arg2
  let main_cst_0 : FVec F S_ .f32 := constant S_ .f32 0x7F800000#32
  let main_v5 : FVec F S2x8448x4x96 .f32 := broadcastInDim S2x8448x4x96 ![] bcast_S_S2x8448x4x96 main_cst_0
  let main_v6 : IVec S2x8448x4x96 1 := cmpf .olt main_v4 main_v5
  let main_c_1 : IVec S_ 1 := constantI S_ 1 1#1
  let main_v7 : IVec S_ 1 := (fun x v => Host.reduce IntOp.andi x v reducesTo_S2x8448x4x96_S_d0_1_2_3 h_S_) main_v6 main_c_1
  let main_v8 : IVec S_ 1 := andi main_v3 main_v7
  main_v8
-- ==== Kernel.lean ====
abbrev S2x8192x4x96 : Shape := ⟨4, ![2, 8192, 4, 96]⟩
abbrev S2x256x4x96 : Shape := ⟨4, ![2, 256, 4, 96]⟩
abbrev S2x8448x4x96 : Shape := ⟨4, ![2, 8448, 4, 96]⟩
abbrev S2x8448x4x64 : Shape := ⟨4, ![2, 8448, 4, 64]⟩
abbrev S_ : Shape := ⟨0, ![]⟩
abbrev S2x256x4x32 : Shape := ⟨4, ![2, 256, 4, 32]⟩
abbrev S2x256x4x128 : Shape := ⟨4, ![2, 256, 4, 128]⟩
abbrev S512x512 : Shape := ⟨2, ![512, 512]⟩
abbrev S2x8192x4x32 : Shape := ⟨4, ![2, 8192, 4, 32]⟩
abbrev S2x8192x4x128 : Shape := ⟨4, ![2, 8192, 4, 128]⟩
abbrev S16384x512 : Shape := ⟨2, ![16384, 512]⟩
abbrev S16896x512 : Shape := ⟨2, ![16896, 512]⟩
abbrev S2x8448x4x32 : Shape := ⟨4, ![2, 8448, 4, 32]⟩
abbrev S2x8448x4x128 : Shape := ⟨4, ![2, 8448, 4, 128]⟩
abbrev S2x8448x4x1 : Shape := ⟨4, ![2, 8448, 4, 1]⟩
abbrev S2x8448x4x65 : Shape := ⟨4, ![2, 8448, 4, 65]⟩
abbrev S2x8448x4x63 : Shape := ⟨4, ![2, 8448, 4, 63]⟩
abbrev S4224x512 : Shape := ⟨2, ![4224, 512]⟩
abbrev S4x512x1 : Shape := ⟨3, ![4, 512, 1]⟩
abbrev S4x512x128 : Shape := ⟨3, ![4, 512, 128]⟩
abbrev S512x128 : Shape := ⟨2, ![512, 128]⟩
abbrev S4224x128 : Shape := ⟨2, ![4224, 128]⟩
abbrev S512x4224 : Shape := ⟨2, ![512, 4224]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 35
  | .vmem => 10
  | .smem => 0
  | _ => 0

abbrev bufTy : (tb : Table) → Fin (tcTables nBuf tb) → BufTy
  | .hbm, ⟨0, _⟩ => ⟨S2x8192x4x96, .f32⟩
  | .hbm, ⟨1, _⟩ => ⟨S2x256x4x96, .f32⟩
  | .hbm, ⟨2, _⟩ => ⟨S2x8448x4x96, .f32⟩
  | .hbm, ⟨3, _⟩ => ⟨S2x8448x4x64, .f32⟩
  | .hbm, ⟨4, _⟩ => ⟨S_, .f32⟩
  | .hbm, ⟨5, _⟩ => ⟨S2x256x4x32, .f32⟩
  | .hbm, ⟨6, _⟩ => ⟨S2x256x4x128, .f32⟩
  | .hbm, ⟨7, _⟩ => ⟨S512x512, .f32⟩
  | .hbm, ⟨8, _⟩ => ⟨S_, .f32⟩
  | .hbm, ⟨9, _⟩ => ⟨S2x8192x4x32, .f32⟩
  | .hbm, ⟨10, _⟩ => ⟨S2x8192x4x128, .f32⟩
  | .hbm, ⟨11, _⟩ => ⟨S16384x512, .f32⟩
  | .hbm, ⟨12, _⟩ => ⟨S16896x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16896x512, .f32⟩
  | .hbm, ⟨19, _⟩ => ⟨S16896x512, .f32⟩
  | .hbm, ⟨20, _⟩ => ⟨S16896x512, .bf16⟩
  | .hbm, ⟨21, _⟩ => ⟨S_, .f32⟩
  | .hbm, ⟨22, _⟩ => ⟨S2x8448x4x32, .f32⟩
  | .hbm, ⟨23, _⟩ => ⟨S2x8448x4x128, .f32⟩
  | .hbm, ⟨24, _⟩ => ⟨S16896x512, .f32⟩
  | .hbm, ⟨25, _⟩ => ⟨S16896x512, .bf16⟩
  | .hbm, ⟨26, _⟩ => ⟨S_, .f32⟩
  | .hbm, ⟨27, _⟩ => ⟨S2x8448x4x1, .f32⟩
  | .hbm, ⟨28, _⟩ => ⟨S2x8448x4x65, .f32⟩
  | .hbm, ⟨29, _⟩ => ⟨S_, .f32⟩
  | .hbm, ⟨30, _⟩ => ⟨S2x8448x4x63, .f32⟩
  | .hbm, ⟨31, _⟩ => ⟨S2x8448x4x128, .f32⟩
  | .hbm, ⟨32, _⟩ => ⟨S16896x512, .f32⟩
  | .hbm, ⟨33, _⟩ => ⟨S16896x512, .bf16⟩
  | .hbm, ⟨34, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S4224x512, .bf16⟩
  | .local _ .vmem, ⟨3, _⟩ => ⟨S4224x512, .bf16⟩
  | .local _ .vmem, ⟨4, _⟩ => ⟨S4224x512, .bf16⟩
  | .local _ .vmem, ⟨5, _⟩ => ⟨S4224x512, .bf16⟩
  | .local _ .vmem, ⟨6, _⟩ => ⟨S512x512, .bf16⟩
  | .local _ .vmem, ⟨7, _⟩ => ⟨S512x512, .bf16⟩
  | .local _ .vmem, ⟨8, _⟩ => ⟨S4x512x1, .f32⟩
  | .local _ .vmem, ⟨9, _⟩ => ⟨S4x512x128, .f32⟩
  | _, _ => ⟨S2x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v123 : BitVec 1 := Scalar.cmpi .eq arg2 c1_i32
  let v124 : BitVec 32 := Scalar.extui v123
  let c0_i32_77 : BitVec 32 := 0#32
  let v125 : BitVec 1 := Scalar.cmpi .ne v124 c0_i32_77
  v125

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.addi c1_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S2x8192x4x96 : Shape := ⟨4, ![2, 8192, 4, 96]⟩
abbrev S2x256x4x96 : Shape := ⟨4, ![2, 256, 4, 96]⟩
abbrev S2x8448x4x96 : Shape := ⟨4, ![2, 8448, 4, 96]⟩
abbrev S2x8448x4x64 : Shape := ⟨4, ![2, 8448, 4, 64]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8192x4x128 : Shape := ⟨4, ![2, 8192, 4, 128]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x4x96, .f32⟩
  | .hbm, ⟨1, _⟩ => ⟨S2x256x4x96, .f32⟩
  | .hbm, ⟨2, _⟩ => ⟨S2x8448x4x96, .f32⟩
  | .hbm, ⟨3, _⟩ => ⟨S2x8448x4x64, .f32⟩
  | .hbm, ⟨4, _⟩ => ⟨S2x4x8192x8448, .f32⟩
  | .hbm, ⟨5, _⟩ => ⟨S_, .f32⟩
  | .hbm, ⟨6, _⟩ => ⟨S_, .f32⟩
  | .hbm, ⟨7, _⟩ => ⟨S2x4x8192x8448, .f32⟩
  | .hbm, ⟨8, _⟩ => ⟨S2x4x8192x8448, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .f32⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8448, .f32⟩
  | .hbm, ⟨22, _⟩ => ⟨S2x4x8192x8448, .f32⟩
  | .hbm, ⟨23, _⟩ => ⟨S2x4x64x8192, .f32⟩
  | .hbm, ⟨24, _⟩ => ⟨S2x8192x4x64, .f32⟩
  | .hbm, ⟨25, _⟩ => ⟨S_, .f32⟩
  | .hbm, ⟨26, _⟩ => ⟨S2x8192x4x64, .f32⟩
  | .hbm, ⟨27, _⟩ => ⟨S2x8192x4x128, .f32⟩
  | .hbm, ⟨28, _⟩ => ⟨S16384x512, .f32⟩
  | .hbm, ⟨29, _⟩ => ⟨S16384x512, .bf16⟩
  | _, _ => ⟨S2x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== MixKernel.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x8192x256 : Shape := ⟨3, ![2, 8192, 256]⟩
abbrev S2x256x256 : Shape := ⟨3, ![2, 256, 256]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S1x9x1024 : Shape := ⟨3, ![1, 9, 1024]⟩
abbrev S3x9x1024 : Shape := ⟨3, ![3, 9, 1024]⟩
abbrev S_ : Shape := ⟨0, ![]⟩
abbrev S5x9x1024 : Shape := ⟨3, ![5, 9, 1024]⟩
abbrev S8x9x1024 : Shape := ⟨3, ![8, 9, 1024]⟩
abbrev S16384x4x64 : Shape := ⟨3, ![16384, 4, 64]⟩
abbrev S16384x4x128 : Shape := ⟨3, ![16384, 4, 128]⟩
abbrev S2x4x64x1024 : Shape := ⟨4, ![2, 4, 64, 1024]⟩
abbrev S2x4x128x1024 : Shape := ⟨4, ![2, 4, 128, 1024]⟩
abbrev S2x512x1024 : Shape := ⟨3, ![2, 512, 1024]⟩
abbrev S512x256 : Shape := ⟨2, ![512, 256]⟩
abbrev S16384x256 : Shape := ⟨2, ![16384, 256]⟩
abbrev S16896x256 : Shape := ⟨2, ![16896, 256]⟩
abbrev S2x8448x256 : Shape := ⟨3, ![2, 8448, 256]⟩
abbrev S16384x512 : Shape := ⟨2, ![16384, 512]⟩
abbrev S512x1024 : Shape := ⟨2, ![512, 1024]⟩
abbrev S16384x1024 : Shape := ⟨2, ![16384, 1024]⟩
abbrev S16896x1024 : Shape := ⟨2, ![16896, 1024]⟩
abbrev S1x1024 : Shape := ⟨2, ![1, 1024]⟩
abbrev S256x256 : Shape := ⟨2, ![256, 256]⟩
abbrev S512x512 : Shape := ⟨2, ![512, 512]⟩
abbrev S1x256x1024 : Shape := ⟨3, ![1, 256, 1024]⟩
abbrev S1x512x1024 : Shape := ⟨3, ![1, 512, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 56
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x9x1024, .f32⟩
  | .hbm, ⟨3, _⟩ => ⟨S9x1024, .f32⟩
  | .hbm, ⟨4, _⟩ => ⟨S2x8192x256, .f32⟩
  | .hbm, ⟨5, _⟩ => ⟨S2x256x256, .f32⟩
  | .hbm, ⟨6, _⟩ => ⟨S2x8192x256, .f32⟩
  | .hbm, ⟨7, _⟩ => ⟨S2x256x256, .f32⟩
  | .hbm, ⟨8, _⟩ => ⟨S2x8192x256, .f32⟩
  | .hbm, ⟨9, _⟩ => ⟨S2x256x256, .f32⟩
  | .hbm, ⟨10, _⟩ => ⟨S2x8192x256, .f32⟩
  | .hbm, ⟨11, _⟩ => ⟨S2x1024x1024, .f32⟩
  | .hbm, ⟨12, _⟩ => ⟨S2x1024x5632, .f32⟩
  | .hbm, ⟨13, _⟩ => ⟨S2x2816x1024, .f32⟩
  | .hbm, ⟨14, _⟩ => ⟨S1024, .f32⟩
  | .hbm, ⟨15, _⟩ => ⟨S1x9x1024, .f32⟩
  | .hbm, ⟨16, _⟩ => ⟨S3x9x1024, .f32⟩
  | .hbm, ⟨17, _⟩ => ⟨S_, .f32⟩
  | .hbm, ⟨18, _⟩ => ⟨S5x9x1024, .f32⟩
  | .hbm, ⟨19, _⟩ => ⟨S8x9x1024, .f32⟩
  | .hbm, ⟨20, _⟩ => ⟨S16384x4x64, .f32⟩
  | .hbm, ⟨21, _⟩ => ⟨S_, .f32⟩
  | .hbm, ⟨22, _⟩ => ⟨S16384x4x64, .f32⟩
  | .hbm, ⟨23, _⟩ => ⟨S16384x4x128, .f32⟩
  | .hbm, ⟨24, _⟩ => ⟨S2x256x1024, .f32⟩
  | .hbm, ⟨25, _⟩ => ⟨S2x4x64x1024, .f32⟩
  | .hbm, ⟨26, _⟩ => ⟨S_, .f32⟩
  | .hbm, ⟨27, _⟩ => ⟨S2x4x64x1024, .f32⟩
  | .hbm, ⟨28, _⟩ => ⟨S2x4x128x1024, .f32⟩
  | .hbm, ⟨29, _⟩ => ⟨S2x256x1024, .f32⟩
  | .hbm, ⟨30, _⟩ => ⟨S2x256x1024, .bf16⟩
  | .hbm, ⟨31, _⟩ => ⟨S2x256x1024, .f32⟩
  | .hbm, ⟨32, _⟩ => ⟨S2x256x1024, .bf16⟩
  | .hbm, ⟨33, _⟩ => ⟨S2x256x1024, .f32⟩
  | .hbm, ⟨34, _⟩ => ⟨S2x256x1024, .bf16⟩
  | .hbm, ⟨35, _⟩ => ⟨S2x512x1024, .f32⟩
  | .hbm, ⟨36, _⟩ => ⟨S2x512x1024, .bf16⟩
  | .hbm, ⟨37, _⟩ => ⟨S512x256, .f32⟩
  | .hbm, ⟨38, _⟩ => ⟨S16384x256, .f32⟩
  | .hbm, ⟨39, _⟩ => ⟨S16896x256, .f32⟩
  | .hbm, ⟨40, _⟩ => ⟨S16896x256, .bf16⟩
  | .hbm, ⟨41, _⟩ => ⟨S2x8448x256, .f32⟩
  | .hbm, ⟨42, _⟩ => ⟨S16896x256, .f32⟩
  | .hbm, ⟨43, _⟩ => ⟨S16896x256, .bf16⟩
  | .hbm, ⟨44, _⟩ => ⟨S2x8448x256, .f32⟩
  | .hbm, ⟨45, _⟩ => ⟨S16896x256, .f32⟩
  | .hbm, ⟨46, _⟩ => ⟨S16896x256, .bf16⟩
  | .hbm, ⟨47, _⟩ => ⟨S16384x512, .f32⟩
  | .hbm, ⟨48, _⟩ => ⟨S16384x512, .bf16⟩
  | .hbm, ⟨49, _⟩ => ⟨S512x1024, .f32⟩
  | .hbm, ⟨50, _⟩ => ⟨S16384x1024, .f32⟩
  | .hbm, ⟨51, _⟩ => ⟨S16896x1024, .f32⟩
  | .hbm, ⟨52, _⟩ => ⟨S2x1024x5632, .bf16⟩
  | .hbm, ⟨53, _⟩ => ⟨S2x2816x1024, .bf16⟩
  | .hbm, ⟨54, _⟩ => ⟨S1x1024, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x256, .bf16⟩
  | .local _ .vmem, ⟨5, _⟩ => ⟨S512x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S512x512, .bf16⟩
  | .local _ .vmem, ⟨15, _⟩ => ⟨S512x512, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x512x1024, .bf16⟩
  | .local _ .vmem, ⟨20, _⟩ => ⟨S1x1024x5632, .bf16⟩
  | .local _ .vmem, ⟨21, _⟩ => ⟨S1x2816x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.addi v0 c16_i32
  let c1_i32_0 : BitVec 32 := 1#32
  let v2 : BitVec 32 := Scalar.subi v1 c1_i32_0
  let c16_i32_1 : BitVec 32 := 16#32
  let v3 : BitVec 32 := Scalar.divsi v2 c16_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32_1 c0_i32_3
  let v10 : BitVec 32 := Scalar.extui v9
  let c0_i32_4 : BitVec 32 := 0#32
  let v11 : BitVec 1 := Scalar.cmpi .slt c16_i32_1 c0_i32_4
  let v12 : BitVec 32 := Scalar.extui v11
  let v13 : BitVec 32 := Scalar.subi v10 v12
  let v14 : BitVec 1 := Scalar.cmpi .ne v8 v13
  let v15 : BitVec 32 := Scalar.remsi v2 c16_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  let c0_i32_9 : BitVec 32 := 0#32
  ![v19.toNat, c0_i32_7.toNat, c0_i32_8.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli c2_i32 v0
  let c0_i32 : BitVec 32 := 0#32
  let v2 : BitVec 32 := Scalar.addi v1 c0_i32
  let c2_i32_0 : BitVec 32 := 2#32
  let v3 : BitVec 32 := Scalar.subi v2 c2_i32_0
  let c0_i32_1 : BitVec 32 := 0#32
  let v4 : BitVec 32 := Scalar.maxsi v3 c0_i32_1
  let c32_i32 : BitVec 32 := 32#32
  let v5 : BitVec 32 := Scalar.divsi v4 c32_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c32_i32 c0_i32_4
  let v12 : BitVec 32 := Scalar.extui v11
  let c0_i32_5 : BitVec 32 := 0#32
  let v13 : BitVec 1 := Scalar.cmpi .slt c32_i32 c0_i32_5
  let v14 : BitVec 32 := Scalar.extui v13
  let v15 : BitVec 32 := Scalar.subi v12 v14
  let v16 : BitVec 1 := Scalar.cmpi .ne v10 v15
  let v17 : BitVec 32 := Scalar.remsi v4 c32_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c2_i32_8 : BitVec 32 := 2#32
  let v22 : BitVec 1 := Scalar.cmpi .slt v2 c2_i32_8
  let c33_i32 : BitVec 32 := 33#32
  let v23 : BitVec 32 := Scalar.muli v2 c33_i32
  let c33_i32_9 : BitVec 32 := 33#32
  let v24 : BitVec 32 := Scalar.muli v21 c33_i32_9
  let c1_i32_10 : BitVec 32 := 1#32
  let v25 : BitVec 32 := Scalar.addi v24 c1_i32_10
  let c32_i32_11 : BitVec 32 := 32#32
  let v26 : BitVec 32 := Scalar.muli v21 c32_i32_11
  let v27 : BitVec 32 := Scalar.subi v4 v26
  let v28 : BitVec 32 := Scalar.addi v25 v27
  let v29 : BitVec 32 := Scalar.select v22 v23 v28
  let c0_i32_12 : BitVec 32 := 0#32
  let c0_i32_13 : BitVec 32 := 0#32
  ![v29.toNat, c0_i32_12.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli c2_i32 v0
  let c1_i32_0 : BitVec 32 := 1#32
  let v2 : BitVec 32 := Scalar.addi v1 c1_i32_0
  let c2_i32_1 : BitVec 32 := 2#32
  let v3 : BitVec 32 := Scalar.subi v2 c2_i32_1
  let c0_i32 : BitVec 32 := 0#32
  let v4 : BitVec 32 := Scalar.maxsi v3 c0_i32
  let c32_i32 : BitVec 32 := 32#32
  let v5 : BitVec 32 := Scalar.divsi v4 c32_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c32_i32 c0_i32_4
  let v12 : BitVec 32 := Scalar.extui v11
  let c0_i32_5 : BitVec 32 := 0#32
  let v13 : BitVec 1 := Scalar.cmpi .slt c32_i32 c0_i32_5
  let v14 : BitVec 32 := Scalar.extui v13
  let v15 : BitVec 32 := Scalar.subi v12 v14
  let v16 : BitVec 1 := Scalar.cmpi .ne v10 v15
  let v17 : BitVec 32 := Scalar.remsi v4 c32_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c2_i32_8 : BitVec 32 := 2#32
  let v22 : BitVec 1 := Scalar.cmpi .slt v2 c2_i32_8
  let c33_i32 : BitVec 32 := 33#32
  let v23 : BitVec 32 := Scalar.muli v2 c33_i32
  let c33_i32_9 : BitVec 32 := 33#32
  let v24 : BitVec 32 := Scalar.muli v21 c33_i32_9
  let c1_i32_10 : BitVec 32 := 1#32
  let v25 : BitVec 32 := Scalar.addi v24 c1_i32_10
  let c32_i32_11 : BitVec 32 := 32#32
  let v26 : BitVec 32 := Scalar.muli v21 c32_i32_11
  let v27 : BitVec 32 := Scalar.subi v4 v26
  let v28 : BitVec 32 := Scalar.addi v25 v27
  let v29 : BitVec 32 := Scalar.select v22 v23 v28
  let c0_i32_12 : BitVec 32 := 0#32
  let c0_i32_13 : BitVec 32 := 0#32
  ![v29.toNat, c0_i32_12.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli c2_i32 v0
  let c0_i32 : BitVec 32 := 0#32
  let v2 : BitVec 32 := Scalar.addi v1 c0_i32
  let c2_i32_0 : BitVec 32 := 2#32
  let v3 : BitVec 32 := Scalar.subi v2 c2_i32_0
  let c0_i32_1 : BitVec 32 := 0#32
  let v4 : BitVec 32 := Scalar.maxsi v3 c0_i32_1
  let c32_i32 : BitVec 32 := 32#32
  let v5 : BitVec 32 := Scalar.divsi v4 c32_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c32_i32 c0_i32_4
  let v12 : BitVec 32 := Scalar.extui v11
  let c0_i32_5 : BitVec 32 := 0#32
  let v13 : BitVec 1 := Scalar.cmpi .slt c32_i32 c0_i32_5
  let v14 : BitVec 32 := Scalar.extui v13
  let v15 : BitVec 32 := Scalar.subi v12 v14
  let v16 : BitVec 1 := Scalar.cmpi .ne v10 v15
  let v17 : BitVec 32 := Scalar.remsi v4 c32_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c2_i32_8 : BitVec 32 := 2#32
  let v22 : BitVec 1 := Scalar.cmpi .slt v2 c2_i32_8
  let c33_i32 : BitVec 32 := 33#32
  let v23 : BitVec 32 := Scalar.muli v2 c33_i32
  let c33_i32_9 : BitVec 32 := 33#32
  let v24 : BitVec 32 := Scalar.muli v21 c33_i32_9
  let c1_i32_10 : BitVec 32 := 1#32
  let v25 : BitVec 32 := Scalar.addi v24 c1_i32_10
  let c32_i32_11 : BitVec 32 := 32#32
  let v26 : BitVec 32 := Scalar.muli v21 c32_i32_11
  let v27 : BitVec 32 := Scalar.subi v4 v26
  let v28 : BitVec 32 := Scalar.addi v25 v27
  let v29 : BitVec 32 := Scalar.select v22 v23 v28
  let c0_i32_12 : BitVec 32 := 0#32
  let c0_i32_13 : BitVec 32 := 0#32
  ![v29.toNat, c0_i32_12.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli c2_i32 v0
  let c1_i32_0 : BitVec 32 := 1#32
  let v2 : BitVec 32 := Scalar.addi v1 c1_i32_0
  let c2_i32_1 : BitVec 32 := 2#32
  let v3 : BitVec 32 := Scalar.subi v2 c2_i32_1
  let c0_i32 : BitVec 32 := 0#32
  let v4 : BitVec 32 := Scalar.maxsi v3 c0_i32
  let c32_i32 : BitVec 32 := 32#32
  let v5 : BitVec 32 := Scalar.divsi v4 c32_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c32_i32 c0_i32_4
  let v12 : BitVec 32 := Scalar.extui v11
  let c0_i32_5 : BitVec 32 := 0#32
  let v13 : BitVec 1 := Scalar.cmpi .slt c32_i32 c0_i32_5
  let v14 : BitVec 32 := Scalar.extui v13
  let v15 : BitVec 32 := Scalar.subi v12 v14
  let v16 : BitVec 1 := Scalar.cmpi .ne v10 v15
  let v17 : BitVec 32 := Scalar.remsi v4 c32_i32
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c2_i32_8 : BitVec 32 := 2#32
  let v22 : BitVec 1 := Scalar.cmpi .slt v2 c2_i32_8
  let c33_i32 : BitVec 32 := 33#32
  let v23 : BitVec 32 := Scalar.muli v2 c33_i32
  let c33_i32_9 : BitVec 32 := 33#32
  let v24 : BitVec 32 := Scalar.muli v21 c33_i32_9
  let c1_i32_10 : BitVec 32 := 1#32
  let v25 : BitVec 32 := Scalar.addi v24 c1_i32_10
  let c32_i32_11 : BitVec 32 := 32#32
  let v26 : BitVec 32 := Scalar.muli v21 c32_i32_11
  let v27 : BitVec 32 := Scalar.subi v4 v26
  let v28 : BitVec 32 := Scalar.addi v25 v27
  let v29 : BitVec 32 := Scalar.select v22 v23 v28
  let c0_i32_12 : BitVec 32 := 0#32
  let c0_i32_13 : BitVec 32 := 0#32
  ![v29.toNat, c0_i32_12.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixReferenceIdeal.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x8192x256 : Shape := ⟨3, ![2, 8192, 256]⟩
abbrev S2x256x256 : Shape := ⟨3, ![2, 256, 256]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S2x8192x512 : Shape := ⟨3, ![2, 8192, 512]⟩
abbrev S1x1024x1024 : Shape := ⟨3, ![1, 1024, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S1x1x1024 : Shape := ⟨3, ![1, 1, 1024]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x9x1024, .f32⟩
  | .hbm, ⟨3, _⟩ => ⟨S9x1024, .f32⟩
  | .hbm, ⟨4, _⟩ => ⟨S2x8192x256, .f32⟩
  | .hbm, ⟨5, _⟩ => ⟨S2x256x256, .f32⟩
  | .hbm, ⟨6, _⟩ => ⟨S2x8192x256, .f32⟩
  | .hbm, ⟨7, _⟩ => ⟨S2x256x256, .f32⟩
  | .hbm, ⟨8, _⟩ => ⟨S2x8192x256, .f32⟩
  | .hbm, ⟨9, _⟩ => ⟨S2x256x256, .f32⟩
  | .hbm, ⟨10, _⟩ => ⟨S2x8192x256, .f32⟩
  | .hbm, ⟨11, _⟩ => ⟨S2x1024x1024, .f32⟩
  | .hbm, ⟨12, _⟩ => ⟨S2x1024x5632, .f32⟩
  | .hbm, ⟨13, _⟩ => ⟨S2x2816x1024, .f32⟩
  | .hbm, ⟨14, _⟩ => ⟨S1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x8192x512, .f32⟩
  | .hbm, ⟨20, _⟩ => ⟨S2x8192x512, .f32⟩
  | .hbm, ⟨21, _⟩ => ⟨S2x8192x1024, .f32⟩
  | .hbm, ⟨22, _⟩ => ⟨S1x1024x1024, .f32⟩
  | .hbm, ⟨23, _⟩ => ⟨S1024x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S1x1024x5632, .f32⟩
  | .hbm, ⟨52, _⟩ => ⟨S1024x5632, .f32⟩
  | .hbm, ⟨53, _⟩ => ⟨S1x2816x1024, .f32⟩
  | .hbm, ⟨54, _⟩ => ⟨S2816x1024, .f32⟩
  | .hbm, ⟨55, _⟩ => ⟨S2x8192x5632, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== FfnKernel.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x5632 : Shape := ⟨3, ![2, 1024, 5632]⟩
abbrev S2x2816x1024 : Shape := ⟨3, ![2, 2816, 1024]⟩
abbrev S1x9x1024 : Shape := ⟨3, ![1, 9, 1024]⟩
abbrev S3x9x1024 : Shape := ⟨3, ![3, 9, 1024]⟩
abbrev S_ : Shape := ⟨0, ![]⟩
abbrev S5x9x1024 : Shape := ⟨3, ![5, 9, 1024]⟩
abbrev S8x9x1024 : Shape := ⟨3, ![8, 9, 1024]⟩
abbrev S512x1024 : Shape := ⟨2, ![512, 1024]⟩
abbrev S16384x1024 : Shape := ⟨2, ![16384, 1024]⟩
abbrev S16896x1024 : Shape := ⟨2, ![16896, 1024]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x9x1024, .f32⟩
  | .hbm, ⟨3, _⟩ => ⟨S9x1024, .f32⟩
  | .hbm, ⟨4, _⟩ => ⟨S2x1024x5632, .f32⟩
  | .hbm, ⟨5, _⟩ => ⟨S2x2816x1024, .f32⟩
  | .hbm, ⟨6, _⟩ => ⟨S1x9x1024, .f32⟩
  | .hbm, ⟨7, _⟩ => ⟨S3x9x1024, .f32⟩
  | .hbm, ⟨8, _⟩ => ⟨S_, .f32⟩
  | .hbm, ⟨9, _⟩ => ⟨S5x9x1024, .f32⟩
  | .hbm, ⟨10, _⟩ => ⟨S8x9x1024, .f32⟩
  | .hbm, ⟨11, _⟩ => ⟨S512x1024, .f32⟩
  | .hbm, ⟨12, _⟩ => ⟨S16384x1024, .f32⟩
  | .hbm, ⟨13, _⟩ => ⟨S2x1024x5632, .bf16⟩
  | .hbm, ⟨14, _⟩ => ⟨S2x2816x1024, .bf16⟩
  | .hbm, ⟨15, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 32 := Scalar.addi v0 c16_i32
  let c1_i32 : BitVec 32 := 1#32
  let v2 : BitVec 32 := Scalar.subi v1 c1_i32
  let c16_i32_0 : BitVec 32 := 16#32
  let v3 : BitVec 32 := Scalar.divsi v2 c16_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32_0 c0_i32_3
  let v10 : BitVec 32 := Scalar.extui v9
  let c0_i32_4 : BitVec 32 := 0#32
  let v11 : BitVec 1 := Scalar.cmpi .slt c16_i32_0 c0_i32_4
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  let c0_i32_9 : BitVec 32 := 0#32
  ![v19.toNat, c0_i32_7.toNat, c0_i32_8.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S2x256 : Shape := ⟨2, ![2, 256]⟩
abbrev S2x256x1 : Shape := ⟨3, ![2, 256, 1]⟩
abbrev S1x1x1024 : Shape := ⟨3, ![1, 1, 1024]⟩
abbrev S2x256x5632 : Shape := ⟨3, ![2, 256, 5632]⟩
abbrev S2x256x2816 : Shape := ⟨3, ![2, 256, 2816]⟩
abbrev S512x1024 : Shape := ⟨2, ![512, 1024]⟩
abbrev S16384x1024 : Shape := ⟨2, ![16384, 1024]⟩
abbrev S16896x1024 : Shape := ⟨2, ![16896, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x9x1024, .f32⟩
  | .hbm, ⟨3, _⟩ => ⟨S9x1024, .f32⟩
  | .hbm, ⟨4, _⟩ => ⟨S2x1024x5632, .f32⟩
  | .hbm, ⟨5, _⟩ => ⟨S2x2816x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1x1024x5632, .f32⟩
  | .hbm, ⟨39, _⟩ => ⟨S1024x5632, .f32⟩
  | .hbm, ⟨40, _⟩ => ⟨S1x2816x1024, .f32⟩
  | .hbm, ⟨41, _⟩ => ⟨S2816x1024, .f32⟩
  | .hbm, ⟨42, _⟩ => ⟨S2x8192x5632, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S_, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S2x256x1024, .f32⟩
  | .hbm, ⟨63, _⟩ => ⟨S_, .f32⟩
  | .hbm, ⟨64, _⟩ => ⟨S2x256, .f32⟩
  | .hbm, ⟨65, _⟩ => ⟨S2x256x1, .f32⟩
  | .hbm, ⟨66, _⟩ => ⟨S_, .f32⟩
  | .hbm, ⟨67, _⟩ => ⟨S2x256x1, .f32⟩
  | .hbm, ⟨68, _⟩ => ⟨S2x256x1, .f32⟩
  | .hbm, ⟨69, _⟩ => ⟨S_, .f32⟩
  | .hbm, ⟨70, _⟩ => ⟨S2x256x1, .f32⟩
  | .hbm, ⟨71, _⟩ => ⟨S2x256x1, .f32⟩
  | .hbm, ⟨72, _⟩ => ⟨S2x256x1, .f32⟩
  | .hbm, ⟨73, _⟩ => ⟨S2x256x1024, .f32⟩
  | .hbm, ⟨74, _⟩ => ⟨S2x256x1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S1x1x1024, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S1x1024x5632, .f32⟩
  | .hbm, ⟨85, _⟩ => ⟨S1024x5632, .f32⟩
  | .hbm, ⟨86, _⟩ => ⟨S1x2816x1024, .f32⟩
  | .hbm, ⟨87, _⟩ => ⟨S2816x1024, .f32⟩
  | .hbm, ⟨88, _⟩ => ⟨S2x256x5632, .f32⟩
  | .hbm, ⟨89, _⟩ => ⟨S2x256x2816, .f32⟩
  | .hbm, ⟨90, _⟩ => ⟨S2x256x2816, .f32⟩
  | .hbm, ⟨91, _⟩ => ⟨S2x256x2816, .f32⟩
  | .hbm, ⟨92, _⟩ => ⟨S2x256x2816, .f32⟩
  | .hbm, ⟨93, _⟩ => ⟨S_, .f32⟩
  | .hbm, ⟨94, _⟩ => ⟨S2x256x2816, .f32⟩
  | .hbm, ⟨95, _⟩ => ⟨S2x256x2816, .f32⟩
  | .hbm, ⟨96, _⟩ => ⟨S_, .f32⟩
  | .hbm, ⟨97, _⟩ => ⟨S2x256x2816, .f32⟩
  | .hbm, ⟨98, _⟩ => ⟨S2x256x2816, .f32⟩
  | .hbm, ⟨99, _⟩ => ⟨S2x256x2816, .f32⟩
  | .hbm, ⟨100, _⟩ => ⟨S2x256x2816, .f32⟩
  | .hbm, ⟨101, _⟩ => ⟨S2x256x1024, .f32⟩
  | .hbm, ⟨102, _⟩ => ⟨S1x1x1024, .f32⟩
  | .hbm, ⟨103, _⟩ => ⟨S2x256x1024, .f32⟩
  | .hbm, ⟨104, _⟩ => ⟨S2x256x1024, .f32⟩
  | .hbm, ⟨105, _⟩ => ⟨S2x256x1024, .f32⟩
  | .hbm, ⟨106, _⟩ => ⟨S512x1024, .f32⟩
  | .hbm, ⟨107, _⟩ => ⟨S16384x1024, .f32⟩
  | .hbm, ⟨108, _⟩ => ⟨S16896x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== WinKernel.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x2464 : Shape := ⟨3, ![2, 1024, 2464]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S8192x32 : Shape := ⟨2, ![8192, 32]⟩
abbrev S1x9x1024 : Shape := ⟨3, ![1, 9, 1024]⟩
abbrev S3x9x1024 : Shape := ⟨3, ![3, 9, 1024]⟩
abbrev S_ : Shape := ⟨0, ![]⟩
abbrev S5x9x1024 : Shape := ⟨3, ![5, 9, 1024]⟩
abbrev S8x9x1024 : Shape := ⟨3, ![8, 9, 1024]⟩
abbrev S2x1024x512 : Shape := ⟨3, ![2, 1024, 512]⟩
abbrev S2x1024x1024 : Shape := ⟨3, ![2, 1024, 1024]⟩
abbrev S2x1024x416 : Shape := ⟨3, ![2, 1024, 416]⟩
abbrev S2x1024x32 : Shape := ⟨3, ![2, 1024, 32]⟩
abbrev S2x1024x64 : Shape := ⟨3, ![2, 1024, 64]⟩
abbrev S2x1024x384 : Shape := ⟨3, ![2, 1024, 384]⟩
abbrev S2x1024x8 : Shape := ⟨3, ![2, 1024, 8]⟩
abbrev S2x1024x640 : Shape := ⟨3, ![2, 1024, 640]⟩
abbrev S2x256x4x96 : Shape := ⟨4, ![2, 256, 4, 96]⟩
abbrev S2x256x4x32 : Shape := ⟨4, ![2, 256, 4, 32]⟩
abbrev S2x256x4x128 : Shape := ⟨4, ![2, 256, 4, 128]⟩
abbrev S2x256x512 : Shape := ⟨3, ![2, 256, 512]⟩
abbrev S2x256x4x64 : Shape := ⟨4, ![2, 256, 4, 64]⟩
abbrev S2x256x4x8 : Shape := ⟨4, ![2, 256, 4, 8]⟩
abbrev S2x128x4x128 : Shape := ⟨4, ![2, 128, 4, 128]⟩
abbrev S2x128x4x64 : Shape := ⟨4, ![2, 128, 4, 64]⟩
abbrev S256x32 : Shape := ⟨2, ![256, 32]⟩
abbrev S8448x32 : Shape := ⟨2, ![8448, 32]⟩
abbrev S8448x64 : Shape := ⟨2, ![8448, 64]⟩
abbrev S8448x128 : Shape := ⟨2, ![8448, 128]⟩
abbrev S512x1024 : Shape := ⟨2, ![512, 1024]⟩
abbrev S16384x1024 : Shape := ⟨2, ![16384, 1024]⟩
abbrev S16896x1024 : Shape := ⟨2, ![16896, 1024]⟩
abbrev S2x1x256 : Shape := ⟨3, ![2, 1, 256]⟩
abbrev S2x1x128 : Shape := ⟨3, ![2, 1, 128]⟩
abbrev S16896x512 : Shape := ⟨2, ![16896, 512]⟩
abbrev S256x1024 : Shape := ⟨2, ![256, 1024]⟩
abbrev S1x1024x512 : Shape := ⟨3, ![1, 1024, 512]⟩
abbrev S1x1024x1024 : Shape := ⟨3, ![1, 1024, 1024]⟩
abbrev S1x1024x640 : Shape := ⟨3, ![1, 1024, 640]⟩
abbrev S256x128 : Shape := ⟨2, ![256, 128]⟩
abbrev S1x1x256 : Shape := ⟨3, ![1, 1, 256]⟩
abbrev S1x1x128 : Shape := ⟨3, ![1, 1, 128]⟩
abbrev S1x256x512 : Shape := ⟨3, ![1, 256, 512]⟩
abbrev S1x128x512 : Shape := ⟨3, ![1, 128, 512]⟩
abbrev S256x512 : Shape := ⟨2, ![256, 512]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S1024x640 : Shape := ⟨2, ![1024, 640]⟩
abbrev S256x640 : Shape := ⟨2, ![256, 640]⟩
abbrev S256x256 : Shape := ⟨2, ![256, 256]⟩
abbrev S1x256 : Shape := ⟨2, ![1, 256]⟩
abbrev S1x128 : Shape := ⟨2, ![1, 128]⟩
abbrev S128x512 : Shape := ⟨2, ![128, 512]⟩
abbrev S1x512 : Shape := ⟨2, ![1, 512]⟩

abbrev nBuf : Space → Nat
  | .hbm => 95
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x9x1024, .f32⟩
  | .hbm, ⟨3, _⟩ => ⟨S9x1024, .f32⟩
  | .hbm, ⟨4, _⟩ => ⟨S2x1024x2464, .f32⟩
  | .hbm, ⟨5, _⟩ => ⟨S2x256, .f32⟩
  | .hbm, ⟨6, _⟩ => ⟨S2x256x384, .f32⟩
  | .hbm, ⟨7, _⟩ => ⟨S2x128, .f32⟩
  | .hbm, ⟨8, _⟩ => ⟨S2x128x512, .f32⟩
  | .hbm, ⟨9, _⟩ => ⟨S8192x32, .f32⟩
  | .hbm, ⟨10, _⟩ => ⟨S8192x32, .f32⟩
  | .hbm, ⟨11, _⟩ => ⟨S1x9x1024, .f32⟩
  | .hbm, ⟨12, _⟩ => ⟨S3x9x1024, .f32⟩
  | .hbm, ⟨13, _⟩ => ⟨S_, .f32⟩
  | .hbm, ⟨14, _⟩ => ⟨S5x9x1024, .f32⟩
  | .hbm, ⟨15, _⟩ => ⟨S8x9x1024, .f32⟩
  | .hbm, ⟨16, _⟩ => ⟨S2x1024x512, .f32⟩
  | .hbm, ⟨17, _⟩ => ⟨S2x1024x512, .bf16⟩
  | .hbm, ⟨18, _⟩ => ⟨S2x1024x512, .f32⟩
  | .hbm, ⟨19, _⟩ => ⟨S2x1024x512, .bf16⟩
  | .hbm, ⟨20, _⟩ => ⟨S2x1024x1024, .f32⟩
  | .hbm, ⟨21, _⟩ => ⟨S2x1024x1024, .bf16⟩
  | .hbm, ⟨22, _⟩ => ⟨S2x1024x416, .f32⟩
  | .hbm, ⟨23, _⟩ => ⟨S2x1024x32, .f32⟩
  | .hbm, ⟨24, _⟩ => ⟨S_, .f32⟩
  | .hbm, ⟨25, _⟩ => ⟨S2x1024x64, .f32⟩
  | .hbm, ⟨26, _⟩ => ⟨S_, .f32⟩
  | .hbm, ⟨27, _⟩ => ⟨S2x1024x32, .f32⟩
  | .hbm, ⟨28, _⟩ => ⟨S2x1024x384, .f32⟩
  | .hbm, ⟨29, _⟩ => ⟨S2x1024x8, .f32⟩
  | .hbm, ⟨30, _⟩ => ⟨S2x1024x8, .f32⟩
  | .hbm, ⟨31, _⟩ => ⟨S2x1024x8, .f32⟩
  | .hbm, ⟨32, _⟩ => ⟨S2x1024x8, .f32⟩
  | .hbm, ⟨33, _⟩ => ⟨S2x1024x8, .f32⟩
  | .hbm, ⟨34, _⟩ => ⟨S2x1024x8, .f32⟩
  | .hbm, ⟨35, _⟩ => ⟨S2x1024x32, .f32⟩
  | .hbm, ⟨36, _⟩ => ⟨S2x1024x640, .f32⟩
  | .hbm, ⟨37, _⟩ => ⟨S2x1024x640, .bf16⟩
  | .hbm, ⟨38, _⟩ => ⟨S2x256x4x96, .f32⟩
  | .hbm, ⟨39, _⟩ => ⟨S_, .f32⟩
  | .hbm, ⟨40, _⟩ => ⟨S2x256x4x32, .f32⟩
  | .hbm, ⟨41, _⟩ => ⟨S2x256x4x128, .f32⟩
  | .hbm, ⟨42, _⟩ => ⟨S2x256x512, .f32⟩
  | .hbm, ⟨43, _⟩ => ⟨S2x256x512, .bf16⟩
  | .hbm, ⟨44, _⟩ => ⟨S_, .f32⟩
  | .hbm, ⟨45, _⟩ => ⟨S2x256x4x64, .f32⟩
  | .hbm, ⟨46, _⟩ => ⟨S2x256x4x32, .f32⟩
  | .hbm, ⟨47, _⟩ => ⟨S2x256x4x8, .f32⟩
  | .hbm, ⟨48, _⟩ => ⟨S2x256x4x8, .f32⟩
  | .hbm, ⟨49, _⟩ => ⟨S2x256x4x8, .f32⟩
  | .hbm, ⟨50, _⟩ => ⟨S2x256x4x8, .f32⟩
  | .hbm, ⟨51, _⟩ => ⟨S2x256x4x8, .f32⟩
  | .hbm, ⟨52, _⟩ => ⟨S2x256x4x8, .f32⟩
  | .hbm, ⟨53, _⟩ => ⟨S2x256x4x32, .f32⟩
  | .hbm, ⟨54, _⟩ => ⟨S2x256x4x128, .f32⟩
  | .hbm, ⟨55, _⟩ => ⟨S2x256x512, .f32⟩
  | .hbm, ⟨56, _⟩ => ⟨S2x256x512, .bf16⟩
  | .hbm, ⟨57, _⟩ => ⟨S2x128x4x128, .f32⟩
  | .hbm, ⟨58, _⟩ => ⟨S_, .f32⟩
  | .hbm, ⟨59, _⟩ => ⟨S2x128x4x64, .f32⟩
  | .hbm, ⟨60, _⟩ => ⟨S2x128x4x64, .f32⟩
  | .hbm, ⟨61, _⟩ => ⟨S2x128x4x128, .f32⟩
  | .hbm, ⟨62, _⟩ => ⟨S2x128x512, .f32⟩
  | .hbm, ⟨63, _⟩ => ⟨S2x128x512, .bf16⟩
  | .hbm, ⟨64, _⟩ => ⟨S2x128x4x64, .f32⟩
  | .hbm, ⟨65, _⟩ => ⟨S2x128x4x128, .f32⟩
  | .hbm, ⟨66, _⟩ => ⟨S2x128x512, .f32⟩
  | .hbm, ⟨67, _⟩ => ⟨S2x128x512, .bf16⟩
  | .hbm, ⟨68, _⟩ => ⟨S_, .f32⟩
  | .hbm, ⟨69, _⟩ => ⟨S256x32, .f32⟩
  | .hbm, ⟨70, _⟩ => ⟨S8448x32, .f32⟩
  | .hbm, ⟨71, _⟩ => ⟨S_, .f32⟩
  | .hbm, ⟨72, _⟩ => ⟨S256x32, .f32⟩
  | .hbm, ⟨73, _⟩ => ⟨S8448x32, .f32⟩
  | .hbm, ⟨74, _⟩ => ⟨S_, .f32⟩
  | .hbm, ⟨75, _⟩ => ⟨S8448x64, .f32⟩
  | .hbm, ⟨76, _⟩ => ⟨S_, .f32⟩
  | .hbm, ⟨77, _⟩ => ⟨S8448x32, .f32⟩
  | .hbm, ⟨78, _⟩ => ⟨S8448x128, .f32⟩
  | .hbm, ⟨79, _⟩ => ⟨S_, .f32⟩
  | .hbm, ⟨80, _⟩ => ⟨S8448x64, .f32⟩
  | .hbm, ⟨81, _⟩ => ⟨S_, .f32⟩
  | .hbm, ⟨82, _⟩ => ⟨S8448x32, .f32⟩
  | .hbm, ⟨83, _⟩ => ⟨S8448x128, .f32⟩
  | .hbm, ⟨84, _⟩ => ⟨S512x1024, .f32⟩
  | .hbm, ⟨85, _⟩ => ⟨S16384x1024, .f32⟩
  | .hbm, ⟨86, _⟩ => ⟨S16896x1024, .f32⟩
  | .hbm, ⟨87, _⟩ => ⟨S2x1x256, .f32⟩
  | .hbm, ⟨88, _⟩ => ⟨S2x1x128, .f32⟩
  | .hbm, ⟨89, _⟩ => ⟨S16896x512, .f32⟩
  | .hbm, ⟨90, _⟩ => ⟨S16896x512, .f32⟩
  | .hbm, ⟨91, _⟩ => ⟨S16896x1024, .f32⟩
  | .hbm, ⟨92, _⟩ => ⟨S16896x512, .bf16⟩
  | .hbm, ⟨93, _⟩ => ⟨S16896x512, .bf16⟩
  | .hbm, ⟨94, _⟩ => ⟨S16896x512, .bf16⟩
  | .local _ .vmem, ⟨0, _⟩ => ⟨S256x1024, .f32⟩
  | .local _ .vmem, ⟨1, _⟩ => ⟨S256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x640, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x1x256, .f32⟩
  | .local _ .vmem, ⟨13, _⟩ => ⟨S1x1x128, .f32⟩
  | .local _ .vmem, ⟨14, _⟩ => ⟨S1x256x512, .bf16⟩
  | .local _ .vmem, ⟨15, _⟩ => ⟨S1x256x512, .bf16⟩
  | .local _ .vmem, ⟨16, _⟩ => ⟨S1x128x512, .bf16⟩
  | .local _ .vmem, ⟨17, _⟩ => ⟨S1x128x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v66_2 : Ref sig .tc := ⟨.hbm, 91, rfl⟩
abbrev main_v66_3 : Ref sig .tc := ⟨.hbm, 92, rfl⟩
abbrev main_v66_4 : Ref sig .tc := ⟨.hbm, 93, rfl⟩
abbrev main_v66_5 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let v2 : BitVec 32 := Scalar.maxsi v1 c0_i32
  let c32_i32 : BitVec 32 := 32#32
  let v3 : BitVec 32 := Scalar.divsi v2 c32_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32 c0_i32_3
  let v10 : BitVec 32 := Scalar.extui v9
  let c0_i32_4 : BitVec 32 := 0#32
  let v11 : BitVec 1 := Scalar.cmpi .slt c32_i32 c0_i32_4
  let v12 : BitVec 32 := Scalar.extui v11
  let v13 : BitVec 32 := Scalar.subi v10 v12
  let v14 : BitVec 1 := Scalar.cmpi .ne v8 v13
  let v15 : BitVec 32 := Scalar.remsi v2 c32_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v0 c0_i32_7 v20
  let c0_i32_8 : BitVec 32 := 0#32
  let c0_i32_9 : BitVec 32 := 0#32
  let c0_i32_10 : BitVec 32 := 0#32
  ![v21.toNat, c0_i32_8.toNat, c0_i32_9.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let v2 : BitVec 32 := Scalar.maxsi v1 c0_i32
  let c32_i32 : BitVec 32 := 32#32
  let v3 : BitVec 32 := Scalar.remsi v2 c32_i32
  let c1_i32 : BitVec 32 := 1#32
  let v4 : BitVec 32 := Scalar.addi c1_i32 v3
  let c0_i32_1 : BitVec 32 := 0#32
  let v5 : BitVec 32 := Scalar.select v0 c0_i32_1 v4
  let c0_i32_2 : BitVec 32 := 0#32
  let c0_i32_3 : BitVec 32 := 0#32
  ![v5.toNat, c0_i32_2.toNat]

def cc0_transform_7 (i : grid0.Coords) : Fin 2 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let v2 : BitVec 32 := Scalar.maxsi v1 c0_i32
  let c32_i32 : BitVec 32 := 32#32
  let v3 : BitVec 32 := Scalar.remsi v2 c32_i32
  let c1_i32 : BitVec 32 := 1#32
  let v4 : BitVec 32 := Scalar.addi c1_i32 v3
  let c0_i32_1 : BitVec 32 := 0#32
  let v5 : BitVec 32 := Scalar.select v0 c0_i32_1 v4
  let c0_i32_2 : BitVec 32 := 0#32
  let c0_i32_3 : BitVec 32 := 0#32
  ![v5.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 1 := Scalar.cmpi .slt arg0 c2_i32_5
  let c33_i32 : BitVec 32 := 33#32
  let v20 : BitVec 32 := Scalar.muli arg0 c33_i32
  let c33_i32_6 : BitVec 32 := 33#32
  let v21 : BitVec 32 := Scalar.muli v18 c33_i32_6
  let c1_i32_7 : BitVec 32 := 1#32
  let v22 : BitVec 32 := Scalar.addi v21 c1_i32_7
  let c32_i32_8 : BitVec 32 := 32#32
  let v23 : BitVec 32 := Scalar.muli v18 c32_i32_8
  let v24 : BitVec 32 := Scalar.subi v1 v23
  let v25 : BitVec 32 := Scalar.addi v22 v24
  let v26 : BitVec 32 := Scalar.select v19 v20 v25
  let c0_i32_9 : BitVec 32 := 0#32
  let c0_i32_10 : BitVec 32 := 0#32
  ![v26.toNat, c0_i32_9.toNat]

def cc0_transform_16 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 1 := Scalar.cmpi .slt arg0 c2_i32_5
  let c33_i32 : BitVec 32 := 33#32
  let v20 : BitVec 32 := Scalar.muli arg0 c33_i32
  let c33_i32_6 : BitVec 32 := 33#32
  let v21 : BitVec 32 := Scalar.muli v18 c33_i32_6
  let c1_i32_7 : BitVec 32 := 1#32
  let v22 : BitVec 32 := Scalar.addi v21 c1_i32_7
  let c32_i32_8 : BitVec 32 := 32#32
  let v23 : BitVec 32 := Scalar.muli v18 c32_i32_8
  let v24 : BitVec 32 := Scalar.subi v1 v23
  let v25 : BitVec 32 := Scalar.addi v22 v24
  let v26 : BitVec 32 := Scalar.select v19 v20 v25
  let c0_i32_9 : BitVec 32 := 0#32
  let c0_i32_10 : BitVec 32 := 0#32
  ![v26.toNat, c0_i32_9.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 1 := Scalar.cmpi .slt arg0 c2_i32_5
  let c33_i32 : BitVec 32 := 33#32
  let v20 : BitVec 32 := Scalar.muli arg0 c33_i32
  let c32_i32_6 : BitVec 32 := 32#32
  let v21 : BitVec 32 := Scalar.addi v20 c32_i32_6
  let c33_i32_7 : BitVec 32 := 33#32
  let v22 : BitVec 32 := Scalar.muli v18 c33_i32_7
  let c32_i32_8 : BitVec 32 := 32#32
  let v23 : BitVec 32 := Scalar.muli v18 c32_i32_8
  let v24 : BitVec 32 := Scalar.subi v1 v23
  let v25 : BitVec 32 := Scalar.addi v22 v24
  let v26 : BitVec 32 := Scalar.select v19 v21 v25
  let c0_i32_9 : BitVec 32 := 0#32
  let c0_i32_10 : BitVec 32 := 0#32
  ![v26.toNat, c0_i32_9.toNat]

def cc0_transform_19 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 1 := Scalar.cmpi .slt arg0 c2_i32_5
  let c33_i32 : BitVec 32 := 33#32
  let v20 : BitVec 32 := Scalar.muli arg0 c33_i32
  let c32_i32_6 : BitVec 32 := 32#32
  let v21 : BitVec 32 := Scalar.addi v20 c32_i32_6
  let c33_i32_7 : BitVec 32 := 33#32
  let v22 : BitVec 32 := Scalar.muli v18 c33_i32_7
  let c32_i32_8 : BitVec 32 := 32#32
  let v23 : BitVec 32 := Scalar.muli v18 c32_i32_8
  let v24 : BitVec 32 := Scalar.subi v1 v23
  let v25 : BitVec 32 := Scalar.addi v22 v24
  let v26 : BitVec 32 := Scalar.select v19 v21 v25
  let c0_i32_9 : BitVec 32 := 0#32
  let c0_i32_10 : BitVec 32 := 0#32
  ![v26.toNat, c0_i32_9.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== WinReferenceIdeal.lean ====
abbrev S2x8192x1024 : Shape := ⟨3, ![2, 8192, 1024]⟩
abbrev S2x256x1024 : Shape := ⟨3, ![2, 256, 1024]⟩
abbrev S2x9x1024 : Shape := ⟨3, ![2, 9, 1024]⟩
abbrev S9x1024 : Shape := ⟨2, ![9, 1024]⟩
abbrev S2x1024x2464 : Shape := ⟨3, ![2, 1024, 2464]⟩
abbrev S2x256 : Shape := ⟨2, ![2, 256]⟩
abbrev S2x256x384 : Shape := ⟨3, ![2, 256, 384]⟩
abbrev S2x128 : Shape := ⟨2, ![2, 128]⟩
abbrev S2x128x512 : Shape := ⟨3, ![2, 128, 512]⟩
abbrev S8192x32 : Shape := ⟨2, ![8192, 32]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x2464 : Shape := ⟨3, ![1, 1024, 2464]⟩
abbrev S1024x2464 : Shape := ⟨2, ![1024, 2464]⟩
abbrev S2x8192x2464 : Shape := ⟨3, ![2, 8192, 2464]⟩
abbrev S2x256x1 : Shape := ⟨3, ![2, 256, 1]⟩
abbrev S1x1x1024 : Shape := ⟨3, ![1, 1, 1024]⟩
abbrev S2x256x2464 : Shape := ⟨3, ![2, 256, 2464]⟩
abbrev S2x8192x512 : Shape := ⟨3, ![2, 8192, 512]⟩
abbrev S2x8192x416 : Shape := ⟨3, ![2, 8192, 416]⟩
abbrev S2x256x512 : Shape := ⟨3, ![2, 256, 512]⟩
abbrev S2x256x416 : Shape := ⟨3, ![2, 256, 416]⟩
abbrev S2x8192x256 : Shape := ⟨3, ![2, 8192, 256]⟩
abbrev S1x256 : Shape := ⟨2, ![1, 256]⟩
abbrev S256 : Shape := ⟨1, ![256]⟩
abbrev S1x1x256 : Shape := ⟨3, ![1, 1, 256]⟩
abbrev S1x256x384 : Shape := ⟨3, ![1, 256, 384]⟩
abbrev S256x384 : Shape := ⟨2, ![256, 384]⟩
abbrev S2x8192x384 : Shape := ⟨3, ![2, 8192, 384]⟩
abbrev S2x8192x4x96 : Shape := ⟨4, ![2, 8192, 4, 96]⟩
abbrev S2x8192x4x64 : Shape := ⟨4, ![2, 8192, 4, 64]⟩
abbrev S2x8192x4x32 : Shape := ⟨4, ![2, 8192, 4, 32]⟩
abbrev S8192x1x32 : Shape := ⟨3, ![8192, 1, 32]⟩
abbrev S2x8192x4x2x2x8 : Shape := ⟨6, ![2, 8192, 4, 2, 2, 8]⟩
abbrev S2x8192x4x2x1x8 : Shape := ⟨6, ![2, 8192, 4, 2, 1, 8]⟩
abbrev S2x8192x4x2x8 : Shape := ⟨5, ![2, 8192, 4, 2, 8]⟩
abbrev S1x8192x1x32 : Shape := ⟨4, ![1, 8192, 1, 32]⟩
abbrev S2x8192x128 : Shape := ⟨3, ![2, 8192, 128]⟩
abbrev S1x128 : Shape := ⟨2, ![1, 128]⟩
abbrev S128 : Shape := ⟨1, ![128]⟩
abbrev S1x1x128 : Shape := ⟨3, ![1, 1, 128]⟩
abbrev S1x128x512 : Shape := ⟨3, ![1, 128, 512]⟩
abbrev S128x512 : Shape := ⟨2, ![128, 512]⟩
abbrev S2x8192x4x128 : Shape := ⟨4, ![2, 8192, 4, 128]⟩
abbrev S2x8192x32 : Shape := ⟨3, ![2, 8192, 32]⟩
abbrev S2x8192x2x2x8 : Shape := ⟨5, ![2, 8192, 2, 2, 8]⟩
abbrev S2x8192x2x1x8 : Shape := ⟨5, ![2, 8192, 2, 1, 8]⟩
abbrev S2x8192x2x8 : Shape := ⟨4, ![2, 8192, 2, 8]⟩
abbrev S1x8192x32 : Shape := ⟨3, ![1, 8192, 32]⟩
abbrev S2x8192x1x32 : Shape := ⟨4, ![2, 8192, 1, 32]⟩
abbrev S2x256x128 : Shape := ⟨3, ![2, 256, 128]⟩
abbrev S2x256x4x128 : Shape := ⟨4, ![2, 256, 4, 128]⟩
abbrev S2x256x4x64 : Shape := ⟨4, ![2, 256, 4, 64]⟩
abbrev S2x256x32 : Shape := ⟨3, ![2, 256, 32]⟩
abbrev S2x256x1x32 : Shape := ⟨4, ![2, 256, 1, 32]⟩
abbrev S2x256x4x32 : Shape := ⟨4, ![2, 256, 4, 32]⟩
abbrev S2x256x4x96 : Shape := ⟨4, ![2, 256, 4, 96]⟩
abbrev S2x8448x4x96 : Shape := ⟨4, ![2, 8448, 4, 96]⟩
abbrev S2x8448x4x64 : Shape := ⟨4, ![2, 8448, 4, 64]⟩
abbrev S2x256x256 : Shape := ⟨3, ![2, 256, 256]⟩
abbrev S512x4x96 : Shape := ⟨3, ![512, 4, 96]⟩
abbrev S16384x4x96 : Shape := ⟨3, ![16384, 4, 96]⟩
abbrev S16896x4x96 : Shape := ⟨3, ![16896, 4, 96]⟩
abbrev S512x512 : Shape := ⟨2, ![512, 512]⟩
abbrev S16384x512 : Shape := ⟨2, ![16384, 512]⟩
abbrev S16896x512 : Shape := ⟨2, ![16896, 512]⟩
abbrev S2x8448x512 : Shape := ⟨3, ![2, 8448, 512]⟩
abbrev S2x8448x1024 : Shape := ⟨3, ![2, 8448, 1024]⟩
abbrev S16896x1024 : Shape := ⟨2, ![16896, 1024]⟩
abbrev S16896x4x32 : Shape := ⟨3, ![16896, 4, 32]⟩
abbrev S16896x4x128 : Shape := ⟨3, ![16896, 4, 128]⟩
abbrev S2x8448x4x32 : Shape := ⟨4, ![2, 8448, 4, 32]⟩
abbrev S2x8448x4x128 : Shape := ⟨4, ![2, 8448, 4, 128]⟩

abbrev nBuf : Space → Nat
  | .hbm => 246
  | .vmem => 0
  | .smem => 0
  | _ => 0

abbrev hbmTy0_0 (i : Nat) : BufTy := match i % 128 with
  | 0 => ⟨S2x8192x1024, .f32⟩
  | 1 => ⟨S2x256x1024, .f32⟩
  | 2 => ⟨S2x9x1024, .f32⟩
  | 3 => ⟨S9x1024, .f32⟩
  | 4 => ⟨S2x1024x2464, .f32⟩
  | 5 => ⟨S2x256, .f32⟩
  | 6 => ⟨S2x256x384, .f32⟩
  | 7 => ⟨S2x128, .f32⟩
  | 8 => ⟨S2x128x512, .f32⟩
  | 9 => ⟨S8192x32, .f32⟩
  | 10 => ⟨S8192x32, .f32⟩
  | 11 => ⟨S2x1x1024, .f32⟩
  | 12 => ⟨S2x1x1024, .f32⟩
  | 13 => ⟨S1x1024, .f32⟩
  | 14 => ⟨S1024, .f32⟩
  | 15 => ⟨S1x1024, .f32⟩
  | 16 => ⟨S1024, .f32⟩
  | 17 => ⟨S2x8192x1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S_, .f32⟩
  | 25 => ⟨S2x8192x1, .f32⟩
  | 26 => ⟨S2x8192x1, .f32⟩
  | 27 => ⟨S2x8192x1, .f32⟩
  | 28 => ⟨S2x8192x1024, .f32⟩
  | 29 => ⟨S2x8192x1024, .f32⟩
  | 30 => ⟨S_, .f32⟩
  | 31 => ⟨S2x1x1024, .f32⟩
  | 32 => ⟨S2x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024x2464, .f32⟩
  | 38 => ⟨S1024x2464, .f32⟩
  | 39 => ⟨S2x8192x2464, .f32⟩
  | 40 => ⟨S2x256x1024, .f32⟩
  | 41 => ⟨S_, .f32⟩
  | 42 => ⟨S2x256, .f32⟩
  | 43 => ⟨S2x256x1, .f32⟩
  | 44 => ⟨S_, .f32⟩
  | 45 => ⟨S2x256x1, .f32⟩
  | 46 => ⟨S2x256x1, .f32⟩
  | 47 => ⟨S_, .f32⟩
  | 48 => ⟨S2x256x1, .f32⟩
  | 49 => ⟨S2x256x1, .f32⟩
  | 50 => ⟨S2x256x1, .f32⟩
  | 51 => ⟨S2x256x1024, .f32⟩
  | 52 => ⟨S2x256x1024, .f32⟩
  | 53 => ⟨S_, .f32⟩
  | 54 => ⟨S1024, .f32⟩
  | 55 => ⟨S1024, .f32⟩
  | 56 => ⟨S1x1x1024, .f32⟩
  | 57 => ⟨S2x256x1024, .f32⟩
  | 58 => ⟨S2x256x1024, .f32⟩
  | 59 => ⟨S1x1x1024, .f32⟩
  | 60 => ⟨S2x256x1024, .f32⟩
  | 61 => ⟨S2x256x1024, .f32⟩
  | 62 => ⟨S1x1024x2464, .f32⟩
  | 63 => ⟨S1024x2464, .f32⟩
  | 64 => ⟨S2x256x2464, .f32⟩
  | 65 => ⟨S2x8192x512, .f32⟩
  | 66 => ⟨S2x8192x512, .f32⟩
  | 67 => ⟨S2x8192x1024, .f32⟩
  | 68 => ⟨S2x8192x416, .f32⟩
  | 69 => ⟨S2x256x512, .f32⟩
  | 70 => ⟨S2x256x512, .f32⟩
  | 71 => ⟨S2x256x1024, .f32⟩
  | 72 => ⟨S2x256x416, .f32⟩
  | 73 => ⟨S2x8192x256, .f32⟩
  | 74 => ⟨S2x8192x256, .f32⟩
  | 75 => ⟨S_, .f32⟩
  | 76 => ⟨S2x8192, .f32⟩
  | 77 => ⟨S2x8192x1, .f32⟩
  | 78 => ⟨S_, .f32⟩
  | 79 => ⟨S2x8192x1, .f32⟩
  | 80 => ⟨S2x8192x1, .f32⟩
  | 81 => ⟨S_, .f32⟩
  | 82 => ⟨S2x8192x1, .f32⟩
  | 83 => ⟨S2x8192x1, .f32⟩
  | 84 => ⟨S2x8192x1, .f32⟩
  | 85 => ⟨S2x8192x256, .f32⟩
  | 86 => ⟨S2x8192x256, .f32⟩
  | 87 => ⟨S1x256, .f32⟩
  | 88 => ⟨S256, .f32⟩
  | 89 => ⟨S1x1x256, .f32⟩
  | 90 => ⟨S2x8192x256, .f32⟩
  | 91 => ⟨S2x8192x256, .f32⟩
  | 92 => ⟨S1x256x384, .f32⟩
  | 93 => ⟨S256x384, .f32⟩
  | 94 => ⟨S2x8192x384, .f32⟩
  | 95 => ⟨S2x8192x4x96, .f32⟩
  | 96 => ⟨S2x8192x4x64, .f32⟩
  | 97 => ⟨S2x8192x4x32, .f32⟩
  | 98 => ⟨S8192x1x32, .f32⟩
  | 99 => ⟨S8192x1x32, .f32⟩
  | 100 => ⟨S2x8192x4x2x2x8, .f32⟩
  | 101 => ⟨S2x8192x4x2x1x8, .f32⟩
  | 102 => ⟨S2x8192x4x2x8, .f32⟩
  | 103 => ⟨S2x8192x4x2x8, .f32⟩
  | 104 => ⟨S2x8192x4x2x1x8, .f32⟩
  | 105 => ⟨S2x8192x4x2x8, .f32⟩
  | 106 => ⟨S2x8192x4x2x1x8, .f32⟩
  | 107 => ⟨S2x8192x4x2x1x8, .f32⟩
  | 108 => ⟨S2x8192x4x2x2x8, .f32⟩
  | 109 => ⟨S2x8192x4x32, .f32⟩
  | 110 => ⟨S1x8192x1x32, .f32⟩
  | 111 => ⟨S2x8192x4x32, .f32⟩
  | 112 => ⟨S2x8192x4x32, .f32⟩
  | 113 => ⟨S1x8192x1x32, .f32⟩
  | 114 => ⟨S2x8192x4x32, .f32⟩
  | 115 => ⟨S2x8192x4x32, .f32⟩
  | 116 => ⟨S2x8192x4x32, .f32⟩
  | 117 => ⟨S2x8192x4x96, .f32⟩
  | 118 => ⟨S2x8192x128, .f32⟩
  | 119 => ⟨S2x8192x128, .f32⟩
  | 120 => ⟨S_, .f32⟩
  | 121 => ⟨S2x8192, .f32⟩
  | 122 => ⟨S2x8192x1, .f32⟩
  | 123 => ⟨S_, .f32⟩
  | 124 => ⟨S2x8192x1, .f32⟩
  | 125 => ⟨S2x8192x1, .f32⟩
  | 126 => ⟨S_, .f32⟩
  | 127 => ⟨S2x8192x1, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x128, .f32⟩
  | 3 => ⟨S2x8192x128, .f32⟩
  | 4 => ⟨S1x128, .f32⟩
  | 5 => ⟨S128, .f32⟩
  | 6 => ⟨S1x1x128, .f32⟩
  | 7 => ⟨S2x8192x128, .f32⟩
  | 8 => ⟨S2x8192x128, .f32⟩
  | 9 => ⟨S1x128x512, .f32⟩
  | 10 => ⟨S128x512, .f32⟩
  | 11 => ⟨S2x8192x512, .f32⟩
  | 12 => ⟨S2x8192x4x128, .f32⟩
  | 13 => ⟨S2x8192x4x64, .f32⟩
  | 14 => ⟨S2x8192x4x64, .f32⟩
  | 15 => ⟨S2x8192x32, .f32⟩
  | 16 => ⟨S2x8192x2x2x8, .f32⟩
  | 17 => ⟨S2x8192x2x1x8, .f32⟩
  | 18 => ⟨S2x8192x2x8, .f32⟩
  | 19 => ⟨S2x8192x2x8, .f32⟩
  | 20 => ⟨S2x8192x2x1x8, .f32⟩
  | 21 => ⟨S2x8192x2x8, .f32⟩
  | 22 => ⟨S2x8192x2x1x8, .f32⟩
  | 23 => ⟨S2x8192x2x1x8, .f32⟩
  | 24 => ⟨S2x8192x2x2x8, .f32⟩
  | 25 => ⟨S2x8192x32, .f32⟩
  | 26 => ⟨S1x8192x32, .f32⟩
  | 27 => ⟨S2x8192x32, .f32⟩
  | 28 => ⟨S2x8192x32, .f32⟩
  | 29 => ⟨S1x8192x32, .f32⟩
  | 30 => ⟨S2x8192x32, .f32⟩
  | 31 => ⟨S2x8192x32, .f32⟩
  | 32 => ⟨S2x8192x32, .f32⟩
  | 33 => ⟨S2x8192x1x32, .f32⟩
  | 34 => ⟨S2x8192x4x32, .f32⟩
  | 35 => ⟨S2x8192x4x96, .f32⟩
  | 36 => ⟨S2x256x128, .f32⟩
  | 37 => ⟨S2x256x128, .f32⟩
  | 38 => ⟨S_, .f32⟩
  | 39 => ⟨S2x256, .f32⟩
  | 40 => ⟨S2x256x1, .f32⟩
  | 41 => ⟨S_, .f32⟩
  | 42 => ⟨S2x256x1, .f32⟩
  | 43 => ⟨S2x256x1, .f32⟩
  | 44 => ⟨S_, .f32⟩
  | 45 => ⟨S2x256x1, .f32⟩
  | 46 => ⟨S2x256x1, .f32⟩
  | 47 => ⟨S2x256x1, .f32⟩
  | 48 => ⟨S2x256x128, .f32⟩
  | 49 => ⟨S2x256x128, .f32⟩
  | 50 => ⟨S1x128, .f32⟩
  | 51 => ⟨S128, .f32⟩
  | 52 => ⟨S1x1x128, .f32⟩
  | 53 => ⟨S2x256x128, .f32⟩
  | 54 => ⟨S2x256x128, .f32⟩
  | 55 => ⟨S1x128x512, .f32⟩
  | 56 => ⟨S128x512, .f32⟩
  | 57 => ⟨S2x256x512, .f32⟩
  | 58 => ⟨S2x256x4x128, .f32⟩
  | 59 => ⟨S2x256x4x64, .f32⟩
  | 60 => ⟨S2x256x4x64, .f32⟩
  | 61 => ⟨S2x256x32, .f32⟩
  | 62 => ⟨S2x256x1x32, .f32⟩
  | 63 => ⟨S2x256x4x32, .f32⟩
  | 64 => ⟨S2x256x4x96, .f32⟩
  | 65 => ⟨S2x8448x4x96, .f32⟩
  | 66 => ⟨S2x8448x4x64, .f32⟩
  | 67 => ⟨S2x256x256, .f32⟩
  | 68 => ⟨S2x256x256, .f32⟩
  | 69 => ⟨S_, .f32⟩
  | 70 => ⟨S2x256, .f32⟩
  | 71 => ⟨S2x256x1, .f32⟩
  | 72 => ⟨S_, .f32⟩
  | 73 => ⟨S2x256x1, .f32⟩
  | 74 => ⟨S2x256x1, .f32⟩
  | 75 => ⟨S_, .f32⟩
  | 76 => ⟨S2x256x1, .f32⟩
  | 77 => ⟨S2x256x1, .f32⟩
  | 78 => ⟨S2x256x1, .f32⟩
  | 79 => ⟨S2x256x256, .f32⟩
  | 80 => ⟨S2x256x256, .f32⟩
  | 81 => ⟨S1x256, .f32⟩
  | 82 => ⟨S256, .f32⟩
  | 83 => ⟨S1x1x256, .f32⟩
  | 84 => ⟨S2x256x256, .f32⟩
  | 85 => ⟨S2x256x256, .f32⟩
  | 86 => ⟨S1x256x384, .f32⟩
  | 87 => ⟨S256x384, .f32⟩
  | 88 => ⟨S2x256x384, .f32⟩
  | 89 => ⟨S2x256x4x96, .f32⟩
  | 90 => ⟨S512x4x96, .f32⟩
  | 91 => ⟨S16384x4x96, .f32⟩
  | 92 => ⟨S16896x4x96, .f32⟩
  | 93 => ⟨S_, .f32⟩
  | 94 => ⟨S16896x4x96, .f32⟩
  | 95 => ⟨S16896x4x96, .f32⟩
  | 96 => ⟨S512x512, .f32⟩
  | 97 => ⟨S16384x512, .f32⟩
  | 98 => ⟨S16896x512, .f32⟩
  | 99 => ⟨S2x8448x512, .f32⟩
  | 100 => ⟨S16896x512, .f32⟩
  | 101 => ⟨S2x8448x1024, .f32⟩
  | 102 => ⟨S16896x1024, .f32⟩
  | 103 => ⟨S_, .f32⟩
  | 104 => ⟨S16896x4x32, .f32⟩
  | 105 => ⟨S16896x4x128, .f32⟩
  | 106 => ⟨S16896x512, .f32⟩
  | 107 => ⟨S16896x512, .bf16⟩
  | 108 => ⟨S_, .f32⟩
  | 109 => ⟨S2x8448x4x32, .f32⟩
  | 110 => ⟨S2x8448x4x128, .f32⟩
  | 111 => ⟨S16896x512, .f32⟩
  | 112 => ⟨S16896x512, .bf16⟩
  | 113 => ⟨S_, .f32⟩
  | 114 => ⟨S2x8448x4x64, .f32⟩
  | 115 => ⟨S2x8448x4x128, .f32⟩
  | 116 => ⟨S16896x512, .f32⟩
  | 117 => ⟨S16896x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_10 : Ref sig .tc := ⟨.hbm, 120, rfl⟩
abbrev main_v98 : Ref sig .tc := ⟨.hbm, 121, rfl⟩
abbrev main_v99 : Ref sig .tc := ⟨.hbm, 122, rfl⟩
abbrev main_cst_11 : Ref sig .tc := ⟨.hbm, 123, rfl⟩
abbrev main_v100 : Ref sig .tc := ⟨.hbm, 124, rfl⟩
abbrev main_v101 : Ref sig .tc := ⟨.hbm, 125, rfl⟩
abbrev main_cst_12 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_13 : Ref sig .tc := ⟨.hbm, 166, rfl⟩
abbrev main_v141 : Ref sig .tc := ⟨.hbm, 167, rfl⟩
abbrev main_v142 : Ref sig .tc := ⟨.hbm, 168, rfl⟩
abbrev main_cst_14 : Ref sig .tc := ⟨.hbm, 169, rfl⟩
abbrev main_v143 : Ref sig .tc := ⟨.hbm, 170, rfl⟩
abbrev main_v144 : Ref sig .tc := ⟨.hbm, 171, rfl⟩
abbrev main_cst_15 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_cst_16 : Ref sig .tc := ⟨.hbm, 197, rfl⟩
abbrev main_v169 : Ref sig .tc := ⟨.hbm, 198, rfl⟩
abbrev main_v170 : Ref sig .tc := ⟨.hbm, 199, rfl⟩
abbrev main_cst_17 : Ref sig .tc := ⟨.hbm, 200, rfl⟩
abbrev main_v171 : Ref sig .tc := ⟨.hbm, 201, rfl⟩
abbrev main_v172 : Ref sig .tc := ⟨.hbm, 202, rfl⟩
abbrev main_cst_18 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_cst_19 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_cst_20 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_cst_21 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_cst_22 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩

abbrev nD : Nat := 1
abbrev τ : Topo := Topo.v7x

variable {F : FTy → Type} [FloatOps F]
-- ==== Proof.Attn.Head.lean ====
module
public import proofs.«01_k».proof.Proof.Gen.KernelIdeal.Value
public import Idealize.ShloMosaic.Lib.MatmulPlain
public import Idealize.ShloMosaic.Lib.ValueIdx
@[expose] public section
set_option maxRecDepth 16384
noncomputable section
namespace Cert.KernelIdeal.Attn
open Cert.KernelIdeal Cert.KernelIdeal.Gen Idealize.ShloMosaic Idealize.ShloMosaic.ValueIdx

/-- The score of query row `r` and key row `j`: the dot product over one head's 128 lanes. -/
def sc (q : Vec Ideal S512x128 .bf16) (k : Vec Ideal S4224x128 .bf16) (r : Fin 512) (j : Fin 4224) : EReal :=
  ∑ d : Fin 128, q (ix2 r d) * k (ix2 j d)

/-- The running maximum of row `r` after a block of keys, `m` before it. -/
def mx (q : Vec Ideal S512x128 .bf16) (k : Vec Ideal S4224x128 .bf16) (m : EReal) (r : Fin 512) : EReal :=
  max m (Finset.univ.fold max ⊥ (sc q k r))

/-- The running weighted sum of row `r`, lane `l`, after a block of keys and values; `m` and `a` before it. -/
def nx (q : Vec Ideal S512x128 .bf16) (k v : Vec Ideal S4224x128 .bf16) (m a : EReal) (r : Fin 512) (l : Fin 128) : EReal :=
  Ideal.exp2 (m - mx q k m r) * a + ∑ j : Fin 4224, Ideal.exp2 (sc q k r j - mx q k m r) * v (ix2 j l)

theorem dotQK : dot_S512x128_S4224x128_S512x4224_1_1_0_0_n_n = DotDims.transposedRhs 512 128 4224 := rfl

theorem dotPV : dot_S512x4224_S4224x128_S512x128_1_0_0_1_n_n = DotDims.plain 512 4224 128 := rfl

theorem negInf : Ideal.ofBits .f32 0xFF800000#32 = (⊥ : EReal) := by simp [Ideal.ofBits, Ideal.ieee]

theorem pay9_apply (q : Vec Ideal S512x128 .bf16) (k : Vec Ideal S4224x128 .bf16) (r : Fin 512) (j : Fin 4224) :
    k0_pay9 (F := Ideal) q k (ix2 r j) = sc q k r j := by
  unfold k0_pay9 sc
  rw [shapeCast_self, shapeCast_self, dotQK]
  unfold matmul
  rw [Ideal.matmul_transposedRhs_apply]
  show Ideal.ofBits .f32 0#32 + _ = _
  rw [Ideal.ofBits_zero_f32, zero_add]

theorem pay12_apply (q : Vec Ideal S512x128 .bf16) (k : Vec Ideal S4224x128 .bf16) (m : Vec Ideal S1x512x1 .f32) (r : Fin 512) :
    k0_pay12 (F := Ideal) q k m (ix2 r 0) = mx q k (m (ix3 0 r 0)) r := by
  unfold k0_pay12 k0_pay11 mx
  refine congrArg₂ max ?_ ?_
  · exact shapeCast_apply _ _ _ _ (by rw [Shape.rowMajor_val_three, Shape.rowMajor_val_two]; simp)
  · refine (shapeCast_apply _ _ (ix2 r 0) (ix1 r) (by rw [Shape.rowMajor_val_one, Shape.rowMajor_val_two]; simp)).trans ?_
    refine (Ideal.multiReduction_maximumf_single (k0_pay9 q k) _ reduces_S512x4224_S512 _ _ (ix1 r)).trans ?_
    show Finset.fold max (Ideal.ofBits .f32 0xFF800000#32) _ _ = _
    rw [negInf]
    congr 1
    funext j
    show k0_pay9 (F := Ideal) q k (reduces_S512x4224_S512.lift (ix1 r) j) = _
    refine Eq.trans (congrArg _ ?_) (pay9_apply q k r j)
    funext a
    match a with
    | ⟨0, _⟩ => rfl
    | ⟨1, _⟩ => rfl

theorem pay13_apply (q : Vec Ideal S512x128 .bf16) (k : Vec Ideal S4224x128 .bf16) (m : Vec Ideal S1x512x1 .f32) (r : Fin 512) :
    k0_pay13 (F := Ideal) q k m (ix3 0 r 0) = mx q k (m (ix3 0 r 0)) r := by
  rw [← pay12_apply]
  unfold k0_pay13
  exact shapeCast_apply _ _ _ _ (by rw [Shape.rowMajor_val_three, Shape.rowMajor_val_two]; simp)

theorem pay14_apply (q : Vec Ideal S512x128 .bf16) (k : Vec Ideal S4224x128 .bf16) (m : Vec Ideal S1x512x1 .f32) (r : Fin 512)
    (j : Fin 4224) :
    k0_pay14 (F := Ideal) q k m (ix2 r j) = Ideal.exp2 (sc q k r j - mx q k (m (ix3 0 r 0)) r) := by
  rw [← pay12_apply, ← pay9_apply]
  unfold k0_pay14
  show Ideal.exp2 (_ - _) = _
  congr 2

theorem pay15_apply (q : Vec Ideal S512x128 .bf16) (k : Vec Ideal S4224x128 .bf16) (m : Vec Ideal S1x512x1 .f32) (r : Fin 512) :
    k0_pay15 (F := Ideal) q k m (ix2 r 0) = Ideal.exp2 (m (ix3 0 r 0) - mx q k (m (ix3 0 r 0)) r) := by
  rw [← pay12_apply]
  unfold k0_pay15 k0_pay11
  show Ideal.exp2 (_ - _) = _
  refine congrArg Ideal.exp2 (congrArg₂ _ ?_ rfl)
  exact shapeCast_apply _ _ _ _ (by rw [Shape.rowMajor_val_three, Shape.rowMajor_val_two]; simp)

theorem pay24_apply (q : Vec Ideal S512x128 .bf16) (k v : Vec Ideal S4224x128 .bf16) (m : Vec Ideal S1x512x1 .f32)
    (a : Vec Ideal S1x512x128 .f32) (r : Fin 512) (l : Fin 128) :
    k0_pay24 (F := Ideal) (k0_pay14 q k m) (k0_pay15 q k m) a v (ix3 0 r l)
      = nx q k v (m (ix3 0 r 0)) (a (ix3 0 r l)) r l := by
  unfold k0_pay24 nx
  refine (shapeCast_apply _ _ _ (ix2 r l) (by rw [Shape.rowMajor_val_three, Shape.rowMajor_val_two]; simp)).trans ?_
  rw [addf_apply, mulf_apply]
  congr 1
  · congr 1
    · rw [← pay15_apply]
      exact broadcastTo_apply _ _ _ _ (fun a => match a with | ⟨0, _⟩ => rfl | ⟨1, _⟩ => rfl)
    · exact shapeCast_apply _ _ _ _ (by rw [Shape.rowMajor_val_three, Shape.rowMajor_val_two]; simp)
  · rw [shapeCast_self, dotPV]
    unfold matmul
    rw [Ideal.matmul_plain_apply]
    show Ideal.ofBits .f32 0#32 + _ = _
    rw [Ideal.ofBits_zero_f32, zero_add]
    exact Finset.sum_congr rfl fun j _ => by rw [pay14_apply]

theorem pay3_apply (a : Vec Ideal S1x512x128 .f32) (r : Fin 512) (l : Fin 128) :
    k0_pay3 (F := Ideal) a (ix2 r l) = Ideal.div (a (ix3 0 r l)) (a (ix3 0 r 64)) := by
  unfold k0_pay3
  show Ideal.div _ _ = _
  congr 1
  · exact shapeCast_apply _ _ _ _ (by rw [Shape.rowMajor_val_three, Shape.rowMajor_val_two]; simp)
  · refine (broadcastTo_apply _ _ _ (ix2 r 0) (fun a => match a with | ⟨0, _⟩ => rfl | ⟨1, _⟩ => rfl)).trans ?_
    refine (extractStridedSlice_apply _ _ _ _ (ix2 r 64) (fun a => match a with | ⟨0, _⟩ => by simp | ⟨1, _⟩ => rfl)).trans ?_
    exact shapeCast_apply _ _ _ _ (by rw [Shape.rowMajor_val_three, Shape.rowMajor_val_two]; simp)

theorem pay7_apply (i : S4x512x1.Idx) : k0_pay7 (F := Ideal) i = (⊥ : EReal) := by
  unfold k0_pay7
  rw [shapeCast_self]
  exact negInf

theorem pay8_apply (i : S4x512x128.Idx) : k0_pay8 (F := Ideal) i = (0 : EReal) := by
  unfold k0_pay8
  rw [shapeCast_self]
  exact Ideal.ofBits_zero_f32

section Heads
variable {F : FTy → Type} [FloatOps F]

theorem m_head1 (q : Vec F S512x128 .bf16) (k : Vec F S4224x128 .bf16) (m : Vec F S1x512x1 .f32) :
    k0_pay21 (k0_pay10 q k) m = k0_pay13 q k m := rfl
theorem m_head2 (q : Vec F S512x128 .bf16) (k : Vec F S4224x128 .bf16) (m : Vec F S1x512x1 .f32) :
    k0_pay28 (k0_pay18 (k0_pay16 q) (k0_pay17 k) (constant S512x4224 .f32 0#32)) (k0_pay26 m) = k0_pay13 q k m := rfl
theorem m_head3 (q : Vec F S512x128 .bf16) (k : Vec F S4224x128 .bf16) (m : Vec F S1x512x1 .f32) :
    k0_pay34 (k0_pay25 q k) m = k0_pay13 q k m := rfl
theorem a_head1 (q : Vec F S512x128 .bf16) (k v : Vec F S4224x128 .bf16) (m : Vec F S1x512x1 .f32) (a : Vec F S1x512x128 .f32) :
    k0_pay31 (k0_pay22 (k0_pay10 q k) m) (k0_pay23 (k0_pay10 q k) m) a v = k0_pay24 (k0_pay14 q k m) (k0_pay15 q k m) a v := rfl
theorem a_head2 (q : Vec F S512x128 .bf16) (k v : Vec F S4224x128 .bf16) (m : Vec F S1x512x1 .f32) (a : Vec F S1x512x128 .f32) :
    k0_pay1 (k0_pay29 (k0_pay18 (k0_pay16 q) (k0_pay17 k) (constant S512x4224 .f32 0#32)) (k0_pay26 m))
      (k0_pay30 (k0_pay18 (k0_pay16 q) (k0_pay17 k) (constant S512x4224 .f32 0#32)) (k0_pay26 m)) a v
      = k0_pay24 (k0_pay14 q k m) (k0_pay15 q k m) a v := rfl
theorem a_head3 (q : Vec F S512x128 .bf16) (k v : Vec F S4224x128 .bf16) (m : Vec F S1x512x1 .f32) (a : Vec F S1x512x128 .f32) :
    k0_pay2 (k0_pay35 (k0_pay25 q k) m) (k0_pay36 (k0_pay25 q k) m) a v = k0_pay24 (k0_pay14 q k m) (k0_pay15 q k m) a v := rfl
theorem o_head1 (a : Vec F S1x512x128 .f32) : k0_pay4 a = k0_pay3 a := rfl
theorem o_head2 (a : Vec F S1x512x128 .f32) : k0_pay5 a = k0_pay3 a := rfl
theorem o_head3 (a : Vec F S1x512x128 .f32) : k0_pay6 a = k0_pay3 a := rfl
end Heads

end Cert.KernelIdeal.Attn
end
-- ==== Proof.Attn.Block.lean ====
module
public import proofs.«01_k».proof.Proof.Attn.Head
public import Idealize.ShloMosaic.Lib.Pipeline.ReadBack
public import Idealize.ShloMosaic.Lib.Pipeline.ValueKit.Tiles
/-! What one grid point leaves: the running maxima and weighted sums of the four heads after the first block of keys, and the
normalized output after the second, as functions of the blocks the point reads. -/
@[expose] public section
set_option maxRecDepth 16384
noncomputable section
namespace Cert.KernelIdeal.Attn
open Cert.KernelIdeal Cert.KernelIdeal.Gen Idealize.ShloMosaic Idealize.ShloMosaic.TcCoe Idealize.ShloMosaic.ValueIdx
open Idealize.ShloMosaic.Tactic Idealize.SL.Sem

/-- Head `h`'s 128 lanes of a block of rows. -/
def tile {α : Type} {n : Nat} (X : (⟨2, ![n, 512]⟩ : Shape).Idx → α) (h : Fin 4) : (⟨2, ![n, 128]⟩ : Shape).Idx → α :=
  fun i => X (ix2 (i 0) ⟨128 * h.val + (i 1).val, by have := (i 1).isLt; simp at this; omega⟩)

/-- A load of a head's lanes is its tile. -/
theorem ld_tile {F : FTy → Type} {e : EltTy} {n : Nat} (X : Vec F ⟨2, ![n, 512]⟩ e) (h : Fin 4) (o : Nat) (ho : o = 128 * h.val) (inb) :
    View.ld X (Rect.unit ![0, o] ![n, 128] inb) = tile X h := by
  subst ho
  funext x
  exact View.ld_unit_apply_of X _ _ _ x _ (fun a => match a with | ⟨0, _⟩ => by simp | ⟨1, _⟩ => by simp)

/-- A load of one head's slab of a carried buffer. -/
theorem ld_slab {F : FTy → Type} {e : EltTy} {w : Nat} (X : Vec F ⟨3, ![4, 512, w]⟩ e) (h : Fin 4) (o : Nat) (ho : o = h.val) (inb)
    (r : Fin 512) (l : Fin w) :
    View.ld X (Rect.unit ![o, 0, 0] ![1, 512, w] inb) (ix3 0 r l) = X (ix3 h r l) := by
  subst ho
  exact View.ld_unit_apply_of X _ _ _ _ _ (fun a => match a with | ⟨0, _⟩ => by simp | ⟨1, _⟩ => by simp | ⟨2, _⟩ => by simp)

/-- An index of a slab's rectangle, placed in the buffer. -/
theorem emb_slab {w : Nat} (h : Fin 4) (o : Nat) (ho : o = h.val) (inb) (x : (⟨3, ![1, 512, w]⟩ : Shape).Idx) :
    (Rect.unit (s := ⟨3, ![4, 512, w]⟩) ![o, 0, 0] ![1, 512, w] inb).emb x = ix3 h (x 1) (x 2) := by
  subst ho
  funext a
  refine Fin.ext ((Rect.idx_unit_val _ _ inb x a).trans ?_)
  match a with
  | ⟨0, _⟩ => have := (x 0).isLt; simp at this; simp [this]
  | ⟨1, _⟩ => simp
  | ⟨2, _⟩ => simp

theorem eq_slab {w : Nat} (x : (⟨3, ![1, 512, w]⟩ : Shape).Idx) : x = ix3 0 (x 1) (x 2) := by
  refine (eq_ix3 x).trans ?_
  have h0 : x 0 = (0 : Fin 1) := Subsingleton.elim (α := Fin 1) _ _
  exact congrArg (fun z : Fin 1 => ix3 z (x 1) (x 2)) h0

/-- Four stores of the heads' slabs, over whatever was stored before, leave the buffer whose slabs they are. -/
theorem canon_slabs1 (G : S4x512x1.Idx → EReal) (w0 w1 w2 w3 : S1x512x1.Idx → EReal) (b0 b1 b2 b3)
    (L : List (View.Piece (Elt Ideal) S4x512x1 .f32))
    (h0 : ∀ r, w0 (ix3 0 r 0) = G (ix3 0 r 0)) (h1 : ∀ r, w1 (ix3 0 r 0) = G (ix3 1 r 0))
    (h2 : ∀ r, w2 (ix3 0 r 0) = G (ix3 2 r 0)) (h3 : ∀ r, w3 (ix3 0 r 0) = G (ix3 3 r 0)) :
    View.canon (Val := Elt Ideal) (s := S4x512x1) (e := .f32)
      (⟨Rect.unit ![3, 0, 0] ![1, 512, 1] b3, w3⟩ :: ⟨Rect.unit ![2, 0, 0] ![1, 512, 1] b2, w2⟩
      :: ⟨Rect.unit ![1, 0, 0] ![1, 512, 1] b1, w1⟩ :: ⟨Rect.unit ![0, 0, 0] ![1, 512, 1] b0, w0⟩ :: L) = G := by
  have key : ∀ (w : S1x512x1.Idx → EReal) (h : Fin 4) (o : Nat) (_ : o = h.val) (inb) (_ : ∀ r, w (ix3 0 r 0) = G (ix3 h r 0))
      (x : S1x512x1.Idx), w x = G ((Rect.unit (s := S4x512x1) ![o, 0, 0] ![1, 512, 1] inb).emb x) := by
    intro w h o ho inb hw x
    rw [emb_slab h o ho inb x]
    have hx : x 2 = (0 : Fin 1) := Subsingleton.elim (α := Fin 1) _ _
    rw [hx]
    refine Eq.trans (congrArg w ?_) (hw (x 1))
    exact (eq_slab x).trans (congrArg (fun z : Fin 1 => ix3 0 (x 1) z) hx)
  funext y
  exact View.canon_append_of_piecesOf (Val := Elt Ideal) (e := .f32) G L ([⟨Rect.unit ![3, 0, 0] ![1, 512, 1] b3, w3⟩, ⟨Rect.unit ![2, 0, 0] ![1, 512, 1] b2, w2⟩,
    ⟨Rect.unit ![1, 0, 0] ![1, 512, 1] b1, w1⟩, ⟨Rect.unit ![0, 0, 0] ![1, 512, 1] b0, w0⟩] : List (View.Piece (Elt Ideal) S4x512x1 .f32))
    ⟨key w3 3 3 rfl b3 h3, key w2 2 2 rfl b2 h2, key w1 1 1 rfl b1 h1, key w0 0 0 rfl b0 h0, trivial⟩ y
    (View.cover_of_tiledL (s := S4x512x1) _ S1x512x1.size (by sl_kernel_rfl) y)

theorem canon_slabs128 (G : S4x512x128.Idx → EReal) (w0 w1 w2 w3 : S1x512x128.Idx → EReal) (b0 b1 b2 b3)
    (L : List (View.Piece (Elt Ideal) S4x512x128 .f32))
    (h0 : ∀ r l, w0 (ix3 0 r l) = G (ix3 0 r l)) (h1 : ∀ r l, w1 (ix3 0 r l) = G (ix3 1 r l))
    (h2 : ∀ r l, w2 (ix3 0 r l) = G (ix3 2 r l)) (h3 : ∀ r l, w3 (ix3 0 r l) = G (ix3 3 r l)) :
    View.canon (Val := Elt Ideal) (s := S4x512x128) (e := .f32)
      (⟨Rect.unit ![3, 0, 0] ![1, 512, 128] b3, w3⟩ :: ⟨Rect.unit ![2, 0, 0] ![1, 512, 128] b2, w2⟩
      :: ⟨Rect.unit ![1, 0, 0] ![1, 512, 128] b1, w1⟩ :: ⟨Rect.unit ![0, 0, 0] ![1, 512, 128] b0, w0⟩ :: L) = G := by
  have key : ∀ (w : S1x512x128.Idx → EReal) (h : Fin 4) (o : Nat) (_ : o = h.val) (inb) (_ : ∀ r l, w (ix3 0 r l) = G (ix3 h r l))
      (x : S1x512x128.Idx), w x = G ((Rect.unit (s := S4x512x128) ![o, 0, 0] ![1, 512, 128] inb).emb x) := by
    intro w h o ho inb hw x
    rw [emb_slab h o ho inb x]
    exact Eq.trans (congrArg w (eq_slab x)) (hw (x 1) (x 2))
  funext y
  exact View.canon_append_of_piecesOf (Val := Elt Ideal) (e := .f32) G L ([⟨Rect.unit ![3, 0, 0] ![1, 512, 128] b3, w3⟩, ⟨Rect.unit ![2, 0, 0] ![1, 512, 128] b2, w2⟩,
    ⟨Rect.unit ![1, 0, 0] ![1, 512, 128] b1, w1⟩, ⟨Rect.unit ![0, 0, 0] ![1, 512, 128] b0, w0⟩] : List (View.Piece (Elt Ideal) S4x512x128 .f32))
    ⟨key w3 3 3 rfl b3 h3, key w2 2 2 rfl b2 h2, key w1 1 1 rfl b1 h1, key w0 0 0 rfl b0 h0, trivial⟩ y
    (View.cover_of_tiledL (s := S4x512x128) _ S1x512x128.size (by sl_kernel_rfl) y)

/-- Four stores of the heads' lanes leave the block whose tiles they are. -/
theorem canon_tiles (G : S512x512.Idx → EReal) (w0 w1 w2 w3 : S512x128.Idx → EReal) (b0 b1 b2 b3)
    (h0 : ∀ r l, w0 (ix2 r l) = tile G 0 (ix2 r l)) (h1 : ∀ r l, w1 (ix2 r l) = tile G 1 (ix2 r l))
    (h2 : ∀ r l, w2 (ix2 r l) = tile G 2 (ix2 r l)) (h3 : ∀ r l, w3 (ix2 r l) = tile G 3 (ix2 r l)) :
    View.canon (Val := Elt Ideal) (s := S512x512) (e := .bf16)
      [⟨Rect.unit ![0, 384] ![512, 128] b3, w3⟩, ⟨Rect.unit ![0, 256] ![512, 128] b2, w2⟩,
       ⟨Rect.unit ![0, 128] ![512, 128] b1, w1⟩, ⟨Rect.unit ![0, 0] ![512, 128] b0, w0⟩] = G := by
  have key : ∀ (w : S512x128.Idx → EReal) (h : Fin 4) (o : Nat) (_ : o = 128 * h.val) (inb) (_ : ∀ r l, w (ix2 r l) = tile G h (ix2 r l))
      (x : S512x128.Idx), w x = G ((Rect.unit (s := S512x512) ![0, o] ![512, 128] inb).emb x) := by
    intro w h o ho inb hw x
    subst ho
    refine Eq.trans (congrArg w (eq_ix2 x)) ((hw (x 0) (x 1)).trans ?_)
    refine congrArg G (funext fun a => Fin.ext ((Rect.idx_unit_val _ _ inb x a).trans ?_).symm)
    match a with
    | ⟨0, _⟩ => simp
    | ⟨1, _⟩ => simp
  funext y
  refine View.canon_append_of_piecesOf (Val := Elt Ideal) (e := .bf16) G [] ([⟨Rect.unit ![0, 384] ![512, 128] b3, w3⟩, ⟨Rect.unit ![0, 256] ![512, 128] b2, w2⟩,
    ⟨Rect.unit ![0, 128] ![512, 128] b1, w1⟩, ⟨Rect.unit ![0, 0] ![512, 128] b0, w0⟩] : List (View.Piece (Elt Ideal) S512x512 .bf16))
    ⟨key w3 3 _ rfl b3 h3, key w2 2 _ rfl b2 h2, key w1 1 _ rfl b1 h1, key w0 0 _ rfl b0 h0, trivial⟩ y
    (View.cover_of_tiledL (s := S512x512) _ S512x128.size (by sl_kernel_rfl) y)

/-- The running maxima of the four heads after a block of keys, `m` before it. -/
def stM (x0 : Vec Ideal S512x512 .bf16) (x1 : Vec Ideal S4224x512 .bf16) (m : Vec Ideal S4x512x1 .f32) : Vec Ideal S4x512x1 .f32 :=
  fun y => mx (tile x0 (y 0)) (tile x1 (y 0)) (m (ix3 (y 0) (y 1) 0)) (y 1)

/-- The running weighted sums of the four heads after a block of keys and values. -/
def stA (x0 : Vec Ideal S512x512 .bf16) (x1 x2 : Vec Ideal S4224x512 .bf16) (m : Vec Ideal S4x512x1 .f32)
    (a : Vec Ideal S4x512x128 .f32) : Vec Ideal S4x512x128 .f32 :=
  fun y => nx (tile x0 (y 0)) (tile x1 (y 0)) (tile x2 (y 0)) (m (ix3 (y 0) (y 1) 0)) (a (ix3 (y 0) (y 1) (y 2))) (y 1) (y 2)

/-- The head and the lane of a column. -/
def hd (j : Fin 512) : Fin 4 := ⟨j.val / 128, by omega⟩
def ln (j : Fin 512) : Fin 128 := ⟨j.val % 128, by omega⟩

/-- The output block: each head's weighted sum divided by its lane 64, the sum of the weights. -/
def outO (a : Vec Ideal S4x512x128 .f32) : Vec Ideal S512x512 .bf16 :=
  fun y => Ideal.div (a (ix3 (hd (y 1)) (y 0) (ln (y 1)))) (a (ix3 (hd (y 1)) (y 0) 64))

theorem tile_outO (a : Vec Ideal S4x512x128 .f32) (h : Fin 4) (r : Fin 512) (l : Fin 128) :
    tile (outO a) h (ix2 r l) = Ideal.div (a (ix3 h r l)) (a (ix3 h r 64)) := by
  have e1 : hd ⟨128 * h.val + l.val, by omega⟩ = h := Fin.ext (by simp [hd]; omega)
  have e2 : ln ⟨128 * h.val + l.val, by omega⟩ = l := Fin.ext (by simp [ln])
  show Ideal.div (a (ix3 (hd ⟨128 * h.val + l.val, _⟩) r (ln ⟨128 * h.val + l.val, _⟩))) (a (ix3 (hd ⟨128 * h.val + l.val, _⟩) r 64)) = _
  rw [e1, e2]

theorem pay3_slab (a : Vec Ideal S4x512x128 .f32) (h : Fin 4) (o : Nat) (ho : o = h.val) (inb) (r : Fin 512) (l : Fin 128) :
    k0_pay3 (F := Ideal) (View.ld a (Rect.unit ![o, 0, 0] ![1, 512, 128] inb)) (ix2 r l) = tile (outO a) h (ix2 r l) := by
  rw [pay3_apply, tile_outO]
  exact congrArg₂ Ideal.div (ld_slab (F := Ideal) (e := .f32) a h o ho inb r l) (ld_slab (F := Ideal) (e := .f32) a h o ho inb r 64)

theorem pay13_slab (x0 : Vec Ideal S512x512 .bf16) (x1 : Vec Ideal S4224x512 .bf16) (m : Vec Ideal S4x512x1 .f32)
    (h : Fin 4) (o : Nat) (ho : o = h.val) (b) (p : Nat) (hp : p = 128 * h.val) (b0 b1) (r : Fin 512) :
    k0_pay13 (F := Ideal) (View.ld x0 (Rect.unit ![0, p] ![512, 128] b0)) (View.ld x1 (Rect.unit ![0, p] ![4224, 128] b1))
      (View.ld m (Rect.unit ![o, 0, 0] ![1, 512, 1] b)) (ix3 0 r 0) = stM x0 x1 m (ix3 h r 0) := by
  rw [pay13_apply, ld_slab (F := Ideal) (e := .f32) m h o ho b r 0, ld_tile (F := Ideal) (e := .bf16) x0 h p hp b0, ld_tile (F := Ideal) (e := .bf16) x1 h p hp b1]
  rfl

theorem pay24_slab (x0 : Vec Ideal S512x512 .bf16) (x1 x2 : Vec Ideal S4224x512 .bf16) (m : Vec Ideal S4x512x1 .f32)
    (a : Vec Ideal S4x512x128 .f32) (h : Fin 4) (o : Nat) (ho : o = h.val) (b b') (p : Nat) (hp : p = 128 * h.val) (b0 b1 b2)
    (r : Fin 512) (l : Fin 128) :
    k0_pay24 (F := Ideal)
      (k0_pay14 (View.ld x0 (Rect.unit ![0, p] ![512, 128] b0)) (View.ld x1 (Rect.unit ![0, p] ![4224, 128] b1))
        (View.ld m (Rect.unit ![o, 0, 0] ![1, 512, 1] b)))
      (k0_pay15 (View.ld x0 (Rect.unit ![0, p] ![512, 128] b0)) (View.ld x1 (Rect.unit ![0, p] ![4224, 128] b1))
        (View.ld m (Rect.unit ![o, 0, 0] ![1, 512, 1] b)))
      (View.ld a (Rect.unit ![o, 0, 0] ![1, 512, 128] b')) (View.ld x2 (Rect.unit ![0, p] ![4224, 128] b2)) (ix3 0 r l)
      = stA x0 x1 x2 m a (ix3 h r l) := by
  rw [pay24_apply, ld_slab (F := Ideal) (e := .f32) m h o ho b r 0, ld_slab (F := Ideal) (e := .f32) a h o ho b' r l,
    ld_tile (F := Ideal) (e := .bf16) x0 h p hp b0, ld_tile (F := Ideal) (e := .bf16) x1 h p hp b1, ld_tile (F := Ideal) (e := .bf16) x2 h p hp b2]
  rfl

/-- The maxima that the first key block leaves. -/
theorem sout0_A_0_eq (c : Dev nD) (i : grid0.Coords) (arg3 : Memref sig .tc .vmem S512x512 .bf16) (harg3 : arg3.IsWhole)
    (arg4 : Memref sig .tc .vmem S4224x512 .bf16) (harg4 : arg4.IsWhole) (arg5 : Memref sig .tc .vmem S4224x512 .bf16)
    (harg5 : arg5.IsWhole) (arg6 : Memref sig .tc .vmem S512x512 .bf16) (harg6 : arg6.IsWhole)
    (arg7 : Memref sig .tc .vmem S4x512x1 .f32) (harg7 : arg7.IsWhole) (arg8 : Memref sig .tc .vmem S4x512x128 .f32)
    (harg8 : arg8.IsWhole) (hc0 : cond0_0 i) (hc1 : ¬cond0_1 i)
    (x0 : Vec Ideal S512x512 .bf16) (x1 : Vec Ideal S4224x512 .bf16) (x2 : Vec Ideal S4224x512 .bf16) :
    sout0_A_0 (F := Ideal) c i arg3 harg3 arg4 harg4 arg5 harg5 arg6 harg6 arg7 harg7 arg8 harg8 hc0 hc1 x0 x1 x2 = stM x0 x1 (k0_pay7 (F := Ideal)) := by
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  simp only [View.readAt_eq_ld, harg3.read_unread, harg4.read_unread, harg5.read_unread]
  simp (disch := first | rfl | decide) only [View.readCov_skip, View.readCov_fill]
  simp only [m_head1, m_head2, m_head3, a_head1, a_head2, a_head3]
  exact canon_slabs1 _ _ _ _ _ _ _ _ _ _ (pay13_slab x0 x1 _ 0 0 rfl _ 0 rfl _ _) (pay13_slab x0 x1 _ 1 1 rfl _ 128 rfl _ _)
    (pay13_slab x0 x1 _ 2 2 rfl _ 256 rfl _ _) (pay13_slab x0 x1 _ 3 3 rfl _ 384 rfl _ _)

/-- The weighted sums that the first key block leaves. -/
theorem sout0_A_1_eq (c : Dev nD) (i : grid0.Coords) (arg3 : Memref sig .tc .vmem S512x512 .bf16) (harg3 : arg3.IsWhole)
    (arg4 : Memref sig .tc .vmem S4224x512 .bf16) (harg4 : arg4.IsWhole) (arg5 : Memref sig .tc .vmem S4224x512 .bf16)
    (harg5 : arg5.IsWhole) (arg6 : Memref sig .tc .vmem S512x512 .bf16) (harg6 : arg6.IsWhole)
    (arg7 : Memref sig .tc .vmem S4x512x1 .f32) (harg7 : arg7.IsWhole) (arg8 : Memref sig .tc .vmem S4x512x128 .f32)
    (harg8 : arg8.IsWhole) (hc0 : cond0_0 i) (hc1 : ¬cond0_1 i)
    (x0 : Vec Ideal S512x512 .bf16) (x1 : Vec Ideal S4224x512 .bf16) (x2 : Vec Ideal S4224x512 .bf16) :
    sout0_A_1 (F := Ideal) c i arg3 harg3 arg4 harg4 arg5 harg5 arg6 harg6 arg7 harg7 arg8 harg8 hc0 hc1 x0 x1 x2 = stA x0 x1 x2 (k0_pay7 (F := Ideal)) (k0_pay8 (F := Ideal)) := by
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  sl_unfold_words
  simp only [View.readAt_eq_ld, harg3.read_unread, harg4.read_unread, harg5.read_unread]
  simp (disch := first | rfl | decide) only [View.readCov_skip, View.readCov_fill]
  simp only [m_head1, m_head2, m_head3, a_head1, a_head2, a_head3]
  exact canon_slabs128 _ _ _ _ _ _ _ _ _ _ (pay24_slab x0 x1 x2 _ _ 0 0 rfl _ _ 0 rfl _ _ _) (pay24_slab x0 x1 x2 _ _ 1 1 rfl _ _ 128 rfl _ _ _)
    (pay24_slab x0 x1 x2 _ _ 2 2 rfl _ _ 256 rfl _ _ _) (pay24_slab x0 x1 x2 _ _ 3 3 rfl _ _ 384 rfl _ _ _)

/-- The output block that the second key block leaves, from the carried maxima and sums. -/
theorem out0_B_3_eq (c : Dev nD) (i : grid0.Coords) (arg3 : Memref sig .tc .vmem S512x512 .bf16) (harg3 : arg3.IsWhole)
    (arg4 : Memref sig .tc .vmem S4224x512 .bf16) (harg4 : arg4.IsWhole) (arg5 : Memref sig .tc .vmem S4224x512 .bf16)
    (harg5 : arg5.IsWhole) (arg6 : Memref sig .tc .vmem S512x512 .bf16) (harg6 : arg6.IsWhole)
    (arg7 : Memref sig .tc .vmem S4x512x1 .f32) (harg7 : arg7.IsWhole) (arg8 : Memref sig .tc .vmem S4x512x128 .f32)
    (harg8 : arg8.IsWhole) (hc0 : ¬cond0_0 i) (hc1 : cond0_1 i)
    (x0 : Vec Ideal S512x512 .bf16) (x1 : Vec Ideal S4224x512 .bf16) (x2 : Vec Ideal S4224x512 .bf16)
    (xs0 : Vec Ideal S4x512x1 .f32) (xs1 : Vec Ideal S4x512x128 .f32) :
    out0_B_3 (F := Ideal) c i arg3 harg3 arg4 harg4 arg5 harg5 arg6 harg6 arg7 harg7 arg8 harg8 hc0 hc1 x0 x1 x2 xs0 xs1 = outO (stA x0 x1 x2 xs0 xs1) := by
  unfold out0_B_3
  rw [View.read_writes_eq_canon _ _ _ (cover0_B_3 c i arg3 harg3 arg4 harg4 arg5 harg5 arg6 harg6 arg7 harg7 arg8 harg8 hc0 hc1 x0 x1 x2 xs0 xs1)]
  unfold kernelRun0_B
  dsimp only
  sl_unfold_words
  simp only [View.readAt_eq_ld, harg3.read_unread, harg4.read_unread, harg5.read_unread, harg7.read_unread, harg8.read_unread]
  simp only [View.readCov_eq_canon']
  have e := canon_slabs128 (stA x0 x1 x2 xs0 xs1) _ _ _ _ inb_S4x512x128_S1x512x128_0_0_0 inb_S4x512x128_S1x512x128_1_0_0
    inb_S4x512x128_S1x512x128_2_0_0 inb_S4x512x128_S1x512x128_3_0_0 [] (pay24_slab x0 x1 x2 xs0 xs1 0 0 rfl inb_S4x512x1_S1x512x1_0_0_0 inb_S4x512x128_S1x512x128_0_0_0 0 rfl inb_S512x512_S512x128_0_0 inb_S4224x512_S4224x128_0_0 inb_S4224x512_S4224x128_0_0)
    (pay24_slab x0 x1 x2 xs0 xs1 1 1 rfl inb_S4x512x1_S1x512x1_1_0_0 inb_S4x512x128_S1x512x128_1_0_0 128 rfl inb_S512x512_S512x128_0_128 inb_S4224x512_S4224x128_0_128 inb_S4224x512_S4224x128_0_128)
    (pay24_slab x0 x1 x2 xs0 xs1 2 2 rfl inb_S4x512x1_S1x512x1_2_0_0 inb_S4x512x128_S1x512x128_2_0_0 256 rfl inb_S512x512_S512x128_0_256 inb_S4224x512_S4224x128_0_256 inb_S4224x512_S4224x128_0_256)
    (pay24_slab x0 x1 x2 xs0 xs1 3 3 rfl inb_S4x512x1_S1x512x1_3_0_0 inb_S4x512x128_S1x512x128_3_0_0 384 rfl inb_S512x512_S512x128_0_384 inb_S4224x512_S4224x128_0_384 inb_S4224x512_S4224x128_0_384)
  simp only [a_head1, a_head2, a_head3, o_head1, o_head2, o_head3, e]
  exact canon_tiles _ _ _ _ _ _ _ _ _ (pay3_slab _ 0 0 rfl _) (pay3_slab _ 1 1 rfl _) (pay3_slab _ 2 2 rfl _) (pay3_slab _ 3 3 rfl _)

end Cert.KernelIdeal.Attn
end
-- ==== Proof.Attn.Host.lean ====
module
public import proofs.«01_k».proof.Proof.Attn.Block
public import Idealize.ShloMosaic.Lib.Claim
/-! What the host code before the launch lays out: each head's lanes of the queries, keys and values in 128 columns. -/
@[expose] public section
set_option maxRecDepth 16384
noncomputable section
namespace Cert.KernelIdeal.Attn
open Cert.KernelIdeal Cert.KernelIdeal.Gen Idealize.ShloMosaic Idealize.ShloMosaic.TcCoe Idealize.ShloMosaic.ValueIdx
open Idealize.SL.Sem

/-- Column `128 h + l` of the packed rows. -/
abbrev col (h : Fin 4) (l : Fin 128) : Fin 512 := ⟨128 * h.val + l.val, by omega⟩

/-- Packing rows: row `b n + i`, column `128 h + l`, is lane `l` of head `h` of row `i` of batch `b`. -/
theorem pack_apply {α : Type} {n R : Nat} (y : (⟨4, ![2, n, 4, 128]⟩ : Shape).Idx → α)
    (hs : (⟨4, ![2, n, 4, 128]⟩ : Shape).ShapeCasts ⟨2, ![R, 512]⟩) (b : Fin 2) (i : Fin n) (h : Fin 4) (l : Fin 128)
    (r : Fin R) (hr : r.val = b.val * n + i.val) :
    shapeCast ⟨2, ![R, 512]⟩ y hs (ix2 r (col h l)) = y (ix4 b i h l) :=
  shapeCast_apply y hs _ _ (by
    rw [Shape.rowMajor_val_four, Shape.rowMajor_val_two]
    simp
    change ((b.val * n + i.val) * 4 + h.val) * 128 + l.val = r.val * 512 + (128 * h.val + l.val)
    rw [hr]; ring)

/-- Lanes below `w` of a head are the array's own. -/
theorem lanes_lo {α : Type} {n w z : Nat} (x : (⟨4, ![2, n, 4, w]⟩ : Shape).Idx → α) (o : (⟨4, ![2, n, 4, z]⟩ : Shape).Idx → α)
    (hc) (b : Fin 2) (i : Fin n) (h : Fin 4) (l : Fin 128) (d : Fin w) (hd : l.val = d.val) :
    concatenate ⟨4, ![2, n, 4, 128]⟩ 3 [⟨⟨4, ![2, n, 4, w]⟩, x⟩, ⟨⟨4, ![2, n, 4, z]⟩, o⟩] hc (ix4 b i h l) = x (ix4 b i h d) :=
  concatenate_pair_apply_left (t := ⟨4, ![2, n, 4, 128]⟩) (s₁ := ⟨4, ![2, n, 4, w]⟩) (s₂ := ⟨4, ![2, n, 4, z]⟩) 3 x o hc (ix4 b i h l) rfl (ix4 b i h d) (fun a => match a with
    | ⟨0, _⟩ => rfl | ⟨1, _⟩ => rfl | ⟨2, _⟩ => rfl | ⟨3, _⟩ => hd.symm)

/-- The lanes after them are the padding's. -/
theorem lanes_hi {α : Type} {n w z : Nat} (x : (⟨4, ![2, n, 4, w]⟩ : Shape).Idx → α) (o : (⟨4, ![2, n, 4, z]⟩ : Shape).Idx → α)
    (hc) (b : Fin 2) (i : Fin n) (h : Fin 4) (l : Fin 128) (d : Fin z) (hd : l.val = d.val + w) :
    concatenate ⟨4, ![2, n, 4, 128]⟩ 3 [⟨⟨4, ![2, n, 4, w]⟩, x⟩, ⟨⟨4, ![2, n, 4, z]⟩, o⟩] hc (ix4 b i h l) = o (ix4 b i h d) :=
  concatenate_pair_apply_right (t := ⟨4, ![2, n, 4, 128]⟩) (s₁ := ⟨4, ![2, n, 4, w]⟩) (s₂ := ⟨4, ![2, n, 4, z]⟩) 3 x o hc (ix4 b i h l) rfl rfl (ix4 b i h d) (fun a => match a with
    | ⟨0, _⟩ => fun _ => rfl | ⟨1, _⟩ => fun _ => rfl | ⟨2, _⟩ => fun _ => rfl | ⟨3, _⟩ => fun ne => absurd rfl ne) hd.symm

/-- A broadcast scalar constant, at any index. -/
theorem bcast_const {t : Shape} (w : BitVec 32) (hb : S_.BroadcastsInDim t ![]) (j : t.Idx) :
    broadcastInDim (α := EReal) t ![] hb (constant (F := Ideal) S_ .f32 w) j = Ideal.ofBits .f32 w :=
  broadcastInDim_apply _ hb _ j ix0 (fun a => a.elim0)

variable (m : (ℓ : Loc nD τ sig) → Buf (Elt Ideal) ℓ) (c : Dev nD)

/-- The four arguments at launch. -/
abbrev aq : S2x8192x4x96.Idx → EReal := m (c, Proc.tc.devRef main_arg0)
abbrev ak : S2x8448x4x96.Idx → EReal := m (c, Proc.tc.devRef main_arg2)
abbrev av : S2x8448x4x64.Idx → EReal := m (c, Proc.tc.devRef main_arg3)

/-- The score scale with the change of base to powers of two. -/
def kap : ℝ := (Real.sqrt 96)⁻¹ * (1 / Real.log 2)

theorem kap_eq : Ideal.div (Ideal.rsqrt (Ideal.ofBits .f32 1119879168#32)) (Ideal.log (Ideal.ofBits .f32 1073741824#32)) = (kap : EReal) := by
  have h96 : Ideal.ofBits .f32 1119879168#32 = ((96 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  rw [h96, h2, Ideal.rsqrt_coe, Ideal.log_coe, if_neg (by norm_num), if_neg (by norm_num), if_neg (by norm_num),
    Ideal.div_coe (Real.log_pos (by norm_num)).ne', ← EReal.coe_mul]
  rfl

/-- The queries' array: the context rows, then the latents' rows, scaled. -/
theorem V12 : ∃ x : S512x512.Idx → EReal, (Gen.V m c main_v12 : S16896x512.Idx → EReal) = fun j =>
    concatenate (α := EReal) S16896x512 0 [⟨S512x512, x⟩, ⟨S16384x512, shapeCast S16384x512
      (concatenate (α := EReal) S2x8192x4x128 3 [⟨S2x8192x4x96, aq m c⟩,
        ⟨S2x8192x4x32, broadcastInDim S2x8192x4x32 ![] bcast_S_S2x8192x4x32 (constant (F := Ideal) S_ FTy.f32 0#32)⟩]
        concatenates_S2x8192x4x96_S2x8192x4x32_S2x8192x4x128_d3) shapeCasts_S2x8192x4x128_S16384x512⟩]
      concatenates_S512x512_S16384x512_S16896x512_d0 j * (kap : EReal) := by
  entry_read
  refine ⟨_, funext fun j => congrArg₂ (fun a b : EReal => a * b) rfl ?_⟩
  refine (broadcastInDim_apply _ bcast_S_S16896x512 _ _ ix0 (fun a => a.elim0)).trans ?_
  exact kap_eq

/-- The keys' array. -/
theorem V16 : (Gen.V m c main_v16 : S16896x512.Idx → EReal) = shapeCast S16896x512
    (concatenate (α := EReal) S2x8448x4x128 3 [⟨S2x8448x4x96, ak m c⟩,
      ⟨S2x8448x4x32, broadcastInDim S2x8448x4x32 ![] bcast_S_S2x8448x4x32 (constant (F := Ideal) S_ FTy.f32 0#32)⟩]
      concatenates_S2x8448x4x96_S2x8448x4x32_S2x8448x4x128_d3) shapeCasts_S2x8448x4x128_S16896x512 := by
  entry_read
  rfl

/-- The values' array, with ones in lane 64. -/
theorem V22 : (Gen.V m c main_v22 : S16896x512.Idx → EReal) = shapeCast S16896x512
    (concatenate (α := EReal) S2x8448x4x128 3 [⟨S2x8448x4x65, concatenate (α := EReal) S2x8448x4x65 3 [⟨S2x8448x4x64, av m c⟩,
      ⟨S2x8448x4x1, broadcastInDim S2x8448x4x1 ![] bcast_S_S2x8448x4x1 (constant (F := Ideal) S_ FTy.f32 0x3F800000#32)⟩]
        concatenates_S2x8448x4x64_S2x8448x4x1_S2x8448x4x65_d3⟩,
      ⟨S2x8448x4x63, broadcastInDim S2x8448x4x63 ![] bcast_S_S2x8448x4x63 (constant (F := Ideal) S_ FTy.f32 0#32)⟩]
      concatenates_S2x8448x4x65_S2x8448x4x63_S2x8448x4x128_d3) shapeCasts_S2x8448x4x128_S16896x512 := by
  entry_read
  rfl

/-- A row of the latents' queries, below the context rows. -/
theorem q_row {x : S512x512.Idx → EReal} {y : S16384x512.Idx → EReal} (b : Fin 2) (i : Fin 8192) (j : Fin 512) (r : Fin 16896)
    (hr : r.val = 512 + (b.val * 8192 + i.val)) :
    concatenate (α := EReal) S16896x512 0 [⟨S512x512, x⟩, ⟨S16384x512, y⟩] concatenates_S512x512_S16384x512_S16896x512_d0 (ix2 r j)
      = y (ix2 ⟨b.val * 8192 + i.val, by omega⟩ j) :=
  concatenate_pair_apply_right (t := S16896x512) (s₁ := S512x512) (s₂ := S16384x512) 0 _ _ concatenates_S512x512_S16384x512_S16896x512_d0
    (ix2 r j) rfl rfl
    (ix2 (⟨b.val * 8192 + i.val, by omega⟩ : Fin 16384) j) (fun a => match a with
      | ⟨0, _⟩ => fun ne => absurd rfl ne | ⟨1, _⟩ => fun _ => rfl)
    (by show (b.val * 8192 + i.val) + 512 = r.val; omega)

theorem q_lo (b : Fin 2) (i : Fin 8192) (h : Fin 4) (l : Fin 128) (d : Fin 96) (hd : l.val = d.val) (r : Fin 16896)
    (hr : r.val = 512 + (b.val * 8192 + i.val)) :
    (Gen.V m c main_v12 : S16896x512.Idx → EReal) (ix2 r (col h l)) = aq m c (ix4 b i h d) * (kap : EReal) := by
  obtain ⟨x, e⟩ := V12 m c
  rw [e]
  refine congrArg (fun a : EReal => a * kap) ?_
  refine (q_row b i _ r hr).trans ?_
  refine (pack_apply _ shapeCasts_S2x8192x4x128_S16384x512 b i h l _ rfl).trans ?_
  exact lanes_lo _ _ _ b i h l d hd

theorem q_hi (b : Fin 2) (i : Fin 8192) (h : Fin 4) (l : Fin 128) (d : Fin 32) (hd : l.val = d.val + 96) (r : Fin 16896)
    (hr : r.val = 512 + (b.val * 8192 + i.val)) :
    (Gen.V m c main_v12 : S16896x512.Idx → EReal) (ix2 r (col h l)) = (0 : EReal) := by
  obtain ⟨x, e⟩ := V12 m c
  rw [e]
  refine mul_eq_zero_of_left (M₀ := EReal) ?_ _
  refine (q_row b i _ r hr).trans ?_
  refine (pack_apply _ shapeCasts_S2x8192x4x128_S16384x512 b i h l _ rfl).trans ?_
  refine (lanes_hi _ _ _ b i h l d hd).trans ?_
  exact (bcast_const _ _ _).trans Ideal.ofBits_zero_f32

theorem k_lo (b : Fin 2) (j : Fin 8448) (h : Fin 4) (l : Fin 128) (d : Fin 96) (hd : l.val = d.val) (r : Fin 16896)
    (hr : r.val = b.val * 8448 + j.val) :
    (Gen.V m c main_v16 : S16896x512.Idx → EReal) (ix2 r (col h l)) = ak m c (ix4 b j h d) := by
  rw [V16]
  refine (pack_apply _ shapeCasts_S2x8448x4x128_S16896x512 b j h l r hr).trans ?_
  exact lanes_lo _ _ _ b j h l d hd

theorem one_eq : Ideal.ofBits .f32 0x3F800000#32 = (1 : EReal) := by
  have : Ideal.ofBits .f32 0x3F800000#32 = ((1 : ℝ) : EReal) := by
    simp [Ideal.ofBits, Ideal.ieee, -EReal.coe_mul]; norm_num
  rw [this]; rfl

theorem v_lo (b : Fin 2) (j : Fin 8448) (h : Fin 4) (l : Fin 128) (d : Fin 64) (hd : l.val = d.val) (r : Fin 16896)
    (hr : r.val = b.val * 8448 + j.val) :
    (Gen.V m c main_v22 : S16896x512.Idx → EReal) (ix2 r (col h l)) = av m c (ix4 b j h d) := by
  rw [V22]
  refine (pack_apply _ shapeCasts_S2x8448x4x128_S16896x512 b j h l r hr).trans ?_
  refine (lanes_lo _ _ _ b j h l (⟨d.val, by omega⟩ : Fin 65) hd).trans ?_
  exact concatenate_pair_apply_left (t := S2x8448x4x65) (s₁ := S2x8448x4x64) (s₂ := S2x8448x4x1) 3 _ _ _ _ rfl (ix4 b j h d) (fun a => match a with
    | ⟨0, _⟩ => rfl | ⟨1, _⟩ => rfl | ⟨2, _⟩ => rfl | ⟨3, _⟩ => rfl)

theorem v_one (b : Fin 2) (j : Fin 8448) (h : Fin 4) (r : Fin 16896) (hr : r.val = b.val * 8448 + j.val) :
    (Gen.V m c main_v22 : S16896x512.Idx → EReal) (ix2 r (col h 64)) = (1 : EReal) := by
  rw [V22]
  refine (pack_apply _ shapeCasts_S2x8448x4x128_S16896x512 b j h 64 r hr).trans ?_
  refine (lanes_lo _ _ _ b j h 64 (64 : Fin 65) rfl).trans ?_
  refine (concatenate_pair_apply_right (t := S2x8448x4x65) (s₁ := S2x8448x4x64) (s₂ := S2x8448x4x1) 3 _ _ _ _ rfl rfl (ix4 b j h 0) (fun a => match a with
    | ⟨0, _⟩ => fun _ => rfl | ⟨1, _⟩ => fun _ => rfl | ⟨2, _⟩ => fun _ => rfl | ⟨3, _⟩ => fun ne => absurd rfl ne) rfl).trans ?_
  exact (bcast_const _ _ _).trans one_eq

end Cert.KernelIdeal.Attn
-- ==== Proof.Attn.Eq.lean ====
module
public import Idealize.ShloMosaic.PureOps.Ideal
/-! The equation of the online softmax over the extended reals: two blocks of real scores, each rescaled to a running maximum and
summed with any extended real values, give after the division the weighted mean whose weights are the softmax of all the scores. -/
@[expose] public section
noncomputable section
namespace Cert.KernelIdeal.Attn
open Idealize.ShloMosaic

/-- A real factor that is not negative goes into a sum of extended reals. -/
theorem coe_mul_sum {ι : Type*} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of finitely many reals, at least one, is real. -/
theorem fold_max_coe {n : Nat} (f : Fin (n + 1) → ℝ) :
    ∃ M : ℝ, Finset.univ.fold max (⊥ : EReal) (fun j => (f j : EReal)) = M := by
  obtain ⟨i, -, hi⟩ := Finset.exists_mem_eq_sup (Finset.univ : Finset (Fin (n + 1))) Finset.univ_nonempty (fun j => (f j : EReal))
  exact ⟨f i, hi⟩

/-- The maximum after a block of scores, `m` before it. -/
def gmx {n : Nat} (s : Fin n → EReal) (m : EReal) : EReal := max m (Finset.univ.fold max ⊥ s)

/-- The weighted sum after a block of scores `s` and values `v`; `m` and `a` before it. -/
def gnx {n : Nat} (s v : Fin n → EReal) (m a : EReal) : EReal :=
  Ideal.exp2 (m - gmx s m) * a + ∑ j, Ideal.exp2 (s j - gmx s m) * v j

theorem rpow_two (x : ℝ) : Real.rpow 2 x = Real.exp (x * Real.log 2) := by
  show (2 : ℝ) ^ x = _
  rw [Real.rpow_def_of_pos (by norm_num), mul_comm]

theorem exp2_sub_coe (x y : ℝ) : Ideal.exp2 ((x : EReal) - (y : EReal)) = (Real.exp (x * Real.log 2 - y * Real.log 2) : EReal) := by
  rw [← EReal.coe_sub, Ideal.exp2_coe, rpow_two, sub_mul]

/-- One block of real scores, from the empty state. -/
theorem gnx_first {n : Nat} (s : Fin (n + 1) → ℝ) (v : Fin (n + 1) → EReal) (M : ℝ) (hM : gmx (fun j => (s j : EReal)) ⊥ = M) :
    gnx (fun j => (s j : EReal)) v ⊥ 0 = ∑ j, (Real.exp (s j * Real.log 2 - M * Real.log 2) : EReal) * v j := by
  unfold gnx
  rw [hM, mul_zero, zero_add]
  simp only [exp2_sub_coe]

/-- Two blocks: all weights are relative to the last maximum. -/
theorem gnx_second {n k : Nat} (s : Fin (n + 1) → ℝ) (s' : Fin (k + 1) → ℝ) (v : Fin (n + 1) → EReal) (v' : Fin (k + 1) → EReal)
    (M M' : ℝ) (hM : gmx (fun j => (s j : EReal)) ⊥ = M) (hM' : gmx (fun j => (s' j : EReal)) M = M') :
    gnx (fun j => (s' j : EReal)) v' M (gnx (fun j => (s j : EReal)) v ⊥ 0)
      = ∑ j, (Real.exp (s j * Real.log 2 - M' * Real.log 2) : EReal) * v j
        + ∑ j, (Real.exp (s' j * Real.log 2 - M' * Real.log 2) : EReal) * v' j := by
  rw [gnx_first s v M hM]
  unfold gnx
  rw [hM', exp2_sub_coe, coe_mul_sum _ _ (Real.exp_pos _).le]
  simp only [exp2_sub_coe]
  refine congrArg (· + _) (Finset.sum_congr rfl fun j _ => ?_)
  rw [← mul_assoc, ← EReal.coe_mul, ← Real.exp_add]
  congr 3
  ring

/-- The softmax weight of score `j` among two blocks of scores. -/
def wt {n k : Nat} (t : Fin n → ℝ) (t' : Fin k → ℝ) (x : ℝ) : ℝ :=
  Real.exp x / (∑ j, Real.exp (t j) + ∑ j, Real.exp (t' j))

/-- The online softmax over two blocks is the softmax's weighted mean of the values. -/
theorem online {n k : Nat} (s : Fin (n + 1) → ℝ) (s' : Fin (k + 1) → ℝ) (v : Fin (n + 1) → EReal) (v' : Fin (k + 1) → EReal) :
    Ideal.div
      (gnx (fun j => (s' j : EReal)) v' (gmx (fun j => (s j : EReal)) ⊥) (gnx (fun j => (s j : EReal)) v ⊥ 0))
      (gnx (fun j => (s' j : EReal)) (fun _ => 1) (gmx (fun j => (s j : EReal)) ⊥) (gnx (fun j => (s j : EReal)) (fun _ => 1) ⊥ 0))
      = ∑ j, (wt (fun j => s j * Real.log 2) (fun j => s' j * Real.log 2) (s j * Real.log 2) : EReal) * v j
        + ∑ j, (wt (fun j => s j * Real.log 2) (fun j => s' j * Real.log 2) (s' j * Real.log 2) : EReal) * v' j := by
  obtain ⟨M, hM⟩ : ∃ M : ℝ, gmx (fun j => (s j : EReal)) ⊥ = M := by
    obtain ⟨M, h⟩ := fold_max_coe s
    exact ⟨M, by rw [gmx, h]; exact max_eq_right bot_le⟩
  obtain ⟨M', hM'⟩ : ∃ M' : ℝ, gmx (fun j => (s' j : EReal)) M = M' := by
    obtain ⟨B, h⟩ := fold_max_coe s'
    exact ⟨max M B, by rw [gmx, h]; exact (EReal.coe_strictMono.monotone.map_max).symm⟩
  rw [hM, gnx_second s s' v v' M M' hM hM', gnx_second s s' _ _ M M' hM hM']
  simp only [mul_one]
  rw [← coe_sum, ← coe_sum, ← EReal.coe_add]
  have hp : 0 < ∑ j, Real.exp (s j * Real.log 2 - M' * Real.log 2) + ∑ j, Real.exp (s' j * Real.log 2 - M' * Real.log 2) :=
    add_pos (Finset.sum_pos (fun _ _ => Real.exp_pos _) Finset.univ_nonempty) (Finset.sum_pos (fun _ _ => Real.exp_pos _) Finset.univ_nonempty)
  rw [Ideal.div_coe hp.ne', mul_comm, EReal.left_distrib_of_nonneg_of_ne_top (by exact_mod_cast (one_div_pos.mpr hp).le) (EReal.coe_ne_top _),
    coe_mul_sum _ _ (one_div_pos.mpr hp).le, coe_mul_sum _ _ (one_div_pos.mpr hp).le]
  have key : ∀ x : ℝ, 1 / (∑ j, Real.exp (s j * Real.log 2 - M' * Real.log 2) + ∑ j, Real.exp (s' j * Real.log 2 - M' * Real.log 2))
      * Real.exp (x - M' * Real.log 2) = wt (fun j => s j * Real.log 2) (fun j => s' j * Real.log 2) x := by
    intro x
    unfold wt
    simp only [Real.exp_sub]
    rw [← Finset.sum_div, ← Finset.sum_div, ← add_div]
    have := (Real.exp_pos (M' * Real.log 2)).ne'
    generalize ∑ j, Real.exp (s j * Real.log 2) + ∑ j, Real.exp (s' j * Real.log 2) = D
    generalize Real.exp (M' * Real.log 2) = c at this ⊢
    generalize Real.exp x = e
    field_simp
  refine congrArg₂ (· + ·) (Finset.sum_congr rfl fun j _ => ?_) (Finset.sum_congr rfl fun j _ => ?_)
  · rw [← mul_assoc, ← EReal.coe_mul, key]
  · rw [← mul_assoc, ← EReal.coe_mul, key]

/-- The softmax as its definition computes it, from the maximum of the scores, is the exponential over the sum of exponentials. -/
theorem soft {n : Nat} (t : Fin (n + 1) → ℝ) (j : Fin (n + 1)) :
    Ideal.div (Ideal.exp ((t j : EReal) - max ⊥ (Finset.univ.fold max ⊥ fun j => (t j : EReal))))
      (0 + ∑ i, Ideal.exp ((t i : EReal) - max ⊥ (Finset.univ.fold max ⊥ fun j => (t j : EReal))))
      = ((Real.exp (t j) / ∑ i, Real.exp (t i) : ℝ) : EReal) := by
  obtain ⟨M, h⟩ := fold_max_coe t
  rw [h, max_eq_right bot_le, zero_add]
  simp only [← EReal.coe_sub, Ideal.exp_coe]
  rw [← coe_sum]
  have hp : 0 < ∑ i, Real.exp (t i - M) := Finset.sum_pos (fun _ _ => Real.exp_pos _) Finset.univ_nonempty
  rw [Ideal.div_coe hp.ne', ← EReal.coe_mul]
  congr 1
  simp only [Real.exp_sub]
  rw [← Finset.sum_div]
  have := (Real.exp_pos M).ne'
  field_simp

end Cert.KernelIdeal.Attn
-- ==== Proof.Attn.Arr.lean ====
module
public import proofs.«01_k».proof.Proof.Attn.Host
public import proofs.«01_k».proof.Proof.Attn.Eq
/-! What the result array holds after the run, from the arguments: for finite queries and keys, the weighted mean of the values with
the softmax of the scaled scores as weights, the keys in two halves. -/
@[expose] public section
set_option maxRecDepth 16384
noncomputable section
namespace Cert.KernelIdeal.Attn
open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The blocks of queries, keys and values that point `t` reads. -/
abbrev bq (t : Fin cfg0.N) : Vec Ideal S512x512 .bf16 := iblk m c 0 t
abbrev bk (t : Fin cfg0.N) : Vec Ideal S4224x512 .bf16 := iblk m c 1 t
abbrev bv (t : Fin cfg0.N) : Vec Ideal S4224x512 .bf16 := iblk m c 2 t

/-- What a point of the second key block writes, over what the point before it left. -/
theorem out_odd (t s : Fin cfg0.N) (h1 : t.val % 2 = 1) (hs : s.val = t.val - 1) :
    (outsAt0 m c t.val t.isLt).1 = outO (stA (bq m c t) (bk m c t) (bv m c t)
      (stM (bq m c s) (bk m c s) (k0_pay7 (F := Ideal))) (stA (bq m c s) (bk m c s) (bv m c s) (k0_pay7 (F := Ideal)) (k0_pay8 (F := Ideal)))) := by
  have h0 : ¬ t.val % 2 = 0 := by omega
  have e0 : s.val % 2 = 0 := by omega
  have e1 : ¬ s.val % 2 = 1 := by omega
  have hprev := outsAt0_A m c s e0 e1
  rw [sout0_A_0_eq, sout0_A_1_eq] at hprev
  have ht := outsAt0_B m c t h0 h1
  have key : ∀ (k : Nat) (hk : k < cfg0.N), k = s.val → outsAt0 m c k hk = outsAt0 m c s.val s.isLt := by
    intro k hk e; subst e; rfl
  rw [key _ _ hs.symm, hprev] at ht
  rw [out0_B_3_eq] at ht
  exact congrArg (·.1) ht

theorem idx0 : ∀ t : Fin grid0.N, win0_0.index t 0 = 1 + t.val / 2 ∧ win0_0.index t 1 = 0 := by decide +kernel
theorem idx1 : ∀ t : Fin grid0.N, win0_1.index t 0 = t.val / 32 * 2 + t.val % 2 ∧ win0_1.index t 1 = 0 := by decide +kernel
theorem idx2' : ∀ t : Fin grid0.N, win0_2.index t 0 = t.val / 32 * 2 + t.val % 2 ∧ win0_2.index t 1 = 0 := by decide +kernel

theorem bq_apply (t : Fin cfg0.N) (r j : Fin 512) (R : Fin 16896) (hR : R.val = (1 + t.val / 2) * 512 + r.val) :
    bq m c t (ix2 r j) = (Gen.V m c main_v12 : S16896x512.Idx → EReal) (ix2 R j) := by
  show (Gen.V m c main_v12 : S16896x512.Idx → EReal) (((cfg0.win 0).blk t).view.emb (ix2 r j)) = _
  refine congrArg _ (funext fun a => Fin.ext ?_)
  match a with
  | ⟨0, _⟩ => show win0_0.index t 0 * 512 + 1 * r.val = R.val; rw [(idx0 t).1, hR]; omega
  | ⟨1, _⟩ => show win0_0.index t 1 * 512 + 1 * j.val = j.val; rw [(idx0 t).2]; omega

theorem bk_apply (t : Fin cfg0.N) (r : Fin 4224) (j : Fin 512) (R : Fin 16896) (hR : R.val = (t.val / 32 * 2 + t.val % 2) * 4224 + r.val) :
    bk m c t (ix2 r j) = (Gen.V m c main_v16 : S16896x512.Idx → EReal) (ix2 R j) := by
  show (Gen.V m c main_v16 : S16896x512.Idx → EReal) (((cfg0.win 1).blk t).view.emb (ix2 r j)) = _
  refine congrArg _ (funext fun a => Fin.ext ?_)
  match a with
  | ⟨0, _⟩ => show win0_1.index t 0 * 4224 + 1 * r.val = R.val; rw [(idx1 t).1, hR]; omega
  | ⟨1, _⟩ => show win0_1.index t 1 * 512 + 1 * j.val = j.val; rw [(idx1 t).2]; omega

theorem bv_apply (t : Fin cfg0.N) (r : Fin 4224) (j : Fin 512) (R : Fin 16896) (hR : R.val = (t.val / 32 * 2 + t.val % 2) * 4224 + r.val) :
    bv m c t (ix2 r j) = (Gen.V m c main_v22 : S16896x512.Idx → EReal) (ix2 R j) := by
  show (Gen.V m c main_v22 : S16896x512.Idx → EReal) (((cfg0.win 2).blk t).view.emb (ix2 r j)) = _
  refine congrArg _ (funext fun a => Fin.ext ?_)
  match a with
  | ⟨0, _⟩ => show win0_2.index t 0 * 4224 + 1 * r.val = R.val; rw [(idx2' t).1, hR]; omega
  | ⟨1, _⟩ => show win0_2.index t 1 * 512 + 1 * j.val = j.val; rw [(idx2' t).2]; omega

/-- The dot product of a query and a key, as a real. -/
def dotr (q : S2x8192x4x96.Idx → ℝ) (k : S2x8448x4x96.Idx → ℝ) (b : Fin 2) (i : Fin 8192) (h : Fin 4) (j : Fin 8448) : ℝ :=
  ∑ d : Fin 96, q (ix4 b i h d) * k (ix4 b j h d)

/-- A sum over 128 lanes whose last 32 are zero in one factor. -/
theorem sum_lanes (f g : Fin 128 → EReal) (hf : ∀ d : Fin 32, f ⟨96 + d.val, by omega⟩ = 0) :
    ∑ d, f d * g d = ∑ d : Fin 96, f ⟨d.val, by omega⟩ * g ⟨d.val, by omega⟩ := by
  refine (Fin.sum_univ_add (a := 96) (b := 32) fun d => f d * g d).trans ?_
  refine (congrArg (_ + ·) (Finset.sum_eq_zero fun d _ => ?_)).trans (add_zero _)
  exact mul_eq_zero_of_left (hf d) _

/-- The score of a point's rows: the scaled dot product of query `i` and key `j`. -/
theorem sc_eq (q : S2x8192x4x96.Idx → ℝ) (k : S2x8448x4x96.Idx → ℝ) (hq : ∀ x, aq m c x = (q x : EReal)) (hk : ∀ x, ak m c x = (k x : EReal))
    (t : Fin cfg0.N) (b : Fin 2) (i : Fin 8192) (h : Fin 4) (r : Fin 512) (hr : b.val * 8192 + i.val = t.val / 2 * 512 + r.val)
    (j : Fin 4224) (J : Fin 8448) (hJ : b.val * 8448 + J.val = (t.val / 32 * 2 + t.val % 2) * 4224 + j.val) :
    sc (tile (bq m c t) h) (tile (bk m c t) h) r j = ((dotr q k b i h J * kap : ℝ) : EReal) := by
  have hq' : ∀ l : Fin 128, tile (bq m c t) h (ix2 r l) = (Gen.V m c main_v12 : S16896x512.Idx → EReal) (ix2 ⟨512 + (b.val * 8192 + i.val), by omega⟩ (col h l)) :=
    fun l => bq_apply m c t r _ _ (by show _ = _; simp only []; omega)
  have hk' : ∀ l : Fin 128, tile (bk m c t) h (ix2 j l) = (Gen.V m c main_v16 : S16896x512.Idx → EReal) (ix2 ⟨b.val * 8448 + J.val, by omega⟩ (col h l)) :=
    fun l => bk_apply m c t j _ _ (by show _ = _; simp only []; omega)
  refine (sum_lanes _ _ (fun d => (hq' _).trans (q_hi m c b i h _ d (by show 96 + d.val = _; omega) _ rfl))).trans ?_
  unfold dotr
  rw [Finset.sum_mul, coe_sum]
  refine Finset.sum_congr rfl fun d _ => ?_
  rw [hq', hk', q_lo m c b i h _ d rfl _ rfl, k_lo m c b J h _ d rfl _ rfl, hq, hk, ← EReal.coe_mul, ← EReal.coe_mul]
  congr 1
  ring

/-- The first and the second half of the keys. -/
abbrev keyA (j : Fin 4224) : Fin 8448 := ⟨j.val, by omega⟩
abbrev keyB (j : Fin 4224) : Fin 8448 := ⟨4224 + j.val, by omega⟩

theorem G3_apply (q : S2x8192x4x96.Idx → ℝ) (k : S2x8448x4x96.Idx → ℝ) (hq : ∀ x, aq m c x = (q x : EReal)) (hk : ∀ x, ak m c x = (k x : EReal))
    (b : Fin 2) (i : Fin 8192) (h : Fin 4) (l : Fin 128) (d : Fin 64) (hl : l.val = d.val) (R : Fin 16384) (hR : R.val = b.val * 8192 + i.val) :
    (Value.G3 m c : S16384x512.Idx → EReal) (ix2 R (col h l))
      = ∑ j, (wt (fun j => dotr q k b i h (keyA j) * kap * Real.log 2) (fun j => dotr q k b i h (keyB j) * kap * Real.log 2)
            (dotr q k b i h (keyA j) * kap * Real.log 2) : EReal) * av m c (ix4 b (keyA j) h d)
        + ∑ j, (wt (fun j => dotr q k b i h (keyA j) * kap * Real.log 2) (fun j => dotr q k b i h (keyB j) * kap * Real.log 2)
            (dotr q k b i h (keyB j) * kap * Real.log 2) : EReal) * av m c (ix4 b (keyB j) h d) := by
  have hN : cfg0.N = 64 := N_0
  have hpt : Value.pt3Of (ix2 R (col h l)) = 2 * (R.val / 512) + 1 := by
    show 2 * (1 * (R.val / 512 - 0) + 1 * ((128 * h.val + l.val) / 512 - 0)) + 1 = _
    omega
  obtain ⟨t, ht⟩ : ∃ t : Fin cfg0.N, t.val = 2 * (R.val / 512) + 1 := ⟨⟨2 * (R.val / 512) + 1, by omega⟩, rfl⟩
  obtain ⟨s, hs⟩ : ∃ s : Fin cfg0.N, s.val = t.val - 1 := ⟨⟨t.val - 1, by omega⟩, rfl⟩
  have e1 : (Value.G3 m c : S16384x512.Idx → EReal) (ix2 R (col h l)) = (outsAt0 m c t.val t.isLt).1 (ix2 ⟨R.val % 512, by omega⟩ (col h l)) := by
    unfold Value.G3
    have hlt : Value.pt3Of (ix2 R (col h l)) < cfg0.N := by rw [hpt]; omega
    rw [dif_pos hlt]
    have key : ∀ (n : Nat) (hn : n < cfg0.N) (hn' : 0 + n < cfg0.N), n = t.val →
        (Pipeline.accAt (fun n h => Value.stAt0 m c n h Value.junk0) (Value.stAt0 m c) 0 n hn').1 = (outsAt0 m c t.val t.isLt).1 := by
      intro n hn hn' e; subst e
      exact congrArg (·.1) (Value.outsAt0_sweep m c t.val t.isLt).symm
    refine (congrFun (key _ hlt _ (hpt.trans ht.symm)) _).trans (congrArg _ (funext fun a => Fin.ext ?_))
    match a with
    | ⟨0, _⟩ => rfl
    | ⟨1, _⟩ => show (128 * h.val + l.val) % 512 = 128 * h.val + l.val; omega
  rw [e1, out_odd m c t s (by omega) hs]
  have e2 : ∀ a : Vec Ideal S4x512x128 .f32, outO a (ix2 ⟨R.val % 512, by omega⟩ (col h l)) = Ideal.div (a (ix3 h ⟨R.val % 512, by omega⟩ l)) (a (ix3 h ⟨R.val % 512, by omega⟩ 64)) :=
    fun a => tile_outO a h _ l
  rw [e2]
  set r : Fin 512 := ⟨R.val % 512, by omega⟩ with hrdef
  have hrv : r.val = R.val % 512 := rfl
  have hsB : sc (tile (bq m c t) h) (tile (bk m c t) h) r = fun j => ((dotr q k b i h (keyB j) * kap : ℝ) : EReal) :=
    funext fun j => sc_eq m c q k hq hk t b i h r (by omega) j (keyB j) (by show _ + (4224 + _) = _; omega)
  have hsA : sc (tile (bq m c s) h) (tile (bk m c s) h) r = fun j => ((dotr q k b i h (keyA j) * kap : ℝ) : EReal) :=
    funext fun j => sc_eq m c q k hq hk s b i h r (by omega) j (keyA j) (by have : (keyA j).val = j.val := rfl; omega)
  have hvB : ∀ l' : Fin 128, (fun j => tile (bv m c t) h (ix2 j l')) = fun j => (Gen.V m c main_v22 : S16896x512.Idx → EReal) (ix2 ⟨b.val * 8448 + (keyB j).val, by omega⟩ (col h l')) :=
    fun l' => funext fun j => bv_apply m c t j _ _ (by show _ + (4224 + _) = _; omega)
  have hvA : ∀ l' : Fin 128, (fun j => tile (bv m c s) h (ix2 j l')) = fun j => (Gen.V m c main_v22 : S16896x512.Idx → EReal) (ix2 ⟨b.val * 8448 + (keyA j).val, by omega⟩ (col h l')) :=
    fun l' => funext fun j => bv_apply m c s j _ _ (by have : (keyA j).val = j.val := rfl; show b.val * 8448 + (keyA j).val = _; omega)
  have hst : ∀ l' : Fin 128, stA (bq m c t) (bk m c t) (bv m c t)
      (stM (bq m c s) (bk m c s) (k0_pay7 (F := Ideal))) (stA (bq m c s) (bk m c s) (bv m c s) (k0_pay7 (F := Ideal)) (k0_pay8 (F := Ideal))) (ix3 h r l')
      = gnx (fun j => ((dotr q k b i h (keyB j) * kap : ℝ) : EReal)) (fun j => tile (bv m c t) h (ix2 j l'))
        (gmx (fun j => ((dotr q k b i h (keyA j) * kap : ℝ) : EReal)) ⊥)
        (gnx (fun j => ((dotr q k b i h (keyA j) * kap : ℝ) : EReal)) (fun j => tile (bv m c s) h (ix2 j l')) ⊥ 0) := by
    intro l'
    rw [← hsA, ← hsB]
    show nx _ _ _ (mx _ _ (k0_pay7 (F := Ideal) _) r) (nx _ _ _ (k0_pay7 (F := Ideal) _) (k0_pay8 (F := Ideal) _) r l') r l' = _
    rw [pay7_apply, pay8_apply]
    rfl
  rw [hst, hst, hvA, hvB, hvA, hvB]
  have o1 : (fun j : Fin 4224 => (Gen.V m c main_v22 : S16896x512.Idx → EReal) (ix2 ⟨b.val * 8448 + (keyA j).val, by omega⟩ (col h 64))) = fun _ => (1 : EReal) :=
    funext fun j => v_one m c b (keyA j) h _ rfl
  have o2 : (fun j : Fin 4224 => (Gen.V m c main_v22 : S16896x512.Idx → EReal) (ix2 ⟨b.val * 8448 + (keyB j).val, by omega⟩ (col h 64))) = fun _ => (1 : EReal) :=
    funext fun j => v_one m c b (keyB j) h _ rfl
  have o3 : (fun j : Fin 4224 => (Gen.V m c main_v22 : S16896x512.Idx → EReal) (ix2 ⟨b.val * 8448 + (keyA j).val, by omega⟩ (col h l))) = fun j => av m c (ix4 b (keyA j) h d) :=
    funext fun j => v_lo m c b (keyA j) h l d hl _ rfl
  have o4 : (fun j : Fin 4224 => (Gen.V m c main_v22 : S16896x512.Idx → EReal) (ix2 ⟨b.val * 8448 + (keyB j).val, by omega⟩ (col h l))) = fun j => av m c (ix4 b (keyB j) h d) :=
    funext fun j => v_lo m c b (keyB j) h l d hl _ rfl
  rw [o1, o2, o3, o4]
  exact online _ _ _ _

end Cert.KernelIdeal.Attn
-- ==== Proof.Attn.Ref.lean ====
module
public import proofs.«01_k».proof.Proof.Gen.ReferenceIdeal.Read
public import proofs.«01_k».proof.Proof.Attn.Eq
public import Idealize.ShloMosaic.PureOps.Ideal.Laws
public import Idealize.ShloMosaic.Lib.ValueIdx
/-! What the reference computes, from finite queries and keys and any values: the softmax-weighted mean of the values. -/
@[expose] public section
set_option maxRecDepth 16384
noncomputable section
namespace Cert.ReferenceIdeal.Attn
open Cert.ReferenceIdeal Cert.ReferenceIdeal.Gen Cert.ReferenceIdeal.Read Idealize.ShloMosaic Idealize.ShloMosaic.ValueIdx
open Cert.KernelIdeal.Attn (soft)

variable (x0 : S2x8192x4x96.Idx → EReal) (x2 : S2x8448x4x96.Idx → EReal) (x3 : S2x8448x4x64.Idx → EReal)
variable (q : S2x8192x4x96.Idx → ℝ) (k : S2x8448x4x96.Idx → ℝ)

/-- The scaled score of query `i` and key `j`. -/
def scr (b : Fin 2) (i : Fin 8192) (h : Fin 4) (j : Fin 8448) : ℝ :=
  (∑ d : Fin 96, q (ix4 b i h d) * k (ix4 b j h d)) * (Real.sqrt 96)⁻¹

theorem v3_eq (hq : ∀ x, x0 x = (q x : EReal)) (hk : ∀ x, x2 x = (k x : EReal)) (b : Fin 2) (i : Fin 8192) (h : Fin 4) (j : Fin 8448) :
    val_main_v3 (F := Ideal) x0 x2 (ix4 b h i j) = (scr q k b i h j : EReal) := by
  rw [val_main_v3_apply, val_main_v2_apply, val_main_v1_apply, val_main_cst_apply, val_main_v0_apply]
  have e96 : Ideal.ofBits .f32 0x42C00000#32 = ((96 : ℝ) : EReal) := by
    simp [Ideal.ofBits, Ideal.ieee, -EReal.coe_mul]; norm_num
  have ers : (FloatOps.hostUnary (F := Ideal) (φ := .f32) .rsqrt (FloatOps.ofBits .f32 0x42C00000#32) : EReal) = (((Real.sqrt 96)⁻¹ : ℝ) : EReal) := by
    show Ideal.rsqrt (Ideal.ofBits .f32 0x42C00000#32) = _
    rw [e96, Ideal.rsqrt_coe, if_neg (by norm_num), if_neg (by norm_num)]
  rw [ers]
  show (∑ d : Fin 96, x0 (lidx_main_v0 (ix4 b h i j) d) * x2 (ridx_main_v0 (ix4 b h i j) d)) * _ = _
  unfold scr
  rw [EReal.coe_mul, Cert.KernelIdeal.Attn.coe_sum]
  refine congrArg (fun a : EReal => a * _) (Finset.sum_congr rfl fun d _ => ?_)
  rw [hq, hk, ← EReal.coe_mul]
  have e1 : lidx_main_v0 (ix4 b h i j) d = ix4 b i h d := (eq_ix4 _).trans rfl
  have e2 : ridx_main_v0 (ix4 b h i j) d = ix4 b j h d := (eq_ix4 _).trans rfl
  rw [e1, e2]

theorem negInf : (FloatOps.ofBits (F := Ideal) .f32 0xFF800000#32 : EReal) = ⊥ := by
  show Ideal.ofBits .f32 0xFF800000#32 = _
  simp [Ideal.ofBits, Ideal.ieee]

theorem reduces_keys : S2x4x8192x8448.Reduces [3] S2x4x8192 := by decide

theorem v6_eq (hq : ∀ x, x0 x = (q x : EReal)) (hk : ∀ x, x2 x = (k x : EReal)) (b : Fin 2) (i : Fin 8192) (h : Fin 4) :
    val_main_v6 (F := Ideal) x0 x2 (ix3 b h i) = max (⊥ : EReal) (Finset.univ.fold max ⊥ fun j => (scr q k b i h j : EReal)) := by
  rw [val_main_v6_apply, val_main_v5_apply, val_main_cst_1_apply, negInf]
  refine congrArg (fun a : EReal => max ⊥ a) ?_
  unfold val_main_v4
  refine (Host.reduce_eq_fold_single (α := EReal) (FloatOps.maximumf (F := Ideal) (φ := .f32)) (val_main_v3 (F := Ideal) x0 x2) _
    reducesTo_S2x4x8192x8448_S2x4x8192_d3 reduces_keys h_S_ (ix3 b h i)).trans ?_
  rw [val_main_cst_0_apply, negInf]
  show Finset.fold max ⊥ (fun j : Fin 8448 => val_main_v3 (F := Ideal) x0 x2 (reduces_keys.lift (ix3 b h i) j)) Finset.univ = _
  congr 1
  funext j
  rw [← v3_eq x0 x2 q k hq hk]
  refine congrArg _ (funext fun a => ?_)
  match a with
  | ⟨0, _⟩ => rfl
  | ⟨1, _⟩ => rfl
  | ⟨2, _⟩ => rfl
  | ⟨3, _⟩ => rfl

theorem v10_eq (hq : ∀ x, x0 x = (q x : EReal)) (hk : ∀ x, x2 x = (k x : EReal)) (b : Fin 2) (i : Fin 8192) (h : Fin 4) (j : Fin 8448) :
    val_main_v10 (F := Ideal) x0 x2 (ix4 b h i j)
      = Ideal.exp ((scr q k b i h j : EReal) - max ⊥ (Finset.univ.fold max ⊥ fun j => (scr q k b i h j : EReal))) := by
  rw [val_main_v10_apply, val_main_v9_apply, val_main_v8_apply, val_main_v7_apply, v3_eq x0 x2 q k hq hk]
  have e : idx_main_v7 (idx_main_v8 (ix4 b h i j)) = ix3 b h i := (eq_ix3 _).trans rfl
  rw [e, v6_eq x0 x2 q k hq hk]
  generalize max (⊥ : EReal) (Finset.univ.fold max ⊥ fun j => (scr q k b i h j : EReal)) = M
  generalize (scr q k b i h j : EReal) = x
  rfl

theorem v14_eq (hq : ∀ x, x0 x = (q x : EReal)) (hk : ∀ x, x2 x = (k x : EReal)) (b : Fin 2) (i : Fin 8192) (h : Fin 4) (j : Fin 8448) :
    val_main_v14 (F := Ideal) x0 x2 (ix4 b h i j) = ((Real.exp (scr q k b i h j) / ∑ j, Real.exp (scr q k b i h j) : ℝ) : EReal) := by
  rw [val_main_v14_apply, val_main_v13_apply, val_main_v12_apply, v10_eq x0 x2 q k hq hk]
  have e : idx_main_v12 (idx_main_v13 (ix4 b h i j)) = ix3 b h i := (eq_ix3 _).trans rfl
  rw [e, val_main_v11_apply, val_main_cst_2_apply]
  refine Eq.trans ?_ (soft (n := 8447) (fun j => scr q k b i h j) j)
  refine congrArg₂ Ideal.div rfl (congrArg₂ (fun a b : EReal => a + b) Ideal.ofBits_zero_f32 (Finset.sum_congr rfl fun j' _ => ?_))
  have e' : idx_main_v11 (ix3 b h i) j' = ix4 b h i j' := (eq_ix4 _).trans rfl
  rw [e', v10_eq x0 x2 q k hq hk]

theorem v20_eq (hq : ∀ x, x0 x = (q x : EReal)) (hk : ∀ x, x2 x = (k x : EReal)) (b : Fin 2) (i : Fin 8192) (h : Fin 4) (d : Fin 64)
    (R : Fin 16384) (C : Fin 512) (hR : R.val = b.val * 8192 + i.val) (hC : C.val = 128 * h.val + d.val) :
    val_main_v20 (F := Ideal) x0 x2 x3 (ix2 R C)
      = ∑ j : Fin 8448, x3 (ix4 b j h d) * ((Real.exp (scr q k b i h j) / ∑ j, Real.exp (scr q k b i h j) : ℝ) : EReal) := by
  rw [val_main_v20_apply, val_main_v19_apply]
  have e : idx_main_v19 (ix2 R C) = ix4 b i h ⟨d.val, by omega⟩ := by
    refine (eq_ix4 _).trans ?_
    have hd := d.isLt
    have hi := i.isLt
    have hh := h.isLt
    refine congr (congr (congr (congrArg ix4 (Fin.ext ?_)) (Fin.ext ?_)) (Fin.ext ?_)) (Fin.ext ?_)
    · show (R.val * 512 + C.val) / 4194304 = b.val; omega
    · show (R.val * 512 + C.val) / 512 % 8192 = i.val; omega
    · show (R.val * 512 + C.val) / 128 % 4 = h.val; omega
    · show (R.val * 512 + C.val) % 128 = d.val; omega
  rw [e]
  show val_main_v18 (F := Ideal) x0 x2 x3 _ = _
  unfold val_main_v18
  refine (concatenate_pair_apply_left (t := S2x8192x4x128) (s₁ := S2x8192x4x64) (s₂ := S2x8192x4x64) 3 _ _ _ _ rfl (ix4 b i h d) (fun a => match a with
    | ⟨0, _⟩ => rfl | ⟨1, _⟩ => rfl | ⟨2, _⟩ => rfl | ⟨3, _⟩ => rfl)).trans ?_
  rw [val_main_v16_apply, val_main_v15_apply]
  refine Finset.sum_congr rfl fun j _ => ?_
  have e1 : lidx_main_v15 (idx_main_v16 (ix4 b i h d)) j = ix4 b j h d := (eq_ix4 _).trans rfl
  have e2 : ridx_main_v15 (idx_main_v16 (ix4 b i h d)) j = ix4 b h i j := (eq_ix4 _).trans rfl
  rw [e1, e2, v14_eq x0 x2 q k hq hk]

end Cert.ReferenceIdeal.Attn
-- ==== Proof.Attn.Cond.lean ====
module
public import proofs.«01_k».proof.Proof.Gen.Pre_finite_qk
public import proofs.«01_k».proof.Proof.Gen.On_value_lanes
public import Idealize.ShloMosaic.Lib.ReduceAll
public import Idealize.ShloMosaic.Lib.WordCmp
public import Idealize.ShloMosaic.PureOps.Ideal.Laws
public import Idealize.ShloMosaic.Lib.ValueIdx
/-! What the precondition and the mask say: queries and keys are real numbers; the column is one of a head's first 64 lanes. -/
@[expose] public section
noncomputable section
namespace Cert.Attn.Cond
open Idealize.ShloMosaic Idealize.ShloMosaic.ValueIdx

/-- The word of +∞ is the largest extended real. -/
theorem posInf : Ideal.ofBits .f32 0x7F800000#32 = (⊤ : EReal) := by
  simp [Ideal.ofBits, Ideal.ieee]

/-- A number whose absolute value compares below +∞ is real. -/
theorem real_of_lt (x : EReal) (h : Ideal.cmp .olt (max x (-x)) (Ideal.ofBits .f32 0x7F800000#32) = 1#1) :
    x = ((x.toReal : ℝ) : EReal) := by
  rw [posInf] at h
  have hx : max x (-x) < ⊤ := by
    by_contra hn
    have e : Ideal.cmp .olt (max x (-x)) ⊤ = BitVec.ofBool (decide (max x (-x) < ⊤)) := rfl
    rw [e, decide_eq_false hn] at h
    exact absurd h (by decide)
  have h1 : x ≠ ⊤ := fun e => by rw [e] at hx; simp at hx
  have h2 : x ≠ ⊥ := fun e => by rw [e] at hx; simp at hx
  exact (EReal.coe_toReal h1 h2).symm

/-- Both operands of a conjunction that is 1 are 1. -/
theorem andi_one (p q : BitVec 1) (h : IntOp.andi p q = 1#1) : p = 1#1 ∧ q = 1#1 := by
  revert p q; decide

instance : Subsingleton Cert.Pre_finite_qk.S_.Idx := ⟨fun a b => funext fun i => i.elim0⟩

theorem pre_both (a0 : FVec Ideal Cert.Pre_finite_qk.S2x8192x4x96 .f32) (a1 : FVec Ideal Cert.Pre_finite_qk.S2x256x4x96 .f32)
    (a2 : FVec Ideal Cert.Pre_finite_qk.S2x8448x4x96 .f32) (a3 : FVec Ideal Cert.Pre_finite_qk.S2x8448x4x64 .f32)
    (h : Cert.Pre_finite_qk.fn (F := Ideal) a0 a1 a2 a3 = fun _ => 1#1) :
    (∀ x, (a0 x : EReal) = (((a0 x : EReal).toReal : ℝ) : EReal)) ∧ (∀ x, (a2 x : EReal) = (((a2 x : EReal).toReal : ℝ) : EReal)) := by
  have h0 := congrFun h (fun i => i.elim0)
  unfold Cert.Pre_finite_qk.fn at h0
  obtain ⟨hq, hk⟩ := andi_one _ _ h0
  exact ⟨fun x => real_of_lt _ (Host.reduce_andi_all _ _ _ _ _ hq x), fun x => real_of_lt _ (Host.reduce_andi_all _ _ _ _ _ hk x)⟩

/-- The mask at a column, as words: the remainder by 128 is below 64. -/
def laneBit (w : BitVec 32) : BitVec 1 :=
  let n : BitVec 32 := if IntOp.cmpi .eq (128#32) (0#32) = 1#1 then 1#32 else 128#32
  let r := IntOp.remsi .host w n
  let f := IntOp.andi (IntOp.cmpi .ne (IntOp.cmpi .slt r 0#32) (IntOp.cmpi .slt n 0#32)) (IntOp.cmpi .ne r 0#32)
  IntOp.cmpi .slt (if f = 1#1 then IntOp.addi r n else r) 64#32

theorem on_eq (a0 : FVec Ideal Cert.On_value_lanes.S2x8192x4x96 .f32) (a1 : FVec Ideal Cert.On_value_lanes.S2x256x4x96 .f32)
    (a2 : FVec Ideal Cert.On_value_lanes.S2x8448x4x96 .f32) (a3 : FVec Ideal Cert.On_value_lanes.S2x8448x4x64 .f32)
    (i : Cert.On_value_lanes.S16384x512.Idx) :
    Cert.On_value_lanes.fn (F := Ideal) a0 a1 a2 a3 i = laneBit (BitVec.ofNat 32 (i 1).val) := rfl

theorem laneBit_lt (C : Fin 512) (h : laneBit (BitVec.ofNat 32 C.val) = 1#1) : C.val % 128 < 64 := by
  revert C; decide +kernel

end Cert.Attn.Cond
-- ==== Proof.Attn.Link.lean ====
module
public import proofs.«01_k».proof.Proof.Attn.Arr
public import proofs.«01_k».proof.Proof.Attn.Ref
public import proofs.«01_k».proof.Proof.Attn.Cond
/-! The kernel's array and the reference's array agree on every head's value lanes. -/
@[expose] public section
set_option maxRecDepth 16384
noncomputable section
namespace Cert.Attn.Link
open Idealize.ShloMosaic Idealize.ShloMosaic.ValueIdx Idealize.ShloMosaic.TcCoe Idealize.SL.Sem
open Cert.KernelIdeal.Attn Cert.ReferenceIdeal.Attn

/-- The scale of the queries, taken in powers of two, is the softmax's scale. -/
theorem kap_log (x : ℝ) : x * kap * Real.log 2 = x * (Real.sqrt 96)⁻¹ := by
  have h : Real.log 2 ≠ 0 := (Real.log_pos (by norm_num)).ne'
  unfold kap
  field_simp

/-- A sum over all the keys is the sum over their first half plus the sum over their second half. -/
theorem sum_keys {M : Type} [AddCommMonoid M] (f : Fin 8448 → M) : ∑ j, f j = ∑ j, f (keyA j) + ∑ j, f (keyB j) :=
  Fin.sum_univ_add (a := 4224) (b := 4224) f

/-- The softmax-weighted mean of values, the keys in two halves or at once. -/
theorem halves (t : Fin 8448 → ℝ) (v : Fin 8448 → EReal) :
    ∑ j, (wt (fun j => t (keyA j)) (fun j => t (keyB j)) (t (keyA j)) : EReal) * v (keyA j)
      + ∑ j, (wt (fun j => t (keyA j)) (fun j => t (keyB j)) (t (keyB j)) : EReal) * v (keyB j)
      = ∑ j, v j * ((Real.exp (t j) / ∑ j, Real.exp (t j) : ℝ) : EReal) := by
  rw [sum_keys fun j => v j * ((Real.exp (t j) / ∑ j, Real.exp (t j) : ℝ) : EReal), sum_keys fun j => Real.exp (t j)]
  unfold wt
  exact congrArg₂ (fun a b : EReal => a + b) (Finset.sum_congr rfl fun j _ => mul_comm _ _) (Finset.sum_congr rfl fun j _ => mul_comm _ _)

section
open Cert.KernelIdeal Cert.KernelIdeal.Gen
variable (m : (ℓ : Loc nD τ sig) → Buf (Elt Ideal) ℓ) (c : Dev nD)

/-- On the mask, what the kernel leaves is what the reference computes from the same queries, keys and values. -/
theorem agree (hq : ∀ x, aq m c x = ((aq m c x).toReal : EReal)) (hk : ∀ x, ak m c x = ((ak m c x).toReal : EReal))
    (R : Fin 16384) (C : Fin 512) (hC : C.val % 128 < 64) :
    (Value.G3 m c : S16384x512.Idx → EReal) (ix2 R C)
      = Cert.ReferenceIdeal.Read.val_main_v20 (F := Ideal) (aq m c) (ak m c) (av m c) (ix2 R C) := by
  have hR := R.isLt
  have hC' := C.isLt
  obtain ⟨b, hb⟩ : ∃ b : Fin 2, b.val = R.val / 8192 := ⟨⟨R.val / 8192, by omega⟩, rfl⟩
  obtain ⟨i, hi⟩ : ∃ i : Fin 8192, i.val = R.val % 8192 := ⟨⟨R.val % 8192, by omega⟩, rfl⟩
  obtain ⟨h, hh⟩ : ∃ h : Fin 4, h.val = C.val / 128 := ⟨⟨C.val / 128, by omega⟩, rfl⟩
  obtain ⟨d, hd⟩ : ∃ d : Fin 64, d.val = C.val % 128 := ⟨⟨C.val % 128, hC⟩, rfl⟩
  obtain ⟨l, hl⟩ : ∃ l : Fin 128, l.val = d.val := ⟨⟨d.val, by omega⟩, rfl⟩
  have eC : C = col h l := Fin.ext (by show C.val = 128 * h.val + l.val; omega)
  have eR : R.val = b.val * 8192 + i.val := by omega
  rw [v20_eq (aq m c) (ak m c) (av m c) (fun x => (aq m c x).toReal) (fun x => (ak m c x).toReal) hq hk b i h d R C eR (by omega)]
  rw [eC, G3_apply m c (fun x => (aq m c x).toReal) (fun x => (ak m c x).toReal) hq hk b i h l d hl R eR]
  simp only [kap_log]
  exact halves (scr (fun x => (aq m c x).toReal) (fun x => (ak m c x).toReal) b i h) (fun j => av m c (ix4 b j h d))
end

end Cert.Attn.Link
-- ==== Proof.Ffn.Math.lean ====
module
public import Idealize.ShloMosaic.Lib.MatmulPlain
public import Idealize.ShloMosaic.Lib.ValueIdx
public import Idealize.ShloMosaic.PureOps.Ideal.Laws
public import Idealize.ShloMosaic.Lib.Pipeline.ReadBack
public import Idealize.ShloMosaic.Lib.Pipeline.ValueKit.Tiles
/-! The feed-forward half-step of one row of the residual stream as a function of the row, its modulation and the weights, and the
reading at an index of the operations the kernels compute it with. -/
@[expose] public section
set_option maxRecDepth 16384
noncomputable section
namespace Cert.Ffn
open Idealize.ShloMosaic Idealize.ShloMosaic.ValueIdx

/-- The constants 1, 1/2, 1024 and 1e-6, as the programs write them. -/
def cOne : EReal := Ideal.ofBits .f32 0x3F800000#32
def cHalf : EReal := Ideal.ofBits .f32 0x3F000000#32
def cDim : EReal := Ideal.ofBits .f32 0x44800000#32
def cEps : EReal := Ideal.ofBits .f32 0x358637BD#32

/-- The reciprocal root mean square of a row. -/
def rms (x : Fin 1024 → EReal) : EReal := Ideal.rsqrt (Ideal.div (∑ d, x d * x d) cDim + cEps)

/-- A row normalized, scaled and shifted. -/
def mdl (x sh s : Fin 1024 → EReal) (d : Fin 1024) : EReal := x d * rms x * (cOne + s d) + sh d

/-- The gated unit: `g` times the logistic function of `g`, times `u`. -/
def act (g u : EReal) : EReal := g * Ideal.div cOne (cOne + Ideal.exp (-g)) * u

/-- The hidden unit `f`: columns `f` and `2816 + f` of the first weight matrix. -/
def hid (h : Fin 1024 → EReal) (w : Fin 1024 → Fin 5632 → EReal) (f : Fin 2816) : EReal :=
  act (∑ d, h d * w d ⟨f.val, by omega⟩) (∑ d, h d * w d ⟨2816 + f.val, by omega⟩)

/-- The feed-forward layer of a row. -/
def ff (h : Fin 1024 → EReal) (w : Fin 1024 → Fin 5632 → EReal) (w2 : Fin 2816 → Fin 1024 → EReal) (n : Fin 1024) : EReal :=
  ∑ f, hid h w f * w2 f n

/-- The half-step of a row. -/
def step (x sh s g : Fin 1024 → EReal) (w : Fin 1024 → Fin 5632 → EReal) (w2 : Fin 2816 → Fin 1024 → EReal) (n : Fin 1024) : EReal :=
  x n + cHalf * g n * ff (mdl x sh s) w w2 n

/-- The hidden units in two chunks, of 1536 and 1280. -/
theorem ff_split (h : Fin 1024 → EReal) (w : Fin 1024 → Fin 5632 → EReal) (w2 : Fin 2816 → Fin 1024 → EReal) (n : Fin 1024) :
    (∑ f : Fin 1536, hid h w ⟨f.val, by omega⟩ * w2 ⟨f.val, by omega⟩ n)
      + (∑ f : Fin 1280, hid h w ⟨1536 + f.val, by omega⟩ * w2 ⟨1536 + f.val, by omega⟩ n) = ff h w w2 n :=
  (Fin.sum_univ_add (a := 1536) (b := 1280) fun f => hid h w f * w2 f n).symm

/-- A matrix product into zeros, at an index. -/
theorem dot_apply {φ : FTy} (M K N : Nat) (A : FVec Ideal ⟨2, ![M, K]⟩ φ) (B : FVec Ideal ⟨2, ![K, N]⟩ φ) (r : Fin M) (n : Fin N) :
    matmul (DotDims.plain M K N) none A B (constant ⟨2, ![M, N]⟩ .f32 0x00000000#32) (ix2 r n) = ∑ k, A (ix2 r k) * B (ix2 k n) := by
  unfold matmul
  rw [Ideal.matmul_plain_apply]
  show Ideal.ofBits .f32 0#32 + _ = _
  rw [Ideal.ofBits_zero_f32, zero_add]

/-- A slab of a weight matrix with a leading axis of length one, at an index. -/
theorem slab_apply {F : FTy → Type} {e : EltTy} {K' N' K N : Nat} (X : Vec F ⟨3, ![1, K', N']⟩ e) (p q : Nat) (inb)
    (h : (⟨3, ![1, K, N]⟩ : Shape).ShapeCasts ⟨2, ![K, N]⟩) (k : Fin K) (n : Fin N) (k' : Fin K') (n' : Fin N')
    (hk : k'.val = p + k.val) (hn : n'.val = q + n.val) :
    shapeCast ⟨2, ![K, N]⟩ (View.ld X (Rect.unit (s := ⟨3, ![1, K', N']⟩) ![0, p, q] ![1, K, N] inb)) h (ix2 k n) = X (ix3 0 k' n') := by
  refine (shapeCast_apply _ _ _ (ix3 (0 : Fin 1) k n) (by
    rw [Shape.rowMajor_val_three, Shape.rowMajor_val_two]
    show (0 * K + k.val) * N + n.val = k.val * N + n.val
    rw [Nat.zero_mul, Nat.zero_add])).trans ?_
  exact View.ld_unit_apply_of X _ _ _ _ _ (fun a => match a with | ⟨0, _⟩ => by simp | ⟨1, _⟩ => hk | ⟨2, _⟩ => hn)

/-- A row repeated over the rows, at an index. -/
theorem row_apply {α : Type} (M N : Nat) (v : (⟨2, ![1, N]⟩ : Shape).Idx → α) (h : (⟨2, ![1, N]⟩ : Shape).Broadcasts ⟨2, ![M, N]⟩)
    (hM : M ≠ 1 := by decide) (hN : N ≠ 1 := by decide) (r : Fin M) (n : Fin N) : broadcastTo ⟨2, ![M, N]⟩ v h (ix2 r n) = v (ix2 0 n) :=
  broadcastTo_apply _ _ _ _ (fun a => match a with | ⟨0, _⟩ => by simp | ⟨1, _⟩ => by simp [hN])

/-- A column repeated over the columns, at an index. -/
theorem col_apply {α : Type} (v : (⟨2, ![512, 1]⟩ : Shape).Idx → α) (h : (⟨2, ![512, 1]⟩ : Shape).Broadcasts ⟨2, ![512, 1024]⟩)
    (r : Fin 512) (n : Fin 1024) : broadcastTo ⟨2, ![512, 1024]⟩ v h (ix2 r n) = v (ix2 r 0) :=
  broadcastTo_apply _ _ _ _ (fun a => match a with | ⟨0, _⟩ => rfl | ⟨1, _⟩ => rfl)

/-- The sum of a row's squares, as a column. -/
theorem sq_apply (X : FVec Ideal ⟨2, ![512, 1024]⟩ .f32) (h : (⟨2, ![512, 1024]⟩ : Shape).Reduces [1] ⟨1, ![512]⟩)
    (hφ : FKind.Formats .f32) (hacc : (0x00000000#32 : BitVec FTy.f32.bits) = FKind.add.neutral .f32 hφ)
    (hs : (⟨1, ![512]⟩ : Shape).ShapeCasts ⟨2, ![512, 1]⟩) (r : Fin 512) :
    shapeCast ⟨2, ![512, 1]⟩ (multiReduction .add [1] ⟨1, ![512]⟩ (mulf X X) 0x00000000#32 h hφ hacc) hs (ix2 r 0)
      = ∑ d : Fin 1024, X (ix2 r d) * X (ix2 r d) := by
  refine (shapeCast_apply _ _ (ix2 r 0) (ix1 r) (by rw [Shape.rowMajor_val_one, Shape.rowMajor_val_two]; simp)).trans ?_
  refine (Ideal.multiReduction_add_single (mulf X X) _ h _ _ (ix1 r)).trans ?_
  refine Finset.sum_congr rfl fun d _ => ?_
  have e : h.lift (ix1 r) d = ix2 r d := funext fun a => match a with | ⟨0, _⟩ => rfl | ⟨1, _⟩ => rfl
  exact congrArg (fun i : (⟨2, ![512, 1024]⟩ : Shape).Idx => X i * X i) e

/-- The negation the kernels write as a difference from zero. -/
theorem zero_sub' (x : EReal) : Ideal.ofBits .f32 0x00000000#32 - x = -x := by
  rw [Ideal.ofBits_zero_f32, sub_eq_add_neg, zero_add]

/-- The rows of the batches one after another, at an index. -/
theorem flat_apply {α : Type} {B n K R : Nat} (x : (⟨3, ![B, n, K]⟩ : Shape).Idx → α)
    (h : (⟨3, ![B, n, K]⟩ : Shape).ShapeCasts ⟨2, ![R, K]⟩) (b : Fin B) (i : Fin n) (d : Fin K) (r : Fin R) (hr : r.val = b.val * n + i.val) :
    shapeCast ⟨2, ![R, K]⟩ x h (ix2 r d) = x (ix3 b i d) :=
  shapeCast_apply _ _ _ _ (by
    rw [Shape.rowMajor_val_three, Shape.rowMajor_val_two]
    show (b.val * n + i.val) * K + d.val = r.val * K + d.val
    rw [hr])

/-- A row normalized and multiplied by a gain. -/
def nrm (x gain : Fin 1024 → EReal) (n : Fin 1024) : EReal := x n * rms x * gain n

/-- Column `n` of the product of four mixers' outputs, 256 lanes each, with the output projection. -/
def proj (ya yb yc yd : Fin 256 → EReal) (wo : Fin 1024 → Fin 1024 → EReal) (n : Fin 1024) : EReal :=
  (((∑ k, ya k * wo ⟨k.val, by omega⟩ n) + ∑ k, yb k * wo ⟨256 + k.val, by omega⟩ n) + ∑ k, yc k * wo ⟨512 + k.val, by omega⟩ n)
    + ∑ k, yd k * wo ⟨768 + k.val, by omega⟩ n

/-- The product with all 1024 lanes at once. -/
theorem proj_eq (y : Fin 1024 → EReal) (wo : Fin 1024 → Fin 1024 → EReal) (n : Fin 1024) :
    ∑ k, y k * wo k n = proj (fun k => y ⟨k.val, by omega⟩) (fun k => y ⟨256 + k.val, by omega⟩) (fun k => y ⟨512 + k.val, by omega⟩)
      (fun k => y ⟨768 + k.val, by omega⟩) wo n := by
  unfold proj
  refine (Fin.sum_univ_add (a := 768) (b := 256) fun k => y k * wo k n).trans ?_
  refine congrArg₂ (fun a b : EReal => a + b) ?_ rfl
  refine (Fin.sum_univ_add (a := 512) (b := 256) fun k : Fin 768 => y ⟨k.val, by omega⟩ * wo ⟨k.val, by omega⟩ n).trans ?_
  refine congrArg₂ (fun a b : EReal => a + b) ?_ rfl
  exact Fin.sum_univ_add (a := 256) (b := 256) fun k : Fin 512 => y ⟨k.val, by omega⟩ * wo ⟨k.val, by omega⟩ n

/-- Lane `k` of 256 in heads of 64, placed in heads of 128. -/
def lane (k : Fin 256) : Fin 512 := ⟨128 * (k.val / 64) + k.val % 64, by omega⟩

/-- A sum over four heads of 128 lanes whose upper halves are zero. -/
theorem sum_pad (f : Fin 512 → EReal) (h0 : ∀ j, 64 ≤ j.val % 128 → f j = 0) : ∑ j, f j = ∑ k : Fin 256, f (lane k) := by
  refine (Finset.sum_of_injOn lane ?_ (fun _ _ => Finset.mem_coe.2 (Finset.mem_univ _)) ?_ (fun _ _ => rfl)).symm
  · intro a _ b _ h
    have h' : 128 * (a.val / 64) + a.val % 64 = 128 * (b.val / 64) + b.val % 64 := congrArg Fin.val h
    exact Fin.ext (by omega)
  · intro j _ hj
    refine h0 j (Nat.le_of_not_lt fun hlt => hj ?_)
    have := j.isLt
    exact ⟨⟨64 * (j.val / 128) + j.val % 128, by omega⟩, Finset.mem_coe.2 (Finset.mem_univ _), Fin.ext (by
      show 128 * ((64 * (j.val / 128) + j.val % 128) / 64) + (64 * (j.val / 128) + j.val % 128) % 64 = j.val
      omega)⟩

end Cert.Ffn
-- ==== Proof.Mix.Block.lean ====
module
public import proofs.«01_k».proof.Proof.Gen.MixKernelIdeal.Value
public import proofs.«01_k».proof.Proof.Ffn.Math
/-! What one grid point of the last feed-forward kernel leaves in its block of rows, as a function of the blocks it reads. -/
@[expose] public section
set_option maxRecDepth 16384
noncomputable section
namespace Cert.MixKernelIdeal.Mix
open Cert.MixKernelIdeal Cert.MixKernelIdeal.Gen Idealize.ShloMosaic Idealize.ShloMosaic.ValueIdx Cert.Ffn

theorem dotA : dot_S512x1024_S1024x1536_S512x1536_1_0_0_1_n_n = DotDims.plain 512 1024 1536 := rfl
theorem dotB : dot_S512x1536_S1536x1024_S512x1024_1_0_0_1_n_n = DotDims.plain 512 1536 1024 := rfl
theorem dotC : dot_S512x1024_S1024x1280_S512x1280_1_0_0_1_n_n = DotDims.plain 512 1024 1280 := rfl
theorem dotD : dot_S512x1280_S1280x1024_S512x1024_1_0_0_1_n_n = DotDims.plain 512 1280 1024 := rfl
theorem dotE : dot_S512x256_S256x1024_S512x1024_1_0_0_1_n_n = DotDims.plain 512 256 1024 := rfl
theorem dotF : dot_S512x512_S512x1024_S512x1024_1_0_0_1_n_n = DotDims.plain 512 512 1024 := rfl

/-- A row of a block of rows. -/
abbrev row (x : Vec Ideal S512x1024 .f32) (r : Fin 512) : Fin 1024 → EReal := fun d => x (ix2 r d)
/-- Row `a` of a block of modulations. -/
abbrev md (x : Vec Ideal S1x9x1024 .f32) (a : Fin 9) : Fin 1024 → EReal := fun d => x (ix3 0 a d)
/-- A weight matrix behind a leading axis of length one. -/
abbrev wa (x : Vec Ideal S1x1024x5632 .bf16) : Fin 1024 → Fin 5632 → EReal := fun d f => x (ix3 0 d f)
abbrev wb (x : Vec Ideal S1x2816x1024 .bf16) : Fin 2816 → Fin 1024 → EReal := fun f n => x (ix3 0 f n)

section
variable (x : Vec Ideal S512x1024 .f32) (x1 : Vec Ideal S1x9x1024 .f32) (x12 : Vec Ideal S1x1024x5632 .bf16) (x13 : Vec Ideal S1x2816x1024 .bf16)
  (v1 : FVec Ideal S512x1024 .f32) (v13 : FVec Ideal S512x512 .bf16) (v26 : FVec Ideal S512x1024 .f32) (v28 : FVec Ideal S512x1024 .bf16)
  (z : FVec Ideal S512x1024 .f32)

theorem pay7_apply (hx : k0_pay6 (F := Ideal) v1 v13 v26 v28 z (View.ld x1 r0_6) = x) (r : Fin 512) (d : Fin 1024) :
    k0_pay7 (F := Ideal) v1 v13 v26 v28 z (View.ld x1 r0_6) (View.ld x1 r0_7) (View.ld x1 r0_8) (ix2 r d)
      = mdl (row x r) (md x1 6) (md x1 7) d := by
  unfold k0_pay7
  rw [hx]
  show (x (ix2 r d) * broadcastTo S512x1024 _ _ (ix2 r d)) * broadcastTo S512x1024 _ _ (ix2 r d) + broadcastTo S512x1024 _ _ (ix2 r d) = _
  rw [row_apply 512 1024, row_apply 512 1024, col_apply]
  have key : ∀ a b c : EReal, a = (∑ k, row x r k * row x r k) → b = md x1 7 d → c = md x1 6 d →
      x (ix2 r d) * Ideal.rsqrt (Ideal.div a cDim + cEps) * (cOne + b) + c = mdl (row x r) (md x1 6) (md x1 7) d := by
    rintro a b c rfl rfl rfl; rfl
  exact key _ _ _ (sq_apply x _ _ _ _ r) (slab_apply (F := Ideal) x1 7 0 _ _ 0 d 7 d rfl (by omega))
    (slab_apply (F := Ideal) x1 6 0 _ _ 0 d 6 d rfl (by omega))

theorem pay8_apply (hx : k0_pay6 (F := Ideal) v1 v13 v26 v28 z (View.ld x1 r0_6) = x) (r : Fin 512) (f : Fin 1536) :
    k0_pay8 (F := Ideal) v1 v13 v26 v28 z (View.ld x1 r0_6) (View.ld x1 r0_7) (View.ld x1 r0_8) (View.ld x12 r0_9) (ix2 r f)
      = ∑ d, mdl (row x r) (md x1 6) (md x1 7) d * wa x12 d ⟨f.val, by omega⟩ := by
  unfold k0_pay8
  rw [dotA]
  refine (dot_apply 512 1024 1536 _ _ r f).trans (Finset.sum_congr rfl fun d _ => ?_)
  rw [pay7_apply x x1 v1 v13 v26 v28 z hx]
  exact congrArg _ (slab_apply (F := Ideal) x12 0 0 _ _ d f d ⟨f.val, by omega⟩ (by omega) (by simp))

theorem pay9_apply (hx : k0_pay6 (F := Ideal) v1 v13 v26 v28 z (View.ld x1 r0_6) = x) (r : Fin 512) (f : Fin 1536) :
    k0_pay9 (F := Ideal) v1 v13 v26 v28 z (View.ld x1 r0_6) (View.ld x1 r0_7) (View.ld x1 r0_8) (View.ld x12 r0_10) (ix2 r f)
      = ∑ d, mdl (row x r) (md x1 6) (md x1 7) d * wa x12 d ⟨2816 + f.val, by omega⟩ := by
  unfold k0_pay9
  rw [dotA]
  refine (dot_apply 512 1024 1536 _ _ r f).trans (Finset.sum_congr rfl fun d _ => ?_)
  rw [pay7_apply x x1 v1 v13 v26 v28 z hx]
  exact congrArg _ (slab_apply (F := Ideal) x12 0 2816 _ _ d f d ⟨2816 + f.val, by omega⟩ (by omega) rfl)

theorem pay11_apply (h : Fin 512 → Fin 1024 → EReal) (v56 : FVec Ideal S512x1024 .bf16) (v59 v62 v65 : FVec Ideal S512x1536 .f32)
    (h26 : ∀ r d, v56 (ix2 r d) = h r d) (h29 : ∀ r (f : Fin 1536), v59 (ix2 r f) = ∑ d, h r d * wa x12 d ⟨f.val, by omega⟩)
    (h32 : ∀ r (f : Fin 1536), v62 (ix2 r f) = ∑ d, h r d * wa x12 d ⟨2816 + f.val, by omega⟩)
    (h34 : ∀ r f, v65 (ix2 r f) = Ideal.exp (-v59 (ix2 r f))) (r : Fin 512) (n : Fin 1024) :
    k0_pay11 (F := Ideal) v56 v59 v62 v65 (Scalar.ofBits .f32 0x3F800000#32) (View.ld x13 r0_11) (View.ld x12 r0_12) (View.ld x12 r0_13)
      (View.ld x13 r0_14) (View.ld x1 r0_15) (ix2 r n)
      = cHalf * md x1 8 n * ff (h r) (wa x12) (wb x13) n := by
  rw [← ff_split]
  unfold k0_pay11
  rw [dotB, dotC, dotD]
  refine congrArg₂ (fun a b : EReal => a * b) ?_ ?_
  · refine (row_apply 512 1024 _ _ (by decide) (by decide) r n).trans ?_
    exact congrArg (cHalf * ·) (slab_apply (F := Ideal) x1 8 0 _ _ 0 n 8 n rfl (by omega))
  refine congrArg₂ (fun a b : EReal => a + b) ?_ ?_
  · refine (dot_apply 512 1536 1024 _ _ r n).trans (Finset.sum_congr rfl fun f _ => ?_)
    refine congrArg₂ (fun a b : EReal => a * b) ?_ ?_
    · show v59 (ix2 r f) * Ideal.div cOne (cOne + v65 (ix2 r f)) * v62 (ix2 r f) = _
      rw [h34, h29, h32]
      rfl
    · exact slab_apply (F := Ideal) x13 0 0 _ _ f n ⟨f.val, by omega⟩ n (by simp) (by omega)
  · refine (dot_apply 512 1280 1024 _ _ r n).trans (Finset.sum_congr rfl fun f _ => ?_)
    refine congrArg₂ (fun a b : EReal => a * b) ?_ ?_
    · have e1 : matmul (φ₂ := .bf16) (DotDims.plain 512 1024 1280) none v56 (shapeCast S1024x1280 (View.ld x12 r0_12) shapeCasts_S1x1024x1280_S1024x1280)
          (constant (F := Ideal) ⟨2, ![512, 1280]⟩ .f32 0x00000000#32) (ix2 r f) = ∑ d, h r d * wa x12 d ⟨1536 + f.val, by omega⟩ := by
        refine (dot_apply 512 1024 1280 _ _ r f).trans (Finset.sum_congr rfl fun d _ => ?_)
        rw [h26]
        exact congrArg _ (slab_apply (F := Ideal) x12 0 1536 _ _ d f d ⟨1536 + f.val, by omega⟩ (by omega) rfl)
      have e2 : matmul (φ₂ := .bf16) (DotDims.plain 512 1024 1280) none v56 (shapeCast S1024x1280 (View.ld x12 r0_13) shapeCasts_S1x1024x1280_S1024x1280)
          (constant (F := Ideal) ⟨2, ![512, 1280]⟩ .f32 0x00000000#32) (ix2 r f) = ∑ d, h r d * wa x12 d ⟨2816 + (1536 + f.val), by omega⟩ := by
        refine (dot_apply 512 1024 1280 _ _ r f).trans (Finset.sum_congr rfl fun d _ => ?_)
        rw [h26]
        exact congrArg _ (slab_apply (F := Ideal) x12 0 4352 _ _ d f d ⟨2816 + (1536 + f.val), by omega⟩ (by omega) (by simp; omega))
      refine Eq.trans ?_ (congrArg₂ act e1 e2)
      unfold act
      rw [← zero_sub']
      rfl
    · exact slab_apply (F := Ideal) x13 1536 0 _ _ f n ⟨1536 + f.val, by omega⟩ n rfl (by omega)

/-- The last normalization, over the sum of the stream and the half-step's addition. -/
theorem pay1_apply (v35 v101 y : FVec Ideal S512x1024 .f32) (hy : addf v35 v101 = y) (g : Vec Ideal S1x1024 .f32) (r : Fin 512) (n : Fin 1024) :
    k0_pay1 (F := Ideal) v35 v101 g (ix2 r n) = nrm (row y r) (fun d => g (ix2 0 d)) n := by
  unfold k0_pay1
  rw [hy, shapeCast_self]
  show (y (ix2 r n) * broadcastTo S512x1024 _ _ (ix2 r n)) * broadcastTo S512x1024 _ _ (ix2 r n) = _
  rw [row_apply 512 1024, col_apply]
  have key : ∀ a : EReal, a = (∑ k, row y r k * row y r k) →
      y (ix2 r n) * Ideal.rsqrt (Ideal.div a cDim + cEps) * g (ix2 0 n) = nrm (row y r) (fun d => g (ix2 0 d)) n := by
    rintro a rfl; rfl
  exact key _ (sq_apply y _ _ _ _ r)
end

/-- Two blocks of 256 rows, one after the other, at an index. -/
theorem two_apply (a b : Vec Ideal S256x256 .bf16) (y : Fin 512 → Fin 256 → EReal)
    (ha : ∀ (r : Fin 256) k, a (ix2 r k) = y ⟨r.val, by omega⟩ k) (hb : ∀ (r : Fin 256) k, b (ix2 r k) = y ⟨256 + r.val, by omega⟩ k)
    (hc) (r : Fin 512) (k : Fin 256) : concatenate (α := EReal) S512x256 0 [⟨S256x256, a⟩, ⟨S256x256, b⟩] hc (ix2 r k) = y r k := by
  by_cases h : r.val < 256
  · refine (concatenate_pair_apply_left (t := S512x256) (s₁ := S256x256) (s₂ := S256x256) 0 _ _ hc _ rfl (ix2 ⟨r.val, h⟩ k) (fun a => match a with
      | ⟨0, _⟩ => rfl | ⟨1, _⟩ => rfl)).trans ?_
    exact ha ⟨r.val, h⟩ k
  · refine (concatenate_pair_apply_right (t := S512x256) (s₁ := S256x256) (s₂ := S256x256) 0 _ _ hc _ rfl rfl (ix2 ⟨r.val - 256, by omega⟩ k) (fun a => match a with
      | ⟨0, _⟩ => fun ne => absurd rfl ne | ⟨1, _⟩ => fun _ => rfl) (by show r.val - 256 + 256 = r.val; omega)).trans ?_
    refine (hb ⟨r.val - 256, by omega⟩ k).trans ?_
    exact congrArg (fun q => y q k) (Fin.ext (by show 256 + (r.val - 256) = r.val; omega))

section
variable (x0 : Vec Ideal S512x1024 .f32) (x1 : Vec Ideal S1x9x1024 .f32) (x2 : Vec Ideal S512x256 .bf16) (x3 x4 x5 x6 : Vec Ideal S256x256 .bf16)
  (x7 : Vec Ideal S512x512 .bf16) (x8 x9 x10 : Vec Ideal S1x256x1024 .bf16) (x11 : Vec Ideal S1x512x1024 .bf16)
  (x12 : Vec Ideal S1x1024x5632 .bf16) (x13 : Vec Ideal S1x2816x1024 .bf16) (x14 : Vec Ideal S1x1024 .f32)

theorem out_apply (ya yb yc yd : Fin 512 → Fin 256 → EReal) (wo : Fin 1024 → Fin 1024 → EReal)
    (ha : ∀ r k, x2 (ix2 r k) = ya r k)
    (hb : ∀ (r : Fin 256) k, x3 (ix2 r k) = yb ⟨r.val, by omega⟩ k) (hb' : ∀ (r : Fin 256) k, x4 (ix2 r k) = yb ⟨256 + r.val, by omega⟩ k)
    (hc : ∀ (r : Fin 256) k, x5 (ix2 r k) = yc ⟨r.val, by omega⟩ k) (hc' : ∀ (r : Fin 256) k, x6 (ix2 r k) = yc ⟨256 + r.val, by omega⟩ k)
    (hd : ∀ r k, x7 (ix2 r (lane k)) = yd r k)
    (h8 : ∀ (k : Fin 256) n, x8 (ix3 0 k n) = wo ⟨k.val, by omega⟩ n) (h9 : ∀ (k : Fin 256) n, x9 (ix3 0 k n) = wo ⟨256 + k.val, by omega⟩ n)
    (h10 : ∀ (k : Fin 256) n, x10 (ix3 0 k n) = wo ⟨512 + k.val, by omega⟩ n)
    (h11 : ∀ (k : Fin 256) n, x11 (ix3 0 (lane k) n) = wo ⟨768 + k.val, by omega⟩ n)
    (h11' : ∀ (j : Fin 512) n, 64 ≤ j.val % 128 → x11 (ix3 0 j n) = 0) (r : Fin 512) (n : Fin 1024) :
    out0_15 (F := Ideal) x0 x1 x2 x3 x4 x5 x6 x7 x8 x9 x10 x11 x12 x13 x14 (ix2 r n)
      = nrm (step (fun d => x0 (ix2 r d) + md x1 5 d * proj (ya r) (yb r) (yc r) (yd r) wo d) (md x1 6) (md x1 7) (md x1 8) (wa x12) (wb x13))
          (fun d => x14 (ix2 0 d)) n := by
  have hz : (![0, 0] : Fin 2 → Nat) = fun _ => 0 := funext fun a => match a with | ⟨0, _⟩ => rfl | ⟨1, _⟩ => rfl
  set x : Vec Ideal S512x1024 .f32 := fun i => x0 i + md x1 5 (i 1) * proj (ya (i 0)) (yb (i 0)) (yc (i 0)) (yd (i 0)) wo (i 1) with hxdef
  have hx : k0_pay6 (F := Ideal) (k0_pay2 (View.ld x0 r0_0)) (k0_pay3 (View.ld x7 r0_2))
      (k0_pay4 (View.ld x3 r0_1) (View.ld x4 r0_1) (View.ld x5 r0_1) (View.ld x6 r0_1) (View.ld x2 r0_3) (View.ld x8 r0_4) (View.ld x9 r0_4) (View.ld x10 r0_4))
      (k0_pay5 (View.ld x11 r0_5)) (constant S512x1024 .f32 0x00000000#32) (View.ld x1 r0_6) = x := by
    funext i
    obtain ⟨r, d, rfl⟩ : ∃ (r : Fin 512) (d : Fin 1024), i = ix2 r d := ⟨i 0, i 1, eq_ix2 i⟩
    have l0 : (View.ld x0 r0_0 : Vec Ideal S512x1024 .f32) = x0 := View.ld_unit_zero hz _ x0
    have l7 : (View.ld x7 r0_2 : Vec Ideal S512x512 .bf16) = x7 := View.ld_unit_zero hz _ x7
    have l2 : (View.ld x2 r0_3 : Vec Ideal S512x256 .bf16) = x2 := View.ld_unit_zero hz _ x2
    have l3 : ∀ X : Vec Ideal S256x256 .bf16, (View.ld X r0_1 : Vec Ideal S256x256 .bf16) = X := fun X => View.ld_unit_zero hz _ X
    unfold k0_pay6 k0_pay2 k0_pay3 k0_pay4 k0_pay5
    rw [l0, l7, l2, l3, l3, l3, l3, dotE, dotF]
    simp only [shapeCast_self]
    refine congrArg₂ (fun a b : EReal => a + b) rfl ?_
    refine congrArg₂ (fun a b : EReal => a * b) ?_ ?_
    · refine (row_apply 512 1024 _ _ (by decide) (by decide) r d).trans ?_
      exact slab_apply (F := Ideal) x1 5 0 _ _ 0 d 5 d rfl (by omega)
    refine congrArg₂ (fun a b : EReal => a + b) (congrArg₂ (fun a b : EReal => a + b) (congrArg₂ (fun a b : EReal => a + b) ?_ ?_) ?_) ?_
    · refine (dot_apply 512 256 1024 _ _ r d).trans (Finset.sum_congr rfl fun k _ => ?_)
      refine congrArg₂ (fun a b : EReal => a * b) (ha r k) ?_
      exact (slab_apply (F := Ideal) x8 0 0 _ _ k d k d (by omega) (by omega)).trans (h8 k d)
    · refine (dot_apply 512 256 1024 _ _ r d).trans (Finset.sum_congr rfl fun k _ => ?_)
      refine congrArg₂ (fun a b : EReal => a * b) (two_apply (shapeCast S256x256 x3 shapeCasts_S256x256_S256x256)
        (shapeCast S256x256 x4 shapeCasts_S256x256_S256x256) yb (fun r k => (congrFun (shapeCast_self x3 _) _).trans (hb r k))
        (fun r k => (congrFun (shapeCast_self x4 _) _).trans (hb' r k)) _ r k) ?_
      exact (slab_apply (F := Ideal) x9 0 0 _ _ k d k d (by omega) (by omega)).trans (h9 k d)
    · refine (dot_apply 512 256 1024 _ _ r d).trans (Finset.sum_congr rfl fun k _ => ?_)
      refine congrArg₂ (fun a b : EReal => a * b) (two_apply (shapeCast S256x256 x5 shapeCasts_S256x256_S256x256)
        (shapeCast S256x256 x6 shapeCasts_S256x256_S256x256) yc (fun r k => (congrFun (shapeCast_self x5 _) _).trans (hc r k))
        (fun r k => (congrFun (shapeCast_self x6 _) _).trans (hc' r k)) _ r k) ?_
      exact (slab_apply (F := Ideal) x10 0 0 _ _ k d k d (by omega) (by omega)).trans (h10 k d)
    · refine (dot_apply 512 512 1024 _ _ r d).trans ?_
      have e : ∀ j : Fin 512, shapeCast S512x1024 (View.ld x11 r0_5) shapeCasts_S1x512x1024_S512x1024 (ix2 j d) = x11 (ix3 0 j d) :=
        fun j => slab_apply (F := Ideal) x11 0 0 _ _ j d j d (by omega) (by omega)
      refine (sum_pad _ fun j hj => ?_).trans (Finset.sum_congr rfl fun k _ => ?_)
      · exact mul_eq_zero_of_right _ ((e j).trans (h11' j d hj))
      · exact congrArg₂ (fun a b : EReal => a * b) (hd r k) ((e (lane k)).trans (h11 k d))
  unfold_out out0_15
  refine (congrFun (View.canon_unit_zero hz _ _) _).trans ?_
  refine (pay1_apply _ _ (fun i => step (row x (i 0)) (md x1 6) (md x1 7) (md x1 8) (wa x12) (wb x13) (i 1)) ?_ _ r n).trans ?_
  · funext i
    obtain ⟨r, d, rfl⟩ : ∃ (r : Fin 512) (d : Fin 1024), i = ix2 r d := ⟨i 0, i 1, eq_ix2 i⟩
    refine congrArg₂ (fun a b : EReal => a + b) (congrFun hx _) ?_
    exact pay11_apply x1 x12 x13 (fun r => mdl (row x r) (md x1 6) (md x1 7)) _ _ _ _ (pay7_apply x x1 _ _ _ _ _ hx)
      (pay8_apply x x1 x12 _ _ _ _ _ hx) (pay9_apply x x1 x12 _ _ _ _ _ hx) (fun r f => congrArg Ideal.exp (zero_sub' _)) r d
  · have l14 : (View.ld x14 r0_16 : Vec Ideal S1x1024 .f32) = x14 := View.ld_unit_zero hz _ x14
    rw [l14]
end

end Cert.MixKernelIdeal.Mix
-- ==== Proof.Mix.Host.lean ====
module
public import proofs.«01_k».proof.Proof.Mix.Block
public import Idealize.ShloMosaic.Lib.Claim
/-! What the host code before the last launch lays out: the stream, the modulations, the mixers' outputs and the weights. -/
@[expose] public section
set_option maxRecDepth 16384
noncomputable section
namespace Cert.MixKernelIdeal.Mix
open Cert.MixKernelIdeal Cert.MixKernelIdeal.Gen Idealize.ShloMosaic Idealize.ShloMosaic.TcCoe Idealize.ShloMosaic.ValueIdx
open Idealize.SL.Sem Cert.Ffn

variable (m : (ℓ : Loc nD τ sig) → Buf (Elt Ideal) ℓ) (c : Dev nD)

/-- The arguments at launch. -/
abbrev ax : S2x8192x1024.Idx → EReal := m (c, Proc.tc.devRef main_arg0)
abbrev am : S2x9x1024.Idx → EReal := m (c, Proc.tc.devRef main_arg2)
abbrev aya : S2x8192x256.Idx → EReal := m (c, Proc.tc.devRef main_arg4)
abbrev ayb : S2x8192x256.Idx → EReal := m (c, Proc.tc.devRef main_arg6)
abbrev aybc : S2x256x256.Idx → EReal := m (c, Proc.tc.devRef main_arg7)
abbrev ayc : S2x8192x256.Idx → EReal := m (c, Proc.tc.devRef main_arg8)
abbrev aycc : S2x256x256.Idx → EReal := m (c, Proc.tc.devRef main_arg9)
abbrev ayd : S2x8192x256.Idx → EReal := m (c, Proc.tc.devRef main_arg10)
abbrev awo : S2x1024x1024.Idx → EReal := m (c, Proc.tc.devRef main_arg11)
abbrev aw : S2x1024x5632.Idx → EReal := m (c, Proc.tc.devRef main_arg12)
abbrev aw2 : S2x2816x1024.Idx → EReal := m (c, Proc.tc.devRef main_arg13)
abbrev ag : S1024.Idx → EReal := m (c, Proc.tc.devRef main_arg14)

theorem V34 : (Gen.V m c main_v34 : S2x1024x5632.Idx → EReal) = aw m c := by entry_read; rfl
theorem V35 : (Gen.V m c main_v35 : S2x2816x1024.Idx → EReal) = aw2 m c := by entry_read; rfl

theorem V36 (n : Fin 1024) : (Gen.V m c main_v36 : S1x1024.Idx → EReal) (ix2 0 n) = ag m c (ix1 n) := by
  have e : (Gen.V m c main_v36 : S1x1024.Idx → EReal) = shapeCast S1x1024 (ag m c) shapeCasts_S1024_S1x1024 := by entry_read; rfl
  rw [e]
  refine shapeCast_apply _ _ _ (ix1 n) ?_
  rw [Shape.rowMajor_val_one, Shape.rowMajor_val_two]
  show n.val = 0 * 1024 + n.val
  omega

theorem V33 : ∃ z : S512x1024.Idx → EReal, (Gen.V m c main_v33 : S16896x1024.Idx → EReal) =
    concatenate S16896x1024 0 [⟨S512x1024, z⟩, ⟨S16384x1024, shapeCast S16384x1024 (ax m c) shapeCasts_S2x8192x1024_S16384x1024⟩]
      concatenates_S512x1024_S16384x1024_S16896x1024_d0 := by
  entry_read
  exact ⟨_, rfl⟩

theorem V33_lat (b : Fin 2) (j : Fin 8192) (d : Fin 1024) (R : Fin 16896) (hR : R.val = 512 + (b.val * 8192 + j.val)) :
    (Gen.V m c main_v33 : S16896x1024.Idx → EReal) (ix2 R d) = ax m c (ix3 b j d) := by
  obtain ⟨z, hz⟩ := V33 m c
  rw [hz]
  refine (concatenate_pair_apply_right (t := S16896x1024) (s₁ := S512x1024) (s₂ := S16384x1024) 0 _ _ _ _ rfl rfl (ix2 ⟨b.val * 8192 + j.val, by omega⟩ d) (fun a => match a with
    | ⟨0, _⟩ => fun ne => absurd rfl ne | ⟨1, _⟩ => fun _ => rfl) (by show b.val * 8192 + j.val + 512 = R.val; omega)).trans ?_
  exact flat_apply _ _ b j d _ rfl

theorem V3 : ∃ z : S5x9x1024.Idx → EReal, ∃ y : S1x9x1024.Idx → EReal, (Gen.V m c main_v3 : S8x9x1024.Idx → EReal) =
    concatenate S8x9x1024 0 [⟨S3x9x1024, concatenate (α := EReal) S3x9x1024 0 [⟨S1x9x1024, y⟩,
      ⟨S2x9x1024, am m c⟩] concatenates_S1x9x1024_S2x9x1024_S3x9x1024_d0⟩, ⟨S5x9x1024, z⟩] concatenates_S3x9x1024_S5x9x1024_S8x9x1024_d0 := by
  entry_read
  exact ⟨_, _, rfl⟩

theorem V3_lat (b : Fin 2) (g : Fin 8) (hg : g.val = b.val + 1) (a : Fin 9) (d : Fin 1024) :
    (Gen.V m c main_v3 : S8x9x1024.Idx → EReal) (ix3 g a d) = am m c (ix3 b a d) := by
  obtain ⟨z, y, hz⟩ := V3 m c
  rw [hz]
  refine (concatenate_pair_apply_left (t := S8x9x1024) (s₁ := S3x9x1024) (s₂ := S5x9x1024) 0 _ _ _ _ rfl (ix3 ⟨b.val + 1, by omega⟩ a d) (fun a => match a with
    | ⟨0, _⟩ => hg.symm | ⟨1, _⟩ => rfl | ⟨2, _⟩ => rfl)).trans ?_
  exact concatenate_pair_apply_right (t := S3x9x1024) (s₁ := S1x9x1024) (s₂ := S2x9x1024) 0 _ _ _ _ rfl rfl (ix3 b a d) (fun a => match a with
    | ⟨0, _⟩ => fun ne => absurd rfl ne | ⟨1, _⟩ => fun _ => rfl | ⟨2, _⟩ => fun _ => rfl) rfl

theorem V22 : ∃ z : S512x256.Idx → EReal, (Gen.V m c main_v22 : S16896x256.Idx → EReal) =
    concatenate S16896x256 0 [⟨S512x256, z⟩, ⟨S16384x256, shapeCast S16384x256 (aya m c) shapeCasts_S2x8192x256_S16384x256⟩]
      concatenates_S512x256_S16384x256_S16896x256_d0 := by
  entry_read
  exact ⟨_, rfl⟩

theorem V22_lat (b : Fin 2) (j : Fin 8192) (k : Fin 256) (R : Fin 16896) (hR : R.val = 512 + (b.val * 8192 + j.val)) :
    (Gen.V m c main_v22 : S16896x256.Idx → EReal) (ix2 R k) = aya m c (ix3 b j k) := by
  obtain ⟨z, hz⟩ := V22 m c
  rw [hz]
  refine (concatenate_pair_apply_right (t := S16896x256) (s₁ := S512x256) (s₂ := S16384x256) 0 _ _ _ _ rfl rfl (ix2 ⟨b.val * 8192 + j.val, by omega⟩ k) (fun a => match a with
    | ⟨0, _⟩ => fun ne => absurd rfl ne | ⟨1, _⟩ => fun _ => rfl) (by show b.val * 8192 + j.val + 512 = R.val; omega)).trans ?_
  exact flat_apply _ _ b j k _ rfl

theorem V25 : (Gen.V m c main_v25 : S16896x256.Idx → EReal) = shapeCast S16896x256 (concatenate (α := EReal) S2x8448x256 1 [⟨S2x256x256, aybc m c⟩,
    ⟨S2x8192x256, ayb m c⟩] concatenates_S2x256x256_S2x8192x256_S2x8448x256_d1) shapeCasts_S2x8448x256_S16896x256 := by entry_read; rfl
theorem V28 : (Gen.V m c main_v28 : S16896x256.Idx → EReal) = shapeCast S16896x256 (concatenate (α := EReal) S2x8448x256 1 [⟨S2x256x256, aycc m c⟩,
    ⟨S2x8192x256, ayc m c⟩] concatenates_S2x256x256_S2x8192x256_S2x8448x256_d1) shapeCasts_S2x8448x256_S16896x256 := by entry_read; rfl

/-- A latent row of an array holding each sequence's context rows before its latents. -/
theorem seq_apply (x : S2x256x256.Idx → EReal) (y : S2x8192x256.Idx → EReal) (b : Fin 2) (j : Fin 8192) (k : Fin 256) (R : Fin 16896)
    (hR : R.val = b.val * 8448 + (256 + j.val)) :
    shapeCast S16896x256 (concatenate (α := EReal) S2x8448x256 1 [⟨S2x256x256, x⟩, ⟨S2x8192x256, y⟩]
      concatenates_S2x256x256_S2x8192x256_S2x8448x256_d1) shapeCasts_S2x8448x256_S16896x256 (ix2 R k) = y (ix3 b j k) := by
  refine (flat_apply _ _ b (⟨256 + j.val, by omega⟩ : Fin 8448) k R hR).trans ?_
  exact concatenate_pair_apply_right (t := S2x8448x256) (s₁ := S2x256x256) (s₂ := S2x8192x256) 1 _ _ _ _ rfl rfl (ix3 b j k) (fun a => match a with
    | ⟨0, _⟩ => fun _ => rfl | ⟨1, _⟩ => fun ne => absurd rfl ne | ⟨2, _⟩ => fun _ => rfl) (by show j.val + 256 = 256 + j.val; omega)

theorem V30 : ∃ z : S16384x4x64.Idx → EReal, (Gen.V m c main_v30 : S16384x512.Idx → EReal) =
    shapeCast S16384x512 (concatenate (α := EReal) S16384x4x128 2 [⟨S16384x4x64, shapeCast S16384x4x64 (ayd m c) shapeCasts_S2x8192x256_S16384x4x64⟩,
      ⟨S16384x4x64, z⟩] concatenates_S16384x4x64_S16384x4x64_S16384x4x128_d2) shapeCasts_S16384x4x128_S16384x512 := by
  entry_read
  exact ⟨_, rfl⟩

theorem V30_lane (b : Fin 2) (j : Fin 8192) (k : Fin 256) (R : Fin 16384) (hR : R.val = b.val * 8192 + j.val) :
    (Gen.V m c main_v30 : S16384x512.Idx → EReal) (ix2 R (lane k)) = ayd m c (ix3 b j k) := by
  obtain ⟨z, hz⟩ := V30 m c
  rw [hz]
  refine (shapeCast_apply _ _ _ (ix3 R (⟨k.val / 64, by omega⟩ : Fin 4) (⟨k.val % 64, by omega⟩ : Fin 128)) (by
    rw [Shape.rowMajor_val_three, Shape.rowMajor_val_two]
    show (R.val * 4 + k.val / 64) * 128 + k.val % 64 = R.val * 512 + (128 * (k.val / 64) + k.val % 64)
    omega)).trans ?_
  refine (concatenate_pair_apply_left (t := S16384x4x128) (s₁ := S16384x4x64) (s₂ := S16384x4x64) 2 _ _ _ _ rfl
    (ix3 R (⟨k.val / 64, by omega⟩ : Fin 4) (⟨k.val % 64, by omega⟩ : Fin 64)) (fun a => match a with
    | ⟨0, _⟩ => rfl | ⟨1, _⟩ => rfl | ⟨2, _⟩ => rfl)).trans ?_
  refine shapeCast_apply _ _ _ (ix3 b j k) ?_
  rw [Shape.rowMajor_val_three, Shape.rowMajor_val_three]
  show (b.val * 8192 + j.val) * 256 + k.val = (R.val * 4 + k.val / 64) * 64 + k.val % 64
  omega

theorem V12 : (Gen.V m c main_v12 : S2x256x1024.Idx → EReal) = extractStridedSlice S2x256x1024 ![0, 0, 0] (awo m c) slices_S2x1024x1024_S2x256x1024_0_0_0 := by
  entry_read; rfl
theorem V14 : (Gen.V m c main_v14 : S2x256x1024.Idx → EReal) = extractStridedSlice S2x256x1024 ![0, 256, 0] (awo m c) slices_S2x1024x1024_S2x256x1024_0_256_0 := by
  entry_read; rfl
theorem V16 : (Gen.V m c main_v16 : S2x256x1024.Idx → EReal) = extractStridedSlice S2x256x1024 ![0, 512, 0] (awo m c) slices_S2x1024x1024_S2x256x1024_0_512_0 := by
  entry_read; rfl

theorem part_apply (x : S2x1024x1024.Idx → EReal) (o : Nat) (h : S2x1024x1024.Slices ![0, o, 0] S2x256x1024) (k : Fin 256) (n : Fin 1024) (q : Fin 1024)
    (hq : q.val = o + k.val) : extractStridedSlice S2x256x1024 ![0, o, 0] x h (ix3 1 k n) = x (ix3 1 q n) :=
  extractStridedSlice_apply _ _ _ _ (ix3 1 q n) (fun a => match a with
    | ⟨0, _⟩ => by simp | ⟨1, _⟩ => by simpa using hq | ⟨2, _⟩ => by simp)

theorem V18 : ∃ z : S2x4x64x1024.Idx → EReal, (∀ i, z i = Ideal.ofBits .f32 0x00000000#32) ∧ (Gen.V m c main_v18 : S2x512x1024.Idx → EReal) =
    shapeCast S2x512x1024 (concatenate (α := EReal) S2x4x128x1024 2 [⟨S2x4x64x1024, shapeCast S2x4x64x1024
      (extractStridedSlice S2x256x1024 ![0, 768, 0] (awo m c) slices_S2x1024x1024_S2x256x1024_0_768_0) shapeCasts_S2x256x1024_S2x4x64x1024⟩,
      ⟨S2x4x64x1024, z⟩] concatenates_S2x4x64x1024_S2x4x64x1024_S2x4x128x1024_d2) shapeCasts_S2x4x128x1024_S2x512x1024 := by
  entry_read
  exact ⟨_, fun _ => rfl, rfl⟩

theorem V18_lane (k : Fin 256) (n : Fin 1024) :
    (Gen.V m c main_v18 : S2x512x1024.Idx → EReal) (ix3 1 (lane k) n) = awo m c (ix3 1 (⟨768 + k.val, by omega⟩ : Fin 1024) n) := by
  obtain ⟨z, _, hz⟩ := V18 m c
  rw [hz]
  refine (shapeCast_apply _ _ _ (ix4 (1 : Fin 2) (⟨k.val / 64, by omega⟩ : Fin 4) (⟨k.val % 64, by omega⟩ : Fin 128) n) (by
    rw [Shape.rowMajor_val_three, Shape.rowMajor_val_four]
    show ((1 * 4 + k.val / 64) * 128 + k.val % 64) * 1024 + n.val = (1 * 512 + (128 * (k.val / 64) + k.val % 64)) * 1024 + n.val
    omega)).trans ?_
  refine (concatenate_pair_apply_left (t := S2x4x128x1024) (s₁ := S2x4x64x1024) (s₂ := S2x4x64x1024) 2 _ _ _ _ rfl
    (ix4 (1 : Fin 2) (⟨k.val / 64, by omega⟩ : Fin 4) (⟨k.val % 64, by omega⟩ : Fin 64) n) (fun a => match a with
    | ⟨0, _⟩ => rfl | ⟨1, _⟩ => rfl | ⟨2, _⟩ => rfl | ⟨3, _⟩ => rfl)).trans ?_
  refine (shapeCast_apply _ _ _ (ix3 (1 : Fin 2) k n) (by
    rw [Shape.rowMajor_val_three, Shape.rowMajor_val_four]
    show (1 * 256 + k.val) * 1024 + n.val = ((1 * 4 + k.val / 64) * 64 + k.val % 64) * 1024 + n.val
    omega)).trans ?_
  exact part_apply _ 768 _ k n _ rfl

theorem V18_zero (j : Fin 512) (hj : 64 ≤ j.val % 128) (n : Fin 1024) :
    (Gen.V m c main_v18 : S2x512x1024.Idx → EReal) (ix3 1 j n) = (0 : EReal) := by
  obtain ⟨z, hz0, hz⟩ := V18 m c
  rw [hz]
  refine (shapeCast_apply _ _ _ (ix4 (1 : Fin 2) (⟨j.val / 128, by omega⟩ : Fin 4) (⟨j.val % 128, by omega⟩ : Fin 128) n) (by
    rw [Shape.rowMajor_val_three, Shape.rowMajor_val_four]
    show ((1 * 4 + j.val / 128) * 128 + j.val % 128) * 1024 + n.val = (1 * 512 + j.val) * 1024 + n.val
    omega)).trans ?_
  refine (concatenate_pair_apply_right (t := S2x4x128x1024) (s₁ := S2x4x64x1024) (s₂ := S2x4x64x1024) 2 _ _ _ _ rfl rfl
    (ix4 (1 : Fin 2) (⟨j.val / 128, by omega⟩ : Fin 4) (⟨j.val % 128 - 64, by omega⟩ : Fin 64) n) (fun a => match a with
    | ⟨0, _⟩ => fun _ => rfl | ⟨1, _⟩ => fun _ => rfl | ⟨2, _⟩ => fun ne => absurd rfl ne | ⟨3, _⟩ => fun _ => rfl)
    (by show j.val % 128 - 64 + 64 = j.val % 128; omega)).trans ?_
  rw [hz0]
  exact Ideal.ofBits_zero_f32

end Cert.MixKernelIdeal.Mix
-- ==== Proof.Mix.Arr.lean ====
module
public import proofs.«01_k».proof.Proof.Mix.Host
/-! What the result array of the last feed-forward kernel holds after the run, from the arguments. -/
@[expose] public section
set_option maxRecDepth 16384
noncomputable section
namespace Cert.MixKernelIdeal.Mix
open Cert.MixKernelIdeal Cert.MixKernelIdeal.Gen Idealize.ShloMosaic Idealize.ShloMosaic.TcCoe Idealize.ShloMosaic.ValueIdx
open Idealize.SL.Sem Cert.Ffn

variable (m : (ℓ : Loc nD τ sig) → Buf (Elt Ideal) ℓ) (c : Dev nD)

theorem idx0' : ∀ t : Fin grid0.N, win0_0.index t 0 = t.val + 1 ∧ win0_0.index t 1 = 0 := by decide +kernel
theorem idx1' : ∀ t : Fin grid0.N, win0_1.index t 0 = 1 + t.val / 16 ∧ win0_1.index t 1 = 0 ∧ win0_1.index t 2 = 0 := by decide +kernel
theorem idx2' : ∀ t : Fin grid0.N, win0_2.index t 0 = t.val + 1 ∧ win0_2.index t 1 = 0 := by decide +kernel
theorem idx3' : ∀ t : Fin grid0.N, win0_3.index t 0 = t.val / 16 * 33 + 1 + 2 * (t.val % 16) ∧ win0_3.index t 1 = 0 := by decide +kernel
theorem idx4' : ∀ t : Fin grid0.N, win0_4.index t 0 = t.val / 16 * 33 + 2 + 2 * (t.val % 16) ∧ win0_4.index t 1 = 0 := by decide +kernel
theorem idx5' : ∀ t : Fin grid0.N, win0_5.index t 0 = t.val / 16 * 33 + 1 + 2 * (t.val % 16) ∧ win0_5.index t 1 = 0 := by decide +kernel
theorem idx6' : ∀ t : Fin grid0.N, win0_6.index t 0 = t.val / 16 * 33 + 2 + 2 * (t.val % 16) ∧ win0_6.index t 1 = 0 := by decide +kernel
theorem idx7' : ∀ t : Fin grid0.N, win0_7.index t 0 = t.val ∧ win0_7.index t 1 = 0 := by decide +kernel
theorem idx8' : ∀ t : Fin grid0.N, win0_8.index t 0 = 1 ∧ win0_8.index t 1 = 0 ∧ win0_8.index t 2 = 0 := by decide +kernel
theorem idx9' : ∀ t : Fin grid0.N, win0_9.index t 0 = 1 ∧ win0_9.index t 1 = 0 ∧ win0_9.index t 2 = 0 := by decide +kernel
theorem idx10' : ∀ t : Fin grid0.N, win0_10.index t 0 = 1 ∧ win0_10.index t 1 = 0 ∧ win0_10.index t 2 = 0 := by decide +kernel
theorem idx11' : ∀ t : Fin grid0.N, win0_11.index t 0 = 1 ∧ win0_11.index t 1 = 0 ∧ win0_11.index t 2 = 0 := by decide +kernel
theorem idx12' : ∀ t : Fin grid0.N, win0_12.index t 0 = 1 ∧ win0_12.index t 1 = 0 ∧ win0_12.index t 2 = 0 := by decide +kernel
theorem idx13' : ∀ t : Fin grid0.N, win0_13.index t 0 = 1 ∧ win0_13.index t 1 = 0 ∧ win0_13.index t 2 = 0 := by decide +kernel
theorem idx14' : ∀ t : Fin grid0.N, win0_14.index t 0 = 0 ∧ win0_14.index t 1 = 0 := by decide +kernel
theorem idx15' : ∀ t : Fin grid0.N, win0_15.index t 0 = t.val ∧ win0_15.index t 1 = 0 := by decide +kernel

theorem b0_apply (t : Fin cfg0.N) (r : Fin 512) (d : Fin 1024) (R : Fin 16896) (hR : R.val = (t.val + 1) * 512 + r.val) :
    (iblk m c 0 t : Vec Ideal S512x1024 .f32) (ix2 r d) = (Gen.V m c main_v33 : S16896x1024.Idx → EReal) (ix2 R d) := by
  show (Gen.V m c main_v33 : S16896x1024.Idx → EReal) (((cfg0.win 0).blk t).view.emb (ix2 r d)) = _
  refine congrArg _ (funext fun a => Fin.ext ?_)
  match a with
  | ⟨0, _⟩ => show win0_0.index t 0 * 512 + 1 * r.val = R.val; rw [(idx0' t).1, hR]; omega
  | ⟨1, _⟩ => show win0_0.index t 1 * 1024 + 1 * d.val = d.val; rw [(idx0' t).2]; omega

theorem b2_apply (t : Fin cfg0.N) (r : Fin 512) (d : Fin 256) (R : Fin 16896) (hR : R.val = (t.val + 1) * 512 + r.val) :
    (iblk m c 2 t : Vec Ideal S512x256 .bf16) (ix2 r d) = (Gen.V m c main_v22 : S16896x256.Idx → EReal) (ix2 R d) := by
  show (Gen.V m c main_v22 : S16896x256.Idx → EReal) (((cfg0.win 2).blk t).view.emb (ix2 r d)) = _
  refine congrArg _ (funext fun a => Fin.ext ?_)
  match a with
  | ⟨0, _⟩ => show win0_2.index t 0 * 512 + 1 * r.val = R.val; rw [(idx2' t).1, hR]; omega
  | ⟨1, _⟩ => show win0_2.index t 1 * 256 + 1 * d.val = d.val; rw [(idx2' t).2]; omega

theorem b3_apply (t : Fin cfg0.N) (r : Fin 256) (d : Fin 256) (R : Fin 16896) (hR : R.val = (t.val / 16 * 33 + 1 + 2 * (t.val % 16)) * 256 + r.val) :
    (iblk m c 3 t : Vec Ideal S256x256 .bf16) (ix2 r d) = (Gen.V m c main_v25 : S16896x256.Idx → EReal) (ix2 R d) := by
  show (Gen.V m c main_v25 : S16896x256.Idx → EReal) (((cfg0.win 3).blk t).view.emb (ix2 r d)) = _
  refine congrArg _ (funext fun a => Fin.ext ?_)
  match a with
  | ⟨0, _⟩ => show win0_3.index t 0 * 256 + 1 * r.val = R.val; rw [(idx3' t).1, hR]; omega
  | ⟨1, _⟩ => show win0_3.index t 1 * 256 + 1 * d.val = d.val; rw [(idx3' t).2]; omega

theorem b4_apply (t : Fin cfg0.N) (r : Fin 256) (d : Fin 256) (R : Fin 16896) (hR : R.val = (t.val / 16 * 33 + 2 + 2 * (t.val % 16)) * 256 + r.val) :
    (iblk m c 4 t : Vec Ideal S256x256 .bf16) (ix2 r d) = (Gen.V m c main_v25 : S16896x256.Idx → EReal) (ix2 R d) := by
  show (Gen.V m c main_v25 : S16896x256.Idx → EReal) (((cfg0.win 4).blk t).view.emb (ix2 r d)) = _
  refine congrArg _ (funext fun a => Fin.ext ?_)
  match a with
  | ⟨0, _⟩ => show win0_4.index t 0 * 256 + 1 * r.val = R.val; rw [(idx4' t).1, hR]; omega
  | ⟨1, _⟩ => show win0_4.index t 1 * 256 + 1 * d.val = d.val; rw [(idx4' t).2]; omega

theorem b5_apply (t : Fin cfg0.N) (r : Fin 256) (d : Fin 256) (R : Fin 16896) (hR : R.val = (t.val / 16 * 33 + 1 + 2 * (t.val % 16)) * 256 + r.val) :
    (iblk m c 5 t : Vec Ideal S256x256 .bf16) (ix2 r d) = (Gen.V m c main_v28 : S16896x256.Idx → EReal) (ix2 R d) := by
  show (Gen.V m c main_v28 : S16896x256.Idx → EReal) (((cfg0.win 5).blk t).view.emb (ix2 r d)) = _
  refine congrArg _ (funext fun a => Fin.ext ?_)
  match a with
  | ⟨0, _⟩ => show win0_5.index t 0 * 256 + 1 * r.val = R.val; rw [(idx5' t).1, hR]; omega
  | ⟨1, _⟩ => show win0_5.index t 1 * 256 + 1 * d.val = d.val; rw [(idx5' t).2]; omega

theorem b6_apply (t : Fin cfg0.N) (r : Fin 256) (d : Fin 256) (R : Fin 16896) (hR : R.val = (t.val / 16 * 33 + 2 + 2 * (t.val % 16)) * 256 + r.val) :
    (iblk m c 6 t : Vec Ideal S256x256 .bf16) (ix2 r d) = (Gen.V m c main_v28 : S16896x256.Idx → EReal) (ix2 R d) := by
  show (Gen.V m c main_v28 : S16896x256.Idx → EReal) (((cfg0.win 6).blk t).view.emb (ix2 r d)) = _
  refine congrArg _ (funext fun a => Fin.ext ?_)
  match a with
  | ⟨0, _⟩ => show win0_6.index t 0 * 256 + 1 * r.val = R.val; rw [(idx6' t).1, hR]; omega
  | ⟨1, _⟩ => show win0_6.index t 1 * 256 + 1 * d.val = d.val; rw [(idx6' t).2]; omega

theorem b7_apply (t : Fin cfg0.N) (r : Fin 512) (d : Fin 512) (R : Fin 16384) (hR : R.val = t.val * 512 + r.val) :
    (iblk m c 7 t : Vec Ideal S512x512 .bf16) (ix2 r d) = (Gen.V m c main_v30 : S16384x512.Idx → EReal) (ix2 R d) := by
  show (Gen.V m c main_v30 : S16384x512.Idx → EReal) (((cfg0.win 7).blk t).view.emb (ix2 r d)) = _
  refine congrArg _ (funext fun a => Fin.ext ?_)
  match a with
  | ⟨0, _⟩ => show win0_7.index t 0 * 512 + 1 * r.val = R.val; rw [(idx7' t).1, hR]; omega
  | ⟨1, _⟩ => show win0_7.index t 1 * 512 + 1 * d.val = d.val; rw [(idx7' t).2]; omega

theorem b1_apply (t : Fin cfg0.N) (a : Fin 9) (d : Fin 1024) (g : Fin 8) (hg : g.val = 1 + t.val / 16) :
    (iblk m c 1 t : Vec Ideal S1x9x1024 .f32) (ix3 0 a d) = (Gen.V m c main_v3 : S8x9x1024.Idx → EReal) (ix3 g a d) := by
  show (Gen.V m c main_v3 : S8x9x1024.Idx → EReal) (((cfg0.win 1).blk t).view.emb (ix3 (0 : Fin 1) a d)) = _
  refine congrArg _ (funext fun x => Fin.ext ?_)
  match x with
  | ⟨0, _⟩ => show win0_1.index t 0 * 1 + 1 * 0 = g.val; rw [(idx1' t).1, hg]; omega
  | ⟨1, _⟩ => show win0_1.index t 1 * 9 + 1 * a.val = a.val; rw [(idx1' t).2.1]; omega
  | ⟨2, _⟩ => show win0_1.index t 2 * 1024 + 1 * d.val = d.val; rw [(idx1' t).2.2]; omega

theorem b8_apply (t : Fin cfg0.N) (f : Fin 256) (n : Fin 1024) :
    (iblk m c 8 t : Vec Ideal S1x256x1024 .bf16) (ix3 0 f n) = (Gen.V m c main_v12 : S2x256x1024.Idx → EReal) (ix3 1 f n) := by
  show (Gen.V m c main_v12 : S2x256x1024.Idx → EReal) (((cfg0.win 8).blk t).view.emb (ix3 (0 : Fin 1) f n)) = _
  refine congrArg _ (funext fun x => Fin.ext ?_)
  match x with
  | ⟨0, _⟩ => show win0_8.index t 0 * 1 + 1 * 0 = 1; rw [(idx8' t).1]
  | ⟨1, _⟩ => show win0_8.index t 1 * 256 + 1 * f.val = f.val; rw [(idx8' t).2.1]; omega
  | ⟨2, _⟩ => show win0_8.index t 2 * 1024 + 1 * n.val = n.val; rw [(idx8' t).2.2]; omega

theorem b9_apply (t : Fin cfg0.N) (f : Fin 256) (n : Fin 1024) :
    (iblk m c 9 t : Vec Ideal S1x256x1024 .bf16) (ix3 0 f n) = (Gen.V m c main_v14 : S2x256x1024.Idx → EReal) (ix3 1 f n) := by
  show (Gen.V m c main_v14 : S2x256x1024.Idx → EReal) (((cfg0.win 9).blk t).view.emb (ix3 (0 : Fin 1) f n)) = _
  refine congrArg _ (funext fun x => Fin.ext ?_)
  match x with
  | ⟨0, _⟩ => show win0_9.index t 0 * 1 + 1 * 0 = 1; rw [(idx9' t).1]
  | ⟨1, _⟩ => show win0_9.index t 1 * 256 + 1 * f.val = f.val; rw [(idx9' t).2.1]; omega
  | ⟨2, _⟩ => show win0_9.index t 2 * 1024 + 1 * n.val = n.val; rw [(idx9' t).2.2]; omega

theorem b10_apply (t : Fin cfg0.N) (f : Fin 256) (n : Fin 1024) :
    (iblk m c 10 t : Vec Ideal S1x256x1024 .bf16) (ix3 0 f n) = (Gen.V m c main_v16 : S2x256x1024.Idx → EReal) (ix3 1 f n) := by
  show (Gen.V m c main_v16 : S2x256x1024.Idx → EReal) (((cfg0.win 10).blk t).view.emb (ix3 (0 : Fin 1) f n)) = _
  refine congrArg _ (funext fun x => Fin.ext ?_)
  match x with
  | ⟨0, _⟩ => show win0_10.index t 0 * 1 + 1 * 0 = 1; rw [(idx10' t).1]
  | ⟨1, _⟩ => show win0_10.index t 1 * 256 + 1 * f.val = f.val; rw [(idx10' t).2.1]; omega
  | ⟨2, _⟩ => show win0_10.index t 2 * 1024 + 1 * n.val = n.val; rw [(idx10' t).2.2]; omega

theorem b11_apply (t : Fin cfg0.N) (f : Fin 512) (n : Fin 1024) :
    (iblk m c 11 t : Vec Ideal S1x512x1024 .bf16) (ix3 0 f n) = (Gen.V m c main_v18 : S2x512x1024.Idx → EReal) (ix3 1 f n) := by
  show (Gen.V m c main_v18 : S2x512x1024.Idx → EReal) (((cfg0.win 11).blk t).view.emb (ix3 (0 : Fin 1) f n)) = _
  refine congrArg _ (funext fun x => Fin.ext ?_)
  match x with
  | ⟨0, _⟩ => show win0_11.index t 0 * 1 + 1 * 0 = 1; rw [(idx11' t).1]
  | ⟨1, _⟩ => show win0_11.index t 1 * 512 + 1 * f.val = f.val; rw [(idx11' t).2.1]; omega
  | ⟨2, _⟩ => show win0_11.index t 2 * 1024 + 1 * n.val = n.val; rw [(idx11' t).2.2]; omega

theorem b12_apply (t : Fin cfg0.N) (f : Fin 1024) (n : Fin 5632) :
    (iblk m c 12 t : Vec Ideal S1x1024x5632 .bf16) (ix3 0 f n) = (Gen.V m c main_v34 : S2x1024x5632.Idx → EReal) (ix3 1 f n) := by
  show (Gen.V m c main_v34 : S2x1024x5632.Idx → EReal) (((cfg0.win 12).blk t).view.emb (ix3 (0 : Fin 1) f n)) = _
  refine congrArg _ (funext fun x => Fin.ext ?_)
  match x with
  | ⟨0, _⟩ => show win0_12.index t 0 * 1 + 1 * 0 = 1; rw [(idx12' t).1]
  | ⟨1, _⟩ => show win0_12.index t 1 * 1024 + 1 * f.val = f.val; rw [(idx12' t).2.1]; omega
  | ⟨2, _⟩ => show win0_12.index t 2 * 5632 + 1 * n.val = n.val; rw [(idx12' t).2.2]; omega

theorem b13_apply (t : Fin cfg0.N) (f : Fin 2816) (n : Fin 1024) :
    (iblk m c 13 t : Vec Ideal S1x2816x1024 .bf16) (ix3 0 f n) = (Gen.V m c main_v35 : S2x2816x1024.Idx → EReal) (ix3 1 f n) := by
  show (Gen.V m c main_v35 : S2x2816x1024.Idx → EReal) (((cfg0.win 13).blk t).view.emb (ix3 (0 : Fin 1) f n)) = _
  refine congrArg _ (funext fun x => Fin.ext ?_)
  match x with
  | ⟨0, _⟩ => show win0_13.index t 0 * 1 + 1 * 0 = 1; rw [(idx13' t).1]
  | ⟨1, _⟩ => show win0_13.index t 1 * 2816 + 1 * f.val = f.val; rw [(idx13' t).2.1]; omega
  | ⟨2, _⟩ => show win0_13.index t 2 * 1024 + 1 * n.val = n.val; rw [(idx13' t).2.2]; omega

theorem b14_apply (t : Fin cfg0.N) (n : Fin 1024) : (iblk m c 14 t : Vec Ideal S1x1024 .f32) (ix2 0 n) = ag m c (ix1 n) := by
  refine Eq.trans ?_ (V36 m c n)
  show (Gen.V m c main_v36 : S1x1024.Idx → EReal) (((cfg0.win 14).blk t).view.emb (ix2 (0 : Fin 1) n)) = _
  refine congrArg _ (funext fun a => Fin.ext ?_)
  match a with
  | ⟨0, _⟩ => show win0_14.index t 0 * 1 + 1 * 0 = 0; rw [(idx14' t).1]
  | ⟨1, _⟩ => show win0_14.index t 1 * 1024 + 1 * n.val = n.val; rw [(idx14' t).2]; omega

/-- Row `R` of the result is row `R % 512` of the block that point `R / 512` leaves. -/
theorem arr_apply (t : Fin cfg0.N) (r : Fin 512) (n : Fin 1024) (R : Fin 16384) (hR : R.val = t.val * 512 + r.val) :
    ((dats m 0 c).arrAt 15 cfg0.N : S16384x1024.Idx → EReal) (ix2 R n)
      = out0_15 (F := Ideal) (iblk m c 0 t) (iblk m c 1 t) (iblk m c 2 t) (iblk m c 3 t) (iblk m c 4 t) (iblk m c 5 t) (iblk m c 6 t) (iblk m c 7 t)
          (iblk m c 8 t) (iblk m c 9 t) (iblk m c 10 t) (iblk m c 11 t) (iblk m c 12 t) (iblk m c 13 t) (iblk m c 14 t) (ix2 r n) := by
  have h := (Value.blocks15 m c t (flush0_15 t)).trans (Value.flushed15 m c t)
  have h' := congrFun h (ix2 r n)
  refine Eq.trans ?_ h'
  show _ = ((dats m 0 c).arrAt 15 cfg0.N : S16384x1024.Idx → EReal) (((cfg0.win 15).blk t).view.emb (ix2 r n))
  refine congrArg _ (funext fun a => Fin.ext ?_)
  match a with
  | ⟨0, _⟩ => show R.val = win0_15.index t 0 * 512 + 1 * r.val; rw [(idx15' t).1, hR]; omega
  | ⟨1, _⟩ => show n.val = win0_15.index t 1 * 1024 + 1 * n.val; rw [(idx15' t).2]; omega

/-- The stream after the projection of the mixers' outputs. -/
theorem last_congr {x x' g5 g5' sh sh' s s' g g' gain gain' : Fin 1024 → EReal} {p p' : Fin 1024 → EReal} {w w' : Fin 1024 → Fin 5632 → EReal}
    {w2 w2' : Fin 2816 → Fin 1024 → EReal} (hx : ∀ d, x d = x' d) (h0 : ∀ d, g5 d = g5' d) (hp : ∀ d, p d = p' d) (h1 : ∀ d, sh d = sh' d)
    (h2 : ∀ d, s d = s' d) (h3 : ∀ d, g d = g' d) (h4 : ∀ d f, w d f = w' d f) (h5 : ∀ f n, w2 f n = w2' f n) (h6 : ∀ d, gain d = gain' d)
    (n : Fin 1024) : nrm (step (fun d => x d + g5 d * p d) sh s g w w2) gain n = nrm (step (fun d => x' d + g5' d * p' d) sh' s' g' w' w2') gain' n := by
  rw [funext hx, funext h0, funext hp, funext h1, funext h2, funext h3, funext fun d => funext (h4 d), funext fun f => funext (h5 f), funext h6]

/-- A row of the result. -/
theorem arr_row (b : Fin 2) (j : Fin 8192) (n : Fin 1024) (R : Fin 16384) (hR : R.val = b.val * 8192 + j.val) :
    ((dats m 0 c).arrAt 15 cfg0.N : S16384x1024.Idx → EReal) (ix2 R n)
      = nrm (step (fun d => ax m c (ix3 b j d) + am m c (ix3 b 5 d) * proj (fun k => aya m c (ix3 b j k)) (fun k => ayb m c (ix3 b j k))
            (fun k => ayc m c (ix3 b j k)) (fun k => ayd m c (ix3 b j k)) (fun d n => awo m c (ix3 1 d n)) d)
          (fun d => am m c (ix3 b 6 d)) (fun d => am m c (ix3 b 7 d)) (fun d => am m c (ix3 b 8 d))
          (fun d f => aw m c (ix3 1 d f)) (fun f n => aw2 m c (ix3 1 f n))) (fun d => ag m c (ix1 d)) n := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  obtain ⟨g, hg⟩ : ∃ g : Fin 8, g.val = b.val + 1 := ⟨⟨b.val + 1, by omega⟩, rfl⟩
  obtain ⟨o, ho⟩ : ∃ o : Nat, o = t.val % 16 * 512 := ⟨_, rfl⟩
  have hb : t.val / 16 = b.val := by omega
  have hlt : ∀ q : Fin 512, o + q.val < 8192 := fun q => by omega
  have hm : ∀ a d, (iblk m c 1 t : Vec Ideal S1x9x1024 .f32) (ix3 0 a d) = am m c (ix3 b a d) :=
    fun a d => (b1_apply m c t a d g (by omega)).trans (V3_lat m c b g hg a d)
  rw [arr_apply m c t r n R (by omega), out_apply _ _ _ _ _ _ _ _ _ _ _ _ _ _ _
    (fun q k => aya m c (ix3 b ⟨o + q.val, hlt q⟩ k)) (fun q k => ayb m c (ix3 b ⟨o + q.val, hlt q⟩ k))
    (fun q k => ayc m c (ix3 b ⟨o + q.val, hlt q⟩ k)) (fun q k => ayd m c (ix3 b ⟨o + q.val, hlt q⟩ k)) (fun d n => awo m c (ix3 1 d n))
    (fun q k => (b2_apply m c t q k ⟨(t.val + 1) * 512 + q.val, by omega⟩ rfl).trans
      (V22_lat m c b ⟨o + q.val, hlt q⟩ k _ (by show (t.val + 1) * 512 + q.val = 512 + (b.val * 8192 + (o + q.val)); omega)))
    (fun q k => (b3_apply m c t q k ⟨(t.val / 16 * 33 + 1 + 2 * (t.val % 16)) * 256 + q.val, by omega⟩ rfl).trans (by
      rw [V25]
      exact seq_apply _ _ b ⟨o + q.val, by omega⟩ k _ (by
        show (t.val / 16 * 33 + 1 + 2 * (t.val % 16)) * 256 + q.val = b.val * 8448 + (256 + (o + q.val)); omega)))
    (fun q k => (b4_apply m c t q k ⟨(t.val / 16 * 33 + 2 + 2 * (t.val % 16)) * 256 + q.val, by omega⟩ rfl).trans (by
      rw [V25]
      exact seq_apply _ _ b ⟨o + (256 + q.val), by omega⟩ k _ (by
        show (t.val / 16 * 33 + 2 + 2 * (t.val % 16)) * 256 + q.val = b.val * 8448 + (256 + (o + (256 + q.val))); omega)))
    (fun q k => (b5_apply m c t q k ⟨(t.val / 16 * 33 + 1 + 2 * (t.val % 16)) * 256 + q.val, by omega⟩ rfl).trans (by
      rw [V28]
      exact seq_apply _ _ b ⟨o + q.val, by omega⟩ k _ (by
        show (t.val / 16 * 33 + 1 + 2 * (t.val % 16)) * 256 + q.val = b.val * 8448 + (256 + (o + q.val)); omega)))
    (fun q k => (b6_apply m c t q k ⟨(t.val / 16 * 33 + 2 + 2 * (t.val % 16)) * 256 + q.val, by omega⟩ rfl).trans (by
      rw [V28]
      exact seq_apply _ _ b ⟨o + (256 + q.val), by omega⟩ k _ (by
        show (t.val / 16 * 33 + 2 + 2 * (t.val % 16)) * 256 + q.val = b.val * 8448 + (256 + (o + (256 + q.val))); omega)))
    (fun q k => (b7_apply m c t q (lane k) ⟨t.val * 512 + q.val, by omega⟩ rfl).trans
      (V30_lane m c b ⟨o + q.val, hlt q⟩ k _ (by show t.val * 512 + q.val = b.val * 8192 + (o + q.val); omega)))
    (fun k n => (b8_apply m c t k n).trans (by rw [V12]; exact part_apply _ 0 _ k n _ (by simp)))
    (fun k n => (b9_apply m c t k n).trans (by rw [V14]; exact part_apply _ 256 _ k n _ rfl))
    (fun k n => (b10_apply m c t k n).trans (by rw [V16]; exact part_apply _ 512 _ k n _ rfl))
    (fun k n => (b11_apply m c t (lane k) n).trans (V18_lane m c k n))
    (fun j n hj => (b11_apply m c t j n).trans (V18_zero m c j hj n))]
  have hjr : (⟨o + r.val, hlt r⟩ : Fin 8192) = j := Fin.ext (by show o + r.val = j.val; omega)
  refine last_congr (fun d => (b0_apply m c t r d ⟨(t.val + 1) * 512 + r.val, by omega⟩ rfl).trans
      (V33_lat m c b j d _ (by show (t.val + 1) * 512 + r.val = 512 + (b.val * 8192 + j.val); omega)))
    (hm 5) (fun d => ?_) (hm 6) (hm 7) (hm 8)
    (fun d f => (b12_apply m c t d f).trans (congrFun (V34 m c) _)) (fun f n => (b13_apply m c t f n).trans (congrFun (V35 m c) _))
    (b14_apply m c t) n
  show proj (fun k => aya m c (ix3 b ⟨o + r.val, hlt r⟩ k)) (fun k => ayb m c (ix3 b ⟨o + r.val, hlt r⟩ k))
    (fun k => ayc m c (ix3 b ⟨o + r.val, hlt r⟩ k)) (fun k => ayd m c (ix3 b ⟨o + r.val, hlt r⟩ k)) _ d = _
  rw [hjr]

end Cert.MixKernelIdeal.Mix
-- ==== Proof.Mix.Ref.lean ====
module
public import proofs.«01_k».proof.Proof.Gen.MixReferenceIdeal.Read
public import proofs.«01_k».proof.Proof.Ffn.Math
/-! What the reference of the last layer's second half computes, row by row. -/
@[expose] public section
set_option maxRecDepth 16384
noncomputable section
namespace Cert.MixReferenceIdeal.Mix
open Cert.MixReferenceIdeal Cert.MixReferenceIdeal.Gen Cert.MixReferenceIdeal.Read Idealize.ShloMosaic Idealize.ShloMosaic.ValueIdx
open Cert.Ffn

variable (x0 : S2x8192x1024.Idx → EReal) (x2 : S2x9x1024.Idx → EReal) (x4 x6 x8 x10 : S2x8192x256.Idx → EReal)
  (x11 : S2x1024x1024.Idx → EReal) (x12 : S2x1024x5632.Idx → EReal) (x13 : S2x2816x1024.Idx → EReal) (x14 : S1024.Idx → EReal)

/-- The weights of the last layer. -/
abbrev wo : Fin 1024 → Fin 1024 → EReal := fun d n => x11 (ix3 1 d n)
abbrev w : Fin 1024 → Fin 5632 → EReal := fun d f => x12 (ix3 1 d f)
abbrev w2 : Fin 2816 → Fin 1024 → EReal := fun f n => x13 (ix3 1 f n)

variable (b : Fin 2) (j : Fin 8192)
/-- Row `a` of the modulations. -/
abbrev ml (a : Fin 9) : Fin 1024 → EReal := fun d => x2 (ix3 b a d)
/-- The stream after the projection of the mixers' outputs. -/
def xs : Fin 1024 → EReal := fun d => x0 (ix3 b j d) + ml x2 b 5 d * proj (fun k => x4 (ix3 b j k)) (fun k => x6 (ix3 b j k))
  (fun k => x8 (ix3 b j k)) (fun k => x10 (ix3 b j k)) (wo x11) d
/-- The stream after the half-step. -/
def ys : Fin 1024 → EReal := step (xs x0 x2 x4 x6 x8 x10 x11 b j) (ml x2 b 6) (ml x2 b 7) (ml x2 b 8) (w x12) (w2 x13)

theorem v8_eq (d n : Fin 1024) : val_main_v8 (F := Ideal) x11 (ix2 d n) = wo x11 d n := by
  unfold val_main_v8
  refine (shapeCast_apply _ _ _ (ix3 (0 : Fin 1) d n) (by
    rw [Shape.rowMajor_val_three, Shape.rowMajor_val_two]
    show (0 * 1024 + d.val) * 1024 + n.val = d.val * 1024 + n.val
    omega)).trans ?_
  rw [val_main_v7_apply]
  exact congrArg x11 (funext fun a => match a with | ⟨0, _⟩ => rfl | ⟨1, _⟩ => rfl | ⟨2, _⟩ => rfl)

theorem v32_eq (d : Fin 1024) (f : Fin 5632) : val_main_v32 (F := Ideal) x12 (ix2 d f) = w x12 d f := by
  unfold val_main_v32
  refine (shapeCast_apply _ _ _ (ix3 (0 : Fin 1) d f) (by
    rw [Shape.rowMajor_val_three, Shape.rowMajor_val_two]
    show (0 * 1024 + d.val) * 5632 + f.val = d.val * 5632 + f.val
    omega)).trans ?_
  rw [val_main_v31_apply]
  exact congrArg x12 (funext fun a => match a with | ⟨0, _⟩ => rfl | ⟨1, _⟩ => rfl | ⟨2, _⟩ => rfl)

theorem v34_eq (f : Fin 2816) (n : Fin 1024) : val_main_v34 (F := Ideal) x13 (ix2 f n) = w2 x13 f n := by
  unfold val_main_v34
  refine (shapeCast_apply _ _ _ (ix3 (0 : Fin 1) f n) (by
    rw [Shape.rowMajor_val_three, Shape.rowMajor_val_two]
    show (0 * 2816 + f.val) * 1024 + n.val = f.val * 1024 + n.val
    omega)).trans ?_
  rw [val_main_v33_apply]
  exact congrArg x13 (funext fun a => match a with | ⟨0, _⟩ => rfl | ⟨1, _⟩ => rfl | ⟨2, _⟩ => rfl)

/-- Two arrays side by side along the last axis. -/
theorem left_apply (s t : Nat) (x : (⟨3, ![2, 8192, s]⟩ : Shape).Idx → EReal) (y : (⟨3, ![2, 8192, s]⟩ : Shape).Idx → EReal)
    (h : Shape.Concatenates [(⟨3, ![2, 8192, s]⟩ : Shape), ⟨3, ![2, 8192, s]⟩] ⟨3, ![2, 8192, t]⟩ 2) (k : Fin s) (q : Fin t) (hq : q.val = k.val) :
    concatenate (α := EReal) ⟨3, ![2, 8192, t]⟩ 2 [⟨⟨3, ![2, 8192, s]⟩, x⟩, ⟨⟨3, ![2, 8192, s]⟩, y⟩] h (ix3 b j q) = x (ix3 b j k) :=
  concatenate_pair_apply_left (t := ⟨3, ![2, 8192, t]⟩) (s₁ := ⟨3, ![2, 8192, s]⟩) (s₂ := ⟨3, ![2, 8192, s]⟩) 2 _ _ _ _ rfl (ix3 b j k) (fun a => match a with
    | ⟨0, _⟩ => rfl | ⟨1, _⟩ => rfl | ⟨2, _⟩ => hq.symm)

theorem right_apply (s t : Nat) (x : (⟨3, ![2, 8192, s]⟩ : Shape).Idx → EReal) (y : (⟨3, ![2, 8192, s]⟩ : Shape).Idx → EReal)
    (h : Shape.Concatenates [(⟨3, ![2, 8192, s]⟩ : Shape), ⟨3, ![2, 8192, s]⟩] ⟨3, ![2, 8192, t]⟩ 2) (k : Fin s) (q : Fin t) (hq : q.val = s + k.val) :
    concatenate (α := EReal) ⟨3, ![2, 8192, t]⟩ 2 [⟨⟨3, ![2, 8192, s]⟩, x⟩, ⟨⟨3, ![2, 8192, s]⟩, y⟩] h (ix3 b j q) = y (ix3 b j k) :=
  concatenate_pair_apply_right (t := ⟨3, ![2, 8192, t]⟩) (s₁ := ⟨3, ![2, 8192, s]⟩) (s₂ := ⟨3, ![2, 8192, s]⟩) 2 _ _ _ _ rfl rfl (ix3 b j k) (fun a => match a with
    | ⟨0, _⟩ => fun _ => rfl | ⟨1, _⟩ => fun _ => rfl | ⟨2, _⟩ => fun ne => absurd rfl ne) (by show k.val + s = q.val; omega)

theorem v9_eq (n : Fin 1024) : val_main_v9 (F := Ideal) x4 x6 x8 x10 x11 (ix3 b j n)
    = proj (fun k => x4 (ix3 b j k)) (fun k => x6 (ix3 b j k)) (fun k => x8 (ix3 b j k)) (fun k => x10 (ix3 b j k)) (wo x11) n := by
  rw [val_main_v9_apply]
  refine (Finset.sum_congr rfl fun k _ => ?_ : _ = ∑ k, (fun k => val_main_v6 (F := Ideal) x4 x6 x8 x10 (ix3 b j k)) k * wo x11 k n).trans ?_
  · have e1 : lidx_main_v9 (ix3 b j n) k = ix3 b j k := (eq_ix3 _).trans rfl
    have e2 : ridx_main_v9 (ix3 b j n) k = ix2 k n := (eq_ix2 _).trans rfl
    rw [e1, e2, v8_eq]
  · rw [proj_eq]
    have h1 : ∀ k : Fin 256, val_main_v6 (F := Ideal) x4 x6 x8 x10 (ix3 b j ⟨k.val, by omega⟩) = x4 (ix3 b j k) := fun k =>
      (left_apply b j 512 1024 _ _ _ ⟨k.val, by omega⟩ _ rfl).trans (left_apply b j 256 512 _ _ _ k _ rfl)
    have h2 : ∀ k : Fin 256, val_main_v6 (F := Ideal) x4 x6 x8 x10 (ix3 b j ⟨256 + k.val, by omega⟩) = x6 (ix3 b j k) := fun k =>
      (left_apply b j 512 1024 _ _ _ ⟨256 + k.val, by omega⟩ _ rfl).trans (right_apply b j 256 512 _ _ _ k _ rfl)
    have h3 : ∀ k : Fin 256, val_main_v6 (F := Ideal) x4 x6 x8 x10 (ix3 b j ⟨512 + k.val, by omega⟩) = x8 (ix3 b j k) := fun k =>
      (right_apply b j 512 1024 _ _ _ ⟨k.val, by omega⟩ _ rfl).trans (left_apply b j 256 512 _ _ _ k _ rfl)
    have h4 : ∀ k : Fin 256, val_main_v6 (F := Ideal) x4 x6 x8 x10 (ix3 b j ⟨768 + k.val, by omega⟩) = x10 (ix3 b j k) := fun k =>
      (right_apply b j 512 1024 _ _ _ ⟨256 + k.val, by omega⟩ _ (by show 768 + k.val = 512 + (256 + k.val); omega)).trans (right_apply b j 256 512 _ _ _ k _ rfl)
    rw [funext h1, funext h2, funext h3, funext h4]

theorem v12_eq (d : Fin 1024) : val_main_v12 (F := Ideal) x0 x2 x4 x6 x8 x10 x11 (ix3 b j d) = xs x0 x2 x4 x6 x8 x10 x11 b j d := by
  rw [val_main_v12_apply, val_main_v11_apply, val_main_v10_apply, val_main_v0_apply, v9_eq]
  have e : idx_main_v0 (idx_main_v10 (ix3 b j d)) = ix3 b 5 d := (eq_ix3 _).trans rfl
  rw [e]
  rfl

theorem v22_eq : val_main_v22 (F := Ideal) x0 x2 x4 x6 x8 x10 x11 (ix3 b j 0) = rms (xs x0 x2 x4 x6 x8 x10 x11 b j) := by
  rw [val_main_v22_apply, val_main_v21_apply, val_main_v20_apply, val_main_cst_2_apply, val_main_v19_apply, val_main_v18_apply,
    val_main_cst_1_apply, val_main_v17_apply, val_main_v16_apply, val_main_cst_0_apply]
  have key : ∀ z a : EReal, z = 0 → a = (∑ d, xs x0 x2 x4 x6 x8 x10 x11 b j d * xs x0 x2 x4 x6 x8 x10 x11 b j d) →
      Ideal.rsqrt (Ideal.div (z + a) cDim + cEps) = rms (xs x0 x2 x4 x6 x8 x10 x11 b j) := by
    rintro z a rfl rfl; rw [zero_add]; rfl
  refine key _ _ Ideal.ofBits_zero_f32 (Finset.sum_congr rfl fun d _ => ?_)
  rw [val_main_v15_apply]
  have e : idx_main_v16 (idx_main_v17 (ix3 b j 0)) d = ix3 b j d := (eq_ix3 _).trans rfl
  rw [e, v12_eq]
  rfl

theorem v30_eq (d : Fin 1024) : val_main_v30 (F := Ideal) x0 x2 x4 x6 x8 x10 x11 (ix3 b j d)
    = mdl (xs x0 x2 x4 x6 x8 x10 x11 b j) (ml x2 b 6) (ml x2 b 7) d := by
  rw [val_main_v30_apply, val_main_v29_apply, val_main_v28_apply, val_main_v27_apply, val_main_v26_apply, val_main_v25_apply,
    val_main_cst_3_apply, val_main_v24_apply, val_main_v23_apply, val_main_v2_apply, val_main_v1_apply]
  have e1 : idx_main_v23 (ix3 b j d) = ix3 b j 0 := (eq_ix3 _).trans rfl
  have e2 : idx_main_v2 (idx_main_v27 (ix3 b j d)) = ix3 b 7 d := (eq_ix3 _).trans rfl
  have e3 : idx_main_v1 (idx_main_v29 (ix3 b j d)) = ix3 b 6 d := (eq_ix3 _).trans rfl
  rw [e1, e2, e3, v22_eq, v12_eq]
  rfl

theorem v35_eq (f : Fin 5632) : val_main_v35 (F := Ideal) x0 x2 x4 x6 x8 x10 x11 x12 (ix3 b j f)
    = ∑ d, mdl (xs x0 x2 x4 x6 x8 x10 x11 b j) (ml x2 b 6) (ml x2 b 7) d * w x12 d f := by
  rw [val_main_v35_apply]
  refine Finset.sum_congr rfl fun d _ => ?_
  have e1 : lidx_main_v35 (ix3 b j f) d = ix3 b j d := (eq_ix3 _).trans rfl
  have e2 : ridx_main_v35 (ix3 b j f) d = ix2 d f := (eq_ix2 _).trans rfl
  rw [e1, e2, v30_eq, v32_eq]

theorem v39_eq (f : Fin 2816) : val_main_v39 (F := Ideal) x0 x2 x4 x6 x8 x10 x11 x12 (ix3 b j f)
    = hid (mdl (xs x0 x2 x4 x6 x8 x10 x11 b j) (ml x2 b 6) (ml x2 b 7)) (w x12) f := by
  rw [val_main_v39_apply, val_main_v38_apply, val_main_call0_v5_apply, val_main_call0_v4_apply, val_main_call0_cst_0_apply,
    val_main_call0_v3_apply, val_main_call0_v2_apply, val_main_call0_cst_apply, val_main_call0_v1_apply, val_main_call0_v0_apply,
    val_main_v37_apply, val_main_v36_apply]
  have e1 : idx_main_v36 (ix3 b j f) = ix3 b j ⟨f.val, by omega⟩ := (eq_ix3 _).trans rfl
  have e2 : idx_main_v37 (ix3 b j f) = ix3 b j ⟨2816 + f.val, by omega⟩ := (eq_ix3 _).trans rfl
  rw [e1, e2, v35_eq, v35_eq]
  rfl

theorem v43_eq (n : Fin 1024) : val_main_v43 (F := Ideal) x0 x2 x4 x6 x8 x10 x11 x12 x13 (ix3 b j n)
    = ys x0 x2 x4 x6 x8 x10 x11 x12 x13 b j n := by
  rw [val_main_v43_apply, val_main_v42_apply, val_main_v41_apply, val_main_v14_apply, val_main_v13_apply, val_main_cst_apply,
    val_main_v3_apply, val_main_v40_apply, v12_eq]
  have e1 : idx_main_v3 (idx_main_v41 (ix3 b j n)) = ix3 b 8 n := (eq_ix3 _).trans rfl
  rw [e1]
  refine congrArg (fun a : EReal => xs x0 x2 x4 x6 x8 x10 x11 b j n + cHalf * x2 (ix3 b 8 n) * a) (Finset.sum_congr rfl fun f _ => ?_)
  have e2 : lidx_main_v40 (ix3 b j n) f = ix3 b j f := (eq_ix3 _).trans rfl
  have e3 : ridx_main_v40 (ix3 b j n) f = ix2 f n := (eq_ix2 _).trans rfl
  rw [e2, e3, v39_eq, v34_eq]

theorem v51_eq : val_main_v51 (F := Ideal) x0 x2 x4 x6 x8 x10 x11 x12 x13 (ix3 b j 0) = rms (ys x0 x2 x4 x6 x8 x10 x11 x12 x13 b j) := by
  rw [val_main_v51_apply, val_main_v50_apply, val_main_v49_apply, val_main_cst_6_apply, val_main_v48_apply, val_main_v47_apply,
    val_main_cst_5_apply, val_main_v46_apply, val_main_v45_apply, val_main_cst_4_apply]
  have key : ∀ z a : EReal, z = 0 → a = (∑ d, ys x0 x2 x4 x6 x8 x10 x11 x12 x13 b j d * ys x0 x2 x4 x6 x8 x10 x11 x12 x13 b j d) →
      Ideal.rsqrt (Ideal.div (z + a) cDim + cEps) = rms (ys x0 x2 x4 x6 x8 x10 x11 x12 x13 b j) := by
    rintro z a rfl rfl; rw [zero_add]; rfl
  refine key _ _ Ideal.ofBits_zero_f32 (Finset.sum_congr rfl fun d _ => ?_)
  rw [val_main_v44_apply]
  have e : idx_main_v45 (idx_main_v46 (ix3 b j 0)) d = ix3 b j d := (eq_ix3 _).trans rfl
  rw [e, v43_eq]
  rfl

theorem v56_eq (n : Fin 1024) : val_main_v56 (F := Ideal) x0 x2 x4 x6 x8 x10 x11 x12 x13 x14 (ix3 b j n)
    = nrm (ys x0 x2 x4 x6 x8 x10 x11 x12 x13 b j) (fun d => x14 (ix1 d)) n := by
  rw [val_main_v56_apply, val_main_v55_apply, val_main_v54_apply, val_main_v53_apply, val_main_v52_apply]
  have e1 : idx_main_v52 (ix3 b j n) = ix3 b j 0 := (eq_ix3 _).trans rfl
  have e2 : idx_main_v54 (idx_main_v55 (ix3 b j n)) = ix1 n := (eq_ix1 _).trans rfl
  rw [e1, e2, v51_eq, v43_eq]
  rfl

/-- A row of the reference's result. -/
theorem v57_row (n : Fin 1024) (R : Fin 16384) (hR : R.val = b.val * 8192 + j.val) :
    val_main_v57 (F := Ideal) x0 x2 x4 x6 x8 x10 x11 x12 x13 x14 (ix2 R n)
      = nrm (ys x0 x2 x4 x6 x8 x10 x11 x12 x13 b j) (fun d => x14 (ix1 d)) n := by
  unfold val_main_v57
  rw [← v56_eq]
  exact flat_apply _ _ b j n _ hR

end Cert.MixReferenceIdeal.Mix
-- ==== Proof.Mix.Link.lean ====
module
public import proofs.«01_k».proof.Proof.Mix.Arr
public import proofs.«01_k».proof.Proof.Mix.Ref
/-! The last feed-forward kernel and its reference leave the same array from the same arguments. -/
@[expose] public section
set_option maxRecDepth 16384
noncomputable section
namespace Cert.Mix.Link
open Idealize.ShloMosaic Idealize.ShloMosaic.TcCoe Idealize.ShloMosaic.ValueIdx Idealize.SL.Sem
open Cert.MixKernelIdeal Cert.MixKernelIdeal.Gen Cert.MixKernelIdeal.Mix

variable (m : (ℓ : Loc nD τ sig) → Buf (Elt Ideal) ℓ) (c : Dev nD)

theorem agree (R : Fin 16384) (n : Fin 1024) :
    ((dats m 0 c).arrAt 15 cfg0.N : S16384x1024.Idx → EReal) (ix2 R n)
      = Cert.MixReferenceIdeal.Read.val_main_v57 (F := Ideal) (ax m c) (am m c) (aya m c) (ayb m c) (ayc m c) (ayd m c) (awo m c) (aw m c) (aw2 m c)
          (ag m c) (ix2 R n) := by
  have hR := R.isLt
  obtain ⟨b, hb⟩ : ∃ b : Fin 2, b.val = R.val / 8192 := ⟨⟨R.val / 8192, by omega⟩, rfl⟩
  obtain ⟨j, hj⟩ : ∃ j : Fin 8192, j.val = R.val % 8192 := ⟨⟨R.val % 8192, by omega⟩, rfl⟩
  exact (arr_row m c b j n R (by omega)).trans (Cert.MixReferenceIdeal.Mix.v57_row (ax m c) (am m c) (aya m c) (ayb m c) (ayc m c) (ayd m c)
    (awo m c) (aw m c) (aw2 m c) (ag m c) b j n R (by omega)).symm

end Cert.Mix.Link
-- ==== Proof.Ffn.Block.lean ====
module
public import proofs.«01_k».proof.Proof.Gen.FfnKernelIdeal.Value
public import proofs.«01_k».proof.Proof.Ffn.Math
/-! What one grid point of the feed-forward kernel leaves in its block of rows, as a function of the blocks it reads. -/
@[expose] public section
set_option maxRecDepth 16384
noncomputable section
namespace Cert.FfnKernelIdeal.Ffn
open Cert.FfnKernelIdeal Cert.FfnKernelIdeal.Gen Idealize.ShloMosaic Idealize.ShloMosaic.ValueIdx Cert.Ffn

theorem dotA : dot_S512x1024_S1024x1536_S512x1536_1_0_0_1_n_n = DotDims.plain 512 1024 1536 := rfl
theorem dotB : dot_S512x1536_S1536x1024_S512x1024_1_0_0_1_n_n = DotDims.plain 512 1536 1024 := rfl
theorem dotC : dot_S512x1024_S1024x1280_S512x1280_1_0_0_1_n_n = DotDims.plain 512 1024 1280 := rfl
theorem dotD : dot_S512x1280_S1280x1024_S512x1024_1_0_0_1_n_n = DotDims.plain 512 1280 1024 := rfl

/-- A row of a block of rows. -/
abbrev row (x : Vec Ideal S512x1024 .f32) (r : Fin 512) : Fin 1024 → EReal := fun d => x (ix2 r d)
/-- Row `a` of a block of modulations. -/
abbrev md (x : Vec Ideal S1x9x1024 .f32) (a : Fin 9) : Fin 1024 → EReal := fun d => x (ix3 0 a d)
/-- A weight matrix behind a leading axis of length one. -/
abbrev wa (x : Vec Ideal S1x1024x5632 .bf16) : Fin 1024 → Fin 5632 → EReal := fun d f => x (ix3 0 d f)
abbrev wb (x : Vec Ideal S1x2816x1024 .bf16) : Fin 2816 → Fin 1024 → EReal := fun f n => x (ix3 0 f n)

variable (i : grid0.Coords) (X Y x : Vec Ideal S512x1024 .f32) (x2 : Vec Ideal S1x9x1024 .f32)
  (x3 : Vec Ideal S1x1024x5632 .bf16) (x4 : Vec Ideal S1x2816x1024 .bf16)

theorem pay3_apply (hx : k0_pay2 (F := Ideal) i X Y = x) (r : Fin 512) (d : Fin 1024) :
    k0_pay3 (F := Ideal) i X Y (View.ld x2 r0_1) (View.ld x2 r0_2) (ix2 r d) = mdl (row x r) (md x2 0) (md x2 1) d := by
  unfold k0_pay3
  rw [hx]
  show (x (ix2 r d) * broadcastTo S512x1024 _ _ (ix2 r d)) * broadcastTo S512x1024 _ _ (ix2 r d) + broadcastTo S512x1024 _ _ (ix2 r d) = _
  rw [row_apply 512 1024, row_apply 512 1024, col_apply]
  have key : ∀ a b c : EReal, a = (∑ k, row x r k * row x r k) → b = md x2 1 d → c = md x2 0 d →
      x (ix2 r d) * Ideal.rsqrt (Ideal.div a cDim + cEps) * (cOne + b) + c = mdl (row x r) (md x2 0) (md x2 1) d := by
    rintro a b c rfl rfl rfl; rfl
  exact key _ _ _ (sq_apply x _ _ _ _ r) (slab_apply (F := Ideal) x2 1 0 _ _ 0 d 1 d rfl (by omega))
    (slab_apply (F := Ideal) x2 0 0 _ _ 0 d 0 d rfl (by omega))

theorem pay4_apply (hx : k0_pay2 (F := Ideal) i X Y = x) (r : Fin 512) (f : Fin 1536) :
    k0_pay4 (F := Ideal) i X Y (View.ld x2 r0_1) (View.ld x2 r0_2) (View.ld x3 r0_3) (ix2 r f)
      = ∑ d, mdl (row x r) (md x2 0) (md x2 1) d * wa x3 d ⟨f.val, by omega⟩ := by
  unfold k0_pay4
  rw [dotA]
  refine (dot_apply 512 1024 1536 _ _ r f).trans (Finset.sum_congr rfl fun d _ => ?_)
  rw [pay3_apply i X Y x x2 hx]
  exact congrArg _ (slab_apply (F := Ideal) x3 0 0 _ _ d f d ⟨f.val, by omega⟩ (by omega) (by simp))

theorem pay5_apply (hx : k0_pay2 (F := Ideal) i X Y = x) (r : Fin 512) (f : Fin 1536) :
    k0_pay5 (F := Ideal) i X Y (View.ld x2 r0_1) (View.ld x2 r0_2) (View.ld x3 r0_4) (ix2 r f)
      = ∑ d, mdl (row x r) (md x2 0) (md x2 1) d * wa x3 d ⟨2816 + f.val, by omega⟩ := by
  unfold k0_pay5
  rw [dotA]
  refine (dot_apply 512 1024 1536 _ _ r f).trans (Finset.sum_congr rfl fun d _ => ?_)
  rw [pay3_apply i X Y x x2 hx]
  exact congrArg _ (slab_apply (F := Ideal) x3 0 2816 _ _ d f d ⟨2816 + f.val, by omega⟩ (by omega) rfl)

theorem pay7_apply (h : Fin 512 → Fin 1024 → EReal) (v26 : FVec Ideal S512x1024 .bf16) (v29 v32 v34 : FVec Ideal S512x1536 .f32)
    (h26 : ∀ r d, v26 (ix2 r d) = h r d) (h29 : ∀ r (f : Fin 1536), v29 (ix2 r f) = ∑ d, h r d * wa x3 d ⟨f.val, by omega⟩)
    (h32 : ∀ r (f : Fin 1536), v32 (ix2 r f) = ∑ d, h r d * wa x3 d ⟨2816 + f.val, by omega⟩)
    (h34 : ∀ r f, v34 (ix2 r f) = -v29 (ix2 r f)) (r : Fin 512) (n : Fin 1024) :
    k0_pay7 (F := Ideal) v26 v29 v32 v34 (View.ld x4 r0_5) (View.ld x3 r0_6) (View.ld x3 r0_7) (View.ld x4 r0_8) (ix2 r n)
      = ff (h r) (wa x3) (wb x4) n := by
  rw [← ff_split]
  unfold k0_pay7
  rw [dotB, dotC, dotD]
  refine congrArg₂ (fun a b : EReal => a + b) ?_ ?_
  · refine (dot_apply 512 1536 1024 _ _ r n).trans (Finset.sum_congr rfl fun f _ => ?_)
    refine congrArg₂ (fun a b : EReal => a * b) ?_ ?_
    · show v29 (ix2 r f) * Ideal.div cOne (cOne + Ideal.exp (v34 (ix2 r f))) * v32 (ix2 r f) = _
      rw [h34, h29, h32]
      rfl
    · exact slab_apply (F := Ideal) x4 0 0 _ _ f n ⟨f.val, by omega⟩ n (by simp) (by omega)
  · refine (dot_apply 512 1280 1024 _ _ r n).trans (Finset.sum_congr rfl fun f _ => ?_)
    refine congrArg₂ (fun a b : EReal => a * b) ?_ ?_
    · have e1 : matmul (φ₂ := .bf16) (DotDims.plain 512 1024 1280) none v26 (shapeCast S1024x1280 (View.ld x3 r0_6) shapeCasts_S1x1024x1280_S1024x1280)
          (constant (F := Ideal) ⟨2, ![512, 1280]⟩ .f32 0x00000000#32) (ix2 r f) = ∑ d, h r d * wa x3 d ⟨1536 + f.val, by omega⟩ := by
        refine (dot_apply 512 1024 1280 _ _ r f).trans (Finset.sum_congr rfl fun d _ => ?_)
        rw [h26]
        exact congrArg _ (slab_apply (F := Ideal) x3 0 1536 _ _ d f d ⟨1536 + f.val, by omega⟩ (by omega) rfl)
      have e2 : matmul (φ₂ := .bf16) (DotDims.plain 512 1024 1280) none v26 (shapeCast S1024x1280 (View.ld x3 r0_7) shapeCasts_S1x1024x1280_S1024x1280)
          (constant (F := Ideal) ⟨2, ![512, 1280]⟩ .f32 0x00000000#32) (ix2 r f) = ∑ d, h r d * wa x3 d ⟨2816 + (1536 + f.val), by omega⟩ := by
        refine (dot_apply 512 1024 1280 _ _ r f).trans (Finset.sum_congr rfl fun d _ => ?_)
        rw [h26]
        exact congrArg _ (slab_apply (F := Ideal) x3 0 4352 _ _ d f d ⟨2816 + (1536 + f.val), by omega⟩ (by omega) (by simp; omega))
      refine Eq.trans ?_ (congrArg₂ act e1 e2)
      unfold act
      rw [← zero_sub']
      rfl
    · exact slab_apply (F := Ideal) x4 1536 0 _ _ f n ⟨1536 + f.val, by omega⟩ n rfl (by omega)

theorem out_apply (hx : k0_pay2 (F := Ideal) i X Y = x) (r : Fin 512) (n : Fin 1024) :
    out0_5 (F := Ideal) i X Y x2 x3 x4 (ix2 r n) = step (row x r) (md x2 0) (md x2 1) (md x2 2) (wa x3) (wb x4) n := by
  have hz : (![0, 0] : Fin 2 → Nat) = fun _ => 0 := funext fun a => match a with | ⟨0, _⟩ => rfl | ⟨1, _⟩ => rfl
  have l0 : ∀ Z : Vec Ideal S512x1024 .f32, View.ld Z r0_0 = Z := fun Z => View.ld_unit_zero hz _ Z
  unfold out0_5
  rw [l0, l0]
  refine (congrFun (View.canon_unit_zero hz _ _) _).trans ?_
  unfold k0_pay1
  rw [hx]
  refine congrArg₂ (fun a b : EReal => a + b) rfl ?_
  refine congrArg₂ (fun a b : EReal => a * b) ?_ ?_
  · refine (row_apply 512 1024 _ _ (by decide) (by decide) r n).trans ?_
    exact congrArg (cHalf * ·) (slab_apply (F := Ideal) x2 2 0 _ _ 0 n 2 n rfl (by omega))
  · exact pay7_apply x3 x4 (fun r => mdl (row x r) (md x2 0) (md x2 1)) _ _ _ _ (pay3_apply i X Y x x2 hx) (pay4_apply i X Y x x2 x3 hx)
      (pay5_apply i X Y x x2 x3 hx) (fun r f => zero_sub' _) r n

end Cert.FfnKernelIdeal.Ffn
-- ==== Proof.Ffn.Host.lean ====
module
public import proofs.«01_k».proof.Proof.Ffn.Block
public import Idealize.ShloMosaic.Lib.Claim
/-! What the host code before the launch lays out: the rows of the context and of the latents, the modulations and the weights. -/
@[expose] public section
set_option maxRecDepth 16384
noncomputable section
namespace Cert.FfnKernelIdeal.Ffn
open Cert.FfnKernelIdeal Cert.FfnKernelIdeal.Gen Idealize.ShloMosaic Idealize.ShloMosaic.TcCoe Idealize.ShloMosaic.ValueIdx
open Idealize.SL.Sem Cert.Ffn

variable (m : (ℓ : Loc nD τ sig) → Buf (Elt Ideal) ℓ) (c : Dev nD)

/-- The arguments at launch. -/
abbrev ax : S2x8192x1024.Idx → EReal := m (c, Proc.tc.devRef main_arg0)
abbrev axc : S2x256x1024.Idx → EReal := m (c, Proc.tc.devRef main_arg1)
abbrev am : S2x9x1024.Idx → EReal := m (c, Proc.tc.devRef main_arg2)
abbrev amc : S9x1024.Idx → EReal := m (c, Proc.tc.devRef main_arg3)
abbrev aw : S2x1024x5632.Idx → EReal := m (c, Proc.tc.devRef main_arg4)
abbrev aw2 : S2x2816x1024.Idx → EReal := m (c, Proc.tc.devRef main_arg5)

theorem V4 (b : Fin 2) (j : Fin 256) (d : Fin 1024) (R : Fin 512) (hR : R.val = b.val * 256 + j.val) :
    (Gen.V m c main_v4 : S512x1024.Idx → EReal) (ix2 R d) = axc m c (ix3 b j d) := by
  entry_read
  exact flat_apply _ _ b j d R hR

theorem V5 (b : Fin 2) (j : Fin 8192) (d : Fin 1024) (R : Fin 16384) (hR : R.val = b.val * 8192 + j.val) :
    (Gen.V m c main_v5 : S16384x1024.Idx → EReal) (ix2 R d) = ax m c (ix3 b j d) := by
  entry_read
  exact flat_apply _ _ b j d R hR

theorem V6 : (Gen.V m c main_v6 : S2x1024x5632.Idx → EReal) = aw m c := by entry_read; rfl
theorem V7 : (Gen.V m c main_v7 : S2x2816x1024.Idx → EReal) = aw2 m c := by entry_read; rfl

theorem V3 : ∃ z : S5x9x1024.Idx → EReal, (Gen.V m c main_v3 : S8x9x1024.Idx → EReal) =
    concatenate S8x9x1024 0 [⟨S3x9x1024, concatenate (α := EReal) S3x9x1024 0 [⟨S1x9x1024, broadcastInDim S1x9x1024 ![1, 2] bcast_S9x1024_S1x9x1024_1_2 (amc m c)⟩,
      ⟨S2x9x1024, am m c⟩] concatenates_S1x9x1024_S2x9x1024_S3x9x1024_d0⟩, ⟨S5x9x1024, z⟩] concatenates_S3x9x1024_S5x9x1024_S8x9x1024_d0 := by
  entry_read
  exact ⟨_, rfl⟩

theorem V3_ctx (a : Fin 9) (d : Fin 1024) : (Gen.V m c main_v3 : S8x9x1024.Idx → EReal) (ix3 0 a d) = amc m c (ix2 a d) := by
  obtain ⟨z, hz⟩ := V3 m c
  rw [hz]
  refine (concatenate_pair_apply_left (t := S8x9x1024) (s₁ := S3x9x1024) (s₂ := S5x9x1024) 0 _ _ _ _ rfl (ix3 0 a d) (fun a => match a with
    | ⟨0, _⟩ => rfl | ⟨1, _⟩ => rfl | ⟨2, _⟩ => rfl)).trans ?_
  refine (concatenate_pair_apply_left (t := S3x9x1024) (s₁ := S1x9x1024) (s₂ := S2x9x1024) 0 _ _ _ _ rfl (ix3 0 a d) (fun a => match a with
    | ⟨0, _⟩ => rfl | ⟨1, _⟩ => rfl | ⟨2, _⟩ => rfl)).trans ?_
  exact broadcastInDim_apply _ _ _ _ (ix2 a d) (fun a => match a with | ⟨0, _⟩ => rfl | ⟨1, _⟩ => rfl)

theorem V3_lat (b : Fin 2) (g : Fin 8) (hg : g.val = b.val + 1) (a : Fin 9) (d : Fin 1024) :
    (Gen.V m c main_v3 : S8x9x1024.Idx → EReal) (ix3 g a d) = am m c (ix3 b a d) := by
  obtain ⟨z, hz⟩ := V3 m c
  rw [hz]
  refine (concatenate_pair_apply_left (t := S8x9x1024) (s₁ := S3x9x1024) (s₂ := S5x9x1024) 0 _ _ _ _ rfl (ix3 ⟨b.val + 1, by omega⟩ a d) (fun a => match a with
    | ⟨0, _⟩ => hg.symm | ⟨1, _⟩ => rfl | ⟨2, _⟩ => rfl)).trans ?_
  exact concatenate_pair_apply_right (t := S3x9x1024) (s₁ := S1x9x1024) (s₂ := S2x9x1024) 0 _ _ _ _ rfl rfl (ix3 b a d) (fun a => match a with
    | ⟨0, _⟩ => fun ne => absurd rfl ne | ⟨1, _⟩ => fun _ => rfl | ⟨2, _⟩ => fun _ => rfl) rfl

end Cert.FfnKernelIdeal.Ffn
-- ==== Proof.Ffn.Arr.lean ====
module
public import proofs.«01_k».proof.Proof.Ffn.Host
/-! What the result array of the feed-forward kernel holds after the run, from the arguments. -/
@[expose] public section
set_option maxRecDepth 16384
noncomputable section
namespace Cert.FfnKernelIdeal.Ffn
open Cert.FfnKernelIdeal Cert.FfnKernelIdeal.Gen Idealize.ShloMosaic Idealize.ShloMosaic.TcCoe Idealize.ShloMosaic.ValueIdx
open Idealize.SL.Sem Cert.Ffn

variable (m : (ℓ : Loc nD τ sig) → Buf (Elt Ideal) ℓ) (c : Dev nD)

theorem idx0 : ∀ t : Fin grid0.N, win0_0.index t 0 = 0 ∧ win0_0.index t 1 = 0 := by decide +kernel
theorem idx1 : ∀ t : Fin grid0.N, win0_1.index t 0 = t.val - 1 ∧ win0_1.index t 1 = 0 := by decide +kernel
theorem idx2' : ∀ t : Fin grid0.N, win0_2.index t 0 = (t.val + 15) / 16 ∧ win0_2.index t 1 = 0 ∧ win0_2.index t 2 = 0 := by decide +kernel
theorem idx3' : ∀ t : Fin grid0.N, win0_3.index t 0 = 0 ∧ win0_3.index t 1 = 0 ∧ win0_3.index t 2 = 0 := by decide +kernel
theorem idx4' : ∀ t : Fin grid0.N, win0_4.index t 0 = 0 ∧ win0_4.index t 1 = 0 ∧ win0_4.index t 2 = 0 := by decide +kernel
theorem idx5 : ∀ t : Fin grid0.N, win0_5.index t 0 = t.val ∧ win0_5.index t 1 = 0 := by decide +kernel
theorem first : ∀ t : Fin grid0.N, Scalar.cmpi .eq (BitVec.ofNat 32 (grid0.coords t 0).val) 0#32 = if t.val = 0 then 1#1 else 0#1 := by decide +kernel

theorem b0_apply (t : Fin cfg0.N) (r : Fin 512) (d : Fin 1024) :
    (iblk m c 0 t : Vec Ideal S512x1024 .f32) (ix2 r d) = (Gen.V m c main_v4 : S512x1024.Idx → EReal) (ix2 r d) := by
  show (Gen.V m c main_v4 : S512x1024.Idx → EReal) (((cfg0.win 0).blk t).view.emb (ix2 r d)) = _
  refine congrArg _ (funext fun a => Fin.ext ?_)
  match a with
  | ⟨0, _⟩ => show win0_0.index t 0 * 512 + 1 * r.val = r.val; rw [(idx0 t).1]; omega
  | ⟨1, _⟩ => show win0_0.index t 1 * 1024 + 1 * d.val = d.val; rw [(idx0 t).2]; omega

theorem b1_apply (t : Fin cfg0.N) (r : Fin 512) (d : Fin 1024) (R : Fin 16384) (hR : R.val = (t.val - 1) * 512 + r.val) :
    (iblk m c 1 t : Vec Ideal S512x1024 .f32) (ix2 r d) = (Gen.V m c main_v5 : S16384x1024.Idx → EReal) (ix2 R d) := by
  show (Gen.V m c main_v5 : S16384x1024.Idx → EReal) (((cfg0.win 1).blk t).view.emb (ix2 r d)) = _
  refine congrArg _ (funext fun a => Fin.ext ?_)
  match a with
  | ⟨0, _⟩ => show win0_1.index t 0 * 512 + 1 * r.val = R.val; rw [(idx1 t).1, hR]; omega
  | ⟨1, _⟩ => show win0_1.index t 1 * 1024 + 1 * d.val = d.val; rw [(idx1 t).2]; omega

theorem b2_apply (t : Fin cfg0.N) (a : Fin 9) (d : Fin 1024) (g : Fin 8) (hg : g.val = (t.val + 15) / 16) :
    (iblk m c 2 t : Vec Ideal S1x9x1024 .f32) (ix3 0 a d) = (Gen.V m c main_v3 : S8x9x1024.Idx → EReal) (ix3 g a d) := by
  show (Gen.V m c main_v3 : S8x9x1024.Idx → EReal) (((cfg0.win 2).blk t).view.emb (ix3 (0 : Fin 1) a d)) = _
  refine congrArg _ (funext fun x => Fin.ext ?_)
  match x with
  | ⟨0, _⟩ => show win0_2.index t 0 * 1 + 1 * 0 = g.val; rw [(idx2' t).1, hg]; omega
  | ⟨1, _⟩ => show win0_2.index t 1 * 9 + 1 * a.val = a.val; rw [(idx2' t).2.1]; omega
  | ⟨2, _⟩ => show win0_2.index t 2 * 1024 + 1 * d.val = d.val; rw [(idx2' t).2.2]; omega

theorem b3_apply (t : Fin cfg0.N) (d : Fin 1024) (f : Fin 5632) :
    (iblk m c 3 t : Vec Ideal S1x1024x5632 .bf16) (ix3 0 d f) = aw m c (ix3 0 d f) := by
  rw [← V6 m c]
  show (Gen.V m c main_v6 : S2x1024x5632.Idx → EReal) (((cfg0.win 3).blk t).view.emb (ix3 (0 : Fin 1) d f)) = _
  refine congrArg _ (funext fun x => Fin.ext ?_)
  match x with
  | ⟨0, _⟩ => show win0_3.index t 0 * 1 + 1 * 0 = 0; rw [(idx3' t).1]
  | ⟨1, _⟩ => show win0_3.index t 1 * 1024 + 1 * d.val = d.val; rw [(idx3' t).2.1]; omega
  | ⟨2, _⟩ => show win0_3.index t 2 * 5632 + 1 * f.val = f.val; rw [(idx3' t).2.2]; omega

theorem b4_apply (t : Fin cfg0.N) (f : Fin 2816) (n : Fin 1024) :
    (iblk m c 4 t : Vec Ideal S1x2816x1024 .bf16) (ix3 0 f n) = aw2 m c (ix3 0 f n) := by
  rw [← V7 m c]
  show (Gen.V m c main_v7 : S2x2816x1024.Idx → EReal) (((cfg0.win 4).blk t).view.emb (ix3 (0 : Fin 1) f n)) = _
  refine congrArg _ (funext fun x => Fin.ext ?_)
  match x with
  | ⟨0, _⟩ => show win0_4.index t 0 * 1 + 1 * 0 = 0; rw [(idx4' t).1]
  | ⟨1, _⟩ => show win0_4.index t 1 * 2816 + 1 * f.val = f.val; rw [(idx4' t).2.1]; omega
  | ⟨2, _⟩ => show win0_4.index t 2 * 1024 + 1 * n.val = n.val; rw [(idx4' t).2.2]; omega

/-- Row `R` of the result is row `R % 512` of the block that point `R / 512` leaves. -/
theorem arr_apply (t : Fin cfg0.N) (r : Fin 512) (n : Fin 1024) (R : Fin 16896) (hR : R.val = t.val * 512 + r.val) :
    ((dats m 0 c).arrAt 5 cfg0.N : S16896x1024.Idx → EReal) (ix2 R n)
      = out0_5 (F := Ideal) (grid0.coords t) (iblk m c 0 t) (iblk m c 1 t) (iblk m c 2 t) (iblk m c 3 t) (iblk m c 4 t) (ix2 r n) := by
  have h := (Value.blocks5 m c t (flush0_5 t)).trans (Value.flushed5 m c t)
  have h' := congrFun h (ix2 r n)
  refine Eq.trans ?_ h'
  show _ = ((dats m 0 c).arrAt 5 cfg0.N : S16896x1024.Idx → EReal) (((cfg0.win 5).blk t).view.emb (ix2 r n))
  refine congrArg _ (funext fun a => Fin.ext ?_)
  match a with
  | ⟨0, _⟩ => show R.val = win0_5.index t 0 * 512 + 1 * r.val; rw [(idx5 t).1, hR]; omega
  | ⟨1, _⟩ => show n.val = win0_5.index t 1 * 1024 + 1 * n.val; rw [(idx5 t).2]; omega

theorem step_congr {x x' sh sh' s s' g g' : Fin 1024 → EReal} {w w' : Fin 1024 → Fin 5632 → EReal} {w2 w2' : Fin 2816 → Fin 1024 → EReal}
    (hx : ∀ d, x d = x' d) (h1 : ∀ d, sh d = sh' d) (h2 : ∀ d, s d = s' d) (h3 : ∀ d, g d = g' d) (h4 : ∀ d f, w d f = w' d f)
    (h5 : ∀ f n, w2 f n = w2' f n) (n : Fin 1024) : step x sh s g w w2 n = step x' sh' s' g' w' w2' n := by
  rw [funext hx, funext h1, funext h2, funext h3, funext fun d => funext (h4 d), funext fun f => funext (h5 f)]

/-- A context row of the result. -/
theorem arr_ctx (b : Fin 2) (j : Fin 256) (n : Fin 1024) (R : Fin 16896) (hR : R.val = b.val * 256 + j.val) :
    ((dats m 0 c).arrAt 5 cfg0.N : S16896x1024.Idx → EReal) (ix2 R n)
      = step (fun d => axc m c (ix3 b j d)) (fun d => amc m c (ix2 0 d)) (fun d => amc m c (ix2 1 d)) (fun d => amc m c (ix2 2 d))
          (fun d f => aw m c (ix3 0 d f)) (fun f n => aw2 m c (ix3 0 f n)) n := by
  have hN : cfg0.N = 33 := N_0
  obtain ⟨t, ht⟩ : ∃ t : Fin cfg0.N, t.val = 0 := ⟨⟨0, by omega⟩, rfl⟩
  obtain ⟨r, hr⟩ : ∃ r : Fin 512, r.val = R.val := ⟨⟨R.val, by omega⟩, rfl⟩
  have hx : k0_pay2 (F := Ideal) (grid0.coords t) (iblk m c 0 t) (iblk m c 1 t) = (iblk m c 0 t : Vec Ideal S512x1024 .f32) := by
    unfold k0_pay2
    dsimp only
    rw [shapeCast_self, shapeCast_self, first t, if_pos ht]
    rfl
  rw [arr_apply m c t r n R (by omega), out_apply _ _ _ _ _ _ _ hx]
  have hm : ∀ a d, (iblk m c 2 t : Vec Ideal S1x9x1024 .f32) (ix3 0 a d) = amc m c (ix2 a d) :=
    fun a d => (b2_apply m c t a d 0 (by rw [ht]; rfl)).trans (V3_ctx m c a d)
  exact step_congr (fun d => (b0_apply m c t r d).trans (V4 m c b j d r (by omega))) (hm 0) (hm 1) (hm 2) (b3_apply m c t) (b4_apply m c t) n

/-- A latent row of the result. -/
theorem arr_lat (b : Fin 2) (j : Fin 8192) (n : Fin 1024) (R : Fin 16896) (hR : R.val = 512 + (b.val * 8192 + j.val)) :
    ((dats m 0 c).arrAt 5 cfg0.N : S16896x1024.Idx → EReal) (ix2 R n)
      = step (fun d => ax m c (ix3 b j d)) (fun d => am m c (ix3 b 0 d)) (fun d => am m c (ix3 b 1 d)) (fun d => am m c (ix3 b 2 d))
          (fun d f => aw m c (ix3 0 d f)) (fun f n => aw2 m c (ix3 0 f n)) n := by
  have hN : cfg0.N = 33 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  obtain ⟨Q, hQ⟩ : ∃ Q : Fin 16384, Q.val = b.val * 8192 + j.val := ⟨⟨b.val * 8192 + j.val, by omega⟩, rfl⟩
  obtain ⟨g, hg⟩ : ∃ g : Fin 8, g.val = b.val + 1 := ⟨⟨b.val + 1, by omega⟩, rfl⟩
  have hx : k0_pay2 (F := Ideal) (grid0.coords t) (iblk m c 0 t) (iblk m c 1 t) = (iblk m c 1 t : Vec Ideal S512x1024 .f32) := by
    unfold k0_pay2
    dsimp only
    rw [shapeCast_self, shapeCast_self, first t, if_neg (by omega)]
    rfl
  rw [arr_apply m c t r n R (by omega), out_apply _ _ _ _ _ _ _ hx]
  have hm : ∀ a d, (iblk m c 2 t : Vec Ideal S1x9x1024 .f32) (ix3 0 a d) = am m c (ix3 b a d) :=
    fun a d => (b2_apply m c t a d g (by omega)).trans (V3_lat m c b g hg a d)
  exact step_congr (fun d => (b1_apply m c t r d Q (by omega)).trans (V5 m c b j d Q hQ)) (hm 0) (hm 1) (hm 2) (b3_apply m c t) (b4_apply m c t) n

end Cert.FfnKernelIdeal.Ffn
-- ==== Proof.Ffn.Ref.lean ====
module
public import proofs.«01_k».proof.Proof.Gen.FfnReferenceIdeal.Read
public import proofs.«01_k».proof.Proof.Ffn.Math
/-! What the reference of the feed-forward half-step computes, row by row. -/
@[expose] public section
set_option maxRecDepth 16384
noncomputable section
namespace Cert.FfnReferenceIdeal.Ffn
open Cert.FfnReferenceIdeal Cert.FfnReferenceIdeal.Gen Cert.FfnReferenceIdeal.Read Idealize.ShloMosaic Idealize.ShloMosaic.ValueIdx
open Cert.Ffn

variable (x0 : S2x8192x1024.Idx → EReal) (x1 : S2x256x1024.Idx → EReal) (x2 : S2x9x1024.Idx → EReal) (x3 : S9x1024.Idx → EReal)
  (x4 : S2x1024x5632.Idx → EReal) (x5 : S2x2816x1024.Idx → EReal)

/-- The weights of the first layer. -/
abbrev w : Fin 1024 → Fin 5632 → EReal := fun d f => x4 (ix3 0 d f)
abbrev w2 : Fin 2816 → Fin 1024 → EReal := fun f n => x5 (ix3 0 f n)

section Latents
variable (b : Fin 2) (j : Fin 8192)
abbrev xl : Fin 1024 → EReal := fun d => x0 (ix3 b j d)
abbrev ml (a : Fin 9) : Fin 1024 → EReal := fun d => x2 (ix3 b a d)

theorem v28_eq (d : Fin 1024) (f : Fin 5632) : val_main_v28 (F := Ideal) x4 (ix2 d f) = w x4 d f := by
  unfold val_main_v28
  refine (shapeCast_apply _ _ _ (ix3 (0 : Fin 1) d f) (by
    rw [Shape.rowMajor_val_three, Shape.rowMajor_val_two]
    show (0 * 1024 + d.val) * 5632 + f.val = d.val * 5632 + f.val
    omega)).trans ?_
  rw [val_main_v27_apply]
  exact congrArg x4 (funext fun a => match a with | ⟨0, _⟩ => rfl | ⟨1, _⟩ => rfl | ⟨2, _⟩ => rfl)

theorem v30_eq (f : Fin 2816) (n : Fin 1024) : val_main_v30 (F := Ideal) x5 (ix2 f n) = w2 x5 f n := by
  unfold val_main_v30
  refine (shapeCast_apply _ _ _ (ix3 (0 : Fin 1) f n) (by
    rw [Shape.rowMajor_val_three, Shape.rowMajor_val_two]
    show (0 * 2816 + f.val) * 1024 + n.val = f.val * 1024 + n.val
    omega)).trans ?_
  rw [val_main_v29_apply]
  exact congrArg x5 (funext fun a => match a with | ⟨0, _⟩ => rfl | ⟨1, _⟩ => rfl | ⟨2, _⟩ => rfl)

theorem v18_eq : val_main_v18 (F := Ideal) x0 (ix3 b j 0) = rms (xl x0 b j) := by
  rw [val_main_v18_apply, val_main_v17_apply, val_main_v16_apply, val_main_cst_2_apply, val_main_v15_apply, val_main_v14_apply,
    val_main_cst_1_apply, val_main_v13_apply, val_main_v12_apply, val_main_cst_0_apply]
  have key : ∀ z a : EReal, z = 0 → a = (∑ d, xl x0 b j d * xl x0 b j d) → Ideal.rsqrt (Ideal.div (z + a) cDim + cEps) = rms (xl x0 b j) := by
    rintro z a rfl rfl; rw [zero_add]; rfl
  refine key _ _ Ideal.ofBits_zero_f32 (Finset.sum_congr rfl fun d _ => ?_)
  rw [val_main_v11_apply]
  have e : idx_main_v12 (idx_main_v13 (ix3 b j 0)) d = ix3 b j d := (eq_ix3 _).trans rfl
  rw [e]
  rfl

theorem v26_eq (d : Fin 1024) : val_main_v26 (F := Ideal) x0 x2 (ix3 b j d) = mdl (xl x0 b j) (ml x2 b 0) (ml x2 b 1) d := by
  rw [val_main_v26_apply, val_main_v25_apply, val_main_v24_apply, val_main_v23_apply, val_main_v22_apply, val_main_v21_apply,
    val_main_cst_3_apply, val_main_v20_apply, val_main_v19_apply, val_main_v1_apply, val_main_v0_apply]
  have e1 : idx_main_v19 (ix3 b j d) = ix3 b j 0 := (eq_ix3 _).trans rfl
  have e2 : idx_main_v1 (idx_main_v23 (ix3 b j d)) = ix3 b 1 d := (eq_ix3 _).trans rfl
  have e3 : idx_main_v0 (idx_main_v25 (ix3 b j d)) = ix3 b 0 d := (eq_ix3 _).trans rfl
  rw [e1, e2, e3, v18_eq]
  rfl

theorem v31_eq (f : Fin 5632) : val_main_v31 (F := Ideal) x0 x2 x4 (ix3 b j f)
    = ∑ d, mdl (xl x0 b j) (ml x2 b 0) (ml x2 b 1) d * w x4 d f := by
  rw [val_main_v31_apply]
  refine Finset.sum_congr rfl fun d _ => ?_
  have e1 : lidx_main_v31 (ix3 b j f) d = ix3 b j d := (eq_ix3 _).trans rfl
  have e2 : ridx_main_v31 (ix3 b j f) d = ix2 d f := (eq_ix2 _).trans rfl
  rw [e1, e2, v26_eq, v28_eq]

theorem v35_eq (f : Fin 2816) : val_main_v35 (F := Ideal) x0 x2 x4 (ix3 b j f)
    = hid (mdl (xl x0 b j) (ml x2 b 0) (ml x2 b 1)) (w x4) f := by
  rw [val_main_v35_apply, val_main_v34_apply, val_main_call0_v5_apply, val_main_call0_v4_apply, val_main_call0_cst_0_apply,
    val_main_call0_v3_apply, val_main_call0_v2_apply, val_main_call0_cst_apply, val_main_call0_v1_apply, val_main_call0_v0_apply,
    val_main_v33_apply, val_main_v32_apply]
  have e1 : idx_main_v32 (ix3 b j f) = ix3 b j ⟨f.val, by omega⟩ := (eq_ix3 _).trans rfl
  have e2 : idx_main_v33 (ix3 b j f) = ix3 b j ⟨2816 + f.val, by omega⟩ := (eq_ix3 _).trans rfl
  rw [e1, e2, v31_eq, v31_eq]
  rfl

theorem v39_eq (n : Fin 1024) : val_main_v39 (F := Ideal) x0 x2 x4 x5 (ix3 b j n)
    = step (xl x0 b j) (ml x2 b 0) (ml x2 b 1) (ml x2 b 2) (w x4) (w2 x5) n := by
  rw [val_main_v39_apply, val_main_v38_apply, val_main_v37_apply, val_main_v10_apply, val_main_v9_apply, val_main_cst_apply,
    val_main_v2_apply, val_main_v36_apply]
  have e1 : idx_main_v2 (idx_main_v37 (ix3 b j n)) = ix3 b 2 n := (eq_ix3 _).trans rfl
  rw [e1]
  refine congrArg (fun a : EReal => x0 (ix3 b j n) + cHalf * x2 (ix3 b 2 n) * a) (Finset.sum_congr rfl fun f _ => ?_)
  have e2 : lidx_main_v36 (ix3 b j n) f = ix3 b j f := (eq_ix3 _).trans rfl
  have e3 : ridx_main_v36 (ix3 b j n) f = ix2 f n := (eq_ix2 _).trans rfl
  rw [e2, e3, v35_eq, v30_eq]

end Latents

section Context
variable (b : Fin 2) (j : Fin 256)
abbrev xc : Fin 1024 → EReal := fun d => x1 (ix3 b j d)
abbrev mc (a : Fin 9) : Fin 1024 → EReal := fun d => x3 (ix2 a d)

theorem v61_eq (d : Fin 1024) (f : Fin 5632) : val_main_v61 (F := Ideal) x4 (ix2 d f) = w x4 d f := v28_eq x4 d f
theorem v63_eq (f : Fin 2816) (n : Fin 1024) : val_main_v63 (F := Ideal) x5 (ix2 f n) = w2 x5 f n := v30_eq x5 f n

/-- A row of the modulations, sliced out and flattened. -/
theorem row_eq (a : Fin 9) (h : S9x1024.Slices ![a.val, 0] S1x1024) (h' : S1x1024.ShapeCasts S1024) (d : Fin 1024) :
    shapeCast S1024 (extractStridedSlice S1x1024 ![a.val, 0] x3 h) h' (ix1 d) = mc x3 a d := by
  refine (shapeCast_apply _ _ _ (ix2 (0 : Fin 1) d) (by
    rw [Shape.rowMajor_val_one, Shape.rowMajor_val_two]
    show 0 * 1024 + d.val = d.val
    omega)).trans ?_
  exact extractStridedSlice_apply _ _ _ _ (ix2 a d) (fun a => match a with | ⟨0, _⟩ => by simp | ⟨1, _⟩ => by simp)

theorem v4_eq (d : Fin 1024) : val_main_v4 (F := Ideal) x3 (ix1 d) = mc x3 0 d := row_eq x3 0 _ _ d
theorem v6_eq (d : Fin 1024) : val_main_v6 (F := Ideal) x3 (ix1 d) = mc x3 1 d := row_eq x3 1 _ _ d
theorem v8_eq (d : Fin 1024) : val_main_v8 (F := Ideal) x3 (ix1 d) = mc x3 2 d := row_eq x3 2 _ _ d

theorem v49_eq : val_main_v49 (F := Ideal) x1 (ix3 b j 0) = rms (xc x1 b j) := by
  rw [val_main_v49_apply, val_main_v48_apply, val_main_v47_apply, val_main_cst_7_apply, val_main_v46_apply, val_main_v45_apply,
    val_main_cst_6_apply, val_main_v44_apply, val_main_v43_apply, val_main_cst_5_apply]
  have key : ∀ z a : EReal, z = 0 → a = (∑ d, xc x1 b j d * xc x1 b j d) → Ideal.rsqrt (Ideal.div (z + a) cDim + cEps) = rms (xc x1 b j) := by
    rintro z a rfl rfl; rw [zero_add]; rfl
  refine key _ _ Ideal.ofBits_zero_f32 (Finset.sum_congr rfl fun d _ => ?_)
  rw [val_main_v42_apply]
  have e : idx_main_v43 (idx_main_v44 (ix3 b j 0)) d = ix3 b j d := (eq_ix3 _).trans rfl
  rw [e]
  rfl

theorem v59_eq (d : Fin 1024) : val_main_v59 (F := Ideal) x1 x3 (ix3 b j d) = mdl (xc x1 b j) (mc x3 0) (mc x3 1) d := by
  rw [val_main_v59_apply, val_main_v58_apply, val_main_v57_apply, val_main_v56_apply, val_main_v55_apply, val_main_v54_apply,
    val_main_v53_apply, val_main_v52_apply, val_main_cst_8_apply, val_main_v51_apply, val_main_v50_apply]
  have e1 : idx_main_v50 (ix3 b j d) = ix3 b j 0 := (eq_ix3 _).trans rfl
  have e2 : idx_main_v54 (idx_main_v55 (ix3 b j d)) = ix1 d := (eq_ix1 _).trans rfl
  have e3 : idx_main_v57 (idx_main_v58 (ix3 b j d)) = ix1 d := (eq_ix1 _).trans rfl
  rw [e1, e2, e3, v49_eq, v4_eq, v6_eq]
  rfl

theorem v64_eq (f : Fin 5632) : val_main_v64 (F := Ideal) x1 x3 x4 (ix3 b j f)
    = ∑ d, mdl (xc x1 b j) (mc x3 0) (mc x3 1) d * w x4 d f := by
  rw [val_main_v64_apply]
  refine Finset.sum_congr rfl fun d _ => ?_
  have e1 : lidx_main_v64 (ix3 b j f) d = ix3 b j d := (eq_ix3 _).trans rfl
  have e2 : ridx_main_v64 (ix3 b j f) d = ix2 d f := (eq_ix2 _).trans rfl
  rw [e1, e2, v59_eq, v61_eq]

theorem v68_eq (f : Fin 2816) : val_main_v68 (F := Ideal) x1 x3 x4 (ix3 b j f)
    = hid (mdl (xc x1 b j) (mc x3 0) (mc x3 1)) (w x4) f := by
  rw [val_main_v68_apply, val_main_v67_apply, val_main_call1_v5_apply, val_main_call1_v4_apply, val_main_call1_cst_0_apply,
    val_main_call1_v3_apply, val_main_call1_v2_apply, val_main_call1_cst_apply, val_main_call1_v1_apply, val_main_call1_v0_apply,
    val_main_v66_apply, val_main_v65_apply]
  have e1 : idx_main_v65 (ix3 b j f) = ix3 b j ⟨f.val, by omega⟩ := (eq_ix3 _).trans rfl
  have e2 : idx_main_v66 (ix3 b j f) = ix3 b j ⟨2816 + f.val, by omega⟩ := (eq_ix3 _).trans rfl
  rw [e1, e2, v64_eq, v64_eq]
  rfl

theorem v73_eq (n : Fin 1024) : val_main_v73 (F := Ideal) x1 x3 x4 x5 (ix3 b j n)
    = step (xc x1 b j) (mc x3 0) (mc x3 1) (mc x3 2) (w x4) (w2 x5) n := by
  rw [val_main_v73_apply, val_main_v72_apply, val_main_v71_apply, val_main_v70_apply, val_main_v41_apply, val_main_v40_apply,
    val_main_cst_4_apply, val_main_v69_apply]
  have e1 : idx_main_v70 (idx_main_v71 (ix3 b j n)) = ix1 n := (eq_ix1 _).trans rfl
  rw [e1, v8_eq]
  refine congrArg (fun a : EReal => x1 (ix3 b j n) + cHalf * mc x3 2 n * a) (Finset.sum_congr rfl fun f _ => ?_)
  have e2 : lidx_main_v69 (ix3 b j n) f = ix3 b j f := (eq_ix3 _).trans rfl
  have e3 : ridx_main_v69 (ix3 b j n) f = ix2 f n := (eq_ix2 _).trans rfl
  rw [e2, e3, v68_eq, v63_eq]

end Context

/-- A context row of the reference's result. -/
theorem v76_ctx (b : Fin 2) (j : Fin 256) (n : Fin 1024) (R : Fin 16896) (hR : R.val = b.val * 256 + j.val) :
    val_main_v76 (F := Ideal) x0 x1 x2 x3 x4 x5 (ix2 R n)
      = step (xc x1 b j) (mc x3 0) (mc x3 1) (mc x3 2) (w x4) (w2 x5) n := by
  unfold val_main_v76
  refine (concatenate_pair_apply_left (t := S16896x1024) (s₁ := S512x1024) (s₂ := S16384x1024) 0 _ _ _ _ rfl (ix2 ⟨R.val, by omega⟩ n) (fun a => match a with
    | ⟨0, _⟩ => rfl | ⟨1, _⟩ => rfl)).trans ?_
  unfold val_main_v74
  rw [← v73_eq]
  exact flat_apply _ _ b j n _ hR

/-- A latent row of the reference's result. -/
theorem v76_lat (b : Fin 2) (j : Fin 8192) (n : Fin 1024) (R : Fin 16896) (hR : R.val = 512 + (b.val * 8192 + j.val)) :
    val_main_v76 (F := Ideal) x0 x1 x2 x3 x4 x5 (ix2 R n)
      = step (xl x0 b j) (ml x2 b 0) (ml x2 b 1) (ml x2 b 2) (w x4) (w2 x5) n := by
  unfold val_main_v76
  refine (concatenate_pair_apply_right (t := S16896x1024) (s₁ := S512x1024) (s₂ := S16384x1024) 0 _ _ _ _ rfl rfl (ix2 ⟨b.val * 8192 + j.val, by omega⟩ n) (fun a => match a with
    | ⟨0, _⟩ => fun ne => absurd rfl ne | ⟨1, _⟩ => fun _ => rfl) (by show b.val * 8192 + j.val + 512 = R.val; omega)).trans ?_
  unfold val_main_v75
  rw [← v39_eq]
  exact flat_apply _ _ b j n _ rfl

end Cert.FfnReferenceIdeal.Ffn
-- ==== Proof.Ffn.Link.lean ====
module
public import proofs.«01_k».proof.Proof.Ffn.Arr
public import proofs.«01_k».proof.Proof.Ffn.Ref
/-! The feed-forward kernel and its reference leave the same array from the same arguments. -/
@[expose] public section
set_option maxRecDepth 16384
noncomputable section
namespace Cert.Ffn.Link
open Idealize.ShloMosaic Idealize.ShloMosaic.TcCoe Idealize.ShloMosaic.ValueIdx Idealize.SL.Sem
open Cert.FfnKernelIdeal Cert.FfnKernelIdeal.Gen Cert.FfnKernelIdeal.Ffn

variable (m : (ℓ : Loc nD τ sig) → Buf (Elt Ideal) ℓ) (c : Dev nD)

theorem agree (R : Fin 16896) (n : Fin 1024) :
    ((dats m 0 c).arrAt 5 cfg0.N : S16896x1024.Idx → EReal) (ix2 R n)
      = Cert.FfnReferenceIdeal.Read.val_main_v76 (F := Ideal) (ax m c) (axc m c) (am m c) (amc m c) (aw m c) (aw2 m c) (ix2 R n) := by
  have hR := R.isLt
  by_cases h : R.val < 512
  · obtain ⟨b, hb⟩ : ∃ b : Fin 2, b.val = R.val / 256 := ⟨⟨R.val / 256, by omega⟩, rfl⟩
    obtain ⟨j, hj⟩ : ∃ j : Fin 256, j.val = R.val % 256 := ⟨⟨R.val % 256, by omega⟩, rfl⟩
    exact (arr_ctx m c b j n R (by omega)).trans
      (Cert.FfnReferenceIdeal.Ffn.v76_ctx (ax m c) (axc m c) (am m c) (amc m c) (aw m c) (aw2 m c) b j n R (by omega)).symm
  · obtain ⟨b, hb⟩ : ∃ b : Fin 2, b.val = (R.val - 512) / 8192 := ⟨⟨(R.val - 512) / 8192, by omega⟩, rfl⟩
    obtain ⟨j, hj⟩ : ∃ j : Fin 8192, j.val = (R.val - 512) % 8192 := ⟨⟨(R.val - 512) % 8192, by omega⟩, rfl⟩
    exact (arr_lat m c b j n R (by omega)).trans
      (Cert.FfnReferenceIdeal.Ffn.v76_lat (ax m c) (axc m c) (am m c) (amc m c) (aw m c) (aw2 m c) b j n R (by omega)).symm

end Cert.Ffn.Link
-- ==== Proof.Win.Math.lean ====
module
public import proofs.«01_k».proof.Proof.Ffn.Math
/-! The input projection of one row of the residual stream, and the latent attention's query, key and value lanes it gives, as
functions of the modulated row, the weights and the row's rotary angles. -/
@[expose] public section
set_option maxRecDepth 16384
noncomputable section
namespace Cert.Win
open Idealize.ShloMosaic Idealize.ShloMosaic.ValueIdx Cert.Ffn

/-- The constants 256, 128 and the scale of the scores, as the programs write them. -/
def cQ : EReal := Ideal.ofBits .f32 0x43800000#32
def cK : EReal := Ideal.ofBits .f32 0x43000000#32
def cS : EReal := Ideal.ofBits .f32 0x3E16C740#32

/-- The reciprocal root mean square of `N` numbers, `c` standing for their count. -/
def rmsN {N : Nat} (c : EReal) (x : Fin N → EReal) : EReal := Ideal.rsqrt (Ideal.div (∑ d, x d * x d) c + cEps)

/-- A normalized vector times a gain. -/
def nrmN {N : Nat} (c : EReal) (x g : Fin N → EReal) (k : Fin N) : EReal := x k * rmsN c x * g k

/-- Column `j` of the projection of a row. -/
def col (h : Fin 1024 → EReal) (w : Fin 1024 → Fin 2464 → EReal) (j : Fin 2464) : EReal := ∑ d, h d * w d j

/-- The compressed queries, the compressed keys and values, and the shared rotary key of a row. -/
def cq (h : Fin 1024 → EReal) (w : Fin 1024 → Fin 2464 → EReal) (k : Fin 256) : EReal := col h w ⟨2048 + k.val, by omega⟩
def ckv (h : Fin 1024 → EReal) (w : Fin 1024 → Fin 2464 → EReal) (k : Fin 128) : EReal := col h w ⟨2304 + k.val, by omega⟩
def kr (h : Fin 1024 → EReal) (w : Fin 1024 → Fin 2464 → EReal) (k : Fin 32) : EReal := col h w ⟨2432 + k.val, by omega⟩

/-- The partner of a rotary lane: eight further in the first half of each sixteen, eight back in the second. -/
def mate (k : Fin 32) : Fin 32 := if k.val % 16 < 8 then ⟨(k.val + 8) % 32, by omega⟩ else ⟨k.val - 8, by omega⟩

/-- The quarter turn: the partner's number, negated in the first half of each sixteen. -/
def turn (f : Fin 32 → EReal) (k : Fin 32) : EReal := if k.val % 16 < 8 then -f (mate k) else f (mate k)

/-- The rotation of 32 lanes by a row of cosines and sines. -/
def rope (f cs sn : Fin 32 → EReal) (k : Fin 32) : EReal := f k * cs k + turn f k * sn k

/-- Lane `l` of head `a` of the queries, before rotation. -/
def qry (c : Fin 256 → EReal) (wq : Fin 256 → Fin 384 → EReal) (a : Fin 4) (l : Fin 96) : EReal :=
  ∑ i, c i * wq i ⟨96 * a.val + l.val, by omega⟩

/-- Lane `l` of head `a` of the keys and values, before the rotary part. -/
def kvl (c : Fin 128 → EReal) (wk : Fin 128 → Fin 512 → EReal) (a : Fin 4) (l : Fin 128) : EReal :=
  ∑ i, c i * wk i ⟨128 * a.val + l.val, by omega⟩

/-- Lane `l` of 128 of head `a` of the scaled queries. -/
def qLane (c : Fin 256 → EReal) (wq : Fin 256 → Fin 384 → EReal) (cs sn : Fin 32 → EReal) (a : Fin 4) (l : Fin 128) : EReal :=
  if h : l.val < 64 then qry c wq a ⟨l.val, by omega⟩ * cS
  else if h' : l.val < 96 then rope (fun k => qry c wq a ⟨64 + k.val, by omega⟩) cs sn ⟨l.val - 64, by omega⟩ * cS else 0

/-- Lane `l` of 128 of head `a` of the keys. -/
def kLane (c : Fin 128 → EReal) (wk : Fin 128 → Fin 512 → EReal) (r cs sn : Fin 32 → EReal) (a : Fin 4) (l : Fin 128) : EReal :=
  if l.val < 64 then kvl c wk a l else if h' : l.val < 96 then rope r cs sn ⟨l.val - 64, by omega⟩ else 0

/-! ## Real numbers among the extended ones -/

/-- Being a real number. -/
def Fin' (x : EReal) : Prop := x = ((x.toReal : ℝ) : EReal)

theorem fin_coe (r : ℝ) : Fin' (r : EReal) := by unfold Fin'; rw [EReal.toReal_coe]
theorem fin_of {x : EReal} (r : ℝ) (h : x = (r : EReal)) : Fin' x := h ▸ fin_coe r
theorem fin_mul {x y : EReal} (hx : Fin' x) (hy : Fin' y) : Fin' (x * y) :=
  fin_of (x.toReal * y.toReal) (by rw [EReal.coe_mul, ← hx, ← hy])
theorem fin_add {x y : EReal} (hx : Fin' x) (hy : Fin' y) : Fin' (x + y) :=
  fin_of (x.toReal + y.toReal) (by rw [EReal.coe_add, ← hx, ← hy])
theorem fin_neg {x : EReal} (hx : Fin' x) : Fin' (-x) := fin_of (-x.toReal) (by rw [EReal.coe_neg, ← hx])

/-- A sum of real numbers, negated. -/
theorem sum_neg' {ι : Type} (s : Finset ι) (f : ι → EReal) (hf : ∀ i, Fin' (f i)) : ∑ i ∈ s, -f i = -∑ i ∈ s, f i := by
  have e : ∀ i, f i = (((f i).toReal : ℝ) : EReal) := hf
  rw [Finset.sum_congr rfl fun i _ => e i, Finset.sum_congr rfl fun i _ => congrArg (fun x : EReal => -x) (e i)]
  have c : ∀ (g : ι → ℝ), ∑ i ∈ s, ((g i : ℝ) : EReal) = ((∑ i ∈ s, g i : ℝ) : EReal) := fun g =>
    (map_sum (⟨⟨fun r : ℝ => (r : EReal), rfl⟩, fun a b => EReal.coe_add a b⟩ : ℝ →+ EReal) g s).symm
  have c' : ∑ i ∈ s, -(((f i).toReal : ℝ) : EReal) = ∑ i ∈ s, ((-(f i).toReal : ℝ) : EReal) :=
    Finset.sum_congr rfl fun i _ => (EReal.coe_neg _).symm
  rw [c', c, c, ← EReal.coe_neg, Finset.sum_neg_distrib]

/-- A product with negated weights, of real numbers. -/
theorem dot_neg {N : Nat} (x w : Fin N → EReal) (hx : ∀ i, Fin' (x i)) (hw : ∀ i, Fin' (w i)) :
    ∑ i, x i * -w i = -∑ i, x i * w i := by
  rw [← sum_neg' _ _ fun i => fin_mul (hx i) (hw i)]
  exact Finset.sum_congr rfl fun i _ => mul_neg _ _

/-- A row normalized is real whatever it holds: an infinite entry makes the reciprocal root zero. -/
theorem fin_norm {N : Nat} (c : EReal) (cr : ℝ) (hc : c = (cr : EReal)) (hc0 : 0 < cr) (x : Fin N → EReal) (k : Fin N) : Fin' (x k * rmsN c x) := by
  obtain ⟨e, he, he0⟩ : ∃ e : ℝ, cEps = (e : EReal) ∧ 0 < e := by
    refine ⟨8796093 * (2 ^ 43)⁻¹, ?_, by positivity⟩
    rw [EReal.coe_mul]
    simp [cEps, Ideal.ofBits, Ideal.ieee]
  have hn : ∀ i, (0 : EReal) ≤ x i * x i := fun i => by
    rcases le_total 0 (x i) with h | h
    · exact mul_nonneg h h
    · have := mul_nonneg (EReal.neg_nonneg.2 h) (EReal.neg_nonneg.2 h)
      rwa [neg_mul_neg] at this
  have hs0 : (0 : EReal) ≤ ∑ i, x i * x i := Finset.sum_nonneg fun i _ => hn i
  by_cases ht : ∑ i, x i * x i = ⊤
  · have : rmsN c x = 0 := by
      unfold rmsN
      rw [ht, hc, Ideal.div_coe hc0.ne', EReal.top_mul_coe_of_pos (by positivity), he, EReal.top_add_coe]
      rfl
    rw [this, mul_zero]
    exact fin_coe 0
  · have hb : ∑ i, x i * x i ≠ ⊥ := fun h => by rw [h] at hs0; simp at hs0
    have hs : Fin' (∑ i, x i * x i) := (EReal.coe_toReal ht hb).symm
    have hk : x k * x k ≠ ⊤ := fun h => ht (top_le_iff.1 (h ▸ Finset.single_le_sum (fun i _ => hn i) (Finset.mem_univ k)))
    have hx : Fin' (x k) := by
      refine (EReal.coe_toReal (fun h => hk ?_) (fun h => hk ?_)).symm
      · rw [h]; rfl
      · rw [h]; rfl
    refine fin_mul hx ?_
    have hs' : (0 : ℝ) ≤ (∑ i, x i * x i).toReal := EReal.toReal_nonneg hs0
    have hp : 0 < (∑ i, x i * x i).toReal * (1 / cr) + e := by positivity
    unfold rmsN
    rw [hs, hc, Ideal.div_coe hc0.ne', he, ← EReal.coe_mul, ← EReal.coe_add, Ideal.rsqrt_coe, if_neg (not_lt.2 hp.le), if_neg hp.ne']
    exact fin_coe _

theorem dim_eq : cDim = ((1024 : ℝ) : EReal) := by
  have : (1024 : ℝ) = 8388608 * (2 ^ 13)⁻¹ := by norm_num
  rw [this, EReal.coe_mul]
  simp [cDim, Ideal.ofBits, Ideal.ieee]
theorem cQ_eq : cQ = ((256 : ℝ) : EReal) := by
  have : (256 : ℝ) = 8388608 * (2 ^ 15)⁻¹ := by norm_num
  rw [this, EReal.coe_mul]
  simp [cQ, Ideal.ofBits, Ideal.ieee]
theorem cOne_eq : cOne = 1 := by
  have : (1 : EReal) = ((8388608 * (2 ^ 23)⁻¹ : ℝ) : EReal) := by norm_num
  rw [this, EReal.coe_mul]
  simp [cOne, Ideal.ofBits, Ideal.ieee]

/-! ## Readings of the kernel's operations at an index -/

/-- A column repeated over the columns, at an index. -/
theorem col_apply' {α : Type} (M N : Nat) (v : (⟨2, ![M, 1]⟩ : Shape).Idx → α) (h : (⟨2, ![M, 1]⟩ : Shape).Broadcasts ⟨2, ![M, N]⟩)
    (hM : M ≠ 1 := by decide) (r : Fin M) (n : Fin N) : broadcastTo ⟨2, ![M, N]⟩ v h (ix2 r n) = v (ix2 r 0) :=
  broadcastTo_apply _ _ _ _ (fun a => match a with | ⟨0, _⟩ => by simp [hM] | ⟨1, _⟩ => by simp)

/-- The sum of a row's squares, as a column. -/
theorem sq_apply' (M N : Nat) (X : FVec Ideal ⟨2, ![M, N]⟩ .f32) (h : (⟨2, ![M, N]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (r : Fin M) :
    shapeCast ⟨2, ![M, 1]⟩ (multiReduction .add [1] ⟨1, ![M]⟩ (mulf X X) 0x00000000#32 h hφ hacc) hs (ix2 r 0)
      = ∑ d : Fin N, X (ix2 r d) * X (ix2 r d) := by
  refine (shapeCast_apply _ _ (ix2 r 0) (ix1 r) (by
    rw [Shape.rowMajor_val_one, Shape.rowMajor_val_two]
    show r.val = r.val * 1 + 0
    omega)).trans ?_
  refine (Ideal.multiReduction_add_single (mulf X X) _ h _ _ (ix1 r)).trans ?_
  refine Finset.sum_congr rfl fun d _ => ?_
  have e : h.lift (ix1 r) d = ix2 r d := funext fun a => match a with | ⟨0, _⟩ => rfl | ⟨1, _⟩ => rfl
  exact congrArg (fun i : (⟨2, ![M, N]⟩ : Shape).Idx => X i * X i) e

/-- Four copies of a block of 128 columns side by side, at an index. -/
theorem four_apply {α : Type} (x : (⟨2, ![256, 128]⟩ : Shape).Idx → α)
    (h : Shape.Concatenates [⟨2, ![256, 128]⟩, ⟨2, ![256, 128]⟩, ⟨2, ![256, 128]⟩, ⟨2, ![256, 128]⟩] ⟨2, ![256, 512]⟩ 1) (r : Fin 256) (a : Fin 4) (l : Fin 128)
    (L : Fin 512) (hL : L.val = 128 * a.val + l.val) :
    concatenate ⟨2, ![256, 512]⟩ 1 [⟨⟨2, ![256, 128]⟩, x⟩, ⟨⟨2, ![256, 128]⟩, x⟩, ⟨⟨2, ![256, 128]⟩, x⟩, ⟨⟨2, ![256, 128]⟩, x⟩] h (ix2 r L) = x (ix2 r l) := by
  refine concatenate_replicate_apply 1 4 x h rfl (ix2 r L) (ix2 r l) ?_ ?_
  · show l.val = L.val % 128
    omega
  · intro b hne
    match b, hne with
    | ⟨0, _⟩, _ => rfl
    | ⟨1, _⟩, hne => exact absurd rfl hne

end Cert.Win
-- ==== Proof.Win.Block.lean ====
module
public import proofs.«01_k».proof.Proof.Gen.WinKernelIdeal.Value
public import proofs.«01_k».proof.Proof.Win.Math
/-! What one grid point of the input projection leaves in its six blocks of rows, as functions of the blocks it reads. -/
@[expose] public section
set_option maxRecDepth 16384
noncomputable section
namespace Cert.WinKernelIdeal.Win
open Cert.WinKernelIdeal Cert.WinKernelIdeal.Gen Idealize.ShloMosaic Idealize.ShloMosaic.ValueIdx Cert.Ffn Cert.Win

theorem dotA : dot_S256x1024_S1024x512_S256x512_1_0_0_1_n_n = DotDims.plain 256 1024 512 := rfl
theorem dotC : dot_S256x1024_S1024x1024_S256x1024_1_0_0_1_n_n = DotDims.plain 256 1024 1024 := rfl
theorem dotD : dot_S256x1024_S1024x640_S256x640_1_0_0_1_n_n = DotDims.plain 256 1024 640 := rfl
theorem dotQ : dot_S256x256_S256x512_S256x512_1_0_0_1_n_n = DotDims.plain 256 256 512 := rfl
theorem dotK : dot_S256x128_S128x512_S256x512_1_0_0_1_n_n = DotDims.plain 256 128 512 := rfl

/-- A row of a block of rows. -/
abbrev row (x : Vec Ideal S256x1024 .f32) (r : Fin 256) : Fin 1024 → EReal := fun d => x (ix2 r d)
/-- Row `a` of a block of modulations. -/
abbrev md (x : Vec Ideal S1x9x1024 .f32) (a : Fin 9) : Fin 1024 → EReal := fun d => x (ix3 0 a d)
/-- A row of angles. -/
abbrev ang (x : Vec Ideal S256x128 .f32) (r : Fin 256) : Fin 128 → EReal := fun l => x (ix2 r l)

variable (x0 : Vec Ideal S256x1024 .f32) (x1 : Vec Ideal S1x9x1024 .f32) (x2 x3 : Vec Ideal S1x1024x512 .bf16)
  (x4 : Vec Ideal S1x1024x1024 .bf16) (x5 : Vec Ideal S1x1024x640 .bf16) (x6 x7 : Vec Ideal S256x128 .f32) (x8 : Vec Ideal S1x1x256 .f32)
  (x9 : Vec Ideal S1x1x128 .f32) (x10 x11 : Vec Ideal S1x256x512 .bf16) (x12 x13 : Vec Ideal S1x128x512 .bf16)

/-- The modulated row `r`. -/
abbrev hr (r : Fin 256) : Fin 1024 → EReal := mdl (row x0 r) (md x1 3) (md x1 4)
/-- Column `j` of the fourth product. -/
abbrev pj (r : Fin 256) (j : Fin 640) : EReal := ∑ d, hr x0 x1 r d * x5 (ix3 0 d j)
/-- The normalized compressed queries, keys and values. -/
abbrev cqr (r : Fin 256) : Fin 256 → EReal := nrmN cQ (fun k => pj x0 x1 x5 r ⟨k.val, by omega⟩) (fun k => x8 (ix3 0 0 k))
abbrev ckr (r : Fin 256) : Fin 128 → EReal := nrmN cK (fun k => pj x0 x1 x5 r ⟨256 + k.val, by omega⟩) (fun k => x9 (ix3 0 0 k))

theorem l2 : (![0, 0] : Fin 2 → Nat) = fun _ => 0 := funext fun a => match a with | ⟨0, _⟩ => rfl | ⟨1, _⟩ => rfl

theorem pay2_apply (r : Fin 256) (d : Fin 1024) :
    k0_pay2 (F := Ideal) x0 (View.ld x1 r0_1) (View.ld x1 r0_2) (ix2 r d) = hr x0 x1 r d := by
  unfold k0_pay2
  rw [shapeCast_self]
  show (x0 (ix2 r d) * broadcastTo S256x1024 _ _ (ix2 r d)) * broadcastTo S256x1024 _ _ (ix2 r d) + broadcastTo S256x1024 _ _ (ix2 r d) = _
  rw [row_apply 256 1024, row_apply 256 1024, col_apply' 256 1024]
  have key : ∀ a b c : EReal, a = (∑ k, row x0 r k * row x0 r k) → b = md x1 4 d → c = md x1 3 d →
      x0 (ix2 r d) * Ideal.rsqrt (Ideal.div a cDim + cEps) * (cOne + b) + c = mdl (row x0 r) (md x1 3) (md x1 4) d := by
    rintro a b c rfl rfl rfl; rfl
  exact key _ _ _ (sq_apply' 256 1024 x0 _ _ _ _ r) (slab_apply (F := Ideal) x1 4 0 _ _ 0 d 4 d rfl (by omega))
    (slab_apply (F := Ideal) x1 3 0 _ _ 0 d 3 d rfl (by omega))

theorem ld_x0 : View.ld x0 r0_0 = x0 := View.ld_unit_zero l2 _ x0
theorem ld_x6 : View.ld x6 r0_9 = x6 := View.ld_unit_zero l2 _ x6

theorem pay19_apply (r : Fin 256) (d : Fin 1024) :
    k0_pay19 (F := Ideal) x0 x1 x2 x3 x4 x5 x6 x7 x8 x9 x10 x11 x12 x13 (ix2 r d) = hr x0 x1 r d := by
  unfold k0_pay19
  rw [ld_x0]
  exact pay2_apply x0 x1 r d

theorem out14_apply (r : Fin 256) (n : Fin 512) :
    out0_14 (F := Ideal) x0 x1 x2 x3 x4 x5 x6 x7 x8 x9 x10 x11 x12 x13 (ix2 r n) = ∑ d, hr x0 x1 r d * x2 (ix3 0 d n) := by
  unfold out0_14
  rw [ld_x0]
  refine (congrFun (View.canon_unit_zero l2 _ _) _).trans ?_
  unfold k0_pay3
  rw [dotA]
  refine (dot_apply 256 1024 512 _ _ r n).trans (Finset.sum_congr rfl fun d _ => ?_)
  rw [pay2_apply x0 x1]
  exact congrArg _ (slab_apply (F := Ideal) x2 0 0 _ _ d n d n (by omega) (by omega))

theorem out15_apply (r : Fin 256) (n : Fin 512) :
    out0_15 (F := Ideal) x0 x1 x2 x3 x4 x5 x6 x7 x8 x9 x10 x11 x12 x13 (ix2 r n) = ∑ d, hr x0 x1 r d * x3 (ix3 0 d n) := by
  unfold out0_15
  rw [ld_x0]
  refine (congrFun (View.canon_unit_zero l2 _ _) _).trans ?_
  unfold k0_pay4
  rw [dotA]
  refine (dot_apply 256 1024 512 _ _ r n).trans (Finset.sum_congr rfl fun d _ => ?_)
  rw [pay2_apply x0 x1]
  exact congrArg _ (slab_apply (F := Ideal) x3 0 0 _ _ d n d n (by omega) (by omega))

theorem out16_apply (r : Fin 256) (n : Fin 1024) :
    out0_16 (F := Ideal) x0 x1 x2 x3 x4 x5 x6 x7 x8 x9 x10 x11 x12 x13 (ix2 r n) = ∑ d, hr x0 x1 r d * x4 (ix3 0 d n) := by
  unfold out0_16
  refine (congrFun (View.canon_unit_zero l2 _ _) _).trans ?_
  unfold k0_pay5
  rw [dotC]
  refine (dot_apply 256 1024 1024 _ _ r n).trans (Finset.sum_congr rfl fun d _ => ?_)
  rw [pay19_apply]
  exact congrArg _ (slab_apply (F := Ideal) x4 0 0 _ _ d n d n (by omega) (by omega))

section Fourth
variable (v22 : FVec Ideal S256x1024 .bf16) (h22 : ∀ r d, v22 (ix2 r d) = hr x0 x1 r d)
include h22

theorem pay6_apply (r : Fin 256) (j : Fin 640) : k0_pay6 (F := Ideal) v22 (View.ld x5 r0_6) (ix2 r j) = pj x0 x1 x5 r j := by
  unfold k0_pay6
  rw [dotD]
  refine (dot_apply 256 1024 640 _ _ r j).trans (Finset.sum_congr rfl fun d _ => ?_)
  rw [h22]
  exact congrArg _ (slab_apply (F := Ideal) x5 0 0 _ _ d j d j (by omega) (by omega))

theorem pay7_apply (r : Fin 256) (l : Fin 128) :
    k0_pay7 (F := Ideal) v22 (View.ld x5 r0_6) (ix2 r l) = pj x0 x1 x5 r ⟨384 + l.val, by omega⟩ := by
  unfold k0_pay7
  rw [← pay6_apply x0 x1 x5 v22 h22]
  exact extractStridedSlice_apply _ _ _ _ _ (fun a => match a with | ⟨0, _⟩ => by simp | ⟨1, _⟩ => rfl)

theorem pay8_apply (r : Fin 256) (l : Fin 128) :
    k0_pay8 (F := Ideal) v22 (View.ld x5 r0_6) (ix2 r l) = pj x0 x1 x5 r ⟨512 + l.val, by omega⟩ := by
  unfold k0_pay8
  rw [← pay6_apply x0 x1 x5 v22 h22]
  exact extractStridedSlice_apply _ _ _ _ _ (fun a => match a with | ⟨0, _⟩ => by simp | ⟨1, _⟩ => rfl)

theorem pay9_apply (r : Fin 256) (k : Fin 256) :
    k0_pay9 (F := Ideal) v22 (View.ld x5 r0_6) (View.ld x8 r0_7) (ix2 r k) = cqr x0 x1 x5 x8 r k := by
  have hs : ∀ (r : Fin 256) (k : Fin 256), extractStridedSlice S256x256 ![0, 0] (k0_pay6 (F := Ideal) v22 (View.ld x5 r0_6)) slices_S256x640_o0_0_S256x256 (ix2 r k)
      = pj x0 x1 x5 r ⟨k.val, by omega⟩ := fun r k => by
    rw [← pay6_apply x0 x1 x5 v22 h22]
    exact extractStridedSlice_apply _ _ _ _ _ (fun a => match a with | ⟨0, _⟩ => by simp | ⟨1, _⟩ => by simp)
  unfold k0_pay9
  dsimp only
  generalize extractStridedSlice S256x256 ![0, 0] (k0_pay6 (F := Ideal) v22 (View.ld x5 r0_6)) slices_S256x640_o0_0_S256x256 = X at hs ⊢
  show (X (ix2 r k) * broadcastTo S256x256 _ _ (ix2 r k)) * broadcastTo S256x256 _ _ (ix2 r k) = _
  rw [row_apply 256 256, col_apply' 256 256]
  have key : ∀ a b c : EReal, c = pj x0 x1 x5 r ⟨k.val, by omega⟩ → a = (∑ k : Fin 256, pj x0 x1 x5 r ⟨k.val, by omega⟩ * pj x0 x1 x5 r ⟨k.val, by omega⟩) → b = x8 (ix3 0 0 k) →
      c * Ideal.rsqrt (Ideal.div a cQ + cEps) * b = cqr x0 x1 x5 x8 r k := by
    rintro a b c rfl rfl rfl; rfl
  exact key _ _ _ (hs r k) ((sq_apply' 256 256 X _ _ _ _ r).trans (Finset.sum_congr rfl fun k _ => by rw [hs]))
    (slab_apply (F := Ideal) x8 0 0 _ _ 0 k 0 k rfl (by omega))

theorem ckv_apply (r : Fin 256) (k : Fin 128) :
    k0_pay12 (F := Ideal) (k0_pay10 (F := Ideal) v22 (View.ld x5 r0_6)) (k0_pay11 (F := Ideal) (View.ld x9 r0_8)) (ix2 r k) = ckr x0 x1 x5 x9 r k := by
  have hs : ∀ (r : Fin 256) (k : Fin 128), extractStridedSlice S256x128 ![0, 256] (k0_pay6 (F := Ideal) v22 (View.ld x5 r0_6)) slices_S256x640_o0_256_S256x128 (ix2 r k)
      = pj x0 x1 x5 r ⟨256 + k.val, by omega⟩ := fun r k => by
    rw [← pay6_apply x0 x1 x5 v22 h22]
    exact extractStridedSlice_apply _ _ _ _ _ (fun a => match a with | ⟨0, _⟩ => by simp | ⟨1, _⟩ => rfl)
  unfold k0_pay12 k0_pay10 k0_pay11
  dsimp only
  generalize extractStridedSlice S256x128 ![0, 256] (k0_pay6 (F := Ideal) v22 (View.ld x5 r0_6)) slices_S256x640_o0_256_S256x128 = X at hs ⊢
  show (X (ix2 r k) * broadcastTo S256x128 _ _ (ix2 r k)) * broadcastTo S256x128 _ _ (ix2 r k) = _
  rw [row_apply 256 128, col_apply' 256 128]
  have key : ∀ a b c : EReal, c = pj x0 x1 x5 r ⟨256 + k.val, by omega⟩ → a = (∑ k : Fin 128, pj x0 x1 x5 r ⟨256 + k.val, by omega⟩ * pj x0 x1 x5 r ⟨256 + k.val, by omega⟩) → b = x9 (ix3 0 0 k) →
      c * Ideal.rsqrt (Ideal.div a cK + cEps) * b = ckr x0 x1 x5 x9 r k := by
    rintro a b c rfl rfl rfl; rfl
  exact key _ _ _ (hs r k) ((sq_apply' 256 128 X _ _ _ _ r).trans (Finset.sum_congr rfl fun k _ => by rw [hs]))
    (slab_apply (F := Ideal) x9 0 0 _ _ 0 k 0 k rfl (by omega))

end Fourth

theorem out17_apply (r : Fin 256) (a : Fin 4) (l : Fin 128) (L : Fin 512) (hL : L.val = 128 * a.val + l.val) :
    out0_17 (F := Ideal) x0 x1 x2 x3 x4 x5 x6 x7 x8 x9 x10 x11 x12 x13 (ix2 r L)
      = ((∑ i, cqr x0 x1 x5 x8 r i * x10 (ix3 0 i L)) * x6 (ix2 r l) + (∑ i, cqr x0 x1 x5 x8 r i * x11 (ix3 0 i L)) * x7 (ix2 r l)) * cS := by
  unfold out0_17
  refine (congrFun (View.canon_unit_zero l2 _ _) _).trans ?_
  rw [ld_x6, ld_x6]
  unfold k0_pay15 k0_pay13 k0_pay14
  rw [dotQ, shapeCast_self, shapeCast_self]
  have hd : ∀ (y : Vec Ideal S1x256x512 .bf16) (V : FVec Ideal S256x256 .bf16), (∀ k, V (ix2 r k) = cqr x0 x1 x5 x8 r k) →
      matmul (φ₂ := .bf16) (DotDims.plain 256 256 512) none V (shapeCast S256x512 (View.ld y r0_10) shapeCasts_S1x256x512_S256x512)
        (constant (F := Ideal) ⟨2, ![256, 512]⟩ .f32 0x00000000#32) (ix2 r L) = ∑ i, cqr x0 x1 x5 x8 r i * y (ix3 0 i L) := by
    intro y V hV
    refine (dot_apply 256 256 512 _ _ r L).trans (Finset.sum_congr rfl fun d _ => ?_)
    rw [hV]
    exact congrArg _ (slab_apply (F := Ideal) y 0 0 _ _ d L d L (by omega) (by omega))
  have hV := pay9_apply x0 x1 x5 x8 _ (pay19_apply x0 x1 x2 x3 x4 x5 x6 x7 x8 x9 x10 x11 x12 x13) r
  refine congrArg (fun z : EReal => z * cS) ?_
  refine congrArg₂ (fun p q : EReal => p + q) ?_ ?_
  · exact congrArg₂ (fun p q : EReal => p * q) (hd x10 _ hV) (four_apply x6 _ r a l L hL)
  · exact congrArg₂ (fun p q : EReal => p * q) (hd x11 _ hV) (four_apply x7 _ r a l L hL)

theorem dotKV (y : Vec Ideal S1x128x512 .bf16) (r : Fin 256) (L : Fin 512) :
    matmul (φ₂ := .bf16) (DotDims.plain 256 128 512) none (k0_pay12 (F := Ideal) (k0_pay20 (F := Ideal) x0 x1 x2 x3 x4 x5 x6 x7 x8 x9 x10 x11 x12 x13)
        (k0_pay21 (F := Ideal) x0 x1 x2 x3 x4 x5 x6 x7 x8 x9 x10 x11 x12 x13)) (shapeCast S128x512 (View.ld y r0_11) shapeCasts_S1x128x512_S128x512)
      (constant (F := Ideal) ⟨2, ![256, 512]⟩ .f32 0x00000000#32) (ix2 r L) = ∑ i, ckr x0 x1 x5 x9 r i * y (ix3 0 i L) := by
  refine (dot_apply 256 128 512 _ _ r L).trans (Finset.sum_congr rfl fun d _ => ?_)
  unfold k0_pay20 k0_pay21
  rw [ckv_apply x0 x1 x5 x9 _ (pay19_apply x0 x1 x2 x3 x4 x5 x6 x7 x8 x9 x10 x11 x12 x13)]
  exact congrArg _ (slab_apply (F := Ideal) y 0 0 _ _ d L d L (by omega) (by omega))

theorem out18_apply (r : Fin 256) (a : Fin 4) (l : Fin 128) (L : Fin 512) (hL : L.val = 128 * a.val + l.val) :
    out0_18 (F := Ideal) x0 x1 x2 x3 x4 x5 x6 x7 x8 x9 x10 x11 x12 x13 (ix2 r L)
      = (∑ i, ckr x0 x1 x5 x9 r i * x12 (ix3 0 i L))
        + (pj x0 x1 x5 r ⟨384 + l.val, by omega⟩ * x6 (ix2 r l) + pj x0 x1 x5 r ⟨512 + l.val, by omega⟩ * x7 (ix2 r l)) := by
  unfold out0_18
  refine (congrFun (View.canon_unit_zero l2 _ _) _).trans ?_
  rw [ld_x6, ld_x6]
  unfold k0_pay16 k0_pay13 k0_pay14
  rw [dotK, shapeCast_self, shapeCast_self]
  refine congrArg₂ (fun p q : EReal => p + q) (dotKV x0 x1 x2 x3 x4 x5 x6 x7 x8 x9 x10 x11 x12 x13 x12 r L) ?_
  refine (four_apply _ _ r a l L hL).trans ?_
  refine congrArg₂ (fun p q : EReal => p + q) ?_ ?_
  · exact congrArg (fun p : EReal => p * x6 (ix2 r l)) (pay7_apply x0 x1 x5 _ (pay19_apply x0 x1 x2 x3 x4 x5 x6 x7 x8 x9 x10 x11 x12 x13) r l)
  · exact congrArg (fun p : EReal => p * x7 (ix2 r l)) (pay8_apply x0 x1 x5 _ (pay19_apply x0 x1 x2 x3 x4 x5 x6 x7 x8 x9 x10 x11 x12 x13) r l)

/-- The lane counter of the values' block is not 64 below lane 64. -/
theorem lane_ne : ∀ L : Fin 512, L.val % 128 < 64 →
    cmpi .eq k0_pay17 k0_pay18 (ix2 (0 : Fin 1) L) = 0#1 := by decide +kernel

theorem out19_apply (r : Fin 256) (L : Fin 512) (hL : L.val % 128 < 64) :
    out0_19 (F := Ideal) x0 x1 x2 x3 x4 x5 x6 x7 x8 x9 x10 x11 x12 x13 (ix2 r L) = ∑ i, ckr x0 x1 x5 x9 r i * x13 (ix3 0 i L) := by
  unfold out0_19
  refine (congrFun (View.canon_unit_zero l2 _ _) _).trans ?_
  unfold k0_pay1
  rw [dotK]
  refine (congrArg₂ (fun p q : EReal => p + q) (dotKV x0 x1 x2 x3 x4 x5 x6 x7 x8 x9 x10 x11 x12 x13 x13 r L)
    (?_ : _ = (0 : EReal))).trans (add_zero _)
  refine (row_apply 256 512 _ _ (by decide) (by decide) r L).trans ?_
  show (if cmpi .eq k0_pay17 k0_pay18 (ix2 (0 : Fin 1) L) = 1#1 then _ else Ideal.ofBits .f32 0x00000000#32) = _
  rw [lane_ne L hL, if_neg (by decide)]
  exact Ideal.ofBits_zero_f32

end Cert.WinKernelIdeal.Win
-- ==== Proof.Win.Host.lean ====
module
public import proofs.«01_k».proof.Proof.Win.Block
public import Idealize.ShloMosaic.Lib.Claim
public import Idealize.ShloMosaic.Lib.StableHlo.RunRead
/-! What the host code before the launch lays out for the input projection: rows, modulations, angles and weights by lane. -/
@[expose] public section
set_option maxRecDepth 16384
noncomputable section
namespace Cert.WinKernelIdeal.Win
open Cert.WinKernelIdeal Cert.WinKernelIdeal.Gen Idealize.ShloMosaic Idealize.ShloMosaic.TcCoe Idealize.ShloMosaic.ValueIdx
open Idealize.SL.Sem Cert.Ffn Cert.Win

variable (m : (ℓ : Loc nD τ sig) → Buf (Elt Ideal) ℓ) (c : Dev nD)

/-- The arguments at launch. -/
abbrev ax : S2x8192x1024.Idx → EReal := m (c, Proc.tc.devRef main_arg0)
abbrev axc : S2x256x1024.Idx → EReal := m (c, Proc.tc.devRef main_arg1)
abbrev am : S2x9x1024.Idx → EReal := m (c, Proc.tc.devRef main_arg2)
abbrev amc : S9x1024.Idx → EReal := m (c, Proc.tc.devRef main_arg3)
abbrev aw : S2x1024x2464.Idx → EReal := m (c, Proc.tc.devRef main_arg4)
abbrev agq : S2x256.Idx → EReal := m (c, Proc.tc.devRef main_arg5)
abbrev awq : S2x256x384.Idx → EReal := m (c, Proc.tc.devRef main_arg6)
abbrev agk : S2x128.Idx → EReal := m (c, Proc.tc.devRef main_arg7)
abbrev awk : S2x128x512.Idx → EReal := m (c, Proc.tc.devRef main_arg8)
abbrev acs : S8192x32.Idx → EReal := m (c, Proc.tc.devRef main_arg9)
abbrev asn : S8192x32.Idx → EReal := m (c, Proc.tc.devRef main_arg10)

/-- The first layer's weights. -/
abbrev w : Fin 1024 → Fin 2464 → EReal := fun d j => aw m c (ix3 0 d j)
abbrev wq : Fin 256 → Fin 384 → EReal := fun i j => awq m c (ix3 0 i j)
abbrev wk : Fin 128 → Fin 512 → EReal := fun i j => awk m c (ix3 0 i j)

/-! ## Rows and modulations -/

theorem V63_ctx (b : Fin 2) (j : Fin 256) (d : Fin 1024) (R : Fin 16896) (hR : R.val = b.val * 256 + j.val) :
    (Gen.V m c main_v63 : S16896x1024.Idx → EReal) (ix2 R d) = axc m c (ix3 b j d) := by
  unfold Gen.V
  after_reads_simp
  refine (concatenate_pair_apply_left (t := S16896x1024) (s₁ := S512x1024) (s₂ := S16384x1024) 0 _ _ _ _ rfl (ix2 ⟨R.val, by omega⟩ d) (fun a => match a with
    | ⟨0, _⟩ => rfl | ⟨1, _⟩ => rfl)).trans ?_
  exact flat_apply _ _ b j d _ hR

theorem V63_lat (b : Fin 2) (j : Fin 8192) (d : Fin 1024) (R : Fin 16896) (hR : R.val = 512 + (b.val * 8192 + j.val)) :
    (Gen.V m c main_v63 : S16896x1024.Idx → EReal) (ix2 R d) = ax m c (ix3 b j d) := by
  unfold Gen.V
  after_reads_simp
  refine (concatenate_pair_apply_right (t := S16896x1024) (s₁ := S512x1024) (s₂ := S16384x1024) 0 _ _ _ _ rfl rfl (ix2 ⟨b.val * 8192 + j.val, by omega⟩ d) (fun a => match a with
    | ⟨0, _⟩ => fun ne => absurd rfl ne | ⟨1, _⟩ => fun _ => rfl) (by show b.val * 8192 + j.val + 512 = R.val; omega)).trans ?_
  exact flat_apply _ _ b j d _ rfl

theorem V3 : ∃ z : S5x9x1024.Idx → EReal, (Gen.V m c main_v3 : S8x9x1024.Idx → EReal) =
    concatenate S8x9x1024 0 [⟨S3x9x1024, concatenate (α := EReal) S3x9x1024 0 [⟨S1x9x1024, broadcastInDim S1x9x1024 ![1, 2] bcast_S9x1024_S1x9x1024_1_2 (amc m c)⟩,
      ⟨S2x9x1024, am m c⟩] concatenates_S1x9x1024_S2x9x1024_S3x9x1024_d0⟩, ⟨S5x9x1024, z⟩] concatenates_S3x9x1024_S5x9x1024_S8x9x1024_d0 := by
  unfold Gen.V
  after_reads_simp
  exact ⟨_, rfl⟩

theorem V3_ctx (a : Fin 9) (d : Fin 1024) : (Gen.V m c main_v3 : S8x9x1024.Idx → EReal) (ix3 0 a d) = amc m c (ix2 a d) := by
  obtain ⟨z, hz⟩ := V3 m c
  rw [hz]
  refine (concatenate_pair_apply_left (t := S8x9x1024) (s₁ := S3x9x1024) (s₂ := S5x9x1024) 0 _ _ _ _ rfl (ix3 0 a d) (fun a => match a with
    | ⟨0, _⟩ => rfl | ⟨1, _⟩ => rfl | ⟨2, _⟩ => rfl)).trans ?_
  refine (concatenate_pair_apply_left (t := S3x9x1024) (s₁ := S1x9x1024) (s₂ := S2x9x1024) 0 _ _ _ _ rfl (ix3 0 a d) (fun a => match a with
    | ⟨0, _⟩ => rfl | ⟨1, _⟩ => rfl | ⟨2, _⟩ => rfl)).trans ?_
  exact broadcastInDim_apply _ _ _ _ (ix2 a d) (fun a => match a with | ⟨0, _⟩ => rfl | ⟨1, _⟩ => rfl)

theorem V3_lat (b : Fin 2) (g : Fin 8) (hg : g.val = b.val + 1) (a : Fin 9) (d : Fin 1024) :
    (Gen.V m c main_v3 : S8x9x1024.Idx → EReal) (ix3 g a d) = am m c (ix3 b a d) := by
  obtain ⟨z, hz⟩ := V3 m c
  rw [hz]
  refine (concatenate_pair_apply_left (t := S8x9x1024) (s₁ := S3x9x1024) (s₂ := S5x9x1024) 0 _ _ _ _ rfl (ix3 ⟨b.val + 1, by omega⟩ a d) (fun a => match a with
    | ⟨0, _⟩ => hg.symm | ⟨1, _⟩ => rfl | ⟨2, _⟩ => rfl)).trans ?_
  exact concatenate_pair_apply_right (t := S3x9x1024) (s₁ := S1x9x1024) (s₂ := S2x9x1024) 0 _ _ _ _ rfl rfl (ix3 b a d) (fun a => match a with
    | ⟨0, _⟩ => fun ne => absurd rfl ne | ⟨1, _⟩ => fun _ => rfl | ⟨2, _⟩ => fun _ => rfl) rfl

/-! ## The projection's weights -/

/-- Columns from `p` on of an array of three axes, at an index. -/
theorem cut_apply {α : Type} {A B N K : Nat} (x : (⟨3, ![A, B, N]⟩ : Shape).Idx → α) (p : Nat) (h : (⟨3, ![A, B, N]⟩ : Shape).Slices ![0, 0, p] ⟨3, ![A, B, K]⟩)
    (a : Fin A) (b : Fin B) (k : Fin K) (n : Fin N) (hn : n.val = p + k.val) : extractStridedSlice ⟨3, ![A, B, K]⟩ ![0, 0, p] x h (ix3 a b k) = x (ix3 a b n) :=
  extractStridedSlice_apply _ _ _ _ _ (fun i => match i with | ⟨0, _⟩ => by simp | ⟨1, _⟩ => by simp | ⟨2, _⟩ => by simp [hn])

/-- Columns from `p` on of an array of four axes, at an index. -/
theorem cut4_apply {α : Type} {A B C N K : Nat} (x : (⟨4, ![A, B, C, N]⟩ : Shape).Idx → α) (p : Nat)
    (h : (⟨4, ![A, B, C, N]⟩ : Shape).Slices ![0, 0, 0, p] ⟨4, ![A, B, C, K]⟩)
    (a : Fin A) (b : Fin B) (d : Fin C) (k : Fin K) (n : Fin N) (hn : n.val = p + k.val) :
    extractStridedSlice ⟨4, ![A, B, C, K]⟩ ![0, 0, 0, p] x h (ix4 a b d k) = x (ix4 a b d n) :=
  extractStridedSlice_apply _ _ _ _ _ (fun i => match i with | ⟨0, _⟩ => by simp | ⟨1, _⟩ => by simp | ⟨2, _⟩ => by simp | ⟨3, _⟩ => by simp [hn])

theorem V5 (d : Fin 1024) (n : Fin 512) : (Gen.V m c main_v5 : S2x1024x512.Idx → EReal) (ix3 0 d n) = w m c d ⟨n.val, by omega⟩ := by
  unfold Gen.V
  after_reads_simp
  exact (cut_apply (aw m c) 0 slices_S2x1024x2464_S2x1024x512_0_0_0 (0 : Fin 2) d n (⟨n.val, by omega⟩ : Fin 2464) (by simp))

theorem V7 (d : Fin 1024) (n : Fin 512) : (Gen.V m c main_v7 : S2x1024x512.Idx → EReal) (ix3 0 d n) = w m c d ⟨512 + n.val, by omega⟩ := by
  unfold Gen.V
  after_reads_simp
  exact (cut_apply (aw m c) 512 slices_S2x1024x2464_S2x1024x512_0_0_512 (0 : Fin 2) d n (⟨512 + n.val, by omega⟩ : Fin 2464) (by simp))

theorem V9 (d : Fin 1024) (n : Fin 1024) : (Gen.V m c main_v9 : S2x1024x1024.Idx → EReal) (ix3 0 d n) = w m c d ⟨1024 + n.val, by omega⟩ := by
  unfold Gen.V
  after_reads_simp
  exact (cut_apply (aw m c) 1024 slices_S2x1024x2464_S2x1024x1024_0_0_1024 (0 : Fin 2) d n (⟨1024 + n.val, by omega⟩ : Fin 2464) (by simp))

/-- A piece of a concatenation along the last of three axes, at an index. -/
theorem piece3 {α : Type} {A B N n : Nat} (xs : List ((s : Shape) × (s.Idx → α))) (h : Shape.Concatenates (xs.map (·.1)) ⟨3, ![A, B, N]⟩ 2)
    (k : Nat) (hk : k < xs.length) (x : (⟨3, ![A, B, n]⟩ : Shape).Idx → α) (hx : xs[k] = ⟨⟨3, ![A, B, n]⟩, x⟩) (pre : Nat)
    (hpre : (((xs.take k).map (·.1)).map fun s => if h : s.rank = 3 then s.size ((2 : Fin 3).cast h.symm) else 0).sum = pre)
    (a : Fin A) (b : Fin B) (l : Fin n) (L : Fin N) (hL : pre + l.val = L.val) :
    concatenate ⟨3, ![A, B, N]⟩ 2 xs h (ix3 a b L) = x (ix3 a b l) :=
  concatenate_apply_piece (t := ⟨3, ![A, B, N]⟩) 2 xs h _ k hk _ x hx rfl pre hpre (ix3 a b l)
    (fun i => match i with | ⟨0, _⟩ => fun _ => rfl | ⟨1, _⟩ => fun _ => rfl | ⟨2, _⟩ => fun ne => absurd rfl ne) hL

/-- A piece of a concatenation along the last of four axes, at an index. -/
theorem piece4 {α : Type} {A B C N n : Nat} (xs : List ((s : Shape) × (s.Idx → α))) (h : Shape.Concatenates (xs.map (·.1)) ⟨4, ![A, B, C, N]⟩ 3)
    (k : Nat) (hk : k < xs.length) (x : (⟨4, ![A, B, C, n]⟩ : Shape).Idx → α) (hx : xs[k] = ⟨⟨4, ![A, B, C, n]⟩, x⟩) (pre : Nat)
    (hpre : (((xs.take k).map (·.1)).map fun s => if h : s.rank = 4 then s.size ((3 : Fin 4).cast h.symm) else 0).sum = pre)
    (a : Fin A) (b : Fin B) (d : Fin C) (l : Fin n) (L : Fin N) (hL : pre + l.val = L.val) :
    concatenate ⟨4, ![A, B, C, N]⟩ 3 xs h (ix4 a b d L) = x (ix4 a b d l) :=
  concatenate_apply_piece (t := ⟨4, ![A, B, C, N]⟩) 3 xs h _ k hk _ x hx rfl pre hpre (ix4 a b d l)
    (fun i => match i with | ⟨0, _⟩ => fun _ => rfl | ⟨1, _⟩ => fun _ => rfl | ⟨2, _⟩ => fun _ => rfl | ⟨3, _⟩ => fun ne => absurd rfl ne) hL

/-- A piece of a concatenation along the last of two axes, at an index. -/
theorem piece2 {α : Type} {A N n : Nat} (xs : List ((s : Shape) × (s.Idx → α))) (h : Shape.Concatenates (xs.map (·.1)) ⟨2, ![A, N]⟩ 1)
    (k : Nat) (hk : k < xs.length) (x : (⟨2, ![A, n]⟩ : Shape).Idx → α) (hx : xs[k] = ⟨⟨2, ![A, n]⟩, x⟩) (pre : Nat)
    (hpre : (((xs.take k).map (·.1)).map fun s => if h : s.rank = 2 then s.size ((1 : Fin 2).cast h.symm) else 0).sum = pre)
    (a : Fin A) (l : Fin n) (L : Fin N) (hL : pre + l.val = L.val) :
    concatenate ⟨2, ![A, N]⟩ 1 xs h (ix2 a L) = x (ix2 a l) :=
  concatenate_apply_piece (t := ⟨2, ![A, N]⟩) 1 xs h _ k hk _ x hx rfl pre hpre (ix2 a l)
    (fun i => match i with | ⟨0, _⟩ => fun _ => rfl | ⟨1, _⟩ => fun ne => absurd rfl ne) hL

/-- The quarter turn of eight-wide pieces, three axes. -/
theorem turn3 {A B : Nat} (f : Fin 32 → EReal) (x1 x2 x3 x4 : (⟨3, ![A, B, 8]⟩ : Shape).Idx → EReal)
    (h : Shape.Concatenates [⟨3, ![A, B, 8]⟩, ⟨3, ![A, B, 8]⟩, ⟨3, ![A, B, 8]⟩, ⟨3, ![A, B, 8]⟩] ⟨3, ![A, B, 32]⟩ 2) (a : Fin A) (b : Fin B)
    (h1 : ∀ l : Fin 8, x1 (ix3 a b l) = -f ⟨8 + l.val, by omega⟩) (h2 : ∀ l : Fin 8, x2 (ix3 a b l) = f ⟨l.val, by omega⟩)
    (h3 : ∀ l : Fin 8, x3 (ix3 a b l) = -f ⟨24 + l.val, by omega⟩) (h4 : ∀ l : Fin 8, x4 (ix3 a b l) = f ⟨16 + l.val, by omega⟩) (k : Fin 32) :
    concatenate ⟨3, ![A, B, 32]⟩ 2 [⟨⟨3, ![A, B, 8]⟩, x1⟩, ⟨⟨3, ![A, B, 8]⟩, x2⟩, ⟨⟨3, ![A, B, 8]⟩, x3⟩, ⟨⟨3, ![A, B, 8]⟩, x4⟩] h (ix3 a b k) = turn f k := by
  have hk := k.isLt
  unfold turn mate
  by_cases c1 : k.val < 8
  · rw [if_pos (by omega), if_pos (by omega)]
    refine (piece3 [⟨⟨3, ![A, B, 8]⟩, x1⟩, ⟨⟨3, ![A, B, 8]⟩, x2⟩, ⟨⟨3, ![A, B, 8]⟩, x3⟩, ⟨⟨3, ![A, B, 8]⟩, x4⟩] h 0 (by simp) x1 rfl 0 rfl a b ⟨k.val, by omega⟩ k (by simp)).trans ((h1 _).trans ?_)
    exact congrArg (fun i => -f i) (Fin.ext (by show 8 + k.val = (k.val + 8) % 32; omega))
  by_cases c2 : k.val < 16
  · rw [if_neg (by omega), if_neg (by omega)]
    exact (piece3 [⟨⟨3, ![A, B, 8]⟩, x1⟩, ⟨⟨3, ![A, B, 8]⟩, x2⟩, ⟨⟨3, ![A, B, 8]⟩, x3⟩, ⟨⟨3, ![A, B, 8]⟩, x4⟩] h 1 (by simp) x2 rfl 8 rfl a b ⟨k.val - 8, by omega⟩ k (by show 8 + (k.val - 8) = k.val; omega)).trans (h2 _)
  by_cases c3 : k.val < 24
  · rw [if_pos (by omega), if_pos (by omega)]
    refine (piece3 [⟨⟨3, ![A, B, 8]⟩, x1⟩, ⟨⟨3, ![A, B, 8]⟩, x2⟩, ⟨⟨3, ![A, B, 8]⟩, x3⟩, ⟨⟨3, ![A, B, 8]⟩, x4⟩] h 2 (by simp) x3 rfl 16 rfl a b ⟨k.val - 16, by omega⟩ k (by show 16 + (k.val - 16) = k.val; omega)).trans ((h3 _).trans ?_)
    exact congrArg (fun i => -f i) (Fin.ext (by show 24 + (k.val - 16) = (k.val + 8) % 32; omega))
  · rw [if_neg (by omega), if_neg (by omega)]
    refine (piece3 [⟨⟨3, ![A, B, 8]⟩, x1⟩, ⟨⟨3, ![A, B, 8]⟩, x2⟩, ⟨⟨3, ![A, B, 8]⟩, x3⟩, ⟨⟨3, ![A, B, 8]⟩, x4⟩] h 3 (by simp) x4 rfl 24 rfl a b ⟨k.val - 24, by omega⟩ k (by show 24 + (k.val - 24) = k.val; omega)).trans ((h4 _).trans ?_)
    exact congrArg f (Fin.ext (by show 16 + (k.val - 24) = k.val - 8; omega))

/-- The quarter turn of eight-wide pieces, four axes. -/
theorem turn4 {A B C : Nat} (f : Fin 32 → EReal) (x1 x2 x3 x4 : (⟨4, ![A, B, C, 8]⟩ : Shape).Idx → EReal)
    (h : Shape.Concatenates [⟨4, ![A, B, C, 8]⟩, ⟨4, ![A, B, C, 8]⟩, ⟨4, ![A, B, C, 8]⟩, ⟨4, ![A, B, C, 8]⟩] ⟨4, ![A, B, C, 32]⟩ 3) (a : Fin A) (b : Fin B) (d : Fin C)
    (h1 : ∀ l : Fin 8, x1 (ix4 a b d l) = -f ⟨8 + l.val, by omega⟩) (h2 : ∀ l : Fin 8, x2 (ix4 a b d l) = f ⟨l.val, by omega⟩)
    (h3 : ∀ l : Fin 8, x3 (ix4 a b d l) = -f ⟨24 + l.val, by omega⟩) (h4 : ∀ l : Fin 8, x4 (ix4 a b d l) = f ⟨16 + l.val, by omega⟩) (k : Fin 32) :
    concatenate ⟨4, ![A, B, C, 32]⟩ 3 [⟨⟨4, ![A, B, C, 8]⟩, x1⟩, ⟨⟨4, ![A, B, C, 8]⟩, x2⟩, ⟨⟨4, ![A, B, C, 8]⟩, x3⟩, ⟨⟨4, ![A, B, C, 8]⟩, x4⟩] h (ix4 a b d k) = turn f k := by
  have hk := k.isLt
  unfold turn mate
  by_cases c1 : k.val < 8
  · rw [if_pos (by omega), if_pos (by omega)]
    refine (piece4 [⟨⟨4, ![A, B, C, 8]⟩, x1⟩, ⟨⟨4, ![A, B, C, 8]⟩, x2⟩, ⟨⟨4, ![A, B, C, 8]⟩, x3⟩, ⟨⟨4, ![A, B, C, 8]⟩, x4⟩] h 0 (by simp) x1 rfl 0 rfl a b d ⟨k.val, by omega⟩ k (by simp)).trans ((h1 _).trans ?_)
    exact congrArg (fun i => -f i) (Fin.ext (by show 8 + k.val = (k.val + 8) % 32; omega))
  by_cases c2 : k.val < 16
  · rw [if_neg (by omega), if_neg (by omega)]
    exact (piece4 [⟨⟨4, ![A, B, C, 8]⟩, x1⟩, ⟨⟨4, ![A, B, C, 8]⟩, x2⟩, ⟨⟨4, ![A, B, C, 8]⟩, x3⟩, ⟨⟨4, ![A, B, C, 8]⟩, x4⟩] h 1 (by simp) x2 rfl 8 rfl a b d ⟨k.val - 8, by omega⟩ k (by show 8 + (k.val - 8) = k.val; omega)).trans (h2 _)
  by_cases c3 : k.val < 24
  · rw [if_pos (by omega), if_pos (by omega)]
    refine (piece4 [⟨⟨4, ![A, B, C, 8]⟩, x1⟩, ⟨⟨4, ![A, B, C, 8]⟩, x2⟩, ⟨⟨4, ![A, B, C, 8]⟩, x3⟩, ⟨⟨4, ![A, B, C, 8]⟩, x4⟩] h 2 (by simp) x3 rfl 16 rfl a b d ⟨k.val - 16, by omega⟩ k (by show 16 + (k.val - 16) = k.val; omega)).trans ((h3 _).trans ?_)
    exact congrArg (fun i => -f i) (Fin.ext (by show 24 + (k.val - 16) = (k.val + 8) % 32; omega))
  · rw [if_neg (by omega), if_neg (by omega)]
    refine (piece4 [⟨⟨4, ![A, B, C, 8]⟩, x1⟩, ⟨⟨4, ![A, B, C, 8]⟩, x2⟩, ⟨⟨4, ![A, B, C, 8]⟩, x3⟩, ⟨⟨4, ![A, B, C, 8]⟩, x4⟩] h 3 (by simp) x4 rfl 24 rfl a b d ⟨k.val - 24, by omega⟩ k (by show 24 + (k.val - 24) = k.val; omega)).trans ((h4 _).trans ?_)
    exact congrArg f (Fin.ext (by show 16 + (k.val - 24) = k.val - 8; omega))

/-- The rotary lanes of a padded block: lanes 64 to 95 hold `f`, the others zero. -/
def pad (f : Fin 32 → EReal) (l : Fin 128) : EReal := if h : 64 ≤ l.val ∧ l.val < 96 then f ⟨l.val - 64, by omega⟩ else 0

/-- Zeros laid out in any shape, at an index. -/
theorem zeros {s : Shape} (h : S_.BroadcastsInDim s ![]) (i : s.Idx) : broadcastInDim s ![] h (constant (F := Ideal) S_ FTy.f32 0#32) i = (0 : EReal) :=
  show Ideal.ofBits .f32 0#32 = 0 from Ideal.ofBits_zero_f32

/-- The rotary columns of the weights. -/
theorem ropeW (d : Fin 1024) (k : Fin 32) : extractStridedSlice S2x1024x32 ![0, 0, 384]
    (extractStridedSlice S2x1024x416 ![0, 0, 2048] (aw m c) slices_S2x1024x2464_S2x1024x416_0_0_2048) slices_S2x1024x416_S2x1024x32_0_0_384 (ix3 0 d k)
      = w m c d ⟨2432 + k.val, by omega⟩ :=
  (cut_apply _ 384 _ 0 d k (⟨384 + k.val, by omega⟩ : Fin 416) rfl).trans (cut_apply _ 2048 _ 0 d _ _ (by show 2432 + k.val = 2048 + (384 + k.val); omega))

/-- The fourth weights: the compressed columns, the rotary columns padded, and their quarter turn padded. -/
theorem V23 : ∃ (A : S2x1024x384.Idx → EReal) (Z : S2x1024x64.Idx → EReal) (K : S2x1024x32.Idx → EReal) (Z' : S2x1024x32.Idx → EReal) (T : S2x1024x32.Idx → EReal),
    (Gen.V m c main_v23 : S2x1024x640.Idx → EReal) = concatenate S2x1024x640 2 [⟨S2x1024x384, A⟩, ⟨S2x1024x64, Z⟩, ⟨S2x1024x32, K⟩, ⟨S2x1024x32, Z'⟩, ⟨S2x1024x64, Z⟩,
      ⟨S2x1024x32, T⟩, ⟨S2x1024x32, Z'⟩] concatenates_S2x1024x384_S2x1024x64_S2x1024x32_S2x1024x32_S2x1024x64_S2x1024x32_S2x1024x32_S2x1024x640_d2
    ∧ (∀ d (k : Fin 384), A (ix3 0 d k) = w m c d ⟨2048 + k.val, by omega⟩) ∧ (∀ i, Z i = 0) ∧ (∀ d (k : Fin 32), K (ix3 0 d k) = w m c d ⟨2432 + k.val, by omega⟩)
    ∧ (∀ i, Z' i = 0) ∧ (∀ d (k : Fin 32), T (ix3 0 d k) = turn (fun k => w m c d ⟨2432 + k.val, by omega⟩) k) := by
  unfold Gen.V
  after_reads_simp
  dsimp only [Matrix.cons_val]
  refine ⟨_, _, _, _, _, rfl, fun d k => ?_, fun i => ?_, fun d k => ?_, fun i => ?_, fun d k => ?_⟩
  · after_reads_simp
    exact (cut_apply _ 0 _ (0 : Fin 2) d k (⟨k.val, by omega⟩ : Fin 416) (by simp)).trans (cut_apply (aw m c) 2048 _ (0 : Fin 2) d _ _ rfl)
  · after_reads_simp
    exact zeros _ i
  · after_reads_simp
    exact (cut_apply _ 384 _ (0 : Fin 2) d k (⟨384 + k.val, by omega⟩ : Fin 416) rfl).trans
      (cut_apply (aw m c) 2048 _ (0 : Fin 2) d _ _ (by show 2432 + k.val = 2048 + (384 + k.val); omega))
  · after_reads_simp
    exact zeros _ i
  · after_reads_simp
    dsimp only [Matrix.cons_val]
    refine turn3 (fun k => w m c d ⟨2432 + k.val, by omega⟩) _ _ _ _ _ 0 d (fun l => ?_) (fun l => ?_) (fun l => ?_) (fun l => ?_) k
    · after_reads_simp
      exact congrArg (fun x : EReal => -x) ((cut_apply _ 8 _ (0 : Fin 2) d l (⟨8 + l.val, by omega⟩ : Fin 32) rfl).trans (ropeW m c d _))
    · after_reads_simp
      exact (cut_apply _ 0 _ (0 : Fin 2) d l (⟨l.val, by omega⟩ : Fin 32) (by simp)).trans (ropeW m c d _)
    · after_reads_simp
      exact congrArg (fun x : EReal => -x) ((cut_apply _ 24 _ (0 : Fin 2) d l (⟨24 + l.val, by omega⟩ : Fin 32) rfl).trans (ropeW m c d _))
    · after_reads_simp
      exact (cut_apply _ 16 _ (0 : Fin 2) d l (⟨16 + l.val, by omega⟩ : Fin 32) rfl).trans (ropeW m c d _)

theorem V23_c (d : Fin 1024) (k : Fin 384) (J : Fin 640) (hJ : J.val = k.val) :
    (Gen.V m c main_v23 : S2x1024x640.Idx → EReal) (ix3 0 d J) = w m c d ⟨2048 + k.val, by omega⟩ := by
  obtain ⟨A, Z, K, Z', T, e, hA, -⟩ := V23 m c
  rw [e, ← hA]
  exact piece3 _ _ 0 (by simp) A rfl 0 rfl 0 d k J (by omega)

theorem V23_r (d : Fin 1024) (l : Fin 128) (J : Fin 640) (hJ : J.val = 384 + l.val) :
    (Gen.V m c main_v23 : S2x1024x640.Idx → EReal) (ix3 0 d J) = pad (fun k => w m c d ⟨2432 + k.val, by omega⟩) l := by
  obtain ⟨A, Z, K, Z', T, e, -, hZ, hK, hZ', -⟩ := V23 m c
  rw [e]
  unfold pad
  have hl := l.isLt
  by_cases c1 : l.val < 64
  · rw [dif_neg (by omega)]
    exact (piece3 _ _ 1 (by simp) Z rfl 384 rfl 0 d ⟨l.val, c1⟩ J hJ.symm).trans (hZ _)
  by_cases c2 : l.val < 96
  · rw [dif_pos (by omega)]
    exact (piece3 _ _ 2 (by simp) K rfl 448 rfl 0 d ⟨l.val - 64, by omega⟩ J (by show 448 + (l.val - 64) = J.val; omega)).trans (hK _ _)
  · rw [dif_neg (by omega)]
    exact (piece3 _ _ 3 (by simp) Z' rfl 480 rfl 0 d ⟨l.val - 96, by omega⟩ J (by show 480 + (l.val - 96) = J.val; omega)).trans (hZ' _)

theorem V23_t (d : Fin 1024) (l : Fin 128) (J : Fin 640) (hJ : J.val = 512 + l.val) :
    (Gen.V m c main_v23 : S2x1024x640.Idx → EReal) (ix3 0 d J) = pad (turn (fun k => w m c d ⟨2432 + k.val, by omega⟩)) l := by
  obtain ⟨A, Z, K, Z', T, e, -, hZ, -, hZ', hT⟩ := V23 m c
  rw [e]
  unfold pad
  have hl := l.isLt
  by_cases c1 : l.val < 64
  · rw [dif_neg (by omega)]
    exact (piece3 _ _ 4 (by simp) Z rfl 512 rfl 0 d ⟨l.val, c1⟩ J hJ.symm).trans (hZ _)
  by_cases c2 : l.val < 96
  · rw [dif_pos (by omega)]
    exact (piece3 _ _ 5 (by simp) T rfl 576 rfl 0 d ⟨l.val - 64, by omega⟩ J (by show 576 + (l.val - 64) = J.val; omega)).trans (hT _ _)
  · rw [dif_neg (by omega)]
    exact (piece3 _ _ 6 (by simp) Z' rfl 608 rfl 0 d ⟨l.val - 96, by omega⟩ J (by show 608 + (l.val - 96) = J.val; omega)).trans (hZ' _)

/-! ## Angles and gains -/

/-- A row of angles padded to 128 lanes: `e` below lane 64, the angles to lane 95, zero after. -/
def padA (e : EReal) (f : Fin 32 → EReal) (l : Fin 128) : EReal :=
  if l.val < 64 then e else if h : l.val < 96 then f ⟨l.val - 64, by omega⟩ else 0

/-- A padded row of angles, at a lane. -/
theorem angle (E : S8448x64.Idx → EReal) (M : S8448x32.Idx → EReal) (Z : S8448x32.Idx → EReal) (e : EReal) (hE : ∀ i, E i = e) (hZ : ∀ i, Z i = 0)
    (R : Fin 8448) (l : Fin 128) : concatenate S8448x128 1 [⟨S8448x64, E⟩, ⟨S8448x32, M⟩, ⟨S8448x32, Z⟩] concatenates_S8448x64_S8448x32_S8448x32_S8448x128_d1 (ix2 R l)
      = padA e (fun k => M (ix2 R k)) l := by
  unfold padA
  have hl := l.isLt
  by_cases c1 : l.val < 64
  · rw [if_pos c1]
    exact (piece2 _ _ 0 (by simp) E rfl 0 rfl R ⟨l.val, c1⟩ l (by simp)).trans (hE _)
  by_cases c2 : l.val < 96
  · rw [if_neg c1, dif_pos c2]
    exact piece2 _ _ 1 (by simp) M rfl 64 rfl R ⟨l.val - 64, by omega⟩ l (by show 64 + (l.val - 64) = l.val; omega)
  · rw [if_neg c1, dif_neg c2]
    exact (piece2 _ _ 2 (by simp) Z rfl 96 rfl R ⟨l.val - 96, by omega⟩ l (by show 96 + (l.val - 96) = l.val; omega)).trans (hZ _)

theorem tab_ctx (P : S256x32.Idx → EReal) (M : S8192x32.Idx → EReal) (R : Fin 8448) (hR : R.val < 256) (k : Fin 32) :
    concatenate S8448x32 0 [⟨S256x32, P⟩, ⟨S8192x32, M⟩] concatenates_S256x32_S8192x32_S8448x32_d0 (ix2 R k) = P (ix2 ⟨R.val, hR⟩ k) :=
  concatenate_pair_apply_left (t := S8448x32) (s₁ := S256x32) (s₂ := S8192x32) 0 _ _ _ _ rfl _ (fun a => match a with | ⟨0, _⟩ => rfl | ⟨1, _⟩ => rfl)

theorem tab_lat (P : S256x32.Idx → EReal) (M : S8192x32.Idx → EReal) (j : Fin 8192) (R : Fin 8448) (hR : R.val = 256 + j.val) (k : Fin 32) :
    concatenate S8448x32 0 [⟨S256x32, P⟩, ⟨S8192x32, M⟩] concatenates_S256x32_S8192x32_S8448x32_d0 (ix2 R k) = M (ix2 j k) :=
  concatenate_pair_apply_right (t := S8448x32) (s₁ := S256x32) (s₂ := S8192x32) 0 _ _ _ _ rfl rfl _ (fun a => match a with
    | ⟨0, _⟩ => fun ne => absurd rfl ne | ⟨1, _⟩ => fun _ => rfl) (by show j.val + 256 = R.val; omega)

theorem V57 : ∃ (E : S8448x64.Idx → EReal) (M : S8448x32.Idx → EReal) (Z : S8448x32.Idx → EReal), (Gen.V m c main_v57 : S8448x128.Idx → EReal)
    = concatenate S8448x128 1 [⟨S8448x64, E⟩, ⟨S8448x32, M⟩, ⟨S8448x32, Z⟩] concatenates_S8448x64_S8448x32_S8448x32_S8448x128_d1 ∧ (∀ i, E i = cOne) ∧ (∀ i, Z i = 0)
    ∧ (∀ (R : Fin 8448) (k : Fin 32), R.val < 256 → M (ix2 R k) = cOne) ∧ (∀ (R : Fin 8448) (k : Fin 32) (j : Fin 8192), R.val = 256 + j.val → M (ix2 R k) = acs m c (ix2 j k)) := by
  unfold Gen.V
  after_reads_simp
  dsimp only [Matrix.cons_val]
  refine ⟨_, _, _, rfl, fun i => ?_, fun i => ?_, fun R k h => ?_, fun R k j h => ?_⟩
  · after_reads_simp
    exact rfl
  · after_reads_simp
    exact zeros _ i
  · after_reads_simp
    exact (tab_ctx _ _ R h k).trans (rfl)
  · after_reads_simp
    exact tab_lat _ _ j R h k

theorem V60 : ∃ (E : S8448x64.Idx → EReal) (M : S8448x32.Idx → EReal) (Z : S8448x32.Idx → EReal), (Gen.V m c main_v60 : S8448x128.Idx → EReal)
    = concatenate S8448x128 1 [⟨S8448x64, E⟩, ⟨S8448x32, M⟩, ⟨S8448x32, Z⟩] concatenates_S8448x64_S8448x32_S8448x32_S8448x128_d1 ∧ (∀ i, E i = 0) ∧ (∀ i, Z i = 0)
    ∧ (∀ (R : Fin 8448) (k : Fin 32), R.val < 256 → M (ix2 R k) = 0) ∧ (∀ (R : Fin 8448) (k : Fin 32) (j : Fin 8192), R.val = 256 + j.val → M (ix2 R k) = asn m c (ix2 j k)) := by
  unfold Gen.V
  after_reads_simp
  dsimp only [Matrix.cons_val]
  refine ⟨_, _, _, rfl, fun i => ?_, fun i => ?_, fun R k h => ?_, fun R k j h => ?_⟩
  · after_reads_simp
    exact zeros _ i
  · after_reads_simp
    exact zeros _ i
  · after_reads_simp
    exact (tab_ctx _ _ R h k).trans (zeros _ _)
  · after_reads_simp
    exact tab_lat _ _ j R h k

theorem V57_ctx (R : Fin 8448) (hR : R.val < 256) (l : Fin 128) : (Gen.V m c main_v57 : S8448x128.Idx → EReal) (ix2 R l) = padA cOne (fun _ => cOne) l := by
  obtain ⟨E, M, Z, e, hE, hZ, h, -⟩ := V57 m c
  rw [e, angle _ _ _ _ hE hZ]
  exact congrArg (fun f => padA cOne f l) (funext fun k => h R k hR)

theorem V57_lat (j : Fin 8192) (R : Fin 8448) (hR : R.val = 256 + j.val) (l : Fin 128) :
    (Gen.V m c main_v57 : S8448x128.Idx → EReal) (ix2 R l) = padA cOne (fun k => acs m c (ix2 j k)) l := by
  obtain ⟨E, M, Z, e, hE, hZ, -, h⟩ := V57 m c
  rw [e, angle _ _ _ _ hE hZ]
  exact congrArg (fun f => padA cOne f l) (funext fun k => h R k j hR)

theorem V60_ctx (R : Fin 8448) (hR : R.val < 256) (l : Fin 128) : (Gen.V m c main_v60 : S8448x128.Idx → EReal) (ix2 R l) = padA 0 (fun _ => 0) l := by
  obtain ⟨E, M, Z, e, hE, hZ, h, -⟩ := V60 m c
  rw [e, angle _ _ _ _ hE hZ]
  exact congrArg (fun f => padA 0 f l) (funext fun k => h R k hR)

theorem V60_lat (j : Fin 8192) (R : Fin 8448) (hR : R.val = 256 + j.val) (l : Fin 128) :
    (Gen.V m c main_v60 : S8448x128.Idx → EReal) (ix2 R l) = padA 0 (fun k => asn m c (ix2 j k)) l := by
  obtain ⟨E, M, Z, e, hE, hZ, -, h⟩ := V60 m c
  rw [e, angle _ _ _ _ hE hZ]
  exact congrArg (fun f => padA 0 f l) (funext fun k => h R k j hR)

theorem V64 (k : Fin 256) : (Gen.V m c main_v64 : S2x1x256.Idx → EReal) (ix3 0 0 k) = agq m c (ix2 0 k) := by
  unfold Gen.V
  after_reads_simp
  have e : shapeCast S2x1x256 (agq m c) shapeCasts_S2x256_S2x1x256 (ix3 0 0 k) = agq m c (ix2 0 k) := shapeCast_apply _ _ _ _ (by
    rw [Shape.rowMajor_val_two, Shape.rowMajor_val_three]
    show 0 * 256 + k.val = (0 * 1 + 0) * 256 + k.val
    omega)
  exact e

theorem V65 (k : Fin 128) : (Gen.V m c main_v65 : S2x1x128.Idx → EReal) (ix3 0 0 k) = agk m c (ix2 0 k) := by
  unfold Gen.V
  after_reads_simp
  have e : shapeCast S2x1x128 (agk m c) shapeCasts_S2x128_S2x1x128 (ix3 0 0 k) = agk m c (ix2 0 k) := shapeCast_apply _ _ _ _ (by
    rw [Shape.rowMajor_val_two, Shape.rowMajor_val_three]
    show 0 * 128 + k.val = (0 * 1 + 0) * 128 + k.val
    omega)
  exact e

/-! ## The low-rank weights -/

/-- Heads side by side, at an index. -/
theorem heads {α : Type} {A B K N : Nat} (x : (⟨4, ![A, B, 4, K]⟩ : Shape).Idx → α) (h : (⟨4, ![A, B, 4, K]⟩ : Shape).ShapeCasts ⟨3, ![A, B, N]⟩) (hN : N = 4 * K)
    (a : Fin A) (b : Fin B) (p : Fin 4) (l : Fin K) (L : Fin N) (hL : L.val = K * p.val + l.val) : shapeCast ⟨3, ![A, B, N]⟩ x h (ix3 a b L) = x (ix4 a b p l) :=
  shapeCast_apply _ _ _ _ (by
    subst hN
    rw [Shape.rowMajor_val_four, Shape.rowMajor_val_three]
    show ((a.val * B + b.val) * 4 + p.val) * K + l.val = (a.val * B + b.val) * (4 * K) + L.val
    rw [hL]
    ring)

/-- Lanes split into heads, at an index. -/
theorem split {α : Type} {A B K N : Nat} (x : (⟨3, ![A, B, N]⟩ : Shape).Idx → α) (h : (⟨3, ![A, B, N]⟩ : Shape).ShapeCasts ⟨4, ![A, B, 4, K]⟩) (hN : N = 4 * K)
    (a : Fin A) (b : Fin B) (p : Fin 4) (l : Fin K) (L : Fin N) (hL : L.val = K * p.val + l.val) : shapeCast ⟨4, ![A, B, 4, K]⟩ x h (ix4 a b p l) = x (ix3 a b L) :=
  shapeCast_apply _ _ _ _ (by
    subst hN
    rw [Shape.rowMajor_val_four, Shape.rowMajor_val_three]
    show (a.val * B + b.val) * (4 * K) + L.val = ((a.val * B + b.val) * 4 + p.val) * K + l.val
    rw [hL]
    ring)

theorem V28E : ∃ (X : S2x256x4x96.Idx → EReal) (Z : S2x256x4x32.Idx → EReal), (Gen.V m c main_v28 : S2x256x512.Idx → EReal) = shapeCast S2x256x512
    (concatenate (α := EReal) S2x256x4x128 3 [⟨S2x256x4x96, X⟩, ⟨S2x256x4x32, Z⟩] concatenates_S2x256x4x96_S2x256x4x32_S2x256x4x128_d3) shapeCasts_S2x256x4x128_S2x256x512
    ∧ (∀ i, Z i = 0) ∧ ∀ (i : Fin 256) (a : Fin 4) (l : Fin 96), X (ix4 0 i a l) = wq m c i ⟨96 * a.val + l.val, by omega⟩ := by
  unfold Gen.V
  after_reads_simp
  refine ⟨_, _, rfl, fun i => ?_, fun i a l => ?_⟩
  · after_reads_simp
    exact zeros _ i
  after_reads_simp
  exact split (N := 384) (K := 96) (awq m c) _ rfl (0 : Fin 2) i a _ _ rfl

theorem V28 (i : Fin 256) (a : Fin 4) (l : Fin 128) (L : Fin 512) (hL : L.val = 128 * a.val + l.val) :
    (Gen.V m c main_v28 : S2x256x512.Idx → EReal) (ix3 0 i L) = if h : l.val < 96 then wq m c i ⟨96 * a.val + l.val, by omega⟩ else 0 := by
  obtain ⟨X, Z, e, hZ, hX⟩ := V28E m c
  rw [e]
  refine (heads (N := 512) (K := 128) _ _ rfl (0 : Fin 2) i a l L hL).trans ?_
  have hl := l.isLt
  by_cases c1 : l.val < 96
  · rw [dif_pos c1]
    exact (piece4 _ _ 0 (by simp) X rfl 0 rfl 0 i a ⟨l.val, c1⟩ l (by simp)).trans (hX _ _ _)
  · rw [dif_neg c1]
    exact (piece4 _ _ 1 (by simp) Z rfl 96 rfl 0 i a ⟨l.val - 96, by omega⟩ l (by show 96 + (l.val - 96) = l.val; omega)).trans (hZ _)

/-- The rotary lanes of a head's weights. -/
theorem ropeQ (i : Fin 256) (a : Fin 4) (k : Fin 32) : extractStridedSlice S2x256x4x32 ![0, 0, 0, 64]
    (shapeCast S2x256x4x96 (awq m c) shapeCasts_S2x256x384_S2x256x4x96) slices_S2x256x4x96_S2x256x4x32_0_0_0_64 (ix4 0 i a k)
      = wq m c i ⟨96 * a.val + (64 + k.val), by omega⟩ :=
  (cut4_apply _ 64 _ 0 i a k (⟨64 + k.val, by omega⟩ : Fin 96) rfl).trans (split (N := 384) (K := 96) _ _ rfl (0 : Fin 2) i a _ _ rfl)

theorem V40E : ∃ (Z : S2x256x4x64.Idx → EReal) (T Z' : S2x256x4x32.Idx → EReal), (Gen.V m c main_v40 : S2x256x512.Idx → EReal)
    = shapeCast S2x256x512 (concatenate (α := EReal) S2x256x4x128 3 [⟨S2x256x4x64, Z⟩, ⟨S2x256x4x32, T⟩, ⟨S2x256x4x32, Z'⟩]
      concatenates_S2x256x4x64_S2x256x4x32_S2x256x4x32_S2x256x4x128_d3) shapeCasts_S2x256x4x128_S2x256x512 ∧ (∀ i, Z i = 0) ∧ (∀ i, Z' i = 0)
    ∧ ∀ i a (k : Fin 32), T (ix4 0 i a k) = turn (fun k => wq m c i ⟨96 * a.val + (64 + k.val), by omega⟩) k := by
  unfold Gen.V
  after_reads_simp
  dsimp only [Matrix.cons_val]
  refine ⟨_, _, _, rfl, fun i => ?_, fun i => ?_, fun i a k => ?_⟩
  · after_reads_simp
    exact zeros _ i
  · after_reads_simp
    exact zeros _ i
  · after_reads_simp
    dsimp only [Matrix.cons_val]
    refine turn4 (fun k => wq m c i ⟨96 * a.val + (64 + k.val), by omega⟩) _ _ _ _ _ 0 i a (fun l => ?_) (fun l => ?_) (fun l => ?_) (fun l => ?_) k
    · after_reads_simp
      exact congrArg (fun x : EReal => -x) ((cut4_apply _ 8 _ (0 : Fin 2) i a l (⟨8 + l.val, by omega⟩ : Fin 32) rfl).trans (ropeQ m c i a _))
    · after_reads_simp
      exact (cut4_apply _ 0 _ (0 : Fin 2) i a l (⟨l.val, by omega⟩ : Fin 32) (by simp)).trans (ropeQ m c i a _)
    · after_reads_simp
      exact congrArg (fun x : EReal => -x) ((cut4_apply _ 24 _ (0 : Fin 2) i a l (⟨24 + l.val, by omega⟩ : Fin 32) rfl).trans (ropeQ m c i a _))
    · after_reads_simp
      exact (cut4_apply _ 16 _ (0 : Fin 2) i a l (⟨16 + l.val, by omega⟩ : Fin 32) rfl).trans (ropeQ m c i a _)

theorem V40 (i : Fin 256) (a : Fin 4) (l : Fin 128) (L : Fin 512) (hL : L.val = 128 * a.val + l.val) :
    (Gen.V m c main_v40 : S2x256x512.Idx → EReal) (ix3 0 i L) = pad (turn (fun k => wq m c i ⟨96 * a.val + (64 + k.val), by omega⟩)) l := by
  obtain ⟨Z, T, Z', e, hZ, hZ', hT⟩ := V40E m c
  rw [e]
  refine (heads (N := 512) (K := 128) _ _ rfl (0 : Fin 2) i a l L hL).trans ?_
  unfold pad
  have hl := l.isLt
  by_cases c1 : l.val < 64
  · rw [dif_neg (by omega)]
    exact (piece4 _ _ 0 (by simp) _ rfl 0 rfl 0 i a ⟨l.val, c1⟩ l (by simp)).trans (hZ _)
  by_cases c2 : l.val < 96
  · rw [dif_pos (by omega)]
    exact (piece4 _ _ 1 (by simp) _ rfl 64 rfl 0 i a ⟨l.val - 64, by omega⟩ l (by show 64 + (l.val - 64) = l.val; omega)).trans (hT _ _ _)
  · rw [dif_neg (by omega)]
    exact (piece4 _ _ 2 (by simp) _ rfl 96 rfl 0 i a ⟨l.val - 96, by omega⟩ l (by show 96 + (l.val - 96) = l.val; omega)).trans (hZ' _)

theorem V46E : ∃ X Z : S2x128x4x64.Idx → EReal, (Gen.V m c main_v46 : S2x128x512.Idx → EReal) = shapeCast S2x128x512 (concatenate (α := EReal) S2x128x4x128 3 [⟨S2x128x4x64, X⟩, ⟨S2x128x4x64, Z⟩]
    concatenates_S2x128x4x64_S2x128x4x64_S2x128x4x128_d3) shapeCasts_S2x128x4x128_S2x128x512 ∧ (∀ i, Z i = 0)
    ∧ ∀ (i : Fin 128) (a : Fin 4) (l : Fin 64), X (ix4 0 i a l) = wk m c i ⟨128 * a.val + l.val, by omega⟩ := by
  unfold Gen.V
  after_reads_simp
  refine ⟨_, _, rfl, fun i => ?_, fun i a l => ?_⟩
  · after_reads_simp
    exact zeros _ i
  after_reads_simp
  exact (cut4_apply _ 0 _ (0 : Fin 2) i a l (⟨l.val, by omega⟩ : Fin 128) (by simp)).trans (split (N := 512) (K := 128) (awk m c) _ rfl (0 : Fin 2) i a _ _ rfl)

theorem V46 (i : Fin 128) (a : Fin 4) (l : Fin 128) (L : Fin 512) (hL : L.val = 128 * a.val + l.val) :
    (Gen.V m c main_v46 : S2x128x512.Idx → EReal) (ix3 0 i L) = if l.val < 64 then wk m c i ⟨128 * a.val + l.val, by omega⟩ else 0 := by
  obtain ⟨X, Z, e, hZ, hX⟩ := V46E m c
  rw [e]
  refine (heads (N := 512) (K := 128) _ _ rfl (0 : Fin 2) i a l L hL).trans ?_
  have hl := l.isLt
  by_cases c1 : l.val < 64
  · rw [if_pos c1]
    exact (piece4 _ _ 0 (by simp) X rfl 0 rfl 0 i a ⟨l.val, c1⟩ l (by simp)).trans (hX _ _ _)
  · rw [if_neg c1]
    exact (piece4 _ _ 1 (by simp) _ rfl 64 rfl 0 i a ⟨l.val - 64, by omega⟩ l (by show 64 + (l.val - 64) = l.val; omega)).trans (hZ _)

theorem V50E : ∃ X Z : S2x128x4x64.Idx → EReal, (Gen.V m c main_v50 : S2x128x512.Idx → EReal) = shapeCast S2x128x512 (concatenate (α := EReal) S2x128x4x128 3 [⟨S2x128x4x64, X⟩, ⟨S2x128x4x64, Z⟩]
    concatenates_S2x128x4x64_S2x128x4x64_S2x128x4x128_d3) shapeCasts_S2x128x4x128_S2x128x512 ∧ (∀ i, Z i = 0)
    ∧ ∀ (i : Fin 128) (a : Fin 4) (l : Fin 64), X (ix4 0 i a l) = wk m c i ⟨128 * a.val + (64 + l.val), by omega⟩ := by
  unfold Gen.V
  after_reads_simp
  refine ⟨_, _, rfl, fun i => ?_, fun i a l => ?_⟩
  · after_reads_simp
    exact zeros _ i
  after_reads_simp
  exact (cut4_apply _ 64 _ (0 : Fin 2) i a l (⟨64 + l.val, by omega⟩ : Fin 128) rfl).trans (split (N := 512) (K := 128) (awk m c) _ rfl (0 : Fin 2) i a _ _ rfl)

theorem V50 (i : Fin 128) (a : Fin 4) (l : Fin 64) (L : Fin 512) (hL : L.val = 128 * a.val + l.val) :
    (Gen.V m c main_v50 : S2x128x512.Idx → EReal) (ix3 0 i L) = wk m c i ⟨128 * a.val + (64 + l.val), by omega⟩ := by
  obtain ⟨X, Z, e, hZ, hX⟩ := V50E m c
  rw [e]
  refine (heads (N := 512) (K := 128) _ _ rfl (0 : Fin 2) i a (⟨l.val, by omega⟩ : Fin 128) L hL).trans ?_
  exact (piece4 _ _ 0 (by simp) X rfl 0 rfl 0 i a l _ (by simp)).trans (hX _ _ _)

end Cert.WinKernelIdeal.Win
-- ==== Proof.Win.Lane.lean ====
module
public import proofs.«01_k».proof.Proof.Win.Host
/-! The kernel's padded products, lane by lane: weights turned beforehand give the lanes of a rotation afterwards. -/
@[expose] public section
set_option maxRecDepth 16384
noncomputable section
namespace Cert.WinKernelIdeal.Win
open Idealize.ShloMosaic Idealize.ShloMosaic.ValueIdx Cert.Ffn Cert.Win

/-- Products with turned weights are the turn of the products, for real numbers. -/
theorem turn_sum {N : Nat} (x : Fin N → EReal) (f : Fin N → Fin 32 → EReal) (hx : ∀ i, Fin' (x i)) (hf : ∀ i k, Fin' (f i k)) (k : Fin 32) :
    ∑ i, x i * turn (f i) k = turn (fun k => ∑ i, x i * f i k) k := by
  unfold turn
  by_cases c1 : k.val % 16 < 8
  · simp only [if_pos c1]
    exact dot_neg x (fun i => f i (mate k)) hx fun i => hf i _
  · simp only [if_neg c1]

theorem sum_zero' {N : Nat} (x y : Fin N → EReal) (h : ∀ i, y i = 0) : ∑ i, x i * y i = 0 :=
  Finset.sum_eq_zero fun i _ => by rw [h i, mul_zero]

/-- The kernel's query lane. -/
theorem q_lane (c : Fin 256 → EReal) (wq : Fin 256 → Fin 384 → EReal) (cs sn : Fin 32 → EReal) (a : Fin 4) (l : Fin 128)
    (u v : Fin 256 → EReal) (hu : ∀ i, u i = if h : l.val < 96 then wq i ⟨96 * a.val + l.val, by omega⟩ else 0)
    (hv : ∀ i, v i = pad (turn (fun k => wq i ⟨96 * a.val + (64 + k.val), by omega⟩)) l)
    (hT : ∀ k, (∑ i, c i * turn (fun k => wq i ⟨96 * a.val + (64 + k.val), by omega⟩) k) * sn k = turn (fun k => qry c wq a ⟨64 + k.val, by omega⟩) k * sn k) :
    ((∑ i, c i * u i) * padA cOne cs l + (∑ i, c i * v i) * padA 0 sn l) * cS = qLane c wq cs sn a l := by
  rw [funext hu, funext hv]
  unfold qLane pad padA
  by_cases c1 : l.val < 64
  · simp only [dif_pos c1, if_pos c1, dif_pos (show l.val < 96 by omega)]
    rw [cOne_eq, mul_one, mul_zero, add_zero]
    rfl
  by_cases c2 : l.val < 96
  · simp only [dif_neg c1, if_neg c1, dif_pos c2, dif_pos (show 64 ≤ l.val ∧ l.val < 96 by omega)]
    rw [hT]
    unfold rope qry
    have e : ∀ i, wq i ⟨96 * a.val + l.val, by omega⟩ = wq i ⟨96 * a.val + (64 + (l.val - 64)), by omega⟩ := fun i =>
      congrArg (wq i) (Fin.ext (by show 96 * a.val + l.val = 96 * a.val + (64 + (l.val - 64)); omega))
    exact congrArg (fun z : EReal => (z * _ + _) * cS) (Finset.sum_congr rfl fun i _ => congrArg (c i * ·) (e i))
  · simp only [dif_neg c1, if_neg c1, dif_neg c2, dif_neg (show ¬(64 ≤ l.val ∧ l.val < 96) by omega)]
    rw [mul_zero, add_zero, zero_mul]

/-- The kernel's key lane. -/
theorem k_lane (c : Fin 128 → EReal) (wk : Fin 128 → Fin 512 → EReal) (h : Fin 1024 → EReal) (w : Fin 1024 → Fin 2464 → EReal) (cs sn : Fin 32 → EReal)
    (a : Fin 4) (l : Fin 128) (u : Fin 128 → EReal) (v v' : Fin 1024 → EReal)
    (hu : ∀ i, u i = if l.val < 64 then wk i ⟨128 * a.val + l.val, by omega⟩ else 0)
    (hv : ∀ d, v d = pad (fun k => w d ⟨2432 + k.val, by omega⟩) l) (hv' : ∀ d, v' d = pad (turn (fun k => w d ⟨2432 + k.val, by omega⟩)) l)
    (hT : ∀ k, (∑ d, h d * turn (fun k => w d ⟨2432 + k.val, by omega⟩) k) * sn k = turn (kr h w) k * sn k) :
    (∑ i, c i * u i) + ((∑ d, h d * v d) * padA cOne cs l + (∑ d, h d * v' d) * padA 0 sn l) = kLane c wk (kr h w) cs sn a l := by
  rw [funext hu, funext hv, funext hv']
  unfold kLane pad padA
  by_cases c1 : l.val < 64
  · simp only [if_pos c1, dif_neg (show ¬(64 ≤ l.val ∧ l.val < 96) by omega)]
    rw [mul_zero, add_zero, sum_zero' h (fun _ => 0) fun _ => rfl, zero_mul, add_zero]
    rfl
  by_cases c2 : l.val < 96
  · simp only [if_neg c1, dif_pos c2, dif_pos (show 64 ≤ l.val ∧ l.val < 96 by omega)]
    rw [hT, sum_zero' c (fun _ => 0) fun _ => rfl, zero_add]
    rfl
  · simp only [if_neg c1, dif_neg c2, dif_neg (show ¬(64 ≤ l.val ∧ l.val < 96) by omega)]
    rw [mul_zero, add_zero, sum_zero' c (fun _ => 0) fun _ => rfl, add_zero]

end Cert.WinKernelIdeal.Win
-- ==== Proof.Win.Arr.lean ====
module
public import proofs.«01_k».proof.Proof.Win.Lane
/-! What the result arrays of the input projection hold after the run, from the arguments. -/
@[expose] public section
set_option maxRecDepth 16384
noncomputable section
namespace Cert.WinKernelIdeal.Win
open Cert.WinKernelIdeal Cert.WinKernelIdeal.Gen Idealize.ShloMosaic Idealize.ShloMosaic.TcCoe Idealize.ShloMosaic.ValueIdx
open Idealize.SL.Sem Cert.Ffn Cert.Win

variable (m : (ℓ : Loc nD τ sig) → Buf (Elt Ideal) ℓ) (c : Dev nD)

theorem idx0 : ∀ t : Fin grid0.N, win0_0.index t 0 = (t.val) ∧ win0_0.index t 1 = 0 := by decide +kernel
theorem idx1 : ∀ t : Fin grid0.N, win0_1.index t 0 = ((t.val + 30) / 32) ∧ win0_1.index t 1 = 0 ∧ win0_1.index t 2 = 0 := by decide +kernel
theorem idx2 : ∀ t : Fin grid0.N, win0_2.index t 0 = (0) ∧ win0_2.index t 1 = 0 ∧ win0_2.index t 2 = 0 := by decide +kernel
theorem idx3 : ∀ t : Fin grid0.N, win0_3.index t 0 = (0) ∧ win0_3.index t 1 = 0 ∧ win0_3.index t 2 = 0 := by decide +kernel
theorem idx4 : ∀ t : Fin grid0.N, win0_4.index t 0 = (0) ∧ win0_4.index t 1 = 0 ∧ win0_4.index t 2 = 0 := by decide +kernel
theorem idx5 : ∀ t : Fin grid0.N, win0_5.index t 0 = (0) ∧ win0_5.index t 1 = 0 ∧ win0_5.index t 2 = 0 := by decide +kernel
theorem idx6 : ∀ t : Fin grid0.N, win0_6.index t 0 = (if t.val < 2 then 0 else 1 + (t.val - 2) % 32) ∧ win0_6.index t 1 = 0 := by decide +kernel
theorem idx7 : ∀ t : Fin grid0.N, win0_7.index t 0 = (if t.val < 2 then 0 else 1 + (t.val - 2) % 32) ∧ win0_7.index t 1 = 0 := by decide +kernel
theorem idx8 : ∀ t : Fin grid0.N, win0_8.index t 0 = (0) ∧ win0_8.index t 1 = 0 ∧ win0_8.index t 2 = 0 := by decide +kernel
theorem idx9 : ∀ t : Fin grid0.N, win0_9.index t 0 = (0) ∧ win0_9.index t 1 = 0 ∧ win0_9.index t 2 = 0 := by decide +kernel
theorem idx10 : ∀ t : Fin grid0.N, win0_10.index t 0 = (0) ∧ win0_10.index t 1 = 0 ∧ win0_10.index t 2 = 0 := by decide +kernel
theorem idx11 : ∀ t : Fin grid0.N, win0_11.index t 0 = (0) ∧ win0_11.index t 1 = 0 ∧ win0_11.index t 2 = 0 := by decide +kernel
theorem idx12 : ∀ t : Fin grid0.N, win0_12.index t 0 = (0) ∧ win0_12.index t 1 = 0 ∧ win0_12.index t 2 = 0 := by decide +kernel
theorem idx13 : ∀ t : Fin grid0.N, win0_13.index t 0 = (0) ∧ win0_13.index t 1 = 0 ∧ win0_13.index t 2 = 0 := by decide +kernel
theorem idx14 : ∀ t : Fin grid0.N, win0_14.index t 0 = (t.val) ∧ win0_14.index t 1 = 0 := by decide +kernel
theorem idx15 : ∀ t : Fin grid0.N, win0_15.index t 0 = (if t.val < 2 then 33 * t.val else (t.val - 2) / 32 * 33 + 1 + (t.val - 2) % 32) ∧ win0_15.index t 1 = 0 := by decide +kernel
theorem idx16 : ∀ t : Fin grid0.N, win0_16.index t 0 = (if t.val < 2 then 33 * t.val else (t.val - 2) / 32 * 33 + 1 + (t.val - 2) % 32) ∧ win0_16.index t 1 = 0 := by decide +kernel
theorem idx17 : ∀ t : Fin grid0.N, win0_17.index t 0 = (t.val) ∧ win0_17.index t 1 = 0 := by decide +kernel
theorem idx18 : ∀ t : Fin grid0.N, win0_18.index t 0 = (if t.val < 2 then 33 * t.val + 32 else (t.val - 2) / 32 * 33 + (t.val - 2) % 32) ∧ win0_18.index t 1 = 0 := by decide +kernel
theorem idx19 : ∀ t : Fin grid0.N, win0_19.index t 0 = (if t.val < 2 then 33 * t.val + 32 else (t.val - 2) / 32 * 33 + (t.val - 2) % 32) ∧ win0_19.index t 1 = 0 := by decide +kernel

theorem b2_apply (t : Fin cfg0.N) (d : Fin 1024) (n : Fin 512) :
    (iblk m c 2 t : Vec Ideal S1x1024x512 .bf16) (ix3 0 d n) = (Gen.V m c main_v5 : S2x1024x512.Idx → EReal) (ix3 0 d n) := by
  show (Gen.V m c main_v5 : S2x1024x512.Idx → EReal) (((cfg0.win 2).blk t).view.emb (ix3 (0 : Fin 1) d n)) = _
  refine congrArg _ (funext fun x => Fin.ext ?_)
  match x with
  | ⟨0, _⟩ => show win0_2.index t 0 * 1 + 1 * 0 = 0; rw [(idx2 t).1]
  | ⟨1, _⟩ => show win0_2.index t 1 * 1024 + 1 * d.val = d.val; rw [(idx2 t).2.1]; omega
  | ⟨2, _⟩ => show win0_2.index t 2 * 512 + 1 * n.val = n.val; rw [(idx2 t).2.2]; omega

theorem b3_apply (t : Fin cfg0.N) (d : Fin 1024) (n : Fin 512) :
    (iblk m c 3 t : Vec Ideal S1x1024x512 .bf16) (ix3 0 d n) = (Gen.V m c main_v7 : S2x1024x512.Idx → EReal) (ix3 0 d n) := by
  show (Gen.V m c main_v7 : S2x1024x512.Idx → EReal) (((cfg0.win 3).blk t).view.emb (ix3 (0 : Fin 1) d n)) = _
  refine congrArg _ (funext fun x => Fin.ext ?_)
  match x with
  | ⟨0, _⟩ => show win0_3.index t 0 * 1 + 1 * 0 = 0; rw [(idx3 t).1]
  | ⟨1, _⟩ => show win0_3.index t 1 * 1024 + 1 * d.val = d.val; rw [(idx3 t).2.1]; omega
  | ⟨2, _⟩ => show win0_3.index t 2 * 512 + 1 * n.val = n.val; rw [(idx3 t).2.2]; omega

theorem b4_apply (t : Fin cfg0.N) (d : Fin 1024) (n : Fin 1024) :
    (iblk m c 4 t : Vec Ideal S1x1024x1024 .bf16) (ix3 0 d n) = (Gen.V m c main_v9 : S2x1024x1024.Idx → EReal) (ix3 0 d n) := by
  show (Gen.V m c main_v9 : S2x1024x1024.Idx → EReal) (((cfg0.win 4).blk t).view.emb (ix3 (0 : Fin 1) d n)) = _
  refine congrArg _ (funext fun x => Fin.ext ?_)
  match x with
  | ⟨0, _⟩ => show win0_4.index t 0 * 1 + 1 * 0 = 0; rw [(idx4 t).1]
  | ⟨1, _⟩ => show win0_4.index t 1 * 1024 + 1 * d.val = d.val; rw [(idx4 t).2.1]; omega
  | ⟨2, _⟩ => show win0_4.index t 2 * 1024 + 1 * n.val = n.val; rw [(idx4 t).2.2]; omega

theorem b5_apply (t : Fin cfg0.N) (d : Fin 1024) (n : Fin 640) :
    (iblk m c 5 t : Vec Ideal S1x1024x640 .bf16) (ix3 0 d n) = (Gen.V m c main_v23 : S2x1024x640.Idx → EReal) (ix3 0 d n) := by
  show (Gen.V m c main_v23 : S2x1024x640.Idx → EReal) (((cfg0.win 5).blk t).view.emb (ix3 (0 : Fin 1) d n)) = _
  refine congrArg _ (funext fun x => Fin.ext ?_)
  match x with
  | ⟨0, _⟩ => show win0_5.index t 0 * 1 + 1 * 0 = 0; rw [(idx5 t).1]
  | ⟨1, _⟩ => show win0_5.index t 1 * 1024 + 1 * d.val = d.val; rw [(idx5 t).2.1]; omega
  | ⟨2, _⟩ => show win0_5.index t 2 * 640 + 1 * n.val = n.val; rw [(idx5 t).2.2]; omega

theorem b8_apply (t : Fin cfg0.N) (d : Fin 1) (n : Fin 256) :
    (iblk m c 8 t : Vec Ideal S1x1x256 .f32) (ix3 0 d n) = (Gen.V m c main_v64 : S2x1x256.Idx → EReal) (ix3 0 d n) := by
  show (Gen.V m c main_v64 : S2x1x256.Idx → EReal) (((cfg0.win 8).blk t).view.emb (ix3 (0 : Fin 1) d n)) = _
  refine congrArg _ (funext fun x => Fin.ext ?_)
  match x with
  | ⟨0, _⟩ => show win0_8.index t 0 * 1 + 1 * 0 = 0; rw [(idx8 t).1]
  | ⟨1, _⟩ => show win0_8.index t 1 * 1 + 1 * d.val = d.val; rw [(idx8 t).2.1]; omega
  | ⟨2, _⟩ => show win0_8.index t 2 * 256 + 1 * n.val = n.val; rw [(idx8 t).2.2]; omega

theorem b9_apply (t : Fin cfg0.N) (d : Fin 1) (n : Fin 128) :
    (iblk m c 9 t : Vec Ideal S1x1x128 .f32) (ix3 0 d n) = (Gen.V m c main_v65 : S2x1x128.Idx → EReal) (ix3 0 d n) := by
  show (Gen.V m c main_v65 : S2x1x128.Idx → EReal) (((cfg0.win 9).blk t).view.emb (ix3 (0 : Fin 1) d n)) = _
  refine congrArg _ (funext fun x => Fin.ext ?_)
  match x with
  | ⟨0, _⟩ => show win0_9.index t 0 * 1 + 1 * 0 = 0; rw [(idx9 t).1]
  | ⟨1, _⟩ => show win0_9.index t 1 * 1 + 1 * d.val = d.val; rw [(idx9 t).2.1]; omega
  | ⟨2, _⟩ => show win0_9.index t 2 * 128 + 1 * n.val = n.val; rw [(idx9 t).2.2]; omega

theorem b10_apply (t : Fin cfg0.N) (d : Fin 256) (n : Fin 512) :
    (iblk m c 10 t : Vec Ideal S1x256x512 .bf16) (ix3 0 d n) = (Gen.V m c main_v28 : S2x256x512.Idx → EReal) (ix3 0 d n) := by
  show (Gen.V m c main_v28 : S2x256x512.Idx → EReal) (((cfg0.win 10).blk t).view.emb (ix3 (0 : Fin 1) d n)) = _
  refine congrArg _ (funext fun x => Fin.ext ?_)
  match x with
  | ⟨0, _⟩ => show win0_10.index t 0 * 1 + 1 * 0 = 0; rw [(idx10 t).1]
  | ⟨1, _⟩ => show win0_10.index t 1 * 256 + 1 * d.val = d.val; rw [(idx10 t).2.1]; omega
  | ⟨2, _⟩ => show win0_10.index t 2 * 512 + 1 * n.val = n.val; rw [(idx10 t).2.2]; omega

theorem b11_apply (t : Fin cfg0.N) (d : Fin 256) (n : Fin 512) :
    (iblk m c 11 t : Vec Ideal S1x256x512 .bf16) (ix3 0 d n) = (Gen.V m c main_v40 : S2x256x512.Idx → EReal) (ix3 0 d n) := by
  show (Gen.V m c main_v40 : S2x256x512.Idx → EReal) (((cfg0.win 11).blk t).view.emb (ix3 (0 : Fin 1) d n)) = _
  refine congrArg _ (funext fun x => Fin.ext ?_)
  match x with
  | ⟨0, _⟩ => show win0_11.index t 0 * 1 + 1 * 0 = 0; rw [(idx11 t).1]
  | ⟨1, _⟩ => show win0_11.index t 1 * 256 + 1 * d.val = d.val; rw [(idx11 t).2.1]; omega
  | ⟨2, _⟩ => show win0_11.index t 2 * 512 + 1 * n.val = n.val; rw [(idx11 t).2.2]; omega

theorem b12_apply (t : Fin cfg0.N) (d : Fin 128) (n : Fin 512) :
    (iblk m c 12 t : Vec Ideal S1x128x512 .bf16) (ix3 0 d n) = (Gen.V m c main_v46 : S2x128x512.Idx → EReal) (ix3 0 d n) := by
  show (Gen.V m c main_v46 : S2x128x512.Idx → EReal) (((cfg0.win 12).blk t).view.emb (ix3 (0 : Fin 1) d n)) = _
  refine congrArg _ (funext fun x => Fin.ext ?_)
  match x with
  | ⟨0, _⟩ => show win0_12.index t 0 * 1 + 1 * 0 = 0; rw [(idx12 t).1]
  | ⟨1, _⟩ => show win0_12.index t 1 * 128 + 1 * d.val = d.val; rw [(idx12 t).2.1]; omega
  | ⟨2, _⟩ => show win0_12.index t 2 * 512 + 1 * n.val = n.val; rw [(idx12 t).2.2]; omega

theorem b13_apply (t : Fin cfg0.N) (d : Fin 128) (n : Fin 512) :
    (iblk m c 13 t : Vec Ideal S1x128x512 .bf16) (ix3 0 d n) = (Gen.V m c main_v50 : S2x128x512.Idx → EReal) (ix3 0 d n) := by
  show (Gen.V m c main_v50 : S2x128x512.Idx → EReal) (((cfg0.win 13).blk t).view.emb (ix3 (0 : Fin 1) d n)) = _
  refine congrArg _ (funext fun x => Fin.ext ?_)
  match x with
  | ⟨0, _⟩ => show win0_13.index t 0 * 1 + 1 * 0 = 0; rw [(idx13 t).1]
  | ⟨1, _⟩ => show win0_13.index t 1 * 128 + 1 * d.val = d.val; rw [(idx13 t).2.1]; omega
  | ⟨2, _⟩ => show win0_13.index t 2 * 512 + 1 * n.val = n.val; rw [(idx13 t).2.2]; omega

theorem b1_apply (t : Fin cfg0.N) (a : Fin 9) (d : Fin 1024) (g : Fin 8) (hg : g.val = (t.val + 30) / 32) :
    (iblk m c 1 t : Vec Ideal S1x9x1024 .f32) (ix3 0 a d) = (Gen.V m c main_v3 : S8x9x1024.Idx → EReal) (ix3 g a d) := by
  show (Gen.V m c main_v3 : S8x9x1024.Idx → EReal) (((cfg0.win 1).blk t).view.emb (ix3 (0 : Fin 1) a d)) = _
  refine congrArg _ (funext fun x => Fin.ext ?_)
  match x with
  | ⟨0, _⟩ => show win0_1.index t 0 * 1 + 1 * 0 = g.val; rw [(idx1 t).1, hg]; omega
  | ⟨1, _⟩ => show win0_1.index t 1 * 9 + 1 * a.val = a.val; rw [(idx1 t).2.1]; omega
  | ⟨2, _⟩ => show win0_1.index t 2 * 1024 + 1 * d.val = d.val; rw [(idx1 t).2.2]; omega

theorem b0_apply (t : Fin cfg0.N) (r : Fin 256) (d : Fin 1024) (R : Fin 16896) (hR : R.val = (t.val) * 256 + r.val) :
    (iblk m c 0 t : Vec Ideal S256x1024 .f32) (ix2 r d) = (Gen.V m c main_v63 : S16896x1024.Idx → EReal) (ix2 R d) := by
  show (Gen.V m c main_v63 : S16896x1024.Idx → EReal) (((cfg0.win 0).blk t).view.emb (ix2 r d)) = _
  refine congrArg _ (funext fun a => Fin.ext ?_)
  match a with
  | ⟨0, _⟩ => show win0_0.index t 0 * 256 + 1 * r.val = R.val; rw [(idx0 t).1, hR]; omega
  | ⟨1, _⟩ => show win0_0.index t 1 * 1024 + 1 * d.val = d.val; rw [(idx0 t).2]; omega

theorem b6_apply (t : Fin cfg0.N) (r : Fin 256) (d : Fin 128) (R : Fin 8448) (hR : R.val = (if t.val < 2 then 0 else 1 + (t.val - 2) % 32) * 256 + r.val) :
    (iblk m c 6 t : Vec Ideal S256x128 .f32) (ix2 r d) = (Gen.V m c main_v57 : S8448x128.Idx → EReal) (ix2 R d) := by
  show (Gen.V m c main_v57 : S8448x128.Idx → EReal) (((cfg0.win 6).blk t).view.emb (ix2 r d)) = _
  refine congrArg _ (funext fun a => Fin.ext ?_)
  match a with
  | ⟨0, _⟩ => show win0_6.index t 0 * 256 + 1 * r.val = R.val; rw [(idx6 t).1, hR]; omega
  | ⟨1, _⟩ => show win0_6.index t 1 * 128 + 1 * d.val = d.val; rw [(idx6 t).2]; omega

theorem b7_apply (t : Fin cfg0.N) (r : Fin 256) (d : Fin 128) (R : Fin 8448) (hR : R.val = (if t.val < 2 then 0 else 1 + (t.val - 2) % 32) * 256 + r.val) :
    (iblk m c 7 t : Vec Ideal S256x128 .f32) (ix2 r d) = (Gen.V m c main_v60 : S8448x128.Idx → EReal) (ix2 R d) := by
  show (Gen.V m c main_v60 : S8448x128.Idx → EReal) (((cfg0.win 7).blk t).view.emb (ix2 r d)) = _
  refine congrArg _ (funext fun a => Fin.ext ?_)
  match a with
  | ⟨0, _⟩ => show win0_7.index t 0 * 256 + 1 * r.val = R.val; rw [(idx7 t).1, hR]; omega
  | ⟨1, _⟩ => show win0_7.index t 1 * 128 + 1 * d.val = d.val; rw [(idx7 t).2]; omega

theorem arr14 (t : Fin cfg0.N) (r : Fin 256) (n : Fin 512) (R : Fin 16896) (hR : R.val = (t.val) * 256 + r.val) :
    ((dats m 0 c).arrAt 14 cfg0.N : S16896x512.Idx → EReal) (ix2 R n)
      = out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks14 m c t (flush0_14 t)).trans (Value.flushed14 m c t)) (ix2 r n)
  refine Eq.trans ?_ h'
  show _ = ((dats m 0 c).arrAt 14 cfg0.N : S16896x512.Idx → EReal) (((cfg0.win 14).blk t).view.emb (ix2 r n))
  refine congrArg _ (funext fun a => Fin.ext ?_)
  match a with
  | ⟨0, _⟩ => show R.val = win0_14.index t 0 * 256 + 1 * r.val; rw [(idx14 t).1, hR]; omega
  | ⟨1, _⟩ => show n.val = win0_14.index t 1 * 512 + 1 * n.val; rw [(idx14 t).2]; omega

theorem arr15 (t : Fin cfg0.N) (r : Fin 256) (n : Fin 512) (R : Fin 16896) (hR : R.val = (if t.val < 2 then 33 * t.val else (t.val - 2) / 32 * 33 + 1 + (t.val - 2) % 32) * 256 + r.val) :
    ((dats m 0 c).arrAt 15 cfg0.N : S16896x512.Idx → EReal) (ix2 R n)
      = out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks15 m c t (flush0_15 t)).trans (Value.flushed15 m c t)) (ix2 r n)
  refine Eq.trans ?_ h'
  show _ = ((dats m 0 c).arrAt 15 cfg0.N : S16896x512.Idx → EReal) (((cfg0.win 15).blk t).view.emb (ix2 r n))
  refine congrArg _ (funext fun a => Fin.ext ?_)
  match a with
  | ⟨0, _⟩ => show R.val = win0_15.index t 0 * 256 + 1 * r.val; rw [(idx15 t).1, hR]; omega
  | ⟨1, _⟩ => show n.val = win0_15.index t 1 * 512 + 1 * n.val; rw [(idx15 t).2]; omega

theorem arr16 (t : Fin cfg0.N) (r : Fin 256) (n : Fin 1024) (R : Fin 16896) (hR : R.val = (if t.val < 2 then 33 * t.val else (t.val - 2) / 32 * 33 + 1 + (t.val - 2) % 32) * 256 + r.val) :
    ((dats m 0 c).arrAt 16 cfg0.N : S16896x1024.Idx → EReal) (ix2 R n)
      = out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks16 m c t (flush0_16 t)).trans (Value.flushed16 m c t)) (ix2 r n)
  refine Eq.trans ?_ h'
  show _ = ((dats m 0 c).arrAt 16 cfg0.N : S16896x1024.Idx → EReal) (((cfg0.win 16).blk t).view.emb (ix2 r n))
  refine congrArg _ (funext fun a => Fin.ext ?_)
  match a with
  | ⟨0, _⟩ => show R.val = win0_16.index t 0 * 256 + 1 * r.val; rw [(idx16 t).1, hR]; omega
  | ⟨1, _⟩ => show n.val = win0_16.index t 1 * 1024 + 1 * n.val; rw [(idx16 t).2]; omega

theorem arr17 (t : Fin cfg0.N) (r : Fin 256) (n : Fin 512) (R : Fin 16896) (hR : R.val = (t.val) * 256 + r.val) :
    ((dats m 0 c).arrAt 17 cfg0.N : S16896x512.Idx → EReal) (ix2 R n)
      = out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks17 m c t (flush0_17 t)).trans (Value.flushed17 m c t)) (ix2 r n)
  refine Eq.trans ?_ h'
  show _ = ((dats m 0 c).arrAt 17 cfg0.N : S16896x512.Idx → EReal) (((cfg0.win 17).blk t).view.emb (ix2 r n))
  refine congrArg _ (funext fun a => Fin.ext ?_)
  match a with
  | ⟨0, _⟩ => show R.val = win0_17.index t 0 * 256 + 1 * r.val; rw [(idx17 t).1, hR]; omega
  | ⟨1, _⟩ => show n.val = win0_17.index t 1 * 512 + 1 * n.val; rw [(idx17 t).2]; omega

theorem arr18 (t : Fin cfg0.N) (r : Fin 256) (n : Fin 512) (R : Fin 16896) (hR : R.val = (if t.val < 2 then 33 * t.val + 32 else (t.val - 2) / 32 * 33 + (t.val - 2) % 32) * 256 + r.val) :
    ((dats m 0 c).arrAt 18 cfg0.N : S16896x512.Idx → EReal) (ix2 R n)
      = out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks18 m c t (flush0_18 t)).trans (Value.flushed18 m c t)) (ix2 r n)
  refine Eq.trans ?_ h'
  show _ = ((dats m 0 c).arrAt 18 cfg0.N : S16896x512.Idx → EReal) (((cfg0.win 18).blk t).view.emb (ix2 r n))
  refine congrArg _ (funext fun a => Fin.ext ?_)
  match a with
  | ⟨0, _⟩ => show R.val = win0_18.index t 0 * 256 + 1 * r.val; rw [(idx18 t).1, hR]; omega
  | ⟨1, _⟩ => show n.val = win0_18.index t 1 * 512 + 1 * n.val; rw [(idx18 t).2]; omega

theorem arr19 (t : Fin cfg0.N) (r : Fin 256) (n : Fin 512) (R : Fin 16896) (hR : R.val = (if t.val < 2 then 33 * t.val + 32 else (t.val - 2) / 32 * 33 + (t.val - 2) % 32) * 256 + r.val) :
    ((dats m 0 c).arrAt 19 cfg0.N : S16896x512.Idx → EReal) (ix2 R n)
      = out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) := by
  have h' := congrFun ((Value.blocks19 m c t (flush0_19 t)).trans (Value.flushed19 m c t)) (ix2 r n)
  refine Eq.trans ?_ h'
  show _ = ((dats m 0 c).arrAt 19 cfg0.N : S16896x512.Idx → EReal) (((cfg0.win 19).blk t).view.emb (ix2 r n))
  refine congrArg _ (funext fun a => Fin.ext ?_)
  match a with
  | ⟨0, _⟩ => show R.val = win0_19.index t 0 * 256 + 1 * r.val; rw [(idx19 t).1, hR]; omega
  | ⟨1, _⟩ => show n.val = win0_19.index t 1 * 512 + 1 * n.val; rw [(idx19 t).2]; omega

/-- A context row, and a latent row, modulated. -/
abbrev hCtx (b : Fin 2) (j : Fin 256) : Fin 1024 → EReal := mdl (fun d => axc m c (ix3 b j d)) (fun d => amc m c (ix2 3 d)) (fun d => amc m c (ix2 4 d))
abbrev hLat (b : Fin 2) (j : Fin 8192) : Fin 1024 → EReal := mdl (fun d => ax m c (ix3 b j d)) (fun d => am m c (ix3 b 3 d)) (fun d => am m c (ix3 b 4 d))
/-- The gains. -/
abbrev gq : Fin 256 → EReal := fun k => agq m c (ix2 0 k)
abbrev gk : Fin 128 → EReal := fun k => agk m c (ix2 0 k)

/-- The compressed queries, keys and values of a modulated row, normalized. -/
abbrev cqn (h : Fin 1024 → EReal) : Fin 256 → EReal := nrmN cQ (cq h (w m c)) (gq m c)
abbrev ckn (h : Fin 1024 → EReal) : Fin 128 → EReal := nrmN cK (ckv h (w m c)) (gk m c)

/-! ## One row of the blocks a point leaves -/

theorem mdl_congr {x x' sh sh' s s' : Fin 1024 → EReal} (hx : ∀ d, x d = x' d) (h1 : ∀ d, sh d = sh' d) (h2 : ∀ d, s d = s' d) :
    mdl x sh s = mdl x' sh' s' := by
  rw [funext hx, funext h1, funext h2]

variable (t : Fin cfg0.N) (r : Fin 256) (h : Fin 1024 → EReal)
  (hh : hr (iblk m c 0 t : Vec Ideal S256x1024 .f32) (iblk m c 1 t : Vec Ideal S1x9x1024 .f32) r = h)
include hh

theorem res14 (n : Fin 512) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) = col h (w m c) ⟨n.val, by omega⟩ := by
  refine (out14_apply _ _ _ _ _ _ _ _ _ _ _ _ _ _ r n).trans ?_
  rw [hh]
  exact Finset.sum_congr rfl fun d _ => congrArg (h d * ·) ((b2_apply m c t d n).trans (V5 m c d n))

theorem res15 (n : Fin 512) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) = col h (w m c) ⟨512 + n.val, by omega⟩ := by
  refine (out15_apply _ _ _ _ _ _ _ _ _ _ _ _ _ _ r n).trans ?_
  rw [hh]
  exact Finset.sum_congr rfl fun d _ => congrArg (h d * ·) ((b3_apply m c t d n).trans (V7 m c d n))

theorem res16 (n : Fin 1024) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n) = col h (w m c) ⟨1024 + n.val, by omega⟩ := by
  refine (out16_apply _ _ _ _ _ _ _ _ _ _ _ _ _ _ r n).trans ?_
  rw [hh]
  exact Finset.sum_congr rfl fun d _ => congrArg (h d * ·) ((b4_apply m c t d n).trans (V9 m c d n))

theorem pj_c (k : Fin 384) (J : Fin 640) (hJ : J.val = k.val) :
    pj (iblk m c 0 t : Vec Ideal S256x1024 .f32) (iblk m c 1 t : Vec Ideal S1x9x1024 .f32) (iblk m c 5 t : Vec Ideal S1x1024x640 .bf16) r J
      = col h (w m c) ⟨2048 + k.val, by omega⟩ := by
  unfold pj
  rw [hh]
  exact Finset.sum_congr rfl fun d _ => congrArg (h d * ·) ((b5_apply m c t d J).trans (V23_c m c d k J hJ))

theorem cqr_eq : cqr (iblk m c 0 t : Vec Ideal S256x1024 .f32) (iblk m c 1 t : Vec Ideal S1x9x1024 .f32) (iblk m c 5 t : Vec Ideal S1x1024x640 .bf16)
    (iblk m c 8 t : Vec Ideal S1x1x256 .f32) r = cqn m c h := by
  unfold cqr cqn
  rw [funext fun k : Fin 256 => pj_c m c t r h hh ⟨k.val, by omega⟩ ⟨k.val, by omega⟩ rfl, funext fun k => (b8_apply m c t 0 k).trans (V64 m c k)]
  rfl

theorem ckr_eq : ckr (iblk m c 0 t : Vec Ideal S256x1024 .f32) (iblk m c 1 t : Vec Ideal S1x9x1024 .f32) (iblk m c 5 t : Vec Ideal S1x1024x640 .bf16)
    (iblk m c 9 t : Vec Ideal S1x1x128 .f32) r = ckn m c h := by
  unfold ckr ckn
  rw [funext fun k : Fin 128 => pj_c m c t r h hh ⟨256 + k.val, by omega⟩ ⟨256 + k.val, by omega⟩ rfl, funext fun k => (b9_apply m c t 0 k).trans (V65 m c k)]
  have e : (fun k : Fin 128 => col h (w m c) ⟨2048 + (256 + k.val), by omega⟩) = ckv h (w m c) := funext fun k =>
    congrArg (col h (w m c)) (Fin.ext (by show 2048 + (256 + k.val) = 2304 + k.val; omega))
  rw [← e]

theorem res17 (cs sn : Fin 32 → EReal) (a : Fin 4) (l : Fin 128) (L : Fin 512) (hL : L.val = 128 * a.val + l.val)
    (h6 : ∀ l, (iblk m c 6 t : Vec Ideal S256x128 .f32) (ix2 r l) = padA cOne cs l) (h7 : ∀ l, (iblk m c 7 t : Vec Ideal S256x128 .f32) (ix2 r l) = padA 0 sn l)
    (hT : ∀ k, (∑ i, cqn m c h i * turn (fun k => wq m c i ⟨96 * a.val + (64 + k.val), by omega⟩) k) * sn k
      = turn (fun k => qry (cqn m c h) (wq m c) a ⟨64 + k.val, by omega⟩) k * sn k) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r L) = qLane (cqn m c h) (wq m c) cs sn a l := by
  refine (out17_apply _ _ _ _ _ _ _ _ _ _ _ _ _ _ r a l L hL).trans ?_
  rw [cqr_eq m c t r h hh, h6 l, h7 l]
  exact q_lane _ _ cs sn a l _ _ (fun i => (b10_apply m c t i L).trans (V28 m c i a l L hL)) (fun i => (b11_apply m c t i L).trans (V40 m c i a l L hL)) hT

theorem res18 (cs sn : Fin 32 → EReal) (a : Fin 4) (l : Fin 128) (L : Fin 512) (hL : L.val = 128 * a.val + l.val)
    (h6 : ∀ l, (iblk m c 6 t : Vec Ideal S256x128 .f32) (ix2 r l) = padA cOne cs l) (h7 : ∀ l, (iblk m c 7 t : Vec Ideal S256x128 .f32) (ix2 r l) = padA 0 sn l)
    (hT : ∀ k, (∑ d, h d * turn (fun k => w m c d ⟨2432 + k.val, by omega⟩) k) * sn k = turn (kr h (w m c)) k * sn k) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r L) = kLane (ckn m c h) (wk m c) (kr h (w m c)) cs sn a l := by
  refine (out18_apply _ _ _ _ _ _ _ _ _ _ _ _ _ _ r a l L hL).trans ?_
  rw [ckr_eq m c t r h hh, h6 l, h7 l]
  unfold pj
  rw [hh]
  exact k_lane _ _ h (w m c) cs sn a l _ _ _ (fun i => (b12_apply m c t i L).trans (V46 m c i a l L hL))
    (fun d => (b5_apply m c t d _).trans (V23_r m c d l _ rfl)) (fun d => (b5_apply m c t d _).trans (V23_t m c d l _ rfl)) hT

theorem res19 (a : Fin 4) (l : Fin 64) (L : Fin 512) (hL : L.val = 128 * a.val + l.val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r L) = kvl (ckn m c h) (wk m c) a ⟨64 + l.val, by omega⟩ := by
  refine (out19_apply _ _ _ _ _ _ _ _ _ _ _ _ _ _ r L (by omega)).trans ?_
  rw [ckr_eq m c t r h hh]
  exact Finset.sum_congr rfl fun i _ => congrArg (ckn m c h i * ·) ((b13_apply m c t i L).trans (V50 m c i a l L hL))

omit hh

/-! ## Rows of the results -/

/-- The point and the row of a context row. -/
theorem pt_ctx (b : Fin 2) (j : Fin 256) : ∃ t : Fin cfg0.N, t.val = b.val
    ∧ hr (iblk m c 0 t : Vec Ideal S256x1024 .f32) (iblk m c 1 t : Vec Ideal S1x9x1024 .f32) j = hCtx m c b j
    ∧ (∀ l, (iblk m c 6 t : Vec Ideal S256x128 .f32) (ix2 j l) = padA cOne (fun _ => cOne) l) ∧ (∀ l, (iblk m c 7 t : Vec Ideal S256x128 .f32) (ix2 j l) = padA 0 (fun _ => 0) l) := by
  have hN : cfg0.N = 66 := N_0
  obtain ⟨t, ht⟩ : ∃ t : Fin cfg0.N, t.val = b.val := ⟨⟨b.val, by omega⟩, rfl⟩
  obtain ⟨R, hR⟩ : ∃ R : Fin 16896, R.val = b.val * 256 + j.val := ⟨⟨b.val * 256 + j.val, by omega⟩, rfl⟩
  have hj : j.val = (if t.val < 2 then 0 else 1 + (t.val - 2) % 32) * 256 + j.val := by rw [if_pos (by omega)]; omega
  have hm : ∀ a d, (iblk m c 1 t : Vec Ideal S1x9x1024 .f32) (ix3 0 a d) = amc m c (ix2 a d) :=
    fun a d => (b1_apply m c t a d 0 (by show 0 = _; omega)).trans (V3_ctx m c a d)
  exact ⟨t, ht, mdl_congr (fun d => (b0_apply m c t j d R (by omega)).trans (V63_ctx m c b j d R hR)) (hm 3) (hm 4),
    fun l => (b6_apply m c t j l ⟨j.val, by omega⟩ hj).trans (V57_ctx m c _ j.isLt l), fun l => (b7_apply m c t j l ⟨j.val, by omega⟩ hj).trans (V60_ctx m c _ j.isLt l)⟩

/-- The point and the row of a latent row. -/
theorem pt_lat (b : Fin 2) (j : Fin 8192) (r : Fin 256) (hr' : r.val = j.val % 256) : ∃ t : Fin cfg0.N, t.val = 2 + 32 * b.val + j.val / 256
    ∧ hr (iblk m c 0 t : Vec Ideal S256x1024 .f32) (iblk m c 1 t : Vec Ideal S1x9x1024 .f32) r = hLat m c b j
    ∧ (∀ l, (iblk m c 6 t : Vec Ideal S256x128 .f32) (ix2 r l) = padA cOne (fun k => acs m c (ix2 j k)) l)
    ∧ (∀ l, (iblk m c 7 t : Vec Ideal S256x128 .f32) (ix2 r l) = padA 0 (fun k => asn m c (ix2 j k)) l) := by
  have hN : cfg0.N = 66 := N_0
  obtain ⟨t, ht⟩ : ∃ t : Fin cfg0.N, t.val = 2 + 32 * b.val + j.val / 256 := ⟨⟨2 + 32 * b.val + j.val / 256, by omega⟩, rfl⟩
  obtain ⟨R, hR⟩ : ∃ R : Fin 16896, R.val = 512 + (b.val * 8192 + j.val) := ⟨⟨512 + (b.val * 8192 + j.val), by omega⟩, rfl⟩
  obtain ⟨g, hg⟩ : ∃ g : Fin 8, g.val = b.val + 1 := ⟨⟨b.val + 1, by omega⟩, rfl⟩
  obtain ⟨J, hJ⟩ : ∃ J : Fin 8448, J.val = 256 + j.val := ⟨⟨256 + j.val, by omega⟩, rfl⟩
  have hj : J.val = (if t.val < 2 then 0 else 1 + (t.val - 2) % 32) * 256 + r.val := by rw [if_neg (by omega)]; omega
  have hm : ∀ a d, (iblk m c 1 t : Vec Ideal S1x9x1024 .f32) (ix3 0 a d) = am m c (ix3 b a d) :=
    fun a d => (b1_apply m c t a d g (by omega)).trans (V3_lat m c b g hg a d)
  exact ⟨t, ht, mdl_congr (fun d => (b0_apply m c t r d R (by omega)).trans (V63_lat m c b j d R hR)) (hm 3) (hm 4),
    fun l => (b6_apply m c t r l J hj).trans (V57_lat m c j J hJ l), fun l => (b7_apply m c t r l J hj).trans (V60_lat m c j J hJ l)⟩

theorem arr14_ctx (b : Fin 2) (j : Fin 256) (n : Fin 512) (R : Fin 16896) (hR : R.val = b.val * 256 + j.val) :
    ((dats m 0 c).arrAt 14 cfg0.N : S16896x512.Idx → EReal) (ix2 R n) = col (hCtx m c b j) (w m c) ⟨n.val, by omega⟩ := by
  obtain ⟨t, ht, hh, h6, h7⟩ := pt_ctx m c b j
  exact (arr14 m c t j n R (by omega)).trans (res14 m c t j _ hh n)

theorem arr14_lat (b : Fin 2) (j : Fin 8192) (n : Fin 512) (R : Fin 16896) (hR : R.val = 512 + (b.val * 8192 + j.val)) :
    ((dats m 0 c).arrAt 14 cfg0.N : S16896x512.Idx → EReal) (ix2 R n) = col (hLat m c b j) (w m c) ⟨n.val, by omega⟩ := by
  obtain ⟨r, hr'⟩ : ∃ r : Fin 256, r.val = j.val % 256 := ⟨⟨j.val % 256, by omega⟩, rfl⟩
  obtain ⟨t, ht, hh, h6, h7⟩ := pt_lat m c b j r hr'
  exact (arr14 m c t r n R (by omega)).trans (res14 m c t r _ hh n)

theorem arr15_ctx (b : Fin 2) (j : Fin 256) (n : Fin 512) (R : Fin 16896) (hR : R.val = b.val * 8448 + j.val) :
    ((dats m 0 c).arrAt 15 cfg0.N : S16896x512.Idx → EReal) (ix2 R n) = col (hCtx m c b j) (w m c) ⟨512 + n.val, by omega⟩ := by
  obtain ⟨t, ht, hh, h6, h7⟩ := pt_ctx m c b j
  exact (arr15 m c t j n R (by rw [if_pos (by omega)]; omega)).trans (res15 m c t j _ hh n)

theorem arr15_lat (b : Fin 2) (j : Fin 8192) (n : Fin 512) (R : Fin 16896) (hR : R.val = b.val * 8448 + (256 + j.val)) :
    ((dats m 0 c).arrAt 15 cfg0.N : S16896x512.Idx → EReal) (ix2 R n) = col (hLat m c b j) (w m c) ⟨512 + n.val, by omega⟩ := by
  obtain ⟨r, hr'⟩ : ∃ r : Fin 256, r.val = j.val % 256 := ⟨⟨j.val % 256, by omega⟩, rfl⟩
  obtain ⟨t, ht, hh, h6, h7⟩ := pt_lat m c b j r hr'
  exact (arr15 m c t r n R (by rw [if_neg (by omega)]; omega)).trans (res15 m c t r _ hh n)

theorem arr16_ctx (b : Fin 2) (j : Fin 256) (n : Fin 1024) (R : Fin 16896) (hR : R.val = b.val * 8448 + j.val) :
    ((dats m 0 c).arrAt 16 cfg0.N : S16896x1024.Idx → EReal) (ix2 R n) = col (hCtx m c b j) (w m c) ⟨1024 + n.val, by omega⟩ := by
  obtain ⟨t, ht, hh, h6, h7⟩ := pt_ctx m c b j
  exact (arr16 m c t j n R (by rw [if_pos (by omega)]; omega)).trans (res16 m c t j _ hh n)

theorem arr16_lat (b : Fin 2) (j : Fin 8192) (n : Fin 1024) (R : Fin 16896) (hR : R.val = b.val * 8448 + (256 + j.val)) :
    ((dats m 0 c).arrAt 16 cfg0.N : S16896x1024.Idx → EReal) (ix2 R n) = col (hLat m c b j) (w m c) ⟨1024 + n.val, by omega⟩ := by
  obtain ⟨r, hr'⟩ : ∃ r : Fin 256, r.val = j.val % 256 := ⟨⟨j.val % 256, by omega⟩, rfl⟩
  obtain ⟨t, ht, hh, h6, h7⟩ := pt_lat m c b j r hr'
  exact (arr16 m c t r n R (by rw [if_neg (by omega)]; omega)).trans (res16 m c t r _ hh n)

theorem arr17_ctx (b : Fin 2) (j : Fin 256) (a : Fin 4) (l : Fin 128) (L : Fin 512) (hL : L.val = 128 * a.val + l.val) (R : Fin 16896) (hR : R.val = b.val * 256 + j.val) :
    ((dats m 0 c).arrAt 17 cfg0.N : S16896x512.Idx → EReal) (ix2 R L) = qLane (cqn m c (hCtx m c b j)) (wq m c) (fun _ => cOne) (fun _ => 0) a l := by
  obtain ⟨t, ht, hh, h6, h7⟩ := pt_ctx m c b j
  exact (arr17 m c t j L R (by omega)).trans (res17 m c t j _ hh (fun _ => cOne) (fun _ => 0) a l L hL h6 h7 (fun k => by rw [mul_zero, mul_zero]))

theorem arr17_lat (b : Fin 2) (j : Fin 8192) (a : Fin 4) (l : Fin 128) (L : Fin 512) (hL : L.val = 128 * a.val + l.val) (R : Fin 16896) (hR : R.val = 512 + (b.val * 8192 + j.val))
    (hT : ∀ k, (∑ i, cqn m c (hLat m c b j) i * turn (fun k => wq m c i ⟨96 * a.val + (64 + k.val), by omega⟩) k)
      = turn (fun k => qry (cqn m c (hLat m c b j)) (wq m c) a ⟨64 + k.val, by omega⟩) k) :
    ((dats m 0 c).arrAt 17 cfg0.N : S16896x512.Idx → EReal) (ix2 R L) = qLane (cqn m c (hLat m c b j)) (wq m c) (fun k => acs m c (ix2 j k)) (fun k => asn m c (ix2 j k)) a l := by
  obtain ⟨r, hr'⟩ : ∃ r : Fin 256, r.val = j.val % 256 := ⟨⟨j.val % 256, by omega⟩, rfl⟩
  obtain ⟨t, ht, hh, h6, h7⟩ := pt_lat m c b j r hr'
  exact (arr17 m c t r L R (by omega)).trans (res17 m c t r _ hh (fun k => acs m c (ix2 j k)) (fun k => asn m c (ix2 j k)) a l L hL h6 h7 (fun k => by rw [hT k]))

theorem arr18_ctx (b : Fin 2) (j : Fin 256) (a : Fin 4) (l : Fin 128) (L : Fin 512) (hL : L.val = 128 * a.val + l.val) (R : Fin 16896) (hR : R.val = b.val * 8448 + (8192 + j.val)) :
    ((dats m 0 c).arrAt 18 cfg0.N : S16896x512.Idx → EReal) (ix2 R L) = kLane (ckn m c (hCtx m c b j)) (wk m c) (kr (hCtx m c b j) (w m c)) (fun _ => cOne) (fun _ => 0) a l := by
  obtain ⟨t, ht, hh, h6, h7⟩ := pt_ctx m c b j
  exact (arr18 m c t j L R (by rw [if_pos (by omega)]; omega)).trans (res18 m c t j _ hh (fun _ => cOne) (fun _ => 0) a l L hL h6 h7 (fun k => by rw [mul_zero, mul_zero]))

theorem arr18_lat (b : Fin 2) (j : Fin 8192) (a : Fin 4) (l : Fin 128) (L : Fin 512) (hL : L.val = 128 * a.val + l.val) (R : Fin 16896) (hR : R.val = b.val * 8448 + j.val)
    (hT : ∀ k, (∑ d, (hLat m c b j) d * turn (fun k => w m c d ⟨2432 + k.val, by omega⟩) k) = turn (kr (hLat m c b j) (w m c)) k) :
    ((dats m 0 c).arrAt 18 cfg0.N : S16896x512.Idx → EReal) (ix2 R L) = kLane (ckn m c (hLat m c b j)) (wk m c) (kr (hLat m c b j) (w m c)) (fun k => acs m c (ix2 j k)) (fun k => asn m c (ix2 j k)) a l := by
  obtain ⟨r, hr'⟩ : ∃ r : Fin 256, r.val = j.val % 256 := ⟨⟨j.val % 256, by omega⟩, rfl⟩
  obtain ⟨t, ht, hh, h6, h7⟩ := pt_lat m c b j r hr'
  exact (arr18 m c t r L R (by rw [if_neg (by omega)]; omega)).trans (res18 m c t r _ hh (fun k => acs m c (ix2 j k)) (fun k => asn m c (ix2 j k)) a l L hL h6 h7 (fun k => by rw [hT k]))

theorem arr19_ctx (b : Fin 2) (j : Fin 256) (a : Fin 4) (l : Fin 64) (L : Fin 512) (hL : L.val = 128 * a.val + l.val) (R : Fin 16896) (hR : R.val = b.val * 8448 + (8192 + j.val)) :
    ((dats m 0 c).arrAt 19 cfg0.N : S16896x512.Idx → EReal) (ix2 R L) = kvl (ckn m c (hCtx m c b j)) (wk m c) a ⟨64 + l.val, by omega⟩ := by
  obtain ⟨t, ht, hh, h6, h7⟩ := pt_ctx m c b j
  exact (arr19 m c t j L R (by rw [if_pos (by omega)]; omega)).trans (res19 m c t j _ hh a l L hL)

theorem arr19_lat (b : Fin 2) (j : Fin 8192) (a : Fin 4) (l : Fin 64) (L : Fin 512) (hL : L.val = 128 * a.val + l.val) (R : Fin 16896) (hR : R.val = b.val * 8448 + j.val) :
    ((dats m 0 c).arrAt 19 cfg0.N : S16896x512.Idx → EReal) (ix2 R L) = kvl (ckn m c (hLat m c b j)) (wk m c) a ⟨64 + l.val, by omega⟩ := by
  obtain ⟨r, hr'⟩ : ∃ r : Fin 256, r.val = j.val % 256 := ⟨⟨j.val % 256, by omega⟩, rfl⟩
  obtain ⟨t, ht, hh, h6, h7⟩ := pt_lat m c b j r hr'
  exact (arr19 m c t r L R (by rw [if_neg (by omega)]; omega)).trans (res19 m c t r _ hh a l L hL)

end Cert.WinKernelIdeal.Win
-- ==== Proof.Win.Ref.lean ====
module
public import proofs.«01_k».proof.Proof.Gen.WinReferenceIdeal.Read
public import proofs.«01_k».proof.Proof.Win.Math
public import Idealize.ShloMosaic.Lib.ValueIdxRank6
/-! What the reference of the input projection computes, row by row. -/
@[expose] public section
set_option maxRecDepth 16384
noncomputable section
namespace Cert.WinReferenceIdeal.Win
open Cert.WinReferenceIdeal Cert.WinReferenceIdeal.Gen Cert.WinReferenceIdeal.Read Idealize.ShloMosaic Idealize.ShloMosaic.ValueIdx
open Cert.Ffn Cert.Win

variable (x0 : S2x8192x1024.Idx → EReal) (x1 : S2x256x1024.Idx → EReal) (x2 : S2x9x1024.Idx → EReal) (x3 : S9x1024.Idx → EReal)
  (x4 : S2x1024x2464.Idx → EReal) (x5 : S2x256.Idx → EReal) (x6 : S2x256x384.Idx → EReal) (x7 : S2x128.Idx → EReal)
  (x8 : S2x128x512.Idx → EReal) (x9 x10 : S8192x32.Idx → EReal)

/-- The weights and gains of the first layer. -/
abbrev w : Fin 1024 → Fin 2464 → EReal := fun d j => x4 (ix3 0 d j)
abbrev wq : Fin 256 → Fin 384 → EReal := fun i j => x6 (ix3 0 i j)
abbrev wk : Fin 128 → Fin 512 → EReal := fun i j => x8 (ix3 0 i j)
abbrev cqn (h : Fin 1024 → EReal) : Fin 256 → EReal := nrmN cQ (cq h (w x4)) (fun k => x5 (ix2 0 k))
abbrev ckn (h : Fin 1024 → EReal) : Fin 128 → EReal := nrmN cK (ckv h (w x4)) (fun k => x7 (ix2 0 k))

/-- The modulated rows. -/
abbrev hl (b : Fin 2) (j : Fin 8192) : Fin 1024 → EReal := mdl (fun d => x0 (ix3 b j d)) (fun d => x2 (ix3 b 3 d)) (fun d => x2 (ix3 b 4 d))
abbrev hc (b : Fin 2) (j : Fin 256) : Fin 1024 → EReal := mdl (fun d => x1 (ix3 b j d)) (fun d => x3 (ix2 3 d)) (fun d => x3 (ix2 4 d))

theorem v23_eq (d : Fin 1024) (f : Fin 2464) : val_main_v23 (F := Ideal) x4 (ix2 d f) = w x4 d f := by
  unfold val_main_v23
  refine (shapeCast_apply _ _ _ (ix3 (0 : Fin 1) d f) (by
    rw [Shape.rowMajor_val_three, Shape.rowMajor_val_two]
    show (0 * 1024 + d.val) * 2464 + f.val = d.val * 2464 + f.val
    omega)).trans ?_
  rw [val_main_v22_apply]
  exact congrArg x4 (funext fun a => match a with | ⟨0, _⟩ => rfl | ⟨1, _⟩ => rfl | ⟨2, _⟩ => rfl)

theorem v71_eq (d : Fin 256) (f : Fin 384) : val_main_v71 (F := Ideal) x6 (ix2 d f) = wq x6 d f := by
  unfold val_main_v71
  refine (shapeCast_apply _ _ _ (ix3 (0 : Fin 1) d f) (by
    rw [Shape.rowMajor_val_three, Shape.rowMajor_val_two]
    show (0 * 256 + d.val) * 384 + f.val = d.val * 384 + f.val
    omega)).trans ?_
  rw [val_main_v70_apply]
  exact congrArg x6 (funext fun a => match a with | ⟨0, _⟩ => rfl | ⟨1, _⟩ => rfl | ⟨2, _⟩ => rfl)

theorem v113_eq (d : Fin 128) (f : Fin 512) : val_main_v113 (F := Ideal) x8 (ix2 d f) = wk x8 d f := by
  unfold val_main_v113
  refine (shapeCast_apply _ _ _ (ix3 (0 : Fin 1) d f) (by
    rw [Shape.rowMajor_val_three, Shape.rowMajor_val_two]
    show (0 * 128 + d.val) * 512 + f.val = d.val * 512 + f.val
    omega)).trans ?_
  rw [val_main_v112_apply]
  exact congrArg x8 (funext fun a => match a with | ⟨0, _⟩ => rfl | ⟨1, _⟩ => rfl | ⟨2, _⟩ => rfl)

theorem v44_eq (d : Fin 1024) (f : Fin 2464) : val_main_v44 (F := Ideal) x4 (ix2 d f) = w x4 d f := v23_eq x4 d f
theorem v184_eq (d : Fin 256) (f : Fin 384) : val_main_v184 (F := Ideal) x6 (ix2 d f) = wq x6 d f := v71_eq x6 d f
theorem v156_eq (d : Fin 128) (f : Fin 512) : val_main_v156 (F := Ideal) x8 (ix2 d f) = wk x8 d f := v113_eq x8 d f

theorem v66_eq (k : Fin 256) : val_main_v66 (F := Ideal) x5 (ix1 k) = x5 (ix2 0 k) := by
  unfold val_main_v66
  refine (shapeCast_apply _ _ _ (ix2 (0 : Fin 1) k) (by
    rw [Shape.rowMajor_val_one, Shape.rowMajor_val_two]
    show 0 * 256 + k.val = k.val
    omega)).trans ?_
  rw [val_main_v65_apply]
  exact congrArg x5 (funext fun a => match a with | ⟨0, _⟩ => rfl | ⟨1, _⟩ => rfl)

theorem v108_eq (k : Fin 128) : val_main_v108 (F := Ideal) x7 (ix1 k) = x7 (ix2 0 k) := by
  unfold val_main_v108
  refine (shapeCast_apply _ _ _ (ix2 (0 : Fin 1) k) (by
    rw [Shape.rowMajor_val_one, Shape.rowMajor_val_two]
    show 0 * 128 + k.val = k.val
    omega)).trans ?_
  rw [val_main_v107_apply]
  exact congrArg x7 (funext fun a => match a with | ⟨0, _⟩ => rfl | ⟨1, _⟩ => rfl)

theorem v179_eq (k : Fin 256) : val_main_v179 (F := Ideal) x5 (ix1 k) = x5 (ix2 0 k) := v66_eq x5 k
theorem v151_eq (k : Fin 128) : val_main_v151 (F := Ideal) x7 (ix1 k) = x7 (ix2 0 k) := v108_eq x7 k

/-- A row of the modulations, sliced out and flattened. -/
theorem row_eq (a : Fin 9) (h : S9x1024.Slices ![a.val, 0] S1x1024) (h' : S1x1024.ShapeCasts S1024) (d : Fin 1024) :
    shapeCast S1024 (extractStridedSlice S1x1024 ![a.val, 0] x3 h) h' (ix1 d) = x3 (ix2 a d) := by
  refine (shapeCast_apply _ _ _ (ix2 (0 : Fin 1) d) (by
    rw [Shape.rowMajor_val_one, Shape.rowMajor_val_two]
    show 0 * 1024 + d.val = d.val
    omega)).trans ?_
  exact extractStridedSlice_apply _ _ _ _ (ix2 a d) (fun a => match a with | ⟨0, _⟩ => by simp | ⟨1, _⟩ => by simp)

theorem v3_eq (d : Fin 1024) : val_main_v3 (F := Ideal) x3 (ix1 d) = x3 (ix2 3 d) := row_eq x3 3 _ _ d
theorem v5_eq (d : Fin 1024) : val_main_v5 (F := Ideal) x3 (ix1 d) = x3 (ix2 4 d) := row_eq x3 4 _ _ d

section Latents
variable (b : Fin 2) (j : Fin 8192)

theorem v13_eq : val_main_v13 (F := Ideal) x0 (ix3 b j 0) = rms (fun d => x0 (ix3 b j d)) := by
  rw [val_main_v13_apply, val_main_v12_apply, val_main_v11_apply, val_main_cst_1_apply, val_main_v10_apply, val_main_v9_apply, val_main_cst_0_apply, val_main_v8_apply, val_main_v7_apply, val_main_cst_apply]
  have key : ∀ z a : EReal, z = 0 → a = (∑ d, x0 (ix3 b j d) * x0 (ix3 b j d)) → Ideal.rsqrt (Ideal.div (z + a) cDim + cEps) = rms (fun d => x0 (ix3 b j d)) := by
    rintro z a rfl rfl; rw [zero_add]; rfl
  refine key _ _ Ideal.ofBits_zero_f32 (Finset.sum_congr rfl fun d _ => ?_)
  rw [val_main_v6_apply]
  have e : idx_main_v7 (idx_main_v8 (ix3 b j 0)) d = ix3 b j d := (eq_ix3 _).trans rfl
  rw [e]
  rfl

theorem v21_eq (d : Fin 1024) : val_main_v21 (F := Ideal) x0 x2 (ix3 b j d) = hl x0 x2 b j d := by
  rw [val_main_v21_apply, val_main_v20_apply, val_main_v19_apply, val_main_v18_apply, val_main_v17_apply, val_main_v16_apply, val_main_cst_2_apply, val_main_v15_apply, val_main_v14_apply, val_main_v1_apply, val_main_v0_apply]
  have e1 : idx_main_v14 (ix3 b j d) = ix3 b j 0 := (eq_ix3 _).trans rfl
  have e2 : idx_main_v1 (idx_main_v18 (ix3 b j d)) = ix3 b 4 d := (eq_ix3 _).trans rfl
  have e3 : idx_main_v0 (idx_main_v20 (ix3 b j d)) = ix3 b 3 d := (eq_ix3 _).trans rfl
  rw [e1, e2, e3, v13_eq]
  rfl

theorem v24_eq (n : Fin 2464) : val_main_v24 (F := Ideal) x0 x2 x4 (ix3 b j n) = col (hl x0 x2 b j) (w x4) n := by
  rw [val_main_v24_apply]
  refine Finset.sum_congr rfl fun d _ => ?_
  have e1 : lidx_main_v24 (ix3 b j n) d = ix3 b j d := (eq_ix3 _).trans rfl
  have e2 : ridx_main_v24 (ix3 b j n) d = ix2 d n := (eq_ix2 _).trans rfl
  rw [e1, e2, v21_eq, v23_eq]

theorem v46_eq (n : Fin 512) : val_main_v46 (F := Ideal) x0 x2 x4 (ix3 b j n) = col (hl x0 x2 b j) (w x4) ⟨n.val, by omega⟩ := by
  rw [val_main_v46_apply]
  have e : idx_main_v46 (ix3 b j n) = ix3 b j ⟨n.val, by omega⟩ := (eq_ix3 _).trans rfl
  rw [e, v24_eq]

theorem v47_eq (n : Fin 512) : val_main_v47 (F := Ideal) x0 x2 x4 (ix3 b j n) = col (hl x0 x2 b j) (w x4) ⟨512 + n.val, by omega⟩ := by
  rw [val_main_v47_apply]
  have e : idx_main_v47 (ix3 b j n) = ix3 b j ⟨512 + n.val, by omega⟩ := (eq_ix3 _).trans rfl
  rw [e, v24_eq]

theorem v48_eq (n : Fin 1024) : val_main_v48 (F := Ideal) x0 x2 x4 (ix3 b j n) = col (hl x0 x2 b j) (w x4) ⟨1024 + n.val, by omega⟩ := by
  rw [val_main_v48_apply]
  have e : idx_main_v48 (ix3 b j n) = ix3 b j ⟨1024 + n.val, by omega⟩ := (eq_ix3 _).trans rfl
  rw [e, v24_eq]

theorem v54_eq (k : Fin 256) : val_main_v54 (F := Ideal) x0 x2 x4 (ix3 b j k) = cq (hl x0 x2 b j) (w x4) k := by
  rw [val_main_v54_apply, val_main_v49_apply]
  have e : idx_main_v49 (idx_main_v54 (ix3 b j k)) = ix3 b j ⟨2048 + k.val, by omega⟩ := (eq_ix3 _).trans ?_
  · rw [e, v24_eq]
    rfl
  · refine funext fun a => ?_
    match a with
    | ⟨0, _⟩ => rfl
    | ⟨1, _⟩ => rfl
    | ⟨2, _⟩ => exact Fin.ext (by show 2048 + k.val = 2048 + k.val; omega)

theorem v96_eq (k : Fin 128) : val_main_v96 (F := Ideal) x0 x2 x4 (ix3 b j k) = ckv (hl x0 x2 b j) (w x4) k := by
  rw [val_main_v96_apply, val_main_v49_apply]
  have e : idx_main_v49 (idx_main_v96 (ix3 b j k)) = ix3 b j ⟨2304 + k.val, by omega⟩ := (eq_ix3 _).trans ?_
  · rw [e, v24_eq]
    rfl
  · refine funext fun a => ?_
    match a with
    | ⟨0, _⟩ => rfl
    | ⟨1, _⟩ => rfl
    | ⟨2, _⟩ => exact Fin.ext (by show 2048 + (256 + k.val) = 2304 + k.val; omega)

theorem v118_eq (k : Fin 32) : val_main_v118 (F := Ideal) x0 x2 x4 (ix3 b j k) = kr (hl x0 x2 b j) (w x4) k := by
  rw [val_main_v118_apply, val_main_v49_apply]
  have e : idx_main_v49 (idx_main_v118 (ix3 b j k)) = ix3 b j ⟨2432 + k.val, by omega⟩ := (eq_ix3 _).trans ?_
  · rw [e, v24_eq]
    rfl
  · refine funext fun a => ?_
    match a with
    | ⟨0, _⟩ => rfl
    | ⟨1, _⟩ => rfl
    | ⟨2, _⟩ => exact Fin.ext (by show 2048 + (384 + k.val) = 2432 + k.val; omega)

theorem v62_eq : val_main_v62 (F := Ideal) x0 x2 x4 (ix3 b j 0) = rmsN cQ (cq (hl x0 x2 b j) (w x4)) := by
  rw [val_main_v62_apply, val_main_v61_apply, val_main_v60_apply, val_main_cst_9_apply, val_main_v59_apply, val_main_v58_apply, val_main_cst_8_apply, val_main_v57_apply, val_main_v56_apply, val_main_cst_7_apply]
  have key : ∀ z a : EReal, z = 0 → a = (∑ d, cq (hl x0 x2 b j) (w x4) d * cq (hl x0 x2 b j) (w x4) d) → Ideal.rsqrt (Ideal.div (z + a) cQ + cEps) = rmsN cQ (cq (hl x0 x2 b j) (w x4)) := by
    rintro z a rfl rfl; rw [zero_add]; rfl
  refine key _ _ Ideal.ofBits_zero_f32 (Finset.sum_congr rfl fun d _ => ?_)
  rw [val_main_v55_apply]
  have e : idx_main_v56 (idx_main_v57 (ix3 b j 0)) d = ix3 b j d := (eq_ix3 _).trans rfl
  rw [e, v54_eq]
  rfl

theorem v69_eq (k : Fin 256) : val_main_v69 (F := Ideal) x0 x2 x4 x5 (ix3 b j k) = cqn x4 x5 (hl x0 x2 b j) k := by
  rw [val_main_v69_apply, val_main_v68_apply, val_main_v67_apply, val_main_v64_apply, val_main_v63_apply]
  have e1 : idx_main_v63 (ix3 b j k) = ix3 b j 0 := (eq_ix3 _).trans rfl
  have e2 : idx_main_v67 (idx_main_v68 (ix3 b j k)) = ix1 k := (eq_ix1 _).trans rfl
  rw [e1, e2, v62_eq, v54_eq, v66_eq]
  rfl

theorem v72_eq (n : Fin 384) : val_main_v72 (F := Ideal) x0 x2 x4 x5 x6 (ix3 b j n) = ∑ i, cqn x4 x5 (hl x0 x2 b j) i * wq x6 i n := by
  rw [val_main_v72_apply]
  refine Finset.sum_congr rfl fun d _ => ?_
  have e1 : lidx_main_v72 (ix3 b j n) d = ix3 b j d := (eq_ix3 _).trans rfl
  have e2 : ridx_main_v72 (ix3 b j n) d = ix2 d n := (eq_ix2 _).trans rfl
  rw [e1, e2, v69_eq, v71_eq]

theorem v73_eq (a : Fin 4) (l : Fin 96) : val_main_v73 (F := Ideal) x0 x2 x4 x5 x6 (ix4 b j a l) = qry (cqn x4 x5 (hl x0 x2 b j)) (wq x6) a l := by
  unfold val_main_v73
  refine (shapeCast_apply _ _ _ (ix3 b j ⟨96 * a.val + l.val, by omega⟩) (by
    rw [Shape.rowMajor_val_three, Shape.rowMajor_val_four]
    show (b.val * 8192 + j.val) * 384 + (96 * a.val + l.val) = ((b.val * 8192 + j.val) * 4 + a.val) * 96 + l.val
    omega)).trans ?_
  exact v72_eq _ _ _ _ _ _ _ _

theorem v104_eq : val_main_v104 (F := Ideal) x0 x2 x4 (ix3 b j 0) = rmsN cK (ckv (hl x0 x2 b j) (w x4)) := by
  rw [val_main_v104_apply, val_main_v103_apply, val_main_v102_apply, val_main_cst_12_apply, val_main_v101_apply, val_main_v100_apply, val_main_cst_11_apply, val_main_v99_apply, val_main_v98_apply, val_main_cst_10_apply]
  have key : ∀ z a : EReal, z = 0 → a = (∑ d, ckv (hl x0 x2 b j) (w x4) d * ckv (hl x0 x2 b j) (w x4) d) → Ideal.rsqrt (Ideal.div (z + a) cK + cEps) = rmsN cK (ckv (hl x0 x2 b j) (w x4)) := by
    rintro z a rfl rfl; rw [zero_add]; rfl
  refine key _ _ Ideal.ofBits_zero_f32 (Finset.sum_congr rfl fun d _ => ?_)
  rw [val_main_v97_apply]
  have e : idx_main_v98 (idx_main_v99 (ix3 b j 0)) d = ix3 b j d := (eq_ix3 _).trans rfl
  rw [e, v96_eq]
  rfl

theorem v111_eq (k : Fin 128) : val_main_v111 (F := Ideal) x0 x2 x4 x7 (ix3 b j k) = ckn x4 x7 (hl x0 x2 b j) k := by
  rw [val_main_v111_apply, val_main_v110_apply, val_main_v109_apply, val_main_v106_apply, val_main_v105_apply]
  have e1 : idx_main_v105 (ix3 b j k) = ix3 b j 0 := (eq_ix3 _).trans rfl
  have e2 : idx_main_v109 (idx_main_v110 (ix3 b j k)) = ix1 k := (eq_ix1 _).trans rfl
  rw [e1, e2, v104_eq, v96_eq, v108_eq]
  rfl

theorem v114_eq (n : Fin 512) : val_main_v114 (F := Ideal) x0 x2 x4 x7 x8 (ix3 b j n) = ∑ i, ckn x4 x7 (hl x0 x2 b j) i * wk x8 i n := by
  rw [val_main_v114_apply]
  refine Finset.sum_congr rfl fun d _ => ?_
  have e1 : lidx_main_v114 (ix3 b j n) d = ix3 b j d := (eq_ix3 _).trans rfl
  have e2 : ridx_main_v114 (ix3 b j n) d = ix2 d n := (eq_ix2 _).trans rfl
  rw [e1, e2, v111_eq, v113_eq]

theorem v115_eq (a : Fin 4) (l : Fin 128) : val_main_v115 (F := Ideal) x0 x2 x4 x7 x8 (ix4 b j a l) = kvl (ckn x4 x7 (hl x0 x2 b j)) (wk x8) a l := by
  unfold val_main_v115
  refine (shapeCast_apply _ _ _ (ix3 b j ⟨128 * a.val + l.val, by omega⟩) (by
    rw [Shape.rowMajor_val_three, Shape.rowMajor_val_four]
    show (b.val * 8192 + j.val) * 512 + (128 * a.val + l.val) = ((b.val * 8192 + j.val) * 4 + a.val) * 128 + l.val
    omega)).trans ?_
  exact v114_eq _ _ _ _ _ _ _ _

theorem v116_eq (a : Fin 4) (l : Fin 64) : val_main_v116 (F := Ideal) x0 x2 x4 x7 x8 (ix4 b j a l) = kvl (ckn x4 x7 (hl x0 x2 b j)) (wk x8) a ⟨l.val, by omega⟩ := by
  rw [val_main_v116_apply]
  have e : idx_main_v116 (ix4 b j a l) = ix4 b j a ⟨l.val, by omega⟩ := (eq_ix4 _).trans rfl
  rw [e, v115_eq]

theorem v117_eq (a : Fin 4) (l : Fin 64) : val_main_v117 (F := Ideal) x0 x2 x4 x7 x8 (ix4 b j a l) = kvl (ckn x4 x7 (hl x0 x2 b j)) (wk x8) a ⟨64 + l.val, by omega⟩ := by
  rw [val_main_v117_apply]
  have e : idx_main_v117 (ix4 b j a l) = ix4 b j a ⟨64 + l.val, by omega⟩ := (eq_ix4 _).trans rfl
  rw [e, v115_eq]

/-! ## The rotated lanes of the queries -/

/-- The rotary part of the queries of a row. -/
abbrev qf (a : Fin 4) : Fin 32 → EReal := fun k => qry (cqn x4 x5 (hl x0 x2 b j)) (wq x6) a ⟨64 + k.val, by omega⟩

theorem v74_eq (a : Fin 4) (l : Fin 64) : val_main_v74 (F := Ideal) x0 x2 x4 x5 x6 (ix4 b j a l) = qry (cqn x4 x5 (hl x0 x2 b j)) (wq x6) a ⟨l.val, by omega⟩ := by
  rw [val_main_v74_apply]
  have e : idx_main_v74 (ix4 b j a l) = ix4 b j a ⟨l.val, by omega⟩ := (eq_ix4 _).trans rfl
  rw [e, v73_eq]

theorem v75_eq (a : Fin 4) (k : Fin 32) : val_main_v75 (F := Ideal) x0 x2 x4 x5 x6 (ix4 b j a k) = qf x0 x2 x4 x5 x6 b j a k := by
  rw [val_main_v75_apply]
  have e : idx_main_v75 (ix4 b j a k) = ix4 b j a ⟨64 + k.val, by omega⟩ := (eq_ix4 _).trans rfl
  rw [e, v73_eq]

theorem v78_eq (a : Fin 4) (p q : Fin 2) (s : Fin 8) :
    val_main_v78 (F := Ideal) x0 x2 x4 x5 x6 (ix6 b j a p q s) = qf x0 x2 x4 x5 x6 b j a ⟨16 * p.val + 8 * q.val + s.val, by omega⟩ := by
  unfold val_main_v78
  refine (shapeCast_apply _ _ _ (ix4 b j a ⟨16 * p.val + 8 * q.val + s.val, by omega⟩) (by
    rw [Shape.rowMajor_val_four, Shape.rowMajor_val_six]
    show ((b.val * 8192 + j.val) * 4 + a.val) * 32 + (16 * p.val + 8 * q.val + s.val)
      = ((((b.val * 8192 + j.val) * 4 + a.val) * 2 + p.val) * 2 + q.val) * 8 + s.val
    omega)).trans ?_
  exact v75_eq _ _ _ _ _ _ _ _ _

theorem v80_eq (a : Fin 4) (p : Fin 2) (s : Fin 8) :
    val_main_v80 (F := Ideal) x0 x2 x4 x5 x6 (ix5 b j a p s) = qf x0 x2 x4 x5 x6 b j a ⟨16 * p.val + 8 * 1 + s.val, by omega⟩ := by
  unfold val_main_v80
  refine (shapeCast_apply _ _ _ (ix6 b j a p (0 : Fin 1) s) (by
    rw [Shape.rowMajor_val_five, Shape.rowMajor_val_six]
    show ((((b.val * 8192 + j.val) * 4 + a.val) * 2 + p.val) * 1 + 0) * 8 + s.val
      = (((b.val * 8192 + j.val) * 4 + a.val) * 2 + p.val) * 8 + s.val
    omega)).trans ?_
  rw [val_main_v79_apply]
  have e : idx_main_v79 (ix6 b j a p (0 : Fin 1) s) = ix6 b j a p (1 : Fin 2) s := (eq_ix6 _).trans rfl
  rw [e]
  exact v78_eq x0 x2 x4 x5 x6 b j a p 1 s

theorem v83_eq (a : Fin 4) (p : Fin 2) (s : Fin 8) :
    val_main_v83 (F := Ideal) x0 x2 x4 x5 x6 (ix5 b j a p s) = qf x0 x2 x4 x5 x6 b j a ⟨16 * p.val + 8 * 0 + s.val, by omega⟩ := by
  unfold val_main_v83
  refine (shapeCast_apply _ _ _ (ix6 b j a p (0 : Fin 1) s) (by
    rw [Shape.rowMajor_val_five, Shape.rowMajor_val_six]
    show ((((b.val * 8192 + j.val) * 4 + a.val) * 2 + p.val) * 1 + 0) * 8 + s.val
      = (((b.val * 8192 + j.val) * 4 + a.val) * 2 + p.val) * 8 + s.val
    omega)).trans ?_
  rw [val_main_v82_apply]
  have e : idx_main_v82 (ix6 b j a p (0 : Fin 1) s) = ix6 b j a p (0 : Fin 2) s := (eq_ix6 _).trans rfl
  rw [e]
  exact v78_eq x0 x2 x4 x5 x6 b j a p 0 s

theorem v87_eq (a : Fin 4) (k : Fin 32) : val_main_v87 (F := Ideal) x0 x2 x4 x5 x6 (ix4 b j a k) = turn (qf x0 x2 x4 x5 x6 b j a) k := by
  unfold val_main_v87 turn mate
  by_cases hk : k.val % 16 < 8
  · rw [if_pos hk, if_pos hk]
    refine (shapeCast_apply _ _ _ (ix6 b j a (⟨k.val / 16, by omega⟩ : Fin 2) (0 : Fin 2) (⟨k.val % 16, hk⟩ : Fin 8)) (by
      rw [Shape.rowMajor_val_four, Shape.rowMajor_val_six]
      show ((((b.val * 8192 + j.val) * 4 + a.val) * 2 + k.val / 16) * 2 + 0) * 8 + k.val % 16
        = ((b.val * 8192 + j.val) * 4 + a.val) * 32 + k.val
      omega)).trans ?_
    unfold val_main_v86
    refine (concatenate_pair_apply_left (t := S2x8192x4x2x2x8) (s₁ := S2x8192x4x2x1x8) (s₂ := S2x8192x4x2x1x8) 4 _ _ _ _ rfl
      (ix6 b j a (⟨k.val / 16, by omega⟩ : Fin 2) (0 : Fin 1) (⟨k.val % 16, hk⟩ : Fin 8)) (fun a => match a with
      | ⟨0, _⟩ => rfl | ⟨1, _⟩ => rfl | ⟨2, _⟩ => rfl | ⟨3, _⟩ => rfl | ⟨4, _⟩ => rfl | ⟨5, _⟩ => rfl)).trans ?_
    rw [val_main_v84_apply, val_main_v81_apply]
    have e : idx_main_v84 (ix6 b j a (⟨k.val / 16, by omega⟩ : Fin 2) (0 : Fin 1) (⟨k.val % 16, hk⟩ : Fin 8))
        = ix5 b j a (⟨k.val / 16, by omega⟩ : Fin 2) (⟨k.val % 16, hk⟩ : Fin 8) := (eq_ix5 _).trans rfl
    rw [e, v80_eq]
    refine congrArg (fun x : EReal => -x) (congrArg (qf x0 x2 x4 x5 x6 b j a) (Fin.ext ?_))
    show 16 * (k.val / 16) + 8 * 1 + k.val % 16 = (k.val + 8) % 32
    omega
  · rw [if_neg hk, if_neg hk]
    refine (shapeCast_apply _ _ _ (ix6 b j a (⟨k.val / 16, by omega⟩ : Fin 2) (1 : Fin 2) (⟨k.val % 16 - 8, by omega⟩ : Fin 8)) (by
      rw [Shape.rowMajor_val_four, Shape.rowMajor_val_six]
      show ((((b.val * 8192 + j.val) * 4 + a.val) * 2 + k.val / 16) * 2 + 1) * 8 + (k.val % 16 - 8)
        = ((b.val * 8192 + j.val) * 4 + a.val) * 32 + k.val
      omega)).trans ?_
    unfold val_main_v86
    refine (concatenate_pair_apply_right (t := S2x8192x4x2x2x8) (s₁ := S2x8192x4x2x1x8) (s₂ := S2x8192x4x2x1x8) 4 _ _ _ _ rfl rfl
      (ix6 b j a (⟨k.val / 16, by omega⟩ : Fin 2) (0 : Fin 1) (⟨k.val % 16 - 8, by omega⟩ : Fin 8)) (fun a => match a with
      | ⟨0, _⟩ => fun _ => rfl | ⟨1, _⟩ => fun _ => rfl | ⟨2, _⟩ => fun _ => rfl | ⟨3, _⟩ => fun _ => rfl | ⟨4, _⟩ => fun ne => absurd rfl ne
      | ⟨5, _⟩ => fun _ => rfl) rfl).trans ?_
    rw [val_main_v85_apply]
    have e : idx_main_v85 (ix6 b j a (⟨k.val / 16, by omega⟩ : Fin 2) (0 : Fin 1) (⟨k.val % 16 - 8, by omega⟩ : Fin 8))
        = ix5 b j a (⟨k.val / 16, by omega⟩ : Fin 2) (⟨k.val % 16 - 8, by omega⟩ : Fin 8) := (eq_ix5 _).trans rfl
    rw [e, v83_eq]
    refine congrArg (qf x0 x2 x4 x5 x6 b j a) (Fin.ext ?_)
    show 16 * (k.val / 16) + 8 * 0 + (k.val % 16 - 8) = k.val - 8
    omega

theorem v94_eq (a : Fin 4) (k : Fin 32) : val_main_v94 (F := Ideal) x0 x2 x4 x5 x6 x9 x10 (ix4 b j a k)
    = rope (qf x0 x2 x4 x5 x6 b j a) (fun k => x9 (ix2 j k)) (fun k => x10 (ix2 j k)) k := by
  rw [val_main_v94_apply, val_main_v93_apply, val_main_v92_apply, val_main_v91_apply, val_main_v77_apply, val_main_v90_apply,
    val_main_v89_apply, val_main_v88_apply, val_main_v76_apply]
  have e1 : idx_main_v77 (idx_main_v91 (idx_main_v92 (ix4 b j a k))) = ix2 j k := (eq_ix2 _).trans rfl
  have e2 : idx_main_v76 (idx_main_v88 (idx_main_v89 (ix4 b j a k))) = ix2 j k := (eq_ix2 _).trans rfl
  rw [e1, e2, v75_eq, v87_eq]
  rfl

theorem v95_eq (a : Fin 4) (l : Fin 96) : val_main_v95 (F := Ideal) x0 x2 x4 x5 x6 x9 x10 (ix4 b j a l) * cS
    = qLane (cqn x4 x5 (hl x0 x2 b j)) (wq x6) (fun k => x9 (ix2 j k)) (fun k => x10 (ix2 j k)) a ⟨l.val, by omega⟩ := by
  unfold val_main_v95 qLane
  by_cases h : l.val < 64
  · rw [dif_pos (show (⟨l.val, by omega⟩ : Fin 128).val < 64 from h)]
    refine congrArg (fun x : EReal => x * cS) ?_
    refine (concatenate_pair_apply_left (t := S2x8192x4x96) (s₁ := S2x8192x4x64) (s₂ := S2x8192x4x32) 3 _ _ _ _ rfl (ix4 b j a ⟨l.val, h⟩) (fun a => match a with
      | ⟨0, _⟩ => rfl | ⟨1, _⟩ => rfl | ⟨2, _⟩ => rfl | ⟨3, _⟩ => rfl)).trans ?_
    exact v74_eq _ _ _ _ _ _ _ _ _
  · rw [dif_neg (show ¬ (⟨l.val, by omega⟩ : Fin 128).val < 64 from h), dif_pos (show (⟨l.val, by omega⟩ : Fin 128).val < 96 from l.isLt)]
    refine congrArg (fun x : EReal => x * cS) ?_
    refine (concatenate_pair_apply_right (t := S2x8192x4x96) (s₁ := S2x8192x4x64) (s₂ := S2x8192x4x32) 3 _ _ _ _ rfl rfl (ix4 b j a ⟨l.val - 64, by omega⟩) (fun a => match a with
      | ⟨0, _⟩ => fun _ => rfl | ⟨1, _⟩ => fun _ => rfl | ⟨2, _⟩ => fun _ => rfl | ⟨3, _⟩ => fun ne => absurd rfl ne) (by show l.val - 64 + 64 = l.val; omega)).trans ?_
    exact v94_eq _ _ _ _ _ _ _ _ _ _ _

/-! ## The rotated lanes of the keys -/

abbrev kf : Fin 32 → EReal := kr (hl x0 x2 b j) (w x4)

theorem v119_eq (p q : Fin 2) (s : Fin 8) :
    val_main_v119 (F := Ideal) x0 x2 x4 (ix5 b j p q s) = kf x0 x2 x4 b j ⟨16 * p.val + 8 * q.val + s.val, by omega⟩ := by
  unfold val_main_v119
  refine (shapeCast_apply _ _ _ (ix3 b j ⟨16 * p.val + 8 * q.val + s.val, by omega⟩) (by
    rw [Shape.rowMajor_val_three, Shape.rowMajor_val_five]
    show (b.val * 8192 + j.val) * 32 + (16 * p.val + 8 * q.val + s.val)
      = (((b.val * 8192 + j.val) * 2 + p.val) * 2 + q.val) * 8 + s.val
    omega)).trans ?_
  exact v118_eq _ _ _ _ _ _

theorem v121_eq (p : Fin 2) (s : Fin 8) :
    val_main_v121 (F := Ideal) x0 x2 x4 (ix4 b j p s) = kf x0 x2 x4 b j ⟨16 * p.val + 8 * 1 + s.val, by omega⟩ := by
  unfold val_main_v121
  refine (shapeCast_apply _ _ _ (ix5 b j p (0 : Fin 1) s) (by
    rw [Shape.rowMajor_val_four, Shape.rowMajor_val_five]
    show (((b.val * 8192 + j.val) * 2 + p.val) * 1 + 0) * 8 + s.val = ((b.val * 8192 + j.val) * 2 + p.val) * 8 + s.val
    omega)).trans ?_
  rw [val_main_v120_apply]
  have e : idx_main_v120 (ix5 b j p (0 : Fin 1) s) = ix5 b j p (1 : Fin 2) s := (eq_ix5 _).trans rfl
  rw [e]
  exact v119_eq x0 x2 x4 b j p 1 s

theorem v124_eq (p : Fin 2) (s : Fin 8) :
    val_main_v124 (F := Ideal) x0 x2 x4 (ix4 b j p s) = kf x0 x2 x4 b j ⟨16 * p.val + 8 * 0 + s.val, by omega⟩ := by
  unfold val_main_v124
  refine (shapeCast_apply _ _ _ (ix5 b j p (0 : Fin 1) s) (by
    rw [Shape.rowMajor_val_four, Shape.rowMajor_val_five]
    show (((b.val * 8192 + j.val) * 2 + p.val) * 1 + 0) * 8 + s.val = ((b.val * 8192 + j.val) * 2 + p.val) * 8 + s.val
    omega)).trans ?_
  rw [val_main_v123_apply]
  have e : idx_main_v123 (ix5 b j p (0 : Fin 1) s) = ix5 b j p (0 : Fin 2) s := (eq_ix5 _).trans rfl
  rw [e]
  exact v119_eq x0 x2 x4 b j p 0 s

theorem v128_eq (k : Fin 32) : val_main_v128 (F := Ideal) x0 x2 x4 (ix3 b j k) = turn (kf x0 x2 x4 b j) k := by
  unfold val_main_v128 turn mate
  by_cases hk : k.val % 16 < 8
  · rw [if_pos hk, if_pos hk]
    refine (shapeCast_apply _ _ _ (ix5 b j (⟨k.val / 16, by omega⟩ : Fin 2) (0 : Fin 2) (⟨k.val % 16, hk⟩ : Fin 8)) (by
      rw [Shape.rowMajor_val_three, Shape.rowMajor_val_five]
      show (((b.val * 8192 + j.val) * 2 + k.val / 16) * 2 + 0) * 8 + k.val % 16 = (b.val * 8192 + j.val) * 32 + k.val
      omega)).trans ?_
    unfold val_main_v127
    refine (concatenate_pair_apply_left (t := S2x8192x2x2x8) (s₁ := S2x8192x2x1x8) (s₂ := S2x8192x2x1x8) 3 _ _ _ _ rfl
      (ix5 b j (⟨k.val / 16, by omega⟩ : Fin 2) (0 : Fin 1) (⟨k.val % 16, hk⟩ : Fin 8)) (fun a => match a with
      | ⟨0, _⟩ => rfl | ⟨1, _⟩ => rfl | ⟨2, _⟩ => rfl | ⟨3, _⟩ => rfl | ⟨4, _⟩ => rfl)).trans ?_
    rw [val_main_v125_apply, val_main_v122_apply]
    have e : idx_main_v125 (ix5 b j (⟨k.val / 16, by omega⟩ : Fin 2) (0 : Fin 1) (⟨k.val % 16, hk⟩ : Fin 8))
        = ix4 b j (⟨k.val / 16, by omega⟩ : Fin 2) (⟨k.val % 16, hk⟩ : Fin 8) := (eq_ix4 _).trans rfl
    rw [e, v121_eq]
    refine congrArg (fun x : EReal => -x) (congrArg (kf x0 x2 x4 b j) (Fin.ext ?_))
    show 16 * (k.val / 16) + 8 * 1 + k.val % 16 = (k.val + 8) % 32
    omega
  · rw [if_neg hk, if_neg hk]
    refine (shapeCast_apply _ _ _ (ix5 b j (⟨k.val / 16, by omega⟩ : Fin 2) (1 : Fin 2) (⟨k.val % 16 - 8, by omega⟩ : Fin 8)) (by
      rw [Shape.rowMajor_val_three, Shape.rowMajor_val_five]
      show (((b.val * 8192 + j.val) * 2 + k.val / 16) * 2 + 1) * 8 + (k.val % 16 - 8) = (b.val * 8192 + j.val) * 32 + k.val
      omega)).trans ?_
    unfold val_main_v127
    refine (concatenate_pair_apply_right (t := S2x8192x2x2x8) (s₁ := S2x8192x2x1x8) (s₂ := S2x8192x2x1x8) 3 _ _ _ _ rfl rfl
      (ix5 b j (⟨k.val / 16, by omega⟩ : Fin 2) (0 : Fin 1) (⟨k.val % 16 - 8, by omega⟩ : Fin 8)) (fun a => match a with
      | ⟨0, _⟩ => fun _ => rfl | ⟨1, _⟩ => fun _ => rfl | ⟨2, _⟩ => fun _ => rfl | ⟨3, _⟩ => fun ne => absurd rfl ne
      | ⟨4, _⟩ => fun _ => rfl) rfl).trans ?_
    rw [val_main_v126_apply]
    have e : idx_main_v126 (ix5 b j (⟨k.val / 16, by omega⟩ : Fin 2) (0 : Fin 1) (⟨k.val % 16 - 8, by omega⟩ : Fin 8))
        = ix4 b j (⟨k.val / 16, by omega⟩ : Fin 2) (⟨k.val % 16 - 8, by omega⟩ : Fin 8) := (eq_ix4 _).trans rfl
    rw [e, v124_eq]
    refine congrArg (kf x0 x2 x4 b j) (Fin.ext ?_)
    show 16 * (k.val / 16) + 8 * 0 + (k.val % 16 - 8) = k.val - 8
    omega

theorem v137_eq (a : Fin 4) (k : Fin 32) : val_main_v137 (F := Ideal) x0 x2 x4 x9 x10 (ix4 b j a k)
    = rope (kf x0 x2 x4 b j) (fun k => x9 (ix2 j k)) (fun k => x10 (ix2 j k)) k := by
  rw [val_main_v137_apply, val_main_v136_apply]
  have e : idx_main_v136 (idx_main_v137 (ix4 b j a k)) = ix3 b j k := (eq_ix3 _).trans rfl
  rw [e, val_main_v135_apply, val_main_v134_apply, val_main_v133_apply, val_main_v132_apply, val_main_v131_apply, val_main_v130_apply,
    val_main_v129_apply]
  have e1 : idx_main_v132 (idx_main_v133 (ix3 b j k)) = ix2 j k := (eq_ix2 _).trans rfl
  have e2 : idx_main_v129 (idx_main_v130 (ix3 b j k)) = ix2 j k := (eq_ix2 _).trans rfl
  rw [e1, e2, v118_eq, v128_eq]
  rfl

theorem v138_eq (a : Fin 4) (l : Fin 96) : val_main_v138 (F := Ideal) x0 x2 x4 x7 x8 x9 x10 (ix4 b j a l)
    = kLane (ckn x4 x7 (hl x0 x2 b j)) (wk x8) (kf x0 x2 x4 b j) (fun k => x9 (ix2 j k)) (fun k => x10 (ix2 j k)) a ⟨l.val, by omega⟩ := by
  unfold val_main_v138 kLane
  by_cases h : l.val < 64
  · rw [if_pos (show (⟨l.val, by omega⟩ : Fin 128).val < 64 from h)]
    refine (concatenate_pair_apply_left (t := S2x8192x4x96) (s₁ := S2x8192x4x64) (s₂ := S2x8192x4x32) 3 _ _ _ _ rfl (ix4 b j a ⟨l.val, h⟩) (fun a => match a with
      | ⟨0, _⟩ => rfl | ⟨1, _⟩ => rfl | ⟨2, _⟩ => rfl | ⟨3, _⟩ => rfl)).trans ?_
    exact v116_eq _ _ _ _ _ _ _ _ _
  · rw [if_neg (show ¬ (⟨l.val, by omega⟩ : Fin 128).val < 64 from h), dif_pos (show (⟨l.val, by omega⟩ : Fin 128).val < 96 from l.isLt)]
    refine (concatenate_pair_apply_right (t := S2x8192x4x96) (s₁ := S2x8192x4x64) (s₂ := S2x8192x4x32) 3 _ _ _ _ rfl rfl (ix4 b j a ⟨l.val - 64, by omega⟩) (fun a => match a with
      | ⟨0, _⟩ => fun _ => rfl | ⟨1, _⟩ => fun _ => rfl | ⟨2, _⟩ => fun _ => rfl | ⟨3, _⟩ => fun ne => absurd rfl ne) (by show l.val - 64 + 64 = l.val; omega)).trans ?_
    exact v137_eq _ _ _ _ _ _ _ _ _
end Latents

section Context
variable (b : Fin 2) (j : Fin 256)

theorem v32_eq : val_main_v32 (F := Ideal) x1 (ix3 b j 0) = rms (fun d => x1 (ix3 b j d)) := by
  rw [val_main_v32_apply, val_main_v31_apply, val_main_v30_apply, val_main_cst_5_apply, val_main_v29_apply, val_main_v28_apply, val_main_cst_4_apply, val_main_v27_apply, val_main_v26_apply, val_main_cst_3_apply]
  have key : ∀ z a : EReal, z = 0 → a = (∑ d, x1 (ix3 b j d) * x1 (ix3 b j d)) → Ideal.rsqrt (Ideal.div (z + a) cDim + cEps) = rms (fun d => x1 (ix3 b j d)) := by
    rintro z a rfl rfl; rw [zero_add]; rfl
  refine key _ _ Ideal.ofBits_zero_f32 (Finset.sum_congr rfl fun d _ => ?_)
  rw [val_main_v25_apply]
  have e : idx_main_v26 (idx_main_v27 (ix3 b j 0)) d = ix3 b j d := (eq_ix3 _).trans rfl
  rw [e]
  rfl

theorem v42_eq (d : Fin 1024) : val_main_v42 (F := Ideal) x1 x3 (ix3 b j d) = hc x1 x3 b j d := by
  rw [val_main_v42_apply, val_main_v41_apply, val_main_v40_apply, val_main_v39_apply, val_main_v38_apply, val_main_v37_apply, val_main_v36_apply, val_main_v35_apply, val_main_cst_6_apply, val_main_v34_apply, val_main_v33_apply]
  have e1 : idx_main_v33 (ix3 b j d) = ix3 b j 0 := (eq_ix3 _).trans rfl
  have e2 : idx_main_v37 (idx_main_v38 (ix3 b j d)) = ix1 d := (eq_ix1 _).trans rfl
  have e3 : idx_main_v40 (idx_main_v41 (ix3 b j d)) = ix1 d := (eq_ix1 _).trans rfl
  rw [e1, e2, e3, v32_eq, v3_eq, v5_eq]
  rfl

theorem v45_eq (n : Fin 2464) : val_main_v45 (F := Ideal) x1 x3 x4 (ix3 b j n) = col (hc x1 x3 b j) (w x4) n := by
  rw [val_main_v45_apply]
  refine Finset.sum_congr rfl fun d _ => ?_
  have e1 : lidx_main_v45 (ix3 b j n) d = ix3 b j d := (eq_ix3 _).trans rfl
  have e2 : ridx_main_v45 (ix3 b j n) d = ix2 d n := (eq_ix2 _).trans rfl
  rw [e1, e2, v42_eq, v44_eq]

theorem v50_eq (n : Fin 512) : val_main_v50 (F := Ideal) x1 x3 x4 (ix3 b j n) = col (hc x1 x3 b j) (w x4) ⟨n.val, by omega⟩ := by
  rw [val_main_v50_apply]
  have e : idx_main_v50 (ix3 b j n) = ix3 b j ⟨n.val, by omega⟩ := (eq_ix3 _).trans rfl
  rw [e, v45_eq]

theorem v51_eq (n : Fin 512) : val_main_v51 (F := Ideal) x1 x3 x4 (ix3 b j n) = col (hc x1 x3 b j) (w x4) ⟨512 + n.val, by omega⟩ := by
  rw [val_main_v51_apply]
  have e : idx_main_v51 (ix3 b j n) = ix3 b j ⟨512 + n.val, by omega⟩ := (eq_ix3 _).trans rfl
  rw [e, v45_eq]

theorem v52_eq (n : Fin 1024) : val_main_v52 (F := Ideal) x1 x3 x4 (ix3 b j n) = col (hc x1 x3 b j) (w x4) ⟨1024 + n.val, by omega⟩ := by
  rw [val_main_v52_apply]
  have e : idx_main_v52 (ix3 b j n) = ix3 b j ⟨1024 + n.val, by omega⟩ := (eq_ix3 _).trans rfl
  rw [e, v45_eq]

theorem v167_eq (k : Fin 256) : val_main_v167 (F := Ideal) x1 x3 x4 (ix3 b j k) = cq (hc x1 x3 b j) (w x4) k := by
  rw [val_main_v167_apply, val_main_v53_apply]
  have e : idx_main_v53 (idx_main_v167 (ix3 b j k)) = ix3 b j ⟨2048 + k.val, by omega⟩ := (eq_ix3 _).trans ?_
  · rw [e, v45_eq]
    rfl
  · refine funext fun a => ?_
    match a with
    | ⟨0, _⟩ => rfl
    | ⟨1, _⟩ => rfl
    | ⟨2, _⟩ => exact Fin.ext (by show 2048 + k.val = 2048 + k.val; omega)

theorem v139_eq (k : Fin 128) : val_main_v139 (F := Ideal) x1 x3 x4 (ix3 b j k) = ckv (hc x1 x3 b j) (w x4) k := by
  rw [val_main_v139_apply, val_main_v53_apply]
  have e : idx_main_v53 (idx_main_v139 (ix3 b j k)) = ix3 b j ⟨2304 + k.val, by omega⟩ := (eq_ix3 _).trans ?_
  · rw [e, v45_eq]
    rfl
  · refine funext fun a => ?_
    match a with
    | ⟨0, _⟩ => rfl
    | ⟨1, _⟩ => rfl
    | ⟨2, _⟩ => exact Fin.ext (by show 2048 + (256 + k.val) = 2304 + k.val; omega)

theorem v161_eq (k : Fin 32) : val_main_v161 (F := Ideal) x1 x3 x4 (ix3 b j k) = kr (hc x1 x3 b j) (w x4) k := by
  rw [val_main_v161_apply, val_main_v53_apply]
  have e : idx_main_v53 (idx_main_v161 (ix3 b j k)) = ix3 b j ⟨2432 + k.val, by omega⟩ := (eq_ix3 _).trans ?_
  · rw [e, v45_eq]
    rfl
  · refine funext fun a => ?_
    match a with
    | ⟨0, _⟩ => rfl
    | ⟨1, _⟩ => rfl
    | ⟨2, _⟩ => exact Fin.ext (by show 2048 + (384 + k.val) = 2432 + k.val; omega)

theorem v175_eq : val_main_v175 (F := Ideal) x1 x3 x4 (ix3 b j 0) = rmsN cQ (cq (hc x1 x3 b j) (w x4)) := by
  rw [val_main_v175_apply, val_main_v174_apply, val_main_v173_apply, val_main_cst_18_apply, val_main_v172_apply, val_main_v171_apply, val_main_cst_17_apply, val_main_v170_apply, val_main_v169_apply, val_main_cst_16_apply]
  have key : ∀ z a : EReal, z = 0 → a = (∑ d, cq (hc x1 x3 b j) (w x4) d * cq (hc x1 x3 b j) (w x4) d) → Ideal.rsqrt (Ideal.div (z + a) cQ + cEps) = rmsN cQ (cq (hc x1 x3 b j) (w x4)) := by
    rintro z a rfl rfl; rw [zero_add]; rfl
  refine key _ _ Ideal.ofBits_zero_f32 (Finset.sum_congr rfl fun d _ => ?_)
  rw [val_main_v168_apply]
  have e : idx_main_v169 (idx_main_v170 (ix3 b j 0)) d = ix3 b j d := (eq_ix3 _).trans rfl
  rw [e, v167_eq]
  rfl

theorem v182_eq (k : Fin 256) : val_main_v182 (F := Ideal) x1 x3 x4 x5 (ix3 b j k) = cqn x4 x5 (hc x1 x3 b j) k := by
  rw [val_main_v182_apply, val_main_v181_apply, val_main_v180_apply, val_main_v177_apply, val_main_v176_apply]
  have e1 : idx_main_v176 (ix3 b j k) = ix3 b j 0 := (eq_ix3 _).trans rfl
  have e2 : idx_main_v180 (idx_main_v181 (ix3 b j k)) = ix1 k := (eq_ix1 _).trans rfl
  rw [e1, e2, v175_eq, v167_eq, v179_eq]
  rfl

theorem v185_eq (n : Fin 384) : val_main_v185 (F := Ideal) x1 x3 x4 x5 x6 (ix3 b j n) = ∑ i, cqn x4 x5 (hc x1 x3 b j) i * wq x6 i n := by
  rw [val_main_v185_apply]
  refine Finset.sum_congr rfl fun d _ => ?_
  have e1 : lidx_main_v185 (ix3 b j n) d = ix3 b j d := (eq_ix3 _).trans rfl
  have e2 : ridx_main_v185 (ix3 b j n) d = ix2 d n := (eq_ix2 _).trans rfl
  rw [e1, e2, v182_eq, v184_eq]

theorem v186_eq (a : Fin 4) (l : Fin 96) : val_main_v186 (F := Ideal) x1 x3 x4 x5 x6 (ix4 b j a l) = qry (cqn x4 x5 (hc x1 x3 b j)) (wq x6) a l := by
  unfold val_main_v186
  refine (shapeCast_apply _ _ _ (ix3 b j ⟨96 * a.val + l.val, by omega⟩) (by
    rw [Shape.rowMajor_val_three, Shape.rowMajor_val_four]
    show (b.val * 256 + j.val) * 384 + (96 * a.val + l.val) = ((b.val * 256 + j.val) * 4 + a.val) * 96 + l.val
    omega)).trans ?_
  exact v185_eq _ _ _ _ _ _ _ _

theorem v147_eq : val_main_v147 (F := Ideal) x1 x3 x4 (ix3 b j 0) = rmsN cK (ckv (hc x1 x3 b j) (w x4)) := by
  rw [val_main_v147_apply, val_main_v146_apply, val_main_v145_apply, val_main_cst_15_apply, val_main_v144_apply, val_main_v143_apply, val_main_cst_14_apply, val_main_v142_apply, val_main_v141_apply, val_main_cst_13_apply]
  have key : ∀ z a : EReal, z = 0 → a = (∑ d, ckv (hc x1 x3 b j) (w x4) d * ckv (hc x1 x3 b j) (w x4) d) → Ideal.rsqrt (Ideal.div (z + a) cK + cEps) = rmsN cK (ckv (hc x1 x3 b j) (w x4)) := by
    rintro z a rfl rfl; rw [zero_add]; rfl
  refine key _ _ Ideal.ofBits_zero_f32 (Finset.sum_congr rfl fun d _ => ?_)
  rw [val_main_v140_apply]
  have e : idx_main_v141 (idx_main_v142 (ix3 b j 0)) d = ix3 b j d := (eq_ix3 _).trans rfl
  rw [e, v139_eq]
  rfl

theorem v154_eq (k : Fin 128) : val_main_v154 (F := Ideal) x1 x3 x4 x7 (ix3 b j k) = ckn x4 x7 (hc x1 x3 b j) k := by
  rw [val_main_v154_apply, val_main_v153_apply, val_main_v152_apply, val_main_v149_apply, val_main_v148_apply]
  have e1 : idx_main_v148 (ix3 b j k) = ix3 b j 0 := (eq_ix3 _).trans rfl
  have e2 : idx_main_v152 (idx_main_v153 (ix3 b j k)) = ix1 k := (eq_ix1 _).trans rfl
  rw [e1, e2, v147_eq, v139_eq, v151_eq]
  rfl

theorem v157_eq (n : Fin 512) : val_main_v157 (F := Ideal) x1 x3 x4 x7 x8 (ix3 b j n) = ∑ i, ckn x4 x7 (hc x1 x3 b j) i * wk x8 i n := by
  rw [val_main_v157_apply]
  refine Finset.sum_congr rfl fun d _ => ?_
  have e1 : lidx_main_v157 (ix3 b j n) d = ix3 b j d := (eq_ix3 _).trans rfl
  have e2 : ridx_main_v157 (ix3 b j n) d = ix2 d n := (eq_ix2 _).trans rfl
  rw [e1, e2, v154_eq, v156_eq]

theorem v158_eq (a : Fin 4) (l : Fin 128) : val_main_v158 (F := Ideal) x1 x3 x4 x7 x8 (ix4 b j a l) = kvl (ckn x4 x7 (hc x1 x3 b j)) (wk x8) a l := by
  unfold val_main_v158
  refine (shapeCast_apply _ _ _ (ix3 b j ⟨128 * a.val + l.val, by omega⟩) (by
    rw [Shape.rowMajor_val_three, Shape.rowMajor_val_four]
    show (b.val * 256 + j.val) * 512 + (128 * a.val + l.val) = ((b.val * 256 + j.val) * 4 + a.val) * 128 + l.val
    omega)).trans ?_
  exact v157_eq _ _ _ _ _ _ _ _

theorem v159_eq (a : Fin 4) (l : Fin 64) : val_main_v159 (F := Ideal) x1 x3 x4 x7 x8 (ix4 b j a l) = kvl (ckn x4 x7 (hc x1 x3 b j)) (wk x8) a ⟨l.val, by omega⟩ := by
  rw [val_main_v159_apply]
  have e : idx_main_v159 (ix4 b j a l) = ix4 b j a ⟨l.val, by omega⟩ := (eq_ix4 _).trans rfl
  rw [e, v158_eq]

theorem v160_eq (a : Fin 4) (l : Fin 64) : val_main_v160 (F := Ideal) x1 x3 x4 x7 x8 (ix4 b j a l) = kvl (ckn x4 x7 (hc x1 x3 b j)) (wk x8) a ⟨64 + l.val, by omega⟩ := by
  rw [val_main_v160_apply]
  have e : idx_main_v160 (ix4 b j a l) = ix4 b j a ⟨64 + l.val, by omega⟩ := (eq_ix4 _).trans rfl
  rw [e, v158_eq]

theorem v186_lane (a : Fin 4) (l : Fin 96) : val_main_v186 (F := Ideal) x1 x3 x4 x5 x6 (ix4 b j a l) * cS
    = qLane (cqn x4 x5 (hc x1 x3 b j)) (wq x6) (fun _ => cOne) (fun _ => 0) a ⟨l.val, by omega⟩ := by
  rw [v186_eq]
  unfold qLane
  by_cases h : l.val < 64
  · rw [dif_pos (show (⟨l.val, by omega⟩ : Fin 128).val < 64 from h)]
  · rw [dif_neg (show ¬ (⟨l.val, by omega⟩ : Fin 128).val < 64 from h), dif_pos (show (⟨l.val, by omega⟩ : Fin 128).val < 96 from l.isLt)]
    refine congrArg (fun x : EReal => x * cS) ?_
    unfold rope
    rw [cOne_eq, mul_one, mul_zero, add_zero]
    exact congrArg (qry (cqn x4 x5 (hc x1 x3 b j)) (wq x6) a) (Fin.ext (by show l.val = 64 + (l.val - 64); omega))

theorem v163_eq (a : Fin 4) (k : Fin 32) : val_main_v163 (F := Ideal) x1 x3 x4 (ix4 b j a k) = kr (hc x1 x3 b j) (w x4) k := by
  rw [val_main_v163_apply, val_main_v162_apply]
  have e : idx_main_v162 (idx_main_v163 (ix4 b j a k)) = ix3 b j k := (eq_ix3 _).trans rfl
  rw [e, v161_eq]

theorem v164_eq (a : Fin 4) (l : Fin 96) : val_main_v164 (F := Ideal) x1 x3 x4 x7 x8 (ix4 b j a l)
    = kLane (ckn x4 x7 (hc x1 x3 b j)) (wk x8) (kr (hc x1 x3 b j) (w x4)) (fun _ => cOne) (fun _ => 0) a ⟨l.val, by omega⟩ := by
  unfold val_main_v164 kLane
  by_cases h : l.val < 64
  · rw [if_pos (show (⟨l.val, by omega⟩ : Fin 128).val < 64 from h)]
    refine (concatenate_pair_apply_left (t := S2x256x4x96) (s₁ := S2x256x4x64) (s₂ := S2x256x4x32) 3 _ _ _ _ rfl (ix4 b j a ⟨l.val, h⟩) (fun a => match a with
      | ⟨0, _⟩ => rfl | ⟨1, _⟩ => rfl | ⟨2, _⟩ => rfl | ⟨3, _⟩ => rfl)).trans ?_
    exact v159_eq _ _ _ _ _ _ _ _ _
  · rw [if_neg (show ¬ (⟨l.val, by omega⟩ : Fin 128).val < 64 from h), dif_pos (show (⟨l.val, by omega⟩ : Fin 128).val < 96 from l.isLt)]
    refine (concatenate_pair_apply_right (t := S2x256x4x96) (s₁ := S2x256x4x64) (s₂ := S2x256x4x32) 3 _ _ _ _ rfl rfl (ix4 b j a ⟨l.val - 64, by omega⟩) (fun a => match a with
      | ⟨0, _⟩ => fun _ => rfl | ⟨1, _⟩ => fun _ => rfl | ⟨2, _⟩ => fun _ => rfl | ⟨3, _⟩ => fun ne => absurd rfl ne) (by show l.val - 64 + 64 = l.val; omega)).trans ?_
    unfold rope
    rw [cOne_eq, mul_one, mul_zero, add_zero]
    exact v163_eq _ _ _ _ _ _ _
end Context

/-! ## The six results -/

theorem v194_ctx (b : Fin 2) (j : Fin 256) (n : Fin 512) (R : Fin 16896) (hR : R.val = b.val * 256 + j.val) :
    val_main_v194 (F := Ideal) x0 x1 x2 x3 x4 (ix2 R n) = col (hc x1 x3 b j) (w x4) ⟨n.val, by omega⟩ := by
  unfold val_main_v194
  refine (concatenate_pair_apply_left (t := S16896x512) (s₁ := S512x512) (s₂ := S16384x512) 0 _ _ _ _ rfl (ix2 ⟨R.val, by omega⟩ n) (fun a => match a with
    | ⟨0, _⟩ => rfl | ⟨1, _⟩ => rfl)).trans ?_
  unfold val_main_v192
  exact (flat_apply _ _ b j n (⟨R.val, by omega⟩ : Fin 512) hR).trans (v50_eq _ _ _ _ _ _)

theorem v194_lat (b : Fin 2) (j : Fin 8192) (n : Fin 512) (R : Fin 16896) (hR : R.val = 512 + (b.val * 8192 + j.val)) :
    val_main_v194 (F := Ideal) x0 x1 x2 x3 x4 (ix2 R n) = col (hl x0 x2 b j) (w x4) ⟨n.val, by omega⟩ := by
  unfold val_main_v194
  refine (concatenate_pair_apply_right (t := S16896x512) (s₁ := S512x512) (s₂ := S16384x512) 0 _ _ _ _ rfl rfl (ix2 ⟨b.val * 8192 + j.val, by omega⟩ n) (fun a => match a with
    | ⟨0, _⟩ => fun ne => absurd rfl ne | ⟨1, _⟩ => fun _ => rfl) (by show b.val * 8192 + j.val + 512 = R.val; omega)).trans ?_
  unfold val_main_v193
  exact (flat_apply _ _ b j n _ rfl).trans (v46_eq _ _ _ _ _ _)

theorem v196_ctx (b : Fin 2) (j : Fin 256) (n : Fin 512) (R : Fin 16896) (hR : R.val = b.val * 8448 + j.val) :
    val_main_v196 (F := Ideal) x0 x1 x2 x3 x4 (ix2 R n) = col (hc x1 x3 b j) (w x4) ⟨512 + n.val, by omega⟩ := by
  unfold val_main_v196
  refine (flat_apply _ _ b (⟨j.val, by omega⟩ : Fin 8448) n _ hR).trans ?_
  unfold val_main_v195
  refine (concatenate_pair_apply_left (t := S2x8448x512) (s₁ := S2x256x512) (s₂ := S2x8192x512) 1 _ _ _ _ rfl (ix3 b j n) (fun a => match a with
    | ⟨0, _⟩ => rfl | ⟨1, _⟩ => rfl | ⟨2, _⟩ => rfl)).trans ?_
  exact v51_eq _ _ _ _ _ _

theorem v196_lat (b : Fin 2) (j : Fin 8192) (n : Fin 512) (R : Fin 16896) (hR : R.val = b.val * 8448 + (256 + j.val)) :
    val_main_v196 (F := Ideal) x0 x1 x2 x3 x4 (ix2 R n) = col (hl x0 x2 b j) (w x4) ⟨512 + n.val, by omega⟩ := by
  unfold val_main_v196
  refine (flat_apply _ _ b (⟨256 + j.val, by omega⟩ : Fin 8448) n _ hR).trans ?_
  unfold val_main_v195
  refine (concatenate_pair_apply_right (t := S2x8448x512) (s₁ := S2x256x512) (s₂ := S2x8192x512) 1 _ _ _ _ rfl rfl (ix3 b j n) (fun a => match a with
    | ⟨0, _⟩ => fun _ => rfl | ⟨1, _⟩ => fun ne => absurd rfl ne | ⟨2, _⟩ => fun _ => rfl) (by show j.val + 256 = 256 + j.val; omega)).trans ?_
  exact v47_eq _ _ _ _ _ _

theorem v198_ctx (b : Fin 2) (j : Fin 256) (n : Fin 1024) (R : Fin 16896) (hR : R.val = b.val * 8448 + j.val) :
    val_main_v198 (F := Ideal) x0 x1 x2 x3 x4 (ix2 R n) = col (hc x1 x3 b j) (w x4) ⟨1024 + n.val, by omega⟩ := by
  unfold val_main_v198
  refine (flat_apply _ _ b (⟨j.val, by omega⟩ : Fin 8448) n _ hR).trans ?_
  unfold val_main_v197
  refine (concatenate_pair_apply_left (t := S2x8448x1024) (s₁ := S2x256x1024) (s₂ := S2x8192x1024) 1 _ _ _ _ rfl (ix3 b j n) (fun a => match a with
    | ⟨0, _⟩ => rfl | ⟨1, _⟩ => rfl | ⟨2, _⟩ => rfl)).trans ?_
  exact v52_eq _ _ _ _ _ _

theorem v198_lat (b : Fin 2) (j : Fin 8192) (n : Fin 1024) (R : Fin 16896) (hR : R.val = b.val * 8448 + (256 + j.val)) :
    val_main_v198 (F := Ideal) x0 x1 x2 x3 x4 (ix2 R n) = col (hl x0 x2 b j) (w x4) ⟨1024 + n.val, by omega⟩ := by
  unfold val_main_v198
  refine (flat_apply _ _ b (⟨256 + j.val, by omega⟩ : Fin 8448) n _ hR).trans ?_
  unfold val_main_v197
  refine (concatenate_pair_apply_right (t := S2x8448x1024) (s₁ := S2x256x1024) (s₂ := S2x8192x1024) 1 _ _ _ _ rfl rfl (ix3 b j n) (fun a => match a with
    | ⟨0, _⟩ => fun _ => rfl | ⟨1, _⟩ => fun ne => absurd rfl ne | ⟨2, _⟩ => fun _ => rfl) (by show j.val + 256 = 256 + j.val; omega)).trans ?_
  exact v48_eq _ _ _ _ _ _

theorem v201_at (R : Fin 16896) (a : Fin 4) (l : Fin 128) (L : Fin 512) (hL : L.val = 128 * a.val + l.val) :
    val_main_v202 (F := Ideal) x0 x1 x2 x3 x4 x5 x6 x9 x10 (ix2 R L) = val_main_v200 (F := Ideal) x0 x1 x2 x3 x4 x5 x6 x9 x10 (ix3 R a l) := by
  rw [val_main_v202_apply]
  show val_main_v201 (F := Ideal) x0 x1 x2 x3 x4 x5 x6 x9 x10 (ix2 R L) = _
  unfold val_main_v201
  exact shapeCast_apply _ _ _ (ix3 R a l) (by
    rw [Shape.rowMajor_val_three, Shape.rowMajor_val_two]
    show (R.val * 4 + a.val) * 128 + l.val = R.val * 512 + L.val
    omega)

theorem v202_pad (R : Fin 16896) (a : Fin 4) (l : Fin 128) (L : Fin 512) (hL : L.val = 128 * a.val + l.val) (h : ¬ l.val < 96) :
    val_main_v202 (F := Ideal) x0 x1 x2 x3 x4 x5 x6 x9 x10 (ix2 R L) = 0 := by
  rw [v201_at x0 x1 x2 x3 x4 x5 x6 x9 x10 R a l L hL]
  unfold val_main_v200
  refine (concatenate_pair_apply_right (t := S16896x4x128) (s₁ := S16896x4x96) (s₂ := S16896x4x32) 2 _ _ _ _ rfl rfl (ix3 R a ⟨l.val - 96, by omega⟩) (fun a => match a with
    | ⟨0, _⟩ => fun _ => rfl | ⟨1, _⟩ => fun _ => rfl | ⟨2, _⟩ => fun ne => absurd rfl ne) (by show l.val - 96 + 96 = l.val; omega)).trans ?_
  rw [val_main_v199_apply, val_main_cst_20_apply]
  exact Ideal.ofBits_zero_f32

theorem v202_lane (R : Fin 16896) (a : Fin 4) (l : Fin 128) (L : Fin 512) (hL : L.val = 128 * a.val + l.val) (h : l.val < 96) :
    val_main_v202 (F := Ideal) x0 x1 x2 x3 x4 x5 x6 x9 x10 (ix2 R L) = val_main_v189 (F := Ideal) x0 x1 x2 x3 x4 x5 x6 x9 x10 (ix3 R a ⟨l.val, h⟩) * cS := by
  rw [v201_at x0 x1 x2 x3 x4 x5 x6 x9 x10 R a l L hL]
  unfold val_main_v200
  refine (concatenate_pair_apply_left (t := S16896x4x128) (s₁ := S16896x4x96) (s₂ := S16896x4x32) 2 _ _ _ _ rfl (ix3 R a ⟨l.val, h⟩) (fun a => match a with
    | ⟨0, _⟩ => rfl | ⟨1, _⟩ => rfl | ⟨2, _⟩ => rfl)).trans ?_
  rw [val_main_v191_apply, val_main_v190_apply, val_main_cst_19_apply]
  rfl

theorem qLane_pad (c : Fin 256 → EReal) (wq : Fin 256 → Fin 384 → EReal) (cs sn : Fin 32 → EReal) (a : Fin 4) (l : Fin 128) (h : ¬ l.val < 96) :
    qLane c wq cs sn a l = 0 := by
  unfold qLane
  rw [dif_neg (by omega), dif_neg h]

theorem v202_ctx (b : Fin 2) (j : Fin 256) (a : Fin 4) (l : Fin 128) (L : Fin 512) (hL : L.val = 128 * a.val + l.val) (R : Fin 16896)
    (hR : R.val = b.val * 256 + j.val) : val_main_v202 (F := Ideal) x0 x1 x2 x3 x4 x5 x6 x9 x10 (ix2 R L)
      = qLane (cqn x4 x5 (hc x1 x3 b j)) (wq x6) (fun _ => cOne) (fun _ => 0) a l := by
  by_cases h : l.val < 96
  · rw [v202_lane x0 x1 x2 x3 x4 x5 x6 x9 x10 R a l L hL h]
    refine Eq.trans (congrArg (fun x : EReal => x * cS) ?_) (v186_lane x1 x3 x4 x5 x6 b j a ⟨l.val, h⟩)
    unfold val_main_v189
    refine (concatenate_pair_apply_left (t := S16896x4x96) (s₁ := S512x4x96) (s₂ := S16384x4x96) 0 _ _ _ _ rfl (ix3 ⟨R.val, by omega⟩ a ⟨l.val, h⟩) (fun a => match a with
      | ⟨0, _⟩ => rfl | ⟨1, _⟩ => rfl | ⟨2, _⟩ => rfl)).trans ?_
    unfold val_main_v187
    exact shapeCast_apply _ _ _ (ix4 b j a ⟨l.val, h⟩) (by
      rw [Shape.rowMajor_val_three, Shape.rowMajor_val_four]
      show ((b.val * 256 + j.val) * 4 + a.val) * 96 + l.val = (R.val * 4 + a.val) * 96 + l.val
      rw [hR])
  · rw [v202_pad x0 x1 x2 x3 x4 x5 x6 x9 x10 R a l L hL h, qLane_pad _ _ _ _ _ _ h]

theorem v202_lat (b : Fin 2) (j : Fin 8192) (a : Fin 4) (l : Fin 128) (L : Fin 512) (hL : L.val = 128 * a.val + l.val) (R : Fin 16896)
    (hR : R.val = 512 + (b.val * 8192 + j.val)) : val_main_v202 (F := Ideal) x0 x1 x2 x3 x4 x5 x6 x9 x10 (ix2 R L)
      = qLane (cqn x4 x5 (hl x0 x2 b j)) (wq x6) (fun k => x9 (ix2 j k)) (fun k => x10 (ix2 j k)) a l := by
  by_cases h : l.val < 96
  · rw [v202_lane x0 x1 x2 x3 x4 x5 x6 x9 x10 R a l L hL h]
    refine Eq.trans (congrArg (fun x : EReal => x * cS) ?_) (v95_eq x0 x2 x4 x5 x6 x9 x10 b j a ⟨l.val, h⟩)
    unfold val_main_v189
    refine (concatenate_pair_apply_right (t := S16896x4x96) (s₁ := S512x4x96) (s₂ := S16384x4x96) 0 _ _ _ _ rfl rfl (ix3 ⟨b.val * 8192 + j.val, by omega⟩ a ⟨l.val, h⟩) (fun a => match a with
      | ⟨0, _⟩ => fun ne => absurd rfl ne | ⟨1, _⟩ => fun _ => rfl | ⟨2, _⟩ => fun _ => rfl) (by show b.val * 8192 + j.val + 512 = R.val; omega)).trans ?_
    unfold val_main_v188
    exact shapeCast_apply _ _ _ (ix4 b j a ⟨l.val, h⟩) (by
      rw [Shape.rowMajor_val_three, Shape.rowMajor_val_four]
      rfl)
  · rw [v202_pad x0 x1 x2 x3 x4 x5 x6 x9 x10 R a l L hL h, qLane_pad _ _ _ _ _ _ h]

theorem v206_at (b : Fin 2) (J : Fin 8448) (R : Fin 16896) (hR : R.val = b.val * 8448 + J.val) (a : Fin 4) (l : Fin 128) (L : Fin 512) (hL : L.val = 128 * a.val + l.val) :
    val_main_v206 (F := Ideal) x0 x1 x2 x3 x4 x7 x8 x9 x10 (ix2 R L) = val_main_v204 (F := Ideal) x0 x1 x2 x3 x4 x7 x8 x9 x10 (ix4 b J a l) := by
  rw [val_main_v206_apply]
  show val_main_v205 (F := Ideal) x0 x1 x2 x3 x4 x7 x8 x9 x10 (ix2 R L) = _
  unfold val_main_v205
  exact shapeCast_apply _ _ _ (ix4 b J a l) (by
    rw [Shape.rowMajor_val_four, Shape.rowMajor_val_two]
    show ((b.val * 8448 + J.val) * 4 + a.val) * 128 + l.val = R.val * 512 + L.val
    omega)

theorem v206_pad (b : Fin 2) (J : Fin 8448) (R : Fin 16896) (hR : R.val = b.val * 8448 + J.val) (a : Fin 4) (l : Fin 128) (L : Fin 512) (hL : L.val = 128 * a.val + l.val)
    (h : ¬ l.val < 96) : val_main_v206 (F := Ideal) x0 x1 x2 x3 x4 x7 x8 x9 x10 (ix2 R L) = 0 := by
  rw [v206_at x0 x1 x2 x3 x4 x7 x8 x9 x10 b J R hR a l L hL]
  unfold val_main_v204
  refine (concatenate_pair_apply_right (t := S2x8448x4x128) (s₁ := S2x8448x4x96) (s₂ := S2x8448x4x32) 3 _ _ _ _ rfl rfl (ix4 b J a ⟨l.val - 96, by omega⟩) (fun a => match a with
    | ⟨0, _⟩ => fun _ => rfl | ⟨1, _⟩ => fun _ => rfl | ⟨2, _⟩ => fun _ => rfl | ⟨3, _⟩ => fun ne => absurd rfl ne) (by show l.val - 96 + 96 = l.val; omega)).trans ?_
  rw [val_main_v203_apply, val_main_cst_21_apply]
  exact Ideal.ofBits_zero_f32

theorem v206_lane (b : Fin 2) (J : Fin 8448) (R : Fin 16896) (hR : R.val = b.val * 8448 + J.val) (a : Fin 4) (l : Fin 128) (L : Fin 512) (hL : L.val = 128 * a.val + l.val)
    (h : l.val < 96) : val_main_v206 (F := Ideal) x0 x1 x2 x3 x4 x7 x8 x9 x10 (ix2 R L)
      = val_main_v165 (F := Ideal) x0 x1 x2 x3 x4 x7 x8 x9 x10 (ix4 b J a ⟨l.val, h⟩) := by
  rw [v206_at x0 x1 x2 x3 x4 x7 x8 x9 x10 b J R hR a l L hL]
  unfold val_main_v204
  exact concatenate_pair_apply_left (t := S2x8448x4x128) (s₁ := S2x8448x4x96) (s₂ := S2x8448x4x32) 3 _ _ _ _ rfl (ix4 b J a ⟨l.val, h⟩) (fun a => match a with
    | ⟨0, _⟩ => rfl | ⟨1, _⟩ => rfl | ⟨2, _⟩ => rfl | ⟨3, _⟩ => rfl)

theorem kLane_pad (c : Fin 128 → EReal) (wk : Fin 128 → Fin 512 → EReal) (r cs sn : Fin 32 → EReal) (a : Fin 4) (l : Fin 128) (h : ¬ l.val < 96) :
    kLane c wk r cs sn a l = 0 := by
  unfold kLane
  rw [if_neg (by omega), dif_neg h]

theorem v206_ctx (b : Fin 2) (j : Fin 256) (a : Fin 4) (l : Fin 128) (L : Fin 512) (hL : L.val = 128 * a.val + l.val) (R : Fin 16896)
    (hR : R.val = b.val * 8448 + (8192 + j.val)) : val_main_v206 (F := Ideal) x0 x1 x2 x3 x4 x7 x8 x9 x10 (ix2 R L)
      = kLane (ckn x4 x7 (hc x1 x3 b j)) (wk x8) (kr (hc x1 x3 b j) (w x4)) (fun _ => cOne) (fun _ => 0) a l := by
  by_cases h : l.val < 96
  · rw [v206_lane x0 x1 x2 x3 x4 x7 x8 x9 x10 b ⟨8192 + j.val, by omega⟩ R hR a l L hL h]
    unfold val_main_v165
    refine (concatenate_pair_apply_right (t := S2x8448x4x96) (s₁ := S2x8192x4x96) (s₂ := S2x256x4x96) 1 _ _ _ _ rfl rfl (ix4 b j a ⟨l.val, h⟩) (fun a => match a with
      | ⟨0, _⟩ => fun _ => rfl | ⟨1, _⟩ => fun ne => absurd rfl ne | ⟨2, _⟩ => fun _ => rfl | ⟨3, _⟩ => fun _ => rfl) (by show j.val + 8192 = 8192 + j.val; omega)).trans ?_
    exact v164_eq x1 x3 x4 x7 x8 b j a ⟨l.val, h⟩
  · rw [v206_pad x0 x1 x2 x3 x4 x7 x8 x9 x10 b ⟨8192 + j.val, by omega⟩ R hR a l L hL h, kLane_pad _ _ _ _ _ _ _ h]

theorem v206_lat (b : Fin 2) (j : Fin 8192) (a : Fin 4) (l : Fin 128) (L : Fin 512) (hL : L.val = 128 * a.val + l.val) (R : Fin 16896)
    (hR : R.val = b.val * 8448 + j.val) : val_main_v206 (F := Ideal) x0 x1 x2 x3 x4 x7 x8 x9 x10 (ix2 R L)
      = kLane (ckn x4 x7 (hl x0 x2 b j)) (wk x8) (kr (hl x0 x2 b j) (w x4)) (fun k => x9 (ix2 j k)) (fun k => x10 (ix2 j k)) a l := by
  by_cases h : l.val < 96
  · rw [v206_lane x0 x1 x2 x3 x4 x7 x8 x9 x10 b ⟨j.val, by omega⟩ R hR a l L hL h]
    unfold val_main_v165
    refine (concatenate_pair_apply_left (t := S2x8448x4x96) (s₁ := S2x8192x4x96) (s₂ := S2x256x4x96) 1 _ _ _ _ rfl (ix4 b j a ⟨l.val, h⟩) (fun a => match a with
      | ⟨0, _⟩ => rfl | ⟨1, _⟩ => rfl | ⟨2, _⟩ => rfl | ⟨3, _⟩ => rfl)).trans ?_
    exact v138_eq x0 x2 x4 x7 x8 x9 x10 b j a ⟨l.val, h⟩
  · rw [v206_pad x0 x1 x2 x3 x4 x7 x8 x9 x10 b ⟨j.val, by omega⟩ R hR a l L hL h, kLane_pad _ _ _ _ _ _ _ h]

theorem v210_at (b : Fin 2) (J : Fin 8448) (R : Fin 16896) (hR : R.val = b.val * 8448 + J.val) (a : Fin 4) (l : Fin 64) (L : Fin 512) (hL : L.val = 128 * a.val + l.val) :
    val_main_v210 (F := Ideal) x0 x1 x2 x3 x4 x7 x8 (ix2 R L) = val_main_v166 (F := Ideal) x0 x1 x2 x3 x4 x7 x8 (ix4 b J a l) := by
  rw [val_main_v210_apply]
  show val_main_v209 (F := Ideal) x0 x1 x2 x3 x4 x7 x8 (ix2 R L) = _
  unfold val_main_v209
  refine (shapeCast_apply _ _ _ (ix4 b J a (⟨l.val, by omega⟩ : Fin 128)) (by
    rw [Shape.rowMajor_val_four, Shape.rowMajor_val_two]
    show ((b.val * 8448 + J.val) * 4 + a.val) * 128 + l.val = R.val * 512 + L.val
    omega)).trans ?_
  unfold val_main_v208
  exact concatenate_pair_apply_left (t := S2x8448x4x128) (s₁ := S2x8448x4x64) (s₂ := S2x8448x4x64) 3 _ _ _ _ rfl (ix4 b J a l) (fun a => match a with
    | ⟨0, _⟩ => rfl | ⟨1, _⟩ => rfl | ⟨2, _⟩ => rfl | ⟨3, _⟩ => rfl)

theorem v210_ctx (b : Fin 2) (j : Fin 256) (a : Fin 4) (l : Fin 64) (L : Fin 512) (hL : L.val = 128 * a.val + l.val) (R : Fin 16896)
    (hR : R.val = b.val * 8448 + (8192 + j.val)) : val_main_v210 (F := Ideal) x0 x1 x2 x3 x4 x7 x8 (ix2 R L)
      = kvl (ckn x4 x7 (hc x1 x3 b j)) (wk x8) a ⟨64 + l.val, by omega⟩ := by
  rw [v210_at x0 x1 x2 x3 x4 x7 x8 b ⟨8192 + j.val, by omega⟩ R hR a l L hL]
  unfold val_main_v166
  refine (concatenate_pair_apply_right (t := S2x8448x4x64) (s₁ := S2x8192x4x64) (s₂ := S2x256x4x64) 1 _ _ _ _ rfl rfl (ix4 b j a l) (fun a => match a with
    | ⟨0, _⟩ => fun _ => rfl | ⟨1, _⟩ => fun ne => absurd rfl ne | ⟨2, _⟩ => fun _ => rfl | ⟨3, _⟩ => fun _ => rfl) (by show j.val + 8192 = 8192 + j.val; omega)).trans ?_
  exact v160_eq x1 x3 x4 x7 x8 b j a l

theorem v210_lat (b : Fin 2) (j : Fin 8192) (a : Fin 4) (l : Fin 64) (L : Fin 512) (hL : L.val = 128 * a.val + l.val) (R : Fin 16896)
    (hR : R.val = b.val * 8448 + j.val) : val_main_v210 (F := Ideal) x0 x1 x2 x3 x4 x7 x8 (ix2 R L)
      = kvl (ckn x4 x7 (hl x0 x2 b j)) (wk x8) a ⟨64 + l.val, by omega⟩ := by
  rw [v210_at x0 x1 x2 x3 x4 x7 x8 b ⟨j.val, by omega⟩ R hR a l L hL]
  unfold val_main_v166
  refine (concatenate_pair_apply_left (t := S2x8448x4x64) (s₁ := S2x8192x4x64) (s₂ := S2x256x4x64) 1 _ _ _ _ rfl (ix4 b j a l) (fun a => match a with
    | ⟨0, _⟩ => rfl | ⟨1, _⟩ => rfl | ⟨2, _⟩ => rfl | ⟨3, _⟩ => rfl)).trans ?_
  exact v117_eq x0 x2 x4 x7 x8 b j a l
end Cert.WinReferenceIdeal.Win
-- ==== Proof.Win.Cond.lean ====
module
public import proofs.«01_k».proof.Proof.Attn.Cond
public import proofs.«01_k».proof.Proof.Gen.Pre_finite_inputs
public import proofs.«01_k».proof.Proof.Gen.On_projected_lanes
/-! What the precondition and the mask of the input projection say: four arguments are real numbers; a value lane is one of a head's first 64. -/
@[expose] public section
noncomputable section
namespace Cert.Win.Cond
open Idealize.ShloMosaic Idealize.ShloMosaic.ValueIdx Cert.Attn.Cond

instance : Subsingleton Cert.Pre_finite_inputs.S_.Idx := ⟨fun a b => funext fun i => i.elim0⟩

open Cert.Pre_finite_inputs in
theorem pre_all (a0 : FVec Ideal S2x8192x1024 .f32) (a1 : FVec Ideal S2x256x1024 .f32) (a2 : FVec Ideal S2x9x1024 .f32) (a3 : FVec Ideal S9x1024 .f32)
    (a4 : FVec Ideal S2x1024x2464 .f32) (a5 : FVec Ideal S2x256 .f32) (a6 : FVec Ideal S2x256x384 .f32) (a7 : FVec Ideal S2x128 .f32)
    (a8 : FVec Ideal S2x128x512 .f32) (a9 a10 : FVec Ideal S8192x32 .f32)
    (h : Cert.Pre_finite_inputs.fn (F := Ideal) a0 a1 a2 a3 a4 a5 a6 a7 a8 a9 a10 = fun _ => 1#1) :
    (∀ x, (a2 x : EReal) = (((a2 x : EReal).toReal : ℝ) : EReal)) ∧ (∀ x, (a4 x : EReal) = (((a4 x : EReal).toReal : ℝ) : EReal))
      ∧ (∀ x, (a5 x : EReal) = (((a5 x : EReal).toReal : ℝ) : EReal)) ∧ (∀ x, (a6 x : EReal) = (((a6 x : EReal).toReal : ℝ) : EReal)) := by
  have h0 := congrFun h (fun i => i.elim0)
  unfold Cert.Pre_finite_inputs.fn Cert.Pre_finite_inputs.fn_part1 at h0
  obtain ⟨h1, h6⟩ := andi_one _ _ h0
  obtain ⟨h2, h5⟩ := andi_one _ _ h1
  obtain ⟨h3, h4⟩ := andi_one _ _ h2
  exact ⟨fun x => real_of_lt _ (Host.reduce_andi_all _ _ _ _ _ h3 x), fun x => real_of_lt _ (Host.reduce_andi_all _ _ _ _ _ h4 x),
    fun x => real_of_lt _ (Host.reduce_andi_all _ _ _ _ _ h5 x), fun x => real_of_lt _ (Host.reduce_andi_all _ _ _ _ _ h6 x)⟩

open Cert.On_projected_lanes in
theorem on_eq (a0 : FVec Ideal S2x8192x1024 .f32) (a1 : FVec Ideal S2x256x1024 .f32) (a2 : FVec Ideal S2x9x1024 .f32) (a3 : FVec Ideal S9x1024 .f32)
    (a4 : FVec Ideal S2x1024x2464 .f32) (a5 : FVec Ideal S2x256 .f32) (a6 : FVec Ideal S2x256x384 .f32) (a7 : FVec Ideal S2x128 .f32)
    (a8 : FVec Ideal S2x128x512 .f32) (a9 a10 : FVec Ideal S8192x32 .f32) (i : S16896x512.Idx) :
    (Cert.On_projected_lanes.fn (F := Ideal) a0 a1 a2 a3 a4 a5 a6 a7 a8 a9 a10).2.2.2.2.2 i = laneBit (BitVec.ofNat 32 (i 1).val) := rfl

end Cert.Win.Cond
-- ==== Proof.Win.Link.lean ====
module
public import proofs.«01_k».proof.Proof.Win.Arr
public import proofs.«01_k».proof.Proof.Win.Lane
public import proofs.«01_k».proof.Proof.Win.Ref
public import proofs.«01_k».proof.Proof.Win.Cond
/-! The input projection's kernel and its reference leave the same six arrays from the same arguments. -/
@[expose] public section
set_option maxRecDepth 16384
noncomputable section
namespace Cert.Win.Link
open Idealize.ShloMosaic Idealize.ShloMosaic.TcCoe Idealize.ShloMosaic.ValueIdx Idealize.SL.Sem
open Cert.WinKernelIdeal Cert.WinKernelIdeal.Gen Cert.WinKernelIdeal.Win Cert.Ffn Cert.Win

variable (m : (ℓ : Loc nD τ sig) → Buf (Elt Ideal) ℓ) (c : Dev nD)

/-- The rows of the results laid out context first. -/
theorem rows_first (R : Fin 16896) (P : Prop) (h1 : ∀ (b : Fin 2) (j : Fin 256), R.val = b.val * 256 + j.val → P)
    (h2 : ∀ (b : Fin 2) (j : Fin 8192), R.val = 512 + (b.val * 8192 + j.val) → P) : P := by
  have hR := R.isLt
  by_cases h : R.val < 512
  · exact h1 ⟨R.val / 256, by omega⟩ ⟨R.val % 256, by omega⟩ (by show R.val = R.val / 256 * 256 + R.val % 256; omega)
  · exact h2 ⟨(R.val - 512) / 8192, by omega⟩ ⟨(R.val - 512) % 8192, by omega⟩ (by show R.val = 512 + ((R.val - 512) / 8192 * 8192 + (R.val - 512) % 8192); omega)

/-- The rows of the results laid out by batch element, its context first. -/
theorem rows_ctx (R : Fin 16896) (P : Prop) (h1 : ∀ (b : Fin 2) (j : Fin 256), R.val = b.val * 8448 + j.val → P)
    (h2 : ∀ (b : Fin 2) (j : Fin 8192), R.val = b.val * 8448 + (256 + j.val) → P) : P := by
  have hR := R.isLt
  by_cases h : R.val % 8448 < 256
  · exact h1 ⟨R.val / 8448, by omega⟩ ⟨R.val % 8448, h⟩ (by show R.val = R.val / 8448 * 8448 + R.val % 8448; omega)
  · exact h2 ⟨R.val / 8448, by omega⟩ ⟨R.val % 8448 - 256, by omega⟩ (by show R.val = R.val / 8448 * 8448 + (256 + (R.val % 8448 - 256)); omega)

/-- The rows of the results laid out by batch element, its latents first. -/
theorem rows_lat (R : Fin 16896) (P : Prop) (h1 : ∀ (b : Fin 2) (j : Fin 256), R.val = b.val * 8448 + (8192 + j.val) → P)
    (h2 : ∀ (b : Fin 2) (j : Fin 8192), R.val = b.val * 8448 + j.val → P) : P := by
  have hR := R.isLt
  by_cases h : R.val % 8448 < 8192
  · exact h2 ⟨R.val / 8448, by omega⟩ ⟨R.val % 8448, h⟩ (by show R.val = R.val / 8448 * 8448 + R.val % 8448; omega)
  · exact h1 ⟨R.val / 8448, by omega⟩ ⟨R.val % 8448 - 8192, by omega⟩ (by show R.val = R.val / 8448 * 8448 + (8192 + (R.val % 8448 - 8192)); omega)

theorem agree0 (R : Fin 16896) (n : Fin 512) : ((dats m 0 c).arrAt 14 cfg0.N : S16896x512.Idx → EReal) (ix2 R n)
    = Cert.WinReferenceIdeal.Read.val_main_v194 (F := Ideal) (ax m c) (axc m c) (am m c) (amc m c) (aw m c) (ix2 R n) :=
  rows_first R _
    (fun b j hR => (arr14_ctx m c b j n R hR).trans (Cert.WinReferenceIdeal.Win.v194_ctx (ax m c) (axc m c) (am m c) (amc m c) (aw m c) b j n R hR).symm)
    (fun b j hR => (arr14_lat m c b j n R hR).trans (Cert.WinReferenceIdeal.Win.v194_lat (ax m c) (axc m c) (am m c) (amc m c) (aw m c) b j n R hR).symm)

theorem agree1 (R : Fin 16896) (n : Fin 512) : ((dats m 0 c).arrAt 15 cfg0.N : S16896x512.Idx → EReal) (ix2 R n)
    = Cert.WinReferenceIdeal.Read.val_main_v196 (F := Ideal) (ax m c) (axc m c) (am m c) (amc m c) (aw m c) (ix2 R n) :=
  rows_ctx R _
    (fun b j hR => (arr15_ctx m c b j n R hR).trans (Cert.WinReferenceIdeal.Win.v196_ctx (ax m c) (axc m c) (am m c) (amc m c) (aw m c) b j n R hR).symm)
    (fun b j hR => (arr15_lat m c b j n R hR).trans (Cert.WinReferenceIdeal.Win.v196_lat (ax m c) (axc m c) (am m c) (amc m c) (aw m c) b j n R hR).symm)

theorem agree2 (R : Fin 16896) (n : Fin 1024) : ((dats m 0 c).arrAt 16 cfg0.N : S16896x1024.Idx → EReal) (ix2 R n)
    = Cert.WinReferenceIdeal.Read.val_main_v198 (F := Ideal) (ax m c) (axc m c) (am m c) (amc m c) (aw m c) (ix2 R n) :=
  rows_ctx R _
    (fun b j hR => (arr16_ctx m c b j n R hR).trans (Cert.WinReferenceIdeal.Win.v198_ctx (ax m c) (axc m c) (am m c) (amc m c) (aw m c) b j n R hR).symm)
    (fun b j hR => (arr16_lat m c b j n R hR).trans (Cert.WinReferenceIdeal.Win.v198_lat (ax m c) (axc m c) (am m c) (amc m c) (aw m c) b j n R hR).symm)

section Rotated
variable (hm : ∀ x, Fin' (am m c x)) (hw : ∀ x, Fin' (aw m c x))
include hm

/-- The modulated rows of the latents are real: a normalized row is, whatever the row. -/
theorem row_fin (b : Fin 2) (j : Fin 8192) (d : Fin 1024) : Fin' (hLat m c b j d) :=
  fin_add (fin_mul (fin_norm cDim 1024 dim_eq (by norm_num) (fun d => ax m c (ix3 b j d)) d)
    (fin_add (by rw [cOne_eq]; exact fin_of 1 EReal.coe_one.symm) (hm (ix3 b 4 d)))) (hm (ix3 b 3 d))

include hw

theorem turn_k (b : Fin 2) (j : Fin 8192) (k : Fin 32) :
    (∑ d, (hLat m c b j) d * turn (fun k => w m c d ⟨2432 + k.val, by omega⟩) k) = turn (kr (hLat m c b j) (w m c)) k :=
  turn_sum (hLat m c b j) (fun d k => w m c d ⟨2432 + k.val, by omega⟩) (row_fin m c hm b j) (fun d k => hw _) k

theorem agree4 (R : Fin 16896) (L : Fin 512) : ((dats m 0 c).arrAt 18 cfg0.N : S16896x512.Idx → EReal) (ix2 R L)
    = Cert.WinReferenceIdeal.Read.val_main_v206 (F := Ideal) (ax m c) (axc m c) (am m c) (amc m c) (aw m c) (agk m c) (awk m c) (acs m c) (asn m c) (ix2 R L) := by
  obtain ⟨a, ha⟩ : ∃ a : Fin 4, a.val = L.val / 128 := ⟨⟨L.val / 128, by omega⟩, rfl⟩
  obtain ⟨l, hl⟩ : ∃ l : Fin 128, l.val = L.val % 128 := ⟨⟨L.val % 128, by omega⟩, rfl⟩
  have hL : L.val = 128 * a.val + l.val := by omega
  exact rows_lat R _
    (fun b j hR => (arr18_ctx m c b j a l L hL R hR).trans
      (Cert.WinReferenceIdeal.Win.v206_ctx (ax m c) (axc m c) (am m c) (amc m c) (aw m c) (agk m c) (awk m c) (acs m c) (asn m c) b j a l L hL R hR).symm)
    (fun b j hR => (arr18_lat m c b j a l L hL R hR (turn_k m c hm hw b j)).trans
      (Cert.WinReferenceIdeal.Win.v206_lat (ax m c) (axc m c) (am m c) (amc m c) (aw m c) (agk m c) (awk m c) (acs m c) (asn m c) b j a l L hL R hR).symm)
end Rotated

section Queries
variable (hg : ∀ x, Fin' (agq m c x)) (hwq : ∀ x, Fin' (awq m c x))
include hg hwq

/-- The compressed queries, normalized, are real whatever the row. -/
theorem turn_q (b : Fin 2) (j : Fin 8192) (a : Fin 4) (k : Fin 32) :
    (∑ i, cqn m c (hLat m c b j) i * turn (fun k => wq m c i ⟨96 * a.val + (64 + k.val), by omega⟩) k)
      = turn (fun k => qry (cqn m c (hLat m c b j)) (wq m c) a ⟨64 + k.val, by omega⟩) k :=
  turn_sum (cqn m c (hLat m c b j)) (fun i k => wq m c i ⟨96 * a.val + (64 + k.val), by omega⟩)
    (fun i => fin_mul (fin_norm cQ 256 cQ_eq (by norm_num) (cq (hLat m c b j) (w m c)) i) (hg _)) (fun i k => hwq _) k

theorem agree3 (R : Fin 16896) (L : Fin 512) : ((dats m 0 c).arrAt 17 cfg0.N : S16896x512.Idx → EReal) (ix2 R L)
    = Cert.WinReferenceIdeal.Read.val_main_v202 (F := Ideal) (ax m c) (axc m c) (am m c) (amc m c) (aw m c) (agq m c) (awq m c) (acs m c) (asn m c) (ix2 R L) := by
  obtain ⟨a, ha⟩ : ∃ a : Fin 4, a.val = L.val / 128 := ⟨⟨L.val / 128, by omega⟩, rfl⟩
  obtain ⟨l, hl⟩ : ∃ l : Fin 128, l.val = L.val % 128 := ⟨⟨L.val % 128, by omega⟩, rfl⟩
  have hL : L.val = 128 * a.val + l.val := by omega
  exact rows_first R _
    (fun b j hR => (arr17_ctx m c b j a l L hL R hR).trans
      (Cert.WinReferenceIdeal.Win.v202_ctx (ax m c) (axc m c) (am m c) (amc m c) (aw m c) (agq m c) (awq m c) (acs m c) (asn m c) b j a l L hL R hR).symm)
    (fun b j hR => (arr17_lat m c b j a l L hL R hR (turn_q m c hg hwq b j a)).trans
      (Cert.WinReferenceIdeal.Win.v202_lat (ax m c) (axc m c) (am m c) (amc m c) (aw m c) (agq m c) (awq m c) (acs m c) (asn m c) b j a l L hL R hR).symm)
end Queries

theorem agree5 (R : Fin 16896) (L : Fin 512) (h : L.val % 128 < 64) : ((dats m 0 c).arrAt 19 cfg0.N : S16896x512.Idx → EReal) (ix2 R L)
    = Cert.WinReferenceIdeal.Read.val_main_v210 (F := Ideal) (ax m c) (axc m c) (am m c) (amc m c) (aw m c) (agk m c) (awk m c) (ix2 R L) := by
  obtain ⟨a, ha⟩ : ∃ a : Fin 4, a.val = L.val / 128 := ⟨⟨L.val / 128, by omega⟩, rfl⟩
  obtain ⟨l, hl⟩ : ∃ l : Fin 64, l.val = L.val % 128 := ⟨⟨L.val % 128, h⟩, rfl⟩
  have hL : L.val = 128 * a.val + l.val := by omega
  exact rows_lat R _
    (fun b j hR => (arr19_ctx m c b j a l L hL R hR).trans
      (Cert.WinReferenceIdeal.Win.v210_ctx (ax m c) (axc m c) (am m c) (amc m c) (aw m c) (agk m c) (awk m c) b j a l L hL R hR).symm)
    (fun b j hR => (arr19_lat m c b j a l L hL R hR).trans
      (Cert.WinReferenceIdeal.Win.v210_lat (ax m c) (axc m c) (am m c) (amc m c) (aw m c) (agk m c) (awk m c) b j a l L hL R hR).symm)

end Cert.Win.Link
-- ==== Proof.Win.Stages.lean ====
module
public import proofs.«01_k».proof.Proof.Gen.WinReferenceIdeal.Read
/-! The run of the input projection's reference, its six results named by their stages. -/
@[expose] public section
set_option maxRecDepth 16384
noncomputable section
namespace Cert.WinReferenceIdeal.Win
open Cert.WinReferenceIdeal Cert.WinReferenceIdeal.Gen Cert.WinReferenceIdeal.Read Idealize.ShloMosaic Idealize.SL.Sem Idealize.ShloMosaic.StableHlo

theorem run_stages (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v196) = val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v198) = val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v202) = val_main_v202 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_v206) = val_main_v206 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v210) = val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r h c => ⟨(h c).1.trans (val_main_v194_eq (F := Ideal) (launchContents m c)),
      (h c).2.1.trans (val_main_v196_eq (F := Ideal) (launchContents m c)),
      (h c).2.2.1.trans (val_main_v198_eq (F := Ideal) (launchContents m c)),
      (h c).2.2.2.1.trans (val_main_v202_eq (F := Ideal) (launchContents m c)),
      (h c).2.2.2.2.1.trans (val_main_v206_eq (F := Ideal) (launchContents m c)),
      (h c).2.2.2.2.2.1.trans (val_main_v210_eq (F := Ideal) (launchContents m c)),
      (h c).2.2.2.2.2.2⟩) (Cert.WinReferenceIdeal.Value.run (F := Ideal) m ρ)

end Cert.WinReferenceIdeal.Win
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.On_value_lanes
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Link
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Mix.Link
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Ffn.Link
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Win.Link
public import proofs.«01_k».proof.Proof.Win.Stages
public import proofs.«01_k».proof.Proof.Gen.Pre_finite_inputs
public import proofs.«01_k».proof.Proof.Gen.On_projected_lanes
public import Idealize.ShloMosaic.Adequacy
public import Idealize.ShloMosaic.Init

@[expose] public section

noncomputable section

namespace Cert.Proof

open Idealize.ShloMosaic Idealize.SL.Sem Idealize.ShloMosaic.ValueIdx

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite queries and keys, the kernel's array and the reference's agree on every head's value lanes. -/
theorem algebraic : Cert.algebraic_KernelIdeal_ReferenceIdeal_on_value_lanes_pre_finite_qk := by
  intro m ρ m' ρ' hpre hargs
  refine ⟨fun c => Cert.KernelIdeal.Value.G3 m c, ?_, ?_⟩
  · exact (θ_run Cert.KernelIdeal.defs _ _).mono (fun r h c => ⟨fun i _ => congrFun (h c).1 i, (h c).2⟩)
      (Cert.KernelIdeal.Value.run (F := Ideal) m ρ)
  · refine (θ_run Cert.ReferenceIdeal.defs _ _).mono (fun r h c => ⟨fun i hi => ?_, (h c).2⟩)
      (Cert.ReferenceIdeal.Value.run (F := Ideal) m' ρ')
    obtain ⟨h0, -, h2, h3⟩ := hargs c
    refine (congrFun ((h c).1.trans (Cert.ReferenceIdeal.Read.val_main_v20_eq _ _ _)) i).trans ?_
    rw [h0, h2, h3]
    obtain ⟨hq, hk⟩ := Cert.Attn.Cond.pre_both _ _ _ _ (hpre c)
    rw [Cert.Attn.Cond.on_eq] at hi
    have hC := Cert.Attn.Cond.laneBit_lt (i 1) hi
    rw [eq_ix2 i]
    exact (Cert.Attn.Link.agree m c hq hk (i 0) (i 1) hC).symm

/-- The reference of the last layer's second half ends with its arguments unchanged; it has no semaphore. -/
theorem frame_mix : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

/-- The last layer's second half: projection, feed-forward half-step and final norm, at every row of the latents. -/
theorem algebraic_mix : Cert.algebraic_MixKernelIdeal_MixReferenceIdeal := by
  intro m ρ m' ρ' _ hargs
  refine ⟨fun c => (Cert.MixKernelIdeal.Gen.dats m 0 c).arrAt 15 Cert.MixKernelIdeal.cfg0.N, Cert.MixKernelIdeal.Value.run_blocks (F := Ideal) m ρ, ?_⟩
  refine (θ_run Cert.MixReferenceIdeal.defs _ _).mono (fun r h c => ⟨?_, (h c).2⟩) (Cert.MixReferenceIdeal.Value.run (F := Ideal) m' ρ')
  obtain ⟨h0, -, h2, -, h4, -, h6, -, h8, -, h10, h11, h12, h13, h14⟩ := hargs c
  refine ((h c).1.trans (Cert.MixReferenceIdeal.Read.val_main_v57_eq _ _)).trans ?_
  rw [h0, h2, h4, h6, h8, h10, h11, h12, h13, h14]
  funext i
  rw [eq_ix2 i]
  exact (Cert.Mix.Link.agree m c (i 0) (i 1)).symm

/-- The reference of the first feed-forward half-step ends with its arguments unchanged; it has no semaphore. -/
theorem frame_ffn : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The first feed-forward half-step, at every row of the context and of the latents. -/
theorem algebraic_ffn : Cert.algebraic_FfnKernelIdeal_FfnReferenceIdeal := by
  intro m ρ m' ρ' _ hargs
  refine ⟨fun c => (Cert.FfnKernelIdeal.Gen.dats m 0 c).arrAt 5 Cert.FfnKernelIdeal.cfg0.N, Cert.FfnKernelIdeal.Value.run_blocks (F := Ideal) m ρ, ?_⟩
  refine (θ_run Cert.FfnReferenceIdeal.defs _ _).mono (fun r h c => ⟨?_, (h c).2⟩) (Cert.FfnReferenceIdeal.Value.run (F := Ideal) m' ρ')
  obtain ⟨h0, h1, h2, h3, h4, h5⟩ := hargs c
  refine ((h c).1.trans (Cert.FfnReferenceIdeal.Read.val_main_v76_eq _ _)).trans ?_
  rw [h0, h1, h2, h3, h4, h5]
  funext i
  rw [eq_ix2 i]
  exact (Cert.Ffn.Link.agree m c (i 0) (i 1)).symm

/-- The reference of the input projection ends with its arguments unchanged; it has no semaphore. -/
theorem frame_win : Cert.quiescent_WinReferenceIdeal := fun m ρ _ =>
  (θ_run Cert.WinReferenceIdeal.defs _ _).mono (fun r h => ⟨fun c => (h c).2.2.2.2.2.2, sem_eq_zero_of_no_sems (by decide) r.2⟩)
    (Cert.WinReferenceIdeal.Win.run_stages m ρ)

set_option maxHeartbeats 4000000 in
/-- The input projection and the latent attention's queries, keys and values, at every row and every lane but the values' padding. -/
theorem algebraic_win : Cert.algebraic_WinKernelIdeal_WinReferenceIdeal_on_projected_lanes_pre_finite_inputs := by
  intro m ρ m' ρ' hpre hargs
  refine ⟨fun c => (Cert.WinKernelIdeal.Gen.dats m 0 c).arrAt 14 Cert.WinKernelIdeal.cfg0.N, fun c => (Cert.WinKernelIdeal.Gen.dats m 0 c).arrAt 15 Cert.WinKernelIdeal.cfg0.N,
    fun c => (Cert.WinKernelIdeal.Gen.dats m 0 c).arrAt 16 Cert.WinKernelIdeal.cfg0.N, fun c => (Cert.WinKernelIdeal.Gen.dats m 0 c).arrAt 17 Cert.WinKernelIdeal.cfg0.N,
    fun c => (Cert.WinKernelIdeal.Gen.dats m 0 c).arrAt 18 Cert.WinKernelIdeal.cfg0.N, fun c => (Cert.WinKernelIdeal.Gen.dats m 0 c).arrAt 19 Cert.WinKernelIdeal.cfg0.N, ?_, ?_⟩
  · refine (θ_run Cert.WinKernelIdeal.defs _ _).mono (fun r h c => ?_) (Cert.WinKernelIdeal.Value.run_blocks (F := Ideal) m ρ)
    obtain ⟨e0, e1, e2, e3, e4, e5, rest⟩ := h c
    exact ⟨fun i _ => congrFun e0 i, fun i _ => congrFun e1 i, fun i _ => congrFun e2 i, fun i _ => congrFun e3 i, fun i _ => congrFun e4 i,
      fun i _ => congrFun e5 i, rest⟩
  · refine (θ_run Cert.WinReferenceIdeal.defs _ _).mono (fun r h c => ?_) (Cert.WinReferenceIdeal.Win.run_stages m' ρ')
    obtain ⟨e0, e1, e2, e3, e4, e5, rest⟩ := h c
    obtain ⟨h0, h1, h2, h3, h4, h5, h6, h7, h8, h9, h10⟩ := hargs c
    obtain ⟨hm, hw, hg, hwq⟩ := Cert.Win.Cond.pre_all _ _ _ _ _ _ _ _ _ _ _ (hpre c)
    refine ⟨fun i _ => ?_, fun i _ => ?_, fun i _ => ?_, fun i _ => ?_, fun i _ => ?_, fun i hi => ?_, rest⟩
    · refine (congrFun e0 i).trans ?_
      rw [h0, h1, h2, h3, h4, eq_ix2 i]
      exact (Cert.Win.Link.agree0 m c (i 0) (i 1)).symm
    · refine (congrFun e1 i).trans ?_
      rw [h0, h1, h2, h3, h4, eq_ix2 i]
      exact (Cert.Win.Link.agree1 m c (i 0) (i 1)).symm
    · refine (congrFun e2 i).trans ?_
      rw [h0, h1, h2, h3, h4, eq_ix2 i]
      exact (Cert.Win.Link.agree2 m c (i 0) (i 1)).symm
    · refine (congrFun e3 i).trans ?_
      rw [h0, h1, h2, h3, h4, h5, h6, h9, h10, eq_ix2 i]
      exact (Cert.Win.Link.agree3 m c hg hwq (i 0) (i 1)).symm
    · refine (congrFun e4 i).trans ?_
      rw [h0, h1, h2, h3, h4, h7, h8, h9, h10, eq_ix2 i]
      exact (Cert.Win.Link.agree4 m c hm hw (i 0) (i 1)).symm
    · refine (congrFun e5 i).trans ?_
      rw [h0, h1, h2, h3, h4, h7, h8]
      rw [Cert.Win.Cond.on_eq] at hi
      have hL := Cert.Attn.Cond.laneBit_lt (i 1) hi
      rw [eq_ix2 i]
      exact (Cert.Win.Link.agree5 m c (i 0) (i 1) hL).symm

theorem claim : Cert.Claim := ⟨Cert.Kernel.Gen.facts, Cert.KernelIdeal.Gen.facts, Cert.ReferenceIdeal.Gen.facts,
  Cert.MixKernel.Gen.facts, Cert.MixKernelIdeal.Gen.facts, Cert.MixReferenceIdeal.Gen.facts,
  Cert.FfnKernel.Gen.facts, Cert.FfnKernelIdeal.Gen.facts, Cert.FfnReferenceIdeal.Gen.facts,
  Cert.WinKernel.Gen.facts, Cert.WinKernelIdeal.Gen.facts, Cert.WinReferenceIdeal.Gen.facts,
  Cert.Pre_finite_qk.Gen.facts, Cert.Pre_finite_inputs.Gen.facts, Cert.On_value_lanes.Gen.facts, Cert.On_projected_lanes.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.MixKernel.Gen.frame m ρ, fun m ρ _ => Cert.MixKernelIdeal.Gen.frame m ρ, frame_mix,
  fun m ρ _ => Cert.FfnKernel.Gen.frame m ρ, fun m ρ _ => Cert.FfnKernelIdeal.Gen.frame m ρ, frame_ffn,
  fun m ρ _ => Cert.WinKernel.Gen.frame m ρ, fun m ρ _ => Cert.WinKernelIdeal.Gen.frame m ρ, fun m ρ _ => Cert.WinKernelIdeal.Gen.frame m ρ,
  frame_win, fun m ρ _ => frame_win m ρ trivial,
  trivial, algebraic, trivial, algebraic_mix, trivial, algebraic_ffn,
  trivial, algebraic_win⟩

end Cert.Proof

end
